-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_layer [hPre_finite_layer : Cert.Pre_finite_layer.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_layer.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_layer [hPre_finite_layer : Cert.Pre_finite_layer.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_layer.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_layer [hKernel2Ideal : Cert.Kernel2Ideal.Facts] [hPre_finite_layer : Cert.Pre_finite_layer.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_layer m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_layer [hReference2Ideal : Cert.Reference2Ideal.Facts] [hPre_finite_layer : Cert.Pre_finite_layer.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_layer m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_v13_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v160) = v4 c
          ∧ r.2.mem ((c.tc : Thread Cert.ReferenceIdeal.nD Cert.ReferenceIdeal.τ).loc Cert.ReferenceIdeal.main_v161) = v5 c
          ∧ r.2.mem ((c.tc : Thread Cert.ReferenceIdeal.nD Cert.ReferenceIdeal.τ).loc Cert.ReferenceIdeal.main_v89) = v6 c
          ∧ r.2.mem ((c.tc : Thread Cert.ReferenceIdeal.nD Cert.ReferenceIdeal.τ).loc Cert.ReferenceIdeal.main_v162) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_layer [hKernel2Ideal : Cert.Kernel2Ideal.Facts] [hReference2Ideal : Cert.Reference2Ideal.Facts] [hPre_finite_layer : Cert.Pre_finite_layer.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_layer m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)) (v3 : (c : Dev Cert.Kernel2Ideal.nD) → Buf (Elt Ideal) ((c.tc : Thread Cert.Kernel2Ideal.nD Cert.Kernel2Ideal.τ).loc Cert.Kernel2Ideal.main_v25_3)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v25_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v25_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_v59) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v23) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)) (v2 : (c : Dev Cert.Kernel7Ideal.nD) → Buf (Elt Ideal) ((c.tc : Thread Cert.Kernel7Ideal.nD Cert.Kernel7Ideal.τ).loc Cert.Kernel7Ideal.main_v9_2)) (v3 : (c : Dev Cert.Kernel7Ideal.nD) → Buf (Elt Ideal) ((c.tc : Thread Cert.Kernel7Ideal.nD Cert.Kernel7Ideal.τ).loc Cert.Kernel7Ideal.main_v9_3)) (v4 : (c : Dev Cert.Kernel7Ideal.nD) → Buf (Elt Ideal) ((c.tc : Thread Cert.Kernel7Ideal.nD Cert.Kernel7Ideal.τ).loc Cert.Kernel7Ideal.main_v9_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_v9_2) = v2 c
          ∧ r.2.mem ((c.tc : Thread Cert.Kernel7Ideal.nD Cert.Kernel7Ideal.τ).loc Cert.Kernel7Ideal.main_v9_3) = v3 c
          ∧ r.2.mem ((c.tc : Thread Cert.Kernel7Ideal.nD Cert.Kernel7Ideal.τ).loc Cert.Kernel7Ideal.main_v9_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v24) = v2 c
          ∧ r.2.mem ((c.tc : Thread Cert.Reference7Ideal.nD Cert.Reference7Ideal.τ).loc Cert.Reference7Ideal.main_v25) = v3 c
          ∧ r.2.mem ((c.tc : Thread Cert.Reference7Ideal.nD Cert.Reference7Ideal.τ).loc Cert.Reference7Ideal.main_v26) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)) (v2 : (c : Dev Cert.Kernel10Ideal.nD) → Buf (Elt Ideal) ((c.tc : Thread Cert.Kernel10Ideal.nD Cert.Kernel10Ideal.τ).loc Cert.Kernel10Ideal.main_v10_2)) (v3 : (c : Dev Cert.Kernel10Ideal.nD) → Buf (Elt Ideal) ((c.tc : Thread Cert.Kernel10Ideal.nD Cert.Kernel10Ideal.τ).loc Cert.Kernel10Ideal.main_v10_3)) (v4 : (c : Dev Cert.Kernel10Ideal.nD) → Buf (Elt Ideal) ((c.tc : Thread Cert.Kernel10Ideal.nD Cert.Kernel10Ideal.τ).loc Cert.Kernel10Ideal.main_v10_4)) (v5 : (c : Dev Cert.Kernel10Ideal.nD) → Buf (Elt Ideal) ((c.tc : Thread Cert.Kernel10Ideal.nD Cert.Kernel10Ideal.τ).loc Cert.Kernel10Ideal.main_v10_5)) (v6 : (c : Dev Cert.Kernel10Ideal.nD) → Buf (Elt Ideal) ((c.tc : Thread Cert.Kernel10Ideal.nD Cert.Kernel10Ideal.τ).loc Cert.Kernel10Ideal.main_v10_6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_v10_2) = v2 c
          ∧ r.2.mem ((c.tc : Thread Cert.Kernel10Ideal.nD Cert.Kernel10Ideal.τ).loc Cert.Kernel10Ideal.main_v10_3) = v3 c
          ∧ r.2.mem ((c.tc : Thread Cert.Kernel10Ideal.nD Cert.Kernel10Ideal.τ).loc Cert.Kernel10Ideal.main_v10_4) = v4 c
          ∧ r.2.mem ((c.tc : Thread Cert.Kernel10Ideal.nD Cert.Kernel10Ideal.τ).loc Cert.Kernel10Ideal.main_v10_5) = v5 c
          ∧ r.2.mem ((c.tc : Thread Cert.Kernel10Ideal.nD Cert.Kernel10Ideal.τ).loc Cert.Kernel10Ideal.main_v10_6) = v6 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v25) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_v77) = v4 c
          ∧ r.2.mem ((c.tc : Thread Cert.Reference10Ideal.nD Cert.Reference10Ideal.τ).loc Cert.Reference10Ideal.main_v78) = v5 c
          ∧ r.2.mem ((c.tc : Thread Cert.Reference10Ideal.nD Cert.Reference10Ideal.τ).loc Cert.Reference10Ideal.main_v79) = v6 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v43) = v0 c
          ∧ r.2.mem ((c.tc : Thread Cert.Reference15Ideal.nD Cert.Reference15Ideal.τ).loc Cert.Reference15Ideal.main_v44) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v28) = v1 c
          ∧ r.2.mem ((c.tc : Thread Cert.Reference17Ideal.nD Cert.Reference17Ideal.τ).loc Cert.Reference17Ideal.main_v9) = v2 c
          ∧ r.2.mem ((c.tc : Thread Cert.Reference17Ideal.nD Cert.Reference17Ideal.τ).loc Cert.Reference17Ideal.main_v15) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_v29) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_v16) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite_rows : Cert.Pre_finite_rows.Facts) (hPre_finite_layer : Cert.Pre_finite_layer.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ quiescent_Kernel2 (hKernel2 := hKernel2)
    ∧ quiescent_Kernel2Ideal (hKernel2Ideal := hKernel2Ideal)
    ∧ quiescent_Kernel2Ideal_pre_finite_layer (hKernel2Ideal := hKernel2Ideal) (hPre_finite_layer := hPre_finite_layer)
    ∧ quiescent_Reference2Ideal (hReference2Ideal := hReference2Ideal)
    ∧ quiescent_Reference2Ideal_pre_finite_layer (hReference2Ideal := hReference2Ideal) (hPre_finite_layer := hPre_finite_layer)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite_rows (hKernelIdeal := hKernelIdeal) (hReferenceIdeal := hReferenceIdeal) (hPre_finite_rows := hPre_finite_rows)
    ∧ preserves_Kernel2_Kernel2Ideal
    ∧ algebraic_Kernel2Ideal_Reference2Ideal_pre_finite_layer (hKernel2Ideal := hKernel2Ideal) (hReference2Ideal := hReference2Ideal) (hPre_finite_layer := hPre_finite_layer)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite_layer.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_rows.lean ====
abbrev S8192x1024 : Shape := ⟨2, ![8192, 1024]⟩
abbrev S8192x2048 : Shape := ⟨2, ![8192, 2048]⟩
abbrev S8192x512 : Shape := ⟨2, ![8192, 512]⟩
abbrev S512 : Shape := ⟨1, ![512]⟩
abbrev S4x128 : Shape := ⟨2, ![4, 128]⟩
abbrev S4x128x128 : Shape := ⟨3, ![4, 128, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x512 : S_.BroadcastsInDim S8192x512 (![] : Fin 0 → Fin S8192x512.rank)
  reducesTo_S8192x512_S_d0_1 : S8192x512.ReducesTo [0, 1] S_
  bcast_S_S512 : S_.BroadcastsInDim S512 (![] : Fin 0 → Fin S512.rank)
  reducesTo_S512_S_d0 : S512.ReducesTo [0] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg4 : FVec F S512 .f32) (main_arg5 : FVec F S4x128 .f32) (main_arg7 : FVec F S4x128x128 .f32) (main_v3 : IVec S_ 1) (main_v7 : IVec S_ 1) (main_v11 : IVec S_ 1) (main_v15 : IVec S_ 1) : IVec S_ 1 :=
  let main_v16 : FVec F S512 .f32 := Host.absf main_arg4
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_v20 : FVec F S4x128 .f32 := Host.absf main_arg5
  let main_cst_8 : FVec F S_ .f32 := constant S_ .f32 0x7F800000#32
  let main_v21 : FVec F S4x128 .f32 := broadcastInDim S4x128 ![] bcast_S_S4x128 main_cst_8
  let main_v22 : IVec S4x128 1 := cmpf .olt main_v20 main_v21
  let main_c_9 : IVec S_ 1 := constantI S_ 1 1#1
  let main_v23 : IVec S_ 1 := (fun x v => Host.reduce IntOp.andi x v reducesTo_S4x128_S_d0_1 h_S_) main_v22 main_c_9
  let main_v24 : FVec F S4x128x128 .f32 := Host.absf main_arg7
  let main_cst_10 : FVec F S_ .f32 := constant S_ .f32 0x7F800000#32
  let main_v25 : FVec F S4x128x128 .f32 := broadcastInDim S4x128x128 ![] bcast_S_S4x128x128 main_cst_10
  let main_v26 : IVec S4x128x128 1 := cmpf .olt main_v24 main_v25
  let main_c_11 : IVec S_ 1 := constantI S_ 1 1#1
  let main_v27 : IVec S_ 1 := (fun x v => Host.reduce IntOp.andi x v reducesTo_S4x128x128_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x2048 .f32) (main_arg2 : FVec F S8192x512 .f32) (main_arg3 : FVec F S512 .f32) (main_arg4 : FVec F S512 .f32) (main_arg5 : FVec F S4x128 .f32) (main_arg6 : FVec F S4x128 .f32) (main_arg7 : FVec F S4x128x128 .f32) (main_arg8 : FVec F S4x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S512 .f32 := Host.absf main_arg3
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_arg4 main_arg5 main_arg7 main_v3 main_v7 main_v11 main_v15
-- ==== Kernel.lean ====
abbrev S8192x1024 : Shape := ⟨2, ![8192, 1024]⟩
abbrev S8192x2048 : Shape := ⟨2, ![8192, 2048]⟩
abbrev S8192x512 : Shape := ⟨2, ![8192, 512]⟩
abbrev S512 : Shape := ⟨1, ![512]⟩
abbrev S4x128 : Shape := ⟨2, ![4, 128]⟩
abbrev S4x128x128 : Shape := ⟨3, ![4, 128, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩
abbrev S128 : Shape := ⟨1, ![128]⟩
abbrev S128x1 : Shape := ⟨2, ![128, 1]⟩

abbrev nBuf : Space → Nat
  | .hbm => 43
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S512, .f32⟩
  | .hbm, ⟨4, _⟩ => ⟨S512, .f32⟩
  | .hbm, ⟨5, _⟩ => ⟨S4x128, .f32⟩
  | .hbm, ⟨6, _⟩ => ⟨S4x128, .f32⟩
  | .hbm, ⟨7, _⟩ => ⟨S4x128x128, .f32⟩
  | .hbm, ⟨8, _⟩ => ⟨S4x128, .f32⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S1x128x128, .i1⟩
  | .hbm, ⟨21, _⟩ => ⟨S_, .f32⟩
  | .hbm, ⟨22, _⟩ => ⟨S_, .f32⟩
  | .hbm, ⟨23, _⟩ => ⟨S4x128x128, .i1⟩
  | .hbm, ⟨24, _⟩ => ⟨S4x128x128, .f32⟩
  | .hbm, ⟨25, _⟩ => ⟨S4x128x128, .f32⟩
  | .hbm, ⟨26, _⟩ => ⟨S4x128x128, .bf16⟩
  | .hbm, ⟨27, _⟩ => ⟨S4x128x128, .bf16⟩
  | .hbm, ⟨28, _⟩ => ⟨S128x4, .f32⟩
  | .hbm, ⟨29, _⟩ => ⟨S128x4x128, .f32⟩
  | .hbm, ⟨30, _⟩ => ⟨S128x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S8192x512, .f32⟩
  | .hbm, ⟨36, _⟩ => ⟨S8192x1024, .bf16⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S4x128x128, .f32⟩
  | .hbm, ⟨42, _⟩ => ⟨S128x4, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S4x128x128, .bf16⟩
  | .local _ .vmem, ⟨13, _⟩ => ⟨S4x128x128, .bf16⟩
  | .local _ .vmem, ⟨14, _⟩ => ⟨S128x512, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S4x128x128, .f32⟩
  | .local _ .vmem, ⟨24, _⟩ => ⟨S128x4, .f32⟩
  | .local _ .vmem, ⟨25, _⟩ => ⟨S512x128, .f32⟩
  | .local _ .vmem, ⟨26, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13_0 : Ref sig .tc := ⟨.hbm, 35, rfl⟩
abbrev main_v13_1 : Ref sig .tc := ⟨.hbm, 36, rfl⟩
abbrev main_v13_2 : Ref sig .tc := ⟨.hbm, 37, rfl⟩
abbrev main_v13_3 : Ref sig .tc := ⟨.hbm, 38, rfl⟩
abbrev main_v13_4 : Ref sig .tc := ⟨.hbm, 39, rfl⟩
abbrev main_v13_5 : Ref sig .tc := ⟨.hbm, 40, rfl⟩
abbrev main_v13_6 : Ref sig .tc := ⟨.hbm, 41, rfl⟩
abbrev main_v13_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v883 : BitVec 32 := Scalar.extui v5
  let c0_i32_620 : BitVec 32 := 0#32
  let v884 : BitVec 1 := Scalar.cmpi .ne v883 c0_i32_620
  v884

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S8192x1024 : Shape := ⟨2, ![8192, 1024]⟩
abbrev S8192x2048 : Shape := ⟨2, ![8192, 2048]⟩
abbrev S8192x512 : Shape := ⟨2, ![8192, 512]⟩
abbrev S512 : Shape := ⟨1, ![512]⟩
abbrev S4x128 : Shape := ⟨2, ![4, 128]⟩
abbrev S4x128x128 : Shape := ⟨3, ![4, 128, 128]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S1x1x4x128 : Shape := ⟨4, ![1, 1, 4, 128]⟩
abbrev S2x32x128x4x128 : Shape := ⟨5, ![2, 32, 128, 4, 128]⟩
abbrev S128x128 : Shape := ⟨2, ![128, 128]⟩
abbrev S1x128x128 : Shape := ⟨3, ![1, 128, 128]⟩
abbrev S4x2x32x128x128 : Shape := ⟨5, ![4, 2, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x4096x1024 : Shape := ⟨3, ![2, 4096, 1024]⟩
abbrev S1x512 : Shape := ⟨2, ![1, 512]⟩

abbrev nBuf : Space → Nat
  | .hbm => 239
  | .vmem => 0
  | .smem => 0
  | _ => 0

abbrev hbmTy0_0 (i : Nat) : BufTy := match i % 128 with
  | 0 => ⟨S8192x1024, .f32⟩
  | 1 => ⟨S8192x2048, .f32⟩
  | 2 => ⟨S8192x512, .f32⟩
  | 3 => ⟨S512, .f32⟩
  | 4 => ⟨S512, .f32⟩
  | 5 => ⟨S4x128, .f32⟩
  | 6 => ⟨S4x128, .f32⟩
  | 7 => ⟨S4x128x128, .f32⟩
  | 8 => ⟨S4x128, .f32⟩
  | 9 => ⟨S8192x512, .f32⟩
  | 10 => ⟨S8192x512, .f32⟩
  | 11 => ⟨S2x4096x512, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S2x4096x512, .f32⟩
  | 19 => ⟨S2x4096x512, .f32⟩
  | 20 => ⟨S2x4096x512, .f32⟩
  | 21 => ⟨S_, .f32⟩
  | 22 => ⟨S2x4096, .f32⟩
  | 23 => ⟨S2x4096x1, .f32⟩
  | 24 => ⟨S_, .f32⟩
  | 25 => ⟨S2x4096x1, .f32⟩
  | 26 => ⟨S2x4096x1, .f32⟩
  | 27 => ⟨S_, .f32⟩
  | 28 => ⟨S2x4096x1, .f32⟩
  | 29 => ⟨S2x4096x1, .f32⟩
  | 30 => ⟨S2x4096x1, .f32⟩
  | 31 => ⟨S2x4096x1, .f32⟩
  | 32 => ⟨S_, .f32⟩
  | 33 => ⟨S2x4096x1, .f32⟩
  | 34 => ⟨S2x4096x1, .f32⟩
  | 35 => ⟨S2x4096x512, .f32⟩
  | 36 => ⟨S2x4096x512, .f32⟩
  | 37 => ⟨S1x1x512, .f32⟩
  | 38 => ⟨S2x4096x512, .f32⟩
  | 39 => ⟨S2x4096x512, .f32⟩
  | 40 => ⟨S1x1x512, .f32⟩
  | 41 => ⟨S2x4096x512, .f32⟩
  | 42 => ⟨S2x4096x512, .f32⟩
  | 43 => ⟨S2x4096x512, .f32⟩
  | 44 => ⟨S2x4096x512, .f32⟩
  | 45 => ⟨S_, .f32⟩
  | 46 => ⟨S2x4096x512, .f32⟩
  | 47 => ⟨S2x4096x512, .f32⟩
  | 48 => ⟨S_, .f32⟩
  | 49 => ⟨S2x4096x512, .f32⟩
  | 50 => ⟨S2x4096x512, .f32⟩
  | 51 => ⟨S_, .f32⟩
  | 52 => ⟨S2x4096x512, .f32⟩
  | 53 => ⟨S2x4096x512, .f32⟩
  | 54 => ⟨S2x4096x512, .f32⟩
  | 55 => ⟨S2x4096x512, .f32⟩
  | 56 => ⟨S2x4096x4x128, .f32⟩
  | 57 => ⟨S_, .f32⟩
  | 58 => ⟨S2x4096x4, .f32⟩
  | 59 => ⟨S2x4096x4x1, .f32⟩
  | 60 => ⟨S_, .f32⟩
  | 61 => ⟨S2x4096x4x1, .f32⟩
  | 62 => ⟨S2x4096x4x1, .f32⟩
  | 63 => ⟨S2x4096x4x128, .f32⟩
  | 64 => ⟨S2x4096x4x128, .f32⟩
  | 65 => ⟨S2x4096x4x128, .f32⟩
  | 66 => ⟨S_, .f32⟩
  | 67 => ⟨S2x4096x4, .f32⟩
  | 68 => ⟨S2x4096x4x1, .f32⟩
  | 69 => ⟨S_, .f32⟩
  | 70 => ⟨S2x4096x4x1, .f32⟩
  | 71 => ⟨S2x4096x4x1, .f32⟩
  | 72 => ⟨S_, .f32⟩
  | 73 => ⟨S2x4096x4x1, .f32⟩
  | 74 => ⟨S2x4096x4x1, .f32⟩
  | 75 => ⟨S2x4096x4x1, .f32⟩
  | 76 => ⟨S2x4096x4x1, .f32⟩
  | 77 => ⟨S_, .f32⟩
  | 78 => ⟨S2x4096x4x1, .f32⟩
  | 79 => ⟨S2x4096x4x1, .f32⟩
  | 80 => ⟨S2x4096x4x128, .f32⟩
  | 81 => ⟨S2x4096x4x128, .f32⟩
  | 82 => ⟨S1x1x4x128, .f32⟩
  | 83 => ⟨S2x4096x4x128, .f32⟩
  | 84 => ⟨S2x4096x4x128, .f32⟩
  | 85 => ⟨S1x1x4x128, .f32⟩
  | 86 => ⟨S2x4096x4x128, .f32⟩
  | 87 => ⟨S2x4096x4x128, .f32⟩
  | 88 => ⟨S2x32x128x4x128, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S1x128x128, .i1⟩
  | 101 => ⟨S_, .i32⟩
  | 102 => ⟨S_, .f32⟩
  | 103 => ⟨S4x128x128, .i1⟩
  | 104 => ⟨S4x128x128, .f32⟩
  | 105 => ⟨S4x128x128, .f32⟩
  | 106 => ⟨S_, .f32⟩
  | 107 => ⟨S4x128x128, .f32⟩
  | 108 => ⟨S4x2x32x128x128, .f32⟩
  | 109 => ⟨S2x32x128x4x128, .f32⟩
  | 110 => ⟨S128x4, .f32⟩
  | 111 => ⟨S128x4x1, .f32⟩
  | 112 => ⟨S1x1x128x4x1, .f32⟩
  | 113 => ⟨S2x32x128x4x128, .f32⟩
  | 114 => ⟨S2x32x128x4x128, .f32⟩
  | 115 => ⟨S2x4096x512, .f32⟩
  | 116 => ⟨S2x4096x512, .f32⟩
  | 117 => ⟨S2x4096x512, .f32⟩
  | 118 => ⟨S2x4096x1024, .f32⟩
  | 119 => ⟨S8192x1024, .f32⟩
  | 120 => ⟨S2x4096x1024, .f32⟩
  | 121 => ⟨S2x4096x512, .f32⟩
  | 122 => ⟨S2x4096x512, .f32⟩
  | 123 => ⟨S2x4096x512, .f32⟩
  | 124 => ⟨S2x4096x512, .f32⟩
  | 125 => ⟨S2x32x128x4x128, .f32⟩
  | 126 => ⟨S8192x512, .f32⟩
  | 127 => ⟨S_, .f32⟩
  | _ => ⟨S8192x1024, .f32⟩

abbrev hbmTy0_1 (i : Nat) : BufTy := match i % 128 with
  | 0 => ⟨S128x4, .f32⟩
  | 1 => ⟨S1x1x128x4x1, .f32⟩
  | 2 => ⟨S_, .f32⟩
  | 3 => ⟨S128x4, .f32⟩
  | 4 => ⟨S128x4x1, .f32⟩
  | 5 => ⟨S_, .f32⟩
  | 6 => ⟨S128x4, .f32⟩
  | 7 => ⟨S4x128, .f32⟩
  | 8 => ⟨S4x2x32x128x128, .f32⟩
  | 9 => ⟨S4x128x128, .f32⟩
  | 10 => ⟨S4x2x32x128x128, .f32⟩
  | 11 => ⟨S2x32x128x4x128, .f32⟩
  | 12 => ⟨S_, .f32⟩
  | 13 => ⟨S4x128x128, .f32⟩
  | 14 => ⟨S4x128x128, .f32⟩
  | 15 => ⟨S2x4096x4x128, .f32⟩
  | 16 => ⟨S_, .f32⟩
  | 17 => ⟨S4x128, .f32⟩
  | 18 => ⟨S1x1x4x128, .f32⟩
  | 19 => ⟨S_, .f32⟩
  | 20 => ⟨S4x128, .f32⟩
  | 21 => ⟨S2x4096x4x128, .f32⟩
  | 22 => ⟨S_, .f32⟩
  | 23 => ⟨S4x128, .f32⟩
  | 24 => ⟨S1x1x4x128, .f32⟩
  | 25 => ⟨S2x4096x4x128, .f32⟩
  | 26 => ⟨S2x4096x4x128, .f32⟩
  | 27 => ⟨S_, .f32⟩
  | 28 => ⟨S4x128, .f32⟩
  | 29 => ⟨S2x4096x4x128, .f32⟩
  | 30 => ⟨S_, .f32⟩
  | 31 => ⟨S2x4096x4, .f32⟩
  | 32 => ⟨S2x4096x4x1, .f32⟩
  | 33 => ⟨S2x4096x4x128, .f32⟩
  | 34 => ⟨S2x4096x4x128, .f32⟩
  | 35 => ⟨S2x4096x4x1, .f32⟩
  | 36 => ⟨S_, .f32⟩
  | 37 => ⟨S2x4096x4x1, .f32⟩
  | 38 => ⟨S2x4096x4x1, .f32⟩
  | 39 => ⟨S_, .f32⟩
  | 40 => ⟨S2x4096x4, .f32⟩
  | 41 => ⟨S2x4096x4x128, .f32⟩
  | 42 => ⟨S2x4096x4x128, .f32⟩
  | 43 => ⟨S2x4096x4x128, .f32⟩
  | 44 => ⟨S2x4096x4x128, .f32⟩
  | 45 => ⟨S2x4096x4x128, .f32⟩
  | 46 => ⟨S2x4096x4x128, .f32⟩
  | 47 => ⟨S_, .f32⟩
  | 48 => ⟨S2x4096x4, .f32⟩
  | 49 => ⟨S2x4096x4x1, .f32⟩
  | 50 => ⟨S_, .f32⟩
  | 51 => ⟨S2x4096x4x1, .f32⟩
  | 52 => ⟨S2x4096x4x1, .f32⟩
  | 53 => ⟨S_, .f32⟩
  | 54 => ⟨S2x4096x4, .f32⟩
  | 55 => ⟨S2x4096x4x128, .f32⟩
  | 56 => ⟨S2x4096x4x128, .f32⟩
  | 57 => ⟨S8192x512, .f32⟩
  | 58 => ⟨S2x4096x512, .f32⟩
  | 59 => ⟨S2x4096x512, .f32⟩
  | 60 => ⟨S2x4096x512, .f32⟩
  | 61 => ⟨S2x4096x512, .f32⟩
  | 62 => ⟨S_, .f32⟩
  | 63 => ⟨S512, .f32⟩
  | 64 => ⟨S1x1x512, .f32⟩
  | 65 => ⟨S_, .f32⟩
  | 66 => ⟨S512, .f32⟩
  | 67 => ⟨S2x4096x512, .f32⟩
  | 68 => ⟨S_, .f32⟩
  | 69 => ⟨S512, .f32⟩
  | 70 => ⟨S1x1x512, .f32⟩
  | 71 => ⟨S2x4096x512, .f32⟩
  | 72 => ⟨S2x4096x512, .f32⟩
  | 73 => ⟨S_, .f32⟩
  | 74 => ⟨S512, .f32⟩
  | 75 => ⟨S2x4096x512, .f32⟩
  | 76 => ⟨S_, .f32⟩
  | 77 => ⟨S2x4096, .f32⟩
  | 78 => ⟨S2x4096x1, .f32⟩
  | 79 => ⟨S2x4096x512, .f32⟩
  | 80 => ⟨S2x4096x512, .f32⟩
  | 81 => ⟨S2x4096x1, .f32⟩
  | 82 => ⟨S_, .f32⟩
  | 83 => ⟨S2x4096x1, .f32⟩
  | 84 => ⟨S2x4096x1, .f32⟩
  | 85 => ⟨S_, .f32⟩
  | 86 => ⟨S2x4096, .f32⟩
  | 87 => ⟨S2x4096x512, .f32⟩
  | 88 => ⟨S2x4096x512, .f32⟩
  | 89 => ⟨S2x4096x512, .f32⟩
  | 90 => ⟨S2x4096x512, .f32⟩
  | 91 => ⟨S2x4096x512, .f32⟩
  | 92 => ⟨S2x4096x512, .f32⟩
  | 93 => ⟨S_, .f32⟩
  | 94 => ⟨S2x4096, .f32⟩
  | 95 => ⟨S2x4096x1, .f32⟩
  | 96 => ⟨S_, .f32⟩
  | 97 => ⟨S2x4096x1, .f32⟩
  | 98 => ⟨S2x4096x1, .f32⟩
  | 99 => ⟨S_, .f32⟩
  | 100 => ⟨S2x4096, .f32⟩
  | 101 => ⟨S2x4096x512, .f32⟩
  | 102 => ⟨S2x4096x512, .f32⟩
  | 103 => ⟨S8192x512, .f32⟩
  | 104 => ⟨S8192x1024, .f32⟩
  | 105 => ⟨S8192x1024, .bf16⟩
  | 106 => ⟨S1x512, .f32⟩
  | 107 => ⟨S1x512, .f32⟩
  | 108 => ⟨S1x512, .f32⟩
  | 109 => ⟨S1x512, .f32⟩
  | 110 => ⟨S128x4, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v28_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v28_1 : Ref sig .tc := ⟨.hbm, 54, rfl⟩
abbrev main_v28_0 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c : Ref sig .tc := ⟨.hbm, 89, rfl⟩
abbrev main_v56 : Ref sig .tc := ⟨.hbm, 90, rfl⟩
abbrev main_call1_v0 : Ref sig .tc := ⟨.hbm, 91, rfl⟩
abbrev main_call1_c : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_c_0 : Ref sig .tc := ⟨.hbm, 97, rfl⟩
abbrev main_call1_v5 : Ref sig .tc := ⟨.hbm, 98, rfl⟩
abbrev main_v57 : Ref sig .tc := ⟨.hbm, 99, rfl⟩
abbrev main_v58 : Ref sig .tc := ⟨.hbm, 100, rfl⟩
abbrev main_c_11 : Ref sig .tc := ⟨.hbm, 101, rfl⟩
abbrev main_call2_v0 : Ref sig .tc := ⟨.hbm, 102, rfl⟩
abbrev main_v59_1 : Ref sig .tc := ⟨.hbm, 103, rfl⟩
abbrev main_call2_v2 : Ref sig .tc := ⟨.hbm, 104, rfl⟩
abbrev main_v59_0 : Ref sig .tc := ⟨.hbm, 105, rfl⟩
abbrev main_call2_cst : Ref sig .tc := ⟨.hbm, 106, rfl⟩
abbrev main_v59_2 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_12 : Ref sig .tc := ⟨.hbm, 127, rfl⟩
abbrev main_v79 : Ref sig .tc := ⟨.hbm, 128, rfl⟩
abbrev main_v80 : Ref sig .tc := ⟨.hbm, 129, rfl⟩
abbrev main_cst_13 : Ref sig .tc := ⟨.hbm, 130, rfl⟩
abbrev main_v81 : Ref sig .tc := ⟨.hbm, 131, rfl⟩
abbrev main_v82 : Ref sig .tc := ⟨.hbm, 132, rfl⟩
abbrev main_cst_14 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_call3_cst : Ref sig .tc := ⟨.hbm, 140, rfl⟩
abbrev main_call3_v0 : Ref sig .tc := ⟨.hbm, 141, rfl⟩
abbrev main_v89 : Ref sig .tc := ⟨.hbm, 142, rfl⟩
abbrev main_v90 : Ref sig .tc := ⟨.hbm, 143, rfl⟩
abbrev main_cst_15 : Ref sig .tc := ⟨.hbm, 144, rfl⟩
abbrev main_v91 : Ref sig .tc := ⟨.hbm, 145, rfl⟩
abbrev main_v92 : Ref sig .tc := ⟨.hbm, 146, rfl⟩
abbrev main_cst_16 : Ref sig .tc := ⟨.hbm, 147, rfl⟩
abbrev main_v93 : Ref sig .tc := ⟨.hbm, 148, rfl⟩
abbrev main_v94 : Ref sig .tc := ⟨.hbm, 149, rfl⟩
abbrev main_cst_17 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_18 : Ref sig .tc := ⟨.hbm, 155, rfl⟩
abbrev main_v99 : Ref sig .tc := ⟨.hbm, 156, rfl⟩
abbrev main_v100 : Ref sig .tc := ⟨.hbm, 157, rfl⟩
abbrev main_cst_19 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_20 : Ref sig .tc := ⟨.hbm, 164, rfl⟩
abbrev main_v106 : Ref sig .tc := ⟨.hbm, 165, rfl⟩
abbrev main_v107 : Ref sig .tc := ⟨.hbm, 166, rfl⟩
abbrev main_cst_21 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_22 : Ref sig .tc := ⟨.hbm, 175, rfl⟩
abbrev main_v115 : Ref sig .tc := ⟨.hbm, 176, rfl⟩
abbrev main_v116 : Ref sig .tc := ⟨.hbm, 177, rfl⟩
abbrev main_cst_23 : Ref sig .tc := ⟨.hbm, 178, rfl⟩
abbrev main_v117 : Ref sig .tc := ⟨.hbm, 179, rfl⟩
abbrev main_v118 : Ref sig .tc := ⟨.hbm, 180, rfl⟩
abbrev main_cst_24 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_v123 : Ref sig .tc := ⟨.hbm, 189, rfl⟩
abbrev main_cst_25 : Ref sig .tc := ⟨.hbm, 190, rfl⟩
abbrev main_v124 : Ref sig .tc := ⟨.hbm, 191, rfl⟩
abbrev main_v125 : Ref sig .tc := ⟨.hbm, 192, rfl⟩
abbrev main_cst_26 : Ref sig .tc := ⟨.hbm, 193, rfl⟩
abbrev main_v126 : Ref sig .tc := ⟨.hbm, 194, rfl⟩
abbrev main_v127 : Ref sig .tc := ⟨.hbm, 195, rfl⟩
abbrev main_cst_27 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_cst_28 : Ref sig .tc := ⟨.hbm, 201, rfl⟩
abbrev main_v132 : Ref sig .tc := ⟨.hbm, 202, rfl⟩
abbrev main_v133 : Ref sig .tc := ⟨.hbm, 203, rfl⟩
abbrev main_cst_29 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_30 : Ref sig .tc := ⟨.hbm, 210, rfl⟩
abbrev main_v139 : Ref sig .tc := ⟨.hbm, 211, rfl⟩
abbrev main_v140 : Ref sig .tc := ⟨.hbm, 212, rfl⟩
abbrev main_cst_31 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_32 : Ref sig .tc := ⟨.hbm, 221, rfl⟩
abbrev main_v148 : Ref sig .tc := ⟨.hbm, 222, rfl⟩
abbrev main_v149 : Ref sig .tc := ⟨.hbm, 223, rfl⟩
abbrev main_cst_33 : Ref sig .tc := ⟨.hbm, 224, rfl⟩
abbrev main_v150 : Ref sig .tc := ⟨.hbm, 225, rfl⟩
abbrev main_v151 : Ref sig .tc := ⟨.hbm, 226, rfl⟩
abbrev main_cst_34 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 40
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .hbm, ⟨11, _⟩ => ⟨S3x2816x1024, .f32⟩
  | .hbm, ⟨12, _⟩ => ⟨S3x2816x1024, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .bf16⟩
  | .hbm, ⟨31, _⟩ => ⟨S8192x2816, .f32⟩
  | .hbm, ⟨32, _⟩ => ⟨S8192x2816, .bf16⟩
  | .hbm, ⟨33, _⟩ => ⟨S1x1024, .f32⟩
  | .hbm, ⟨34, _⟩ => ⟨S8192x1024, .f32⟩
  | .hbm, ⟨35, _⟩ => ⟨S1x1024, .f32⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1x2816x1024, .bf16⟩
  | .local _ .vmem, ⟨10, _⟩ => ⟨S1x2816x1024, .bf16⟩
  | .local _ .vmem, ⟨11, _⟩ => ⟨S1x2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_34 : BitVec 32 := 0#32
  let v53 : BitVec 1 := Scalar.cmpi .eq arg1 c0_i32_34
  let v54 : BitVec 32 := Scalar.extui v53
  let c0_i32_35 : BitVec 32 := 0#32
  let v55 : BitVec 1 := Scalar.cmpi .ne v54 c0_i32_35
  v55

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x2816, .bf16⟩
  | .hbm, ⟨89, _⟩ => ⟨S8192x2816, .bf16⟩
  | .hbm, ⟨90, _⟩ => ⟨S8192x2816, .bf16⟩
  | .hbm, ⟨91, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S1x2816x1024, .f32⟩
  | .hbm, ⟨8, _⟩ => ⟨S1x2816x1024, .f32⟩
  | .hbm, ⟨9, _⟩ => ⟨S1x2816x1024, .f32⟩
  | .hbm, ⟨10, _⟩ => ⟨S3x2816x1024, .f32⟩
  | .hbm, ⟨11, _⟩ => ⟨S3x2816x1024, .bf16⟩
  | .hbm, ⟨12, _⟩ => ⟨S1x1024, .f32⟩
  | .hbm, ⟨13, _⟩ => ⟨S8192x1024, .f32⟩
  | .hbm, ⟨14, _⟩ => ⟨S8192x2816, .bf16⟩
  | .hbm, ⟨15, _⟩ => ⟨S8192x2816, .bf16⟩
  | .hbm, ⟨16, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x2816x1024, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_24 : BitVec 32 := 0#32
  let v33 : BitVec 1 := Scalar.cmpi .eq arg1 c0_i32_24
  let v34 : BitVec 32 := Scalar.extui v33
  let c0_i32_25 : BitVec 32 := 0#32
  let v35 : BitVec 1 := Scalar.cmpi .ne v34 c0_i32_25
  v35

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel6.lean ====
abbrev S8192x1024 : Shape := ⟨2, ![8192, 1024]⟩
abbrev S1024x3072 : Shape := ⟨2, ![1024, 3072]⟩
abbrev S1024 : Shape := ⟨1, ![1024]⟩
abbrev S3072x1024 : Shape := ⟨2, ![3072, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x3072, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S3072x1024, .f32⟩
  | .hbm, ⟨8, _⟩ => ⟨S3072x1024, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3072x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x1024 : Shape := ⟨2, ![8192, 1024]⟩
abbrev S1024x3072 : Shape := ⟨2, ![1024, 3072]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x3072, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x3072, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 21
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S1x2816x1024, .f32⟩
  | .hbm, ⟨10, _⟩ => ⟨S1x2816x1024, .f32⟩
  | .hbm, ⟨11, _⟩ => ⟨S1x2816x1024, .f32⟩
  | .hbm, ⟨12, _⟩ => ⟨S3x2816x1024, .f32⟩
  | .hbm, ⟨13, _⟩ => ⟨S3x2816x1024, .bf16⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x2816, .bf16⟩
  | .hbm, ⟨19, _⟩ => ⟨S8192x2816, .bf16⟩
  | .hbm, ⟨20, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x2816x1024, .bf16⟩
  | .local _ .vmem, ⟨7, _⟩ => ⟨S1x2816x1024, .bf16⟩
  | .local _ .vmem, ⟨8, _⟩ => ⟨S1x2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2816, .bf16⟩
  | .hbm, ⟨44, _⟩ => ⟨S8192x2816, .bf16⟩
  | .hbm, ⟨45, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S1024x3072 : Shape := ⟨2, ![1024, 3072]⟩
abbrev S1024 : Shape := ⟨1, ![1024]⟩
abbrev S3072x1024 : Shape := ⟨2, ![3072, 1024]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024, .f32⟩
  | .hbm, ⟨3, _⟩ => ⟨S3072x1024, .f32⟩
  | .hbm, ⟨4, _⟩ => ⟨S3072x1024, .bf16⟩
  | .hbm, ⟨5, _⟩ => ⟨S1x1024, .f32⟩
  | .hbm, ⟨6, _⟩ => ⟨S8192x3072, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S8192x1024 : Shape := ⟨2, ![8192, 1024]⟩
abbrev S1024x3072 : Shape := ⟨2, ![1024, 3072]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x3072, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 26
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S2816x1024, .f32⟩
  | .hbm, ⟨10, _⟩ => ⟨S2816x1024, .f32⟩
  | .hbm, ⟨11, _⟩ => ⟨S1x2816x1024, .f32⟩
  | .hbm, ⟨12, _⟩ => ⟨S1x2816x1024, .f32⟩
  | .hbm, ⟨13, _⟩ => ⟨S1x2816x1024, .f32⟩
  | .hbm, ⟨14, _⟩ => ⟨S3x2816x1024, .f32⟩
  | .hbm, ⟨15, _⟩ => ⟨S3x2816x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x2816, .bf16⟩
  | .hbm, ⟨21, _⟩ => ⟨S8192x2816, .bf16⟩
  | .hbm, ⟨22, _⟩ => ⟨S8192x1024, .bf16⟩
  | .hbm, ⟨23, _⟩ => ⟨S8192x1024, .f32⟩
  | .hbm, ⟨24, _⟩ => ⟨S1x128, .f32⟩
  | .hbm, ⟨25, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x2816x1024, .bf16⟩
  | .local _ .vmem, ⟨7, _⟩ => ⟨S1x2816x1024, .bf16⟩
  | .local _ .vmem, ⟨8, _⟩ => ⟨S1x2816x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S1x128, .f32⟩
  | .local _ .vmem, ⟨23, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference10Ideal.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x2816, .bf16⟩
  | .hbm, ⟨46, _⟩ => ⟨S8192x2816, .bf16⟩
  | .hbm, ⟨47, _⟩ => ⟨S8192x1024, .bf16⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S8192x1024, .f32⟩
  | .hbm, ⟨104, _⟩ => ⟨S8192x1024, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S_, .f32⟩
  | .hbm, ⟨110, _⟩ => ⟨S8192, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S1x128, .f32⟩
  | .hbm, ⟨117, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_cst_12 : Ref sig .tc := ⟨.hbm, 82, rfl⟩
abbrev main_cst_13 : Ref sig .tc := ⟨.hbm, 83, rfl⟩
abbrev main_v52 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_18 : Ref sig .tc := ⟨.hbm, 106, rfl⟩
abbrev main_v70 : Ref sig .tc := ⟨.hbm, 107, rfl⟩
abbrev main_v71 : Ref sig .tc := ⟨.hbm, 108, rfl⟩
abbrev main_cst_19 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S1024 : Shape := ⟨1, ![1024]⟩
abbrev S2048x1024 : Shape := ⟨2, ![2048, 1024]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024, .f32⟩
  | .hbm, ⟨3, _⟩ => ⟨S2048x1024, .f32⟩
  | .hbm, ⟨4, _⟩ => ⟨S2048x1024, .bf16⟩
  | .hbm, ⟨5, _⟩ => ⟨S1x1024, .f32⟩
  | .hbm, ⟨6, _⟩ => ⟨S8192x2048, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S1024x2048 : Shape := ⟨2, ![1024, 2048]⟩
abbrev S1024 : Shape := ⟨1, ![1024]⟩
abbrev S2048x1024 : Shape := ⟨2, ![2048, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2048, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel16.lean ====
abbrev S608x128 : Shape := ⟨2, ![608, 128]⟩
abbrev S152x128 : Shape := ⟨2, ![152, 128]⟩

abbrev nBuf : Space → Nat
  | .hbm => 7
  | .vmem => 14
  | .smem => 0
  | _ => 0

abbrev bufTy : (tb : Table) → Fin (tcTables nBuf tb) → BufTy
  | .hbm, ⟨0, _⟩ => ⟨S608x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S608x128, .f32⟩
  | .hbm, ⟨5, _⟩ => ⟨S608x128, .f32⟩
  | .hbm, ⟨6, _⟩ => ⟨S608x128, .f32⟩
  | .local _ .vmem, ⟨0, _⟩ => ⟨S152x128, .f32⟩
  | .local _ .vmem, ⟨1, _⟩ => ⟨S152x128, .f32⟩
  | .local _ .vmem, ⟨2, _⟩ => ⟨S152x128, .f32⟩
  | .local _ .vmem, ⟨3, _⟩ => ⟨S152x128, .f32⟩
  | .local _ .vmem, ⟨4, _⟩ => ⟨S152x128, .f32⟩
  | .local _ .vmem, ⟨5, _⟩ => ⟨S152x128, .f32⟩
  | .local _ .vmem, ⟨6, _⟩ => ⟨S152x128, .f32⟩
  | .local _ .vmem, ⟨7, _⟩ => ⟨S152x128, .f32⟩
  | .local _ .vmem, ⟨8, _⟩ => ⟨S152x128, .f32⟩
  | .local _ .vmem, ⟨9, _⟩ => ⟨S152x128, .f32⟩
  | .local _ .vmem, ⟨10, _⟩ => ⟨S152x128, .f32⟩
  | .local _ .vmem, ⟨11, _⟩ => ⟨S152x128, .f32⟩
  | .local _ .vmem, ⟨12, _⟩ => ⟨S152x128, .f32⟩
  | .local _ .vmem, ⟨13, _⟩ => ⟨S152x128, .f32⟩
  | _, _ => ⟨S608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S608x128 : Shape := ⟨2, ![608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S608x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S_, .f32⟩
  | .hbm, ⟨5, _⟩ => ⟨S608x128, .f32⟩
  | .hbm, ⟨6, _⟩ => ⟨S608x128, .f32⟩
  | .hbm, ⟨7, _⟩ => ⟨S_, .f32⟩
  | .hbm, ⟨8, _⟩ => ⟨S608x128, .f32⟩
  | .hbm, ⟨9, _⟩ => ⟨S608x128, .f32⟩
  | .hbm, ⟨10, _⟩ => ⟨S608x128, .f32⟩
  | .hbm, ⟨11, _⟩ => ⟨S_, .f32⟩
  | .hbm, ⟨12, _⟩ => ⟨S608x128, .f32⟩
  | .hbm, ⟨13, _⟩ => ⟨S608x128, .f32⟩
  | .hbm, ⟨14, _⟩ => ⟨S608x128, .f32⟩
  | .hbm, ⟨15, _⟩ => ⟨S_, .f32⟩
  | .hbm, ⟨16, _⟩ => ⟨S608x128, .f32⟩
  | .hbm, ⟨17, _⟩ => ⟨S608x128, .f32⟩
  | .hbm, ⟨18, _⟩ => ⟨S608x128, .f32⟩
  | .hbm, ⟨19, _⟩ => ⟨S_, .f32⟩
  | .hbm, ⟨20, _⟩ => ⟨S608x128, .f32⟩
  | .hbm, ⟨21, _⟩ => ⟨S608x128, .f32⟩
  | .hbm, ⟨22, _⟩ => ⟨S_, .f32⟩
  | .hbm, ⟨23, _⟩ => ⟨S608x128, .f32⟩
  | .hbm, ⟨24, _⟩ => ⟨S608x128, .f32⟩
  | .hbm, ⟨25, _⟩ => ⟨S608x128, .f32⟩
  | .hbm, ⟨26, _⟩ => ⟨S_, .f32⟩
  | .hbm, ⟨27, _⟩ => ⟨S608x128, .f32⟩
  | .hbm, ⟨28, _⟩ => ⟨S608x128, .f32⟩
  | .hbm, ⟨29, _⟩ => ⟨S608x128, .f32⟩
  | .hbm, ⟨30, _⟩ => ⟨S_, .f32⟩
  | .hbm, ⟨31, _⟩ => ⟨S608x128, .f32⟩
  | .hbm, ⟨32, _⟩ => ⟨S608x128, .f32⟩
  | .hbm, ⟨33, _⟩ => ⟨S608x128, .f32⟩
  | .hbm, ⟨34, _⟩ => ⟨S_, .f32⟩
  | .hbm, ⟨35, _⟩ => ⟨S608x128, .f32⟩
  | .hbm, ⟨36, _⟩ => ⟨S608x128, .f32⟩
  | _, _ => ⟨S608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .f32⟩
  | .local _ .vmem, ⟨1, _⟩ => ⟨S8x176x1024, .f32⟩
  | .local _ .vmem, ⟨2, _⟩ => ⟨S8x176x1024, .f32⟩
  | .local _ .vmem, ⟨3, _⟩ => ⟨S8x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S1x352x1024, .f32⟩
  | .hbm, ⟨10, _⟩ => ⟨S1x352x1024, .f32⟩
  | .hbm, ⟨11, _⟩ => ⟨S2x352x1024, .f32⟩
  | .hbm, ⟨12, _⟩ => ⟨S_, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel18.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .f32⟩
  | .local _ .vmem, ⟨3, _⟩ => ⟨S8x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S1x352x1024, .f32⟩
  | .hbm, ⟨11, _⟩ => ⟨S1x352x1024, .f32⟩
  | .hbm, ⟨12, _⟩ => ⟨S2x352x1024, .f32⟩
  | .hbm, ⟨13, _⟩ => ⟨S_, .f32⟩
  | .hbm, ⟨14, _⟩ => ⟨S2x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S2x352x1024, .f32⟩
  | .hbm, ⟨20, _⟩ => ⟨S_, .f32⟩
  | .hbm, ⟨21, _⟩ => ⟨S2x352x1024, .f32⟩
  | .hbm, ⟨22, _⟩ => ⟨S2x352x1024, .f32⟩
  | .hbm, ⟨23, _⟩ => ⟨S2x352x1024, .f32⟩
  | .hbm, ⟨24, _⟩ => ⟨S_, .f32⟩
  | .hbm, ⟨25, _⟩ => ⟨S2x352x1024, .f32⟩
  | .hbm, ⟨26, _⟩ => ⟨S2x352x1024, .f32⟩
  | .hbm, ⟨27, _⟩ => ⟨S2x352x1024, .f32⟩
  | .hbm, ⟨28, _⟩ => ⟨S_, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S2x352x1024, .f32⟩
  | .hbm, ⟨35, _⟩ => ⟨S_, .f32⟩
  | .hbm, ⟨36, _⟩ => ⟨S2x352x1024, .f32⟩
  | .hbm, ⟨37, _⟩ => ⟨S2x352x1024, .f32⟩
  | .hbm, ⟨38, _⟩ => ⟨S2x352x1024, .f32⟩
  | .hbm, ⟨39, _⟩ => ⟨S_, .f32⟩
  | .hbm, ⟨40, _⟩ => ⟨S2x352x1024, .f32⟩
  | .hbm, ⟨41, _⟩ => ⟨S2x352x1024, .f32⟩
  | .hbm, ⟨42, _⟩ => ⟨S2x352x1024, .f32⟩
  | .hbm, ⟨43, _⟩ => ⟨S_, .f32⟩
  | .hbm, ⟨44, _⟩ => ⟨S2x352x1024, .f32⟩
  | .hbm, ⟨45, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel19.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x384x1024 : Shape := ⟨3, ![8, 384, 1024]⟩
abbrev S1x384x1024 : Shape := ⟨3, ![1, 384, 1024]⟩
abbrev S8x192x1024 : Shape := ⟨3, ![8, 192, 1024]⟩
abbrev S1x192x1024 : Shape := ⟨3, ![1, 192, 1024]⟩
abbrev S192x1024 : Shape := ⟨2, ![192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x384x1024, .f32⟩
  | .hbm, ⟨1, _⟩ => ⟨S1x384x1024, .f32⟩
  | .hbm, ⟨2, _⟩ => ⟨S1x384x1024, .f32⟩
  | .hbm, ⟨3, _⟩ => ⟨S1x384x1024, .f32⟩
  | .hbm, ⟨4, _⟩ => ⟨S1x384x1024, .f32⟩
  | .hbm, ⟨5, _⟩ => ⟨S1x384x1024, .f32⟩
  | .hbm, ⟨6, _⟩ => ⟨S1x384x1024, .f32⟩
  | .hbm, ⟨7, _⟩ => ⟨S1x384x1024, .f32⟩
  | .local _ .vmem, ⟨0, _⟩ => ⟨S8x192x1024, .f32⟩
  | .local _ .vmem, ⟨1, _⟩ => ⟨S8x192x1024, .f32⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | .local _ .vmem, ⟨14, _⟩ => ⟨S1x192x1024, .f32⟩
  | .local _ .vmem, ⟨15, _⟩ => ⟨S1x192x1024, .f32⟩
  | _, _ => ⟨S8x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S8x384x1024 : Shape := ⟨3, ![8, 384, 1024]⟩
abbrev S1x384x1024 : Shape := ⟨3, ![1, 384, 1024]⟩
abbrev S_ : Shape := ⟨0, ![]⟩
abbrev S384x1024 : Shape := ⟨2, ![384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x384x1024, .f32⟩
  | .hbm, ⟨1, _⟩ => ⟨S1x384x1024, .f32⟩
  | .hbm, ⟨2, _⟩ => ⟨S1x384x1024, .f32⟩
  | .hbm, ⟨3, _⟩ => ⟨S1x384x1024, .f32⟩
  | .hbm, ⟨4, _⟩ => ⟨S_, .f32⟩
  | .hbm, ⟨5, _⟩ => ⟨S384x1024, .f32⟩
  | .hbm, ⟨6, _⟩ => ⟨S1x384x1024, .f32⟩
  | .hbm, ⟨7, _⟩ => ⟨S_, .f32⟩
  | .hbm, ⟨8, _⟩ => ⟨S1x384x1024, .f32⟩
  | .hbm, ⟨9, _⟩ => ⟨S1x384x1024, .f32⟩
  | .hbm, ⟨10, _⟩ => ⟨S_, .f32⟩
  | .hbm, ⟨11, _⟩ => ⟨S1x384x1024, .f32⟩
  | .hbm, ⟨12, _⟩ => ⟨S1x384x1024, .f32⟩
  | .hbm, ⟨13, _⟩ => ⟨S1x384x1024, .f32⟩
  | .hbm, ⟨14, _⟩ => ⟨S_, .f32⟩
  | .hbm, ⟨15, _⟩ => ⟨S1x384x1024, .f32⟩
  | .hbm, ⟨16, _⟩ => ⟨S1x384x1024, .f32⟩
  | .hbm, ⟨17, _⟩ => ⟨S1x384x1024, .f32⟩
  | .hbm, ⟨18, _⟩ => ⟨S_, .f32⟩
  | .hbm, ⟨19, _⟩ => ⟨S1x384x1024, .f32⟩
  | .hbm, ⟨20, _⟩ => ⟨S1x384x1024, .f32⟩
  | .hbm, ⟨21, _⟩ => ⟨S1x384x1024, .f32⟩
  | .hbm, ⟨22, _⟩ => ⟨S_, .f32⟩
  | .hbm, ⟨23, _⟩ => ⟨S1x384x1024, .f32⟩
  | .hbm, ⟨24, _⟩ => ⟨S1x384x1024, .f32⟩
  | .hbm, ⟨25, _⟩ => ⟨S_, .f32⟩
  | .hbm, ⟨26, _⟩ => ⟨S1x384x1024, .f32⟩
  | .hbm, ⟨27, _⟩ => ⟨S1x384x1024, .f32⟩
  | .hbm, ⟨28, _⟩ => ⟨S1x384x1024, .f32⟩
  | .hbm, ⟨29, _⟩ => ⟨S_, .f32⟩
  | .hbm, ⟨30, _⟩ => ⟨S1x384x1024, .f32⟩
  | .hbm, ⟨31, _⟩ => ⟨S1x384x1024, .f32⟩
  | .hbm, ⟨32, _⟩ => ⟨S1x384x1024, .f32⟩
  | .hbm, ⟨33, _⟩ => ⟨S_, .f32⟩
  | .hbm, ⟨34, _⟩ => ⟨S1x384x1024, .f32⟩
  | .hbm, ⟨35, _⟩ => ⟨S1x384x1024, .f32⟩
  | .hbm, ⟨36, _⟩ => ⟨S1x384x1024, .f32⟩
  | .hbm, ⟨37, _⟩ => ⟨S_, .f32⟩
  | .hbm, ⟨38, _⟩ => ⟨S1x384x1024, .f32⟩
  | .hbm, ⟨39, _⟩ => ⟨S1x384x1024, .f32⟩
  | _, _ => ⟨S8x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x256x1024 : Shape := ⟨3, ![8, 256, 1024]⟩
abbrev S1x256x1024 : Shape := ⟨3, ![1, 256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x128x1024, .f32⟩
  | .local _ .vmem, ⟨1, _⟩ => ⟨S8x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference21Ideal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x720x128 : Shape := ⟨3, ![8, 720, 128]⟩
abbrev S720x128 : Shape := ⟨2, ![720, 128]⟩
abbrev S1x720x128 : Shape := ⟨3, ![1, 720, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x720x128, .f32⟩
  | .hbm, ⟨1, _⟩ => ⟨S720x128, .f32⟩
  | .local _ .vmem, ⟨0, _⟩ => ⟨S8x720x128, .f32⟩
  | .local _ .vmem, ⟨1, _⟩ => ⟨S720x128, .f32⟩
  | _, _ => ⟨S8x720x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x720x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S720x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference22Ideal.lean ====
abbrev S8x720x128 : Shape := ⟨3, ![8, 720, 128]⟩
abbrev S_ : Shape := ⟨0, ![]⟩
abbrev S720x128 : Shape := ⟨2, ![720, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x720x128, .f32⟩
  | .hbm, ⟨1, _⟩ => ⟨S_, .f32⟩
  | .hbm, ⟨2, _⟩ => ⟨S720x128, .f32⟩
  | _, _ => ⟨S8x720x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.RowMath.lean ====
module

public import Idealize.ShloMosaic.PureOps.Ideal
public import Mathlib.Analysis.SpecialFunctions.Trigonometric.DerivHyp
public import Mathlib.Tactic.FieldSimp

/-!
The mathematics of one row: layer normalisation over `n` lanes, its gradient in the kernel's form and in
the form that differentiating the forward lines gives, and the gradient of the swish.  Everything is over
the extended reals; the two forms of a gradient agree where the entries are real numbers.
-/

@[expose] public section

noncomputable section

namespace MixRows

open Idealize.ShloMosaic

/-- The number is a real one, neither of the two infinities. -/
def Re (e : EReal) : Prop := ∃ r : ℝ, e = (r : EReal)

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem Re.coe (r : ℝ) : Re (r : EReal) := ⟨r, rfl⟩
theorem Re.zero : Re 0 := ⟨0, rfl⟩
theorem Re.one : Re 1 := ⟨1, rfl⟩
theorem Re.add {a b : EReal} : Re a → Re b → Re (a + b)
  | ⟨x, hx⟩, ⟨y, hy⟩ => ⟨x + y, by rw [hx, hy, EReal.coe_add]⟩
theorem Re.sub {a b : EReal} : Re a → Re b → Re (a - b)
  | ⟨x, hx⟩, ⟨y, hy⟩ => ⟨x - y, by rw [hx, hy, EReal.coe_sub]⟩
theorem Re.mul {a b : EReal} : Re a → Re b → Re (a * b)
  | ⟨x, hx⟩, ⟨y, hy⟩ => ⟨x * y, by rw [hx, hy, EReal.coe_mul]⟩
theorem Re.sum {ι : Type} {s : Finset ι} {f : ι → EReal} (h : ∀ i, Re (f i)) : Re (∑ i ∈ s, f i) := by
  choose g hg using h
  exact ⟨∑ i ∈ s, g i, by rw [← coe_sum]; exact Finset.sum_congr rfl fun i _ => hg i⟩

/-- A number of absolute value below the infinity is a real one. -/
theorem Re.of_abs {e : EReal} (h : max e (-e) < ⊤) : Re e := by
  induction e using EReal.rec with
  | bot => simp at h
  | coe r => exact ⟨r, rfl⟩
  | top => simp at h

/-- The constant under the root. -/
def eps : EReal := Ideal.ofBits .f32 0x358637BD#32

theorem lit512 : Ideal.ofBits .f32 0x44000000#32 = ((512 : ℝ) : EReal) := by
  simp [Ideal.ofBits, Ideal.ieee, -EReal.coe_mul]; norm_num
theorem lit128 : Ideal.ofBits .f32 0x43000000#32 = ((128 : ℝ) : EReal) := by
  simp [Ideal.ofBits, Ideal.ieee, -EReal.coe_mul]; norm_num
theorem litHalf : Ideal.ofBits .f32 0x3F000000#32 = ((1 / 2 : ℝ) : EReal) := by
  simp [Ideal.ofBits, Ideal.ieee, -EReal.coe_mul]; norm_num
theorem litNegHalf : Ideal.ofBits .f32 0xBF000000#32 = ((-(1 / 2) : ℝ) : EReal) := by
  simp [Ideal.ofBits, Ideal.ieee, -EReal.coe_mul]; norm_num
theorem eps_pos : ∃ e : ℝ, 0 < e ∧ eps = (e : EReal) := by
  refine ⟨_, ?_, by simp [eps, Ideal.ofBits, Ideal.ieee, -EReal.coe_mul]; rfl⟩
  norm_num

variable {n : ℕ}

/-- The mean of `n` lanes, the count written as the literal `N`. -/
def mean (N : EReal) (f : Fin n → EReal) : EReal := Ideal.div (∑ k, f k) N
/-- The lanes less their mean. -/
def cen (N : EReal) (f : Fin n → EReal) (j : Fin n) : EReal := f j - mean N f
/-- The variance and the constant under the root. -/
def var (N : EReal) (f : Fin n → EReal) : EReal := mean N (fun k => cen N f k * cen N f k) + eps
/-- The reciprocal of the root. -/
def rstd (N : EReal) (f : Fin n → EReal) : EReal := Ideal.rsqrt (var N f)
/-- The normalised lanes. -/
def nrm (N : EReal) (f : Fin n → EReal) (j : Fin n) : EReal := cen N f j * rstd N f

/-- The gradient of the normalisation as the kernel computes it. -/
def lnBwd (N : EReal) (f d : Fin n → EReal) (j : Fin n) : EReal :=
  rstd N f * (d j - mean N d - nrm N f j * mean N (fun k => d k * nrm N f k))

/-- The part that comes through the variance, in the differentiated form. -/
def viaVar (N : EReal) (f d : Fin n → EReal) : EReal :=
  Ideal.div ((∑ k, cen N f k * d k) * (Ideal.ofBits .f32 0xBF000000#32 * Ideal.div (rstd N f) (var N f))) N

/-- The gradient with respect to the centred lanes, in the differentiated form. -/
def dCen (N : EReal) (f d : Fin n → EReal) (j : Fin n) : EReal :=
  d j * rstd N f + cen N f j * viaVar N f d + viaVar N f d * cen N f j

/-- The gradient of the normalisation in the differentiated form. -/
def lnBwdR (N : EReal) (f d : Fin n → EReal) (j : Fin n) : EReal :=
  dCen N f d j + Ideal.div (∑ k, -dCen N f d k) N

section Real
variable (f' d' : Fin n → ℝ) (N' v r s : ℝ)

/-- The same equation over the reals: `c` the centred lanes, `r` the reciprocal root of `v`. -/
theorem real_ln (c : Fin n → ℝ) (hN : N' ≠ 0) (hv : v ≠ 0) (hr : r * r * v = 1) (hc : ∑ k, c k = 0) (j : Fin n) :
    r * (d' j - (∑ k, d' k) * (1 / N') - c j * r * ((∑ k, d' k * (c k * r)) * (1 / N')))
      = (d' j * r + c j * ((∑ k, c k * d' k) * (-(1 / 2) * (r * (1 / v))) * (1 / N'))
          + ((∑ k, c k * d' k) * (-(1 / 2) * (r * (1 / v))) * (1 / N')) * c j)
        + (∑ k, -(d' k * r + c k * ((∑ k, c k * d' k) * (-(1 / 2) * (r * (1 / v))) * (1 / N'))
          + ((∑ k, c k * d' k) * (-(1 / 2) * (r * (1 / v))) * (1 / N')) * c k)) * (1 / N') := by
  have h1 : ∑ k, d' k * (c k * r) = (∑ k, c k * d' k) * r := by
    rw [Finset.sum_mul]; exact Finset.sum_congr rfl fun k _ => by ring
  have hq : 1 / v = r * r := by field_simp; linarith [hr]
  generalize hS : ∑ k, c k * d' k = S at *
  generalize hA : S * (-(1 / 2) * (r * (1 / v))) * (1 / N') = A
  have h2 : ∑ k, -(d' k * r + c k * A + A * c k) = -((∑ k, d' k) * r) := by
    rw [Finset.sum_neg_distrib, Finset.sum_add_distrib, Finset.sum_add_distrib, ← Finset.sum_mul, ← Finset.sum_mul,
      ← Finset.mul_sum, hc]
    ring
  rw [h1, h2, ← hA, hq]
  ring

end Real

/-- Over real entries the parts of the normalisation are real, with the facts the gradient uses. -/
theorem parts (N' : ℝ) (hN : (n : ℝ) = N') (hn : 0 < N') (f : Fin n → EReal) (hf : ∀ k, Re (f k)) :
    ∃ (c : Fin n → ℝ) (v r : ℝ), (∀ k, cen (N' : EReal) f k = c k) ∧ var (N' : EReal) f = v ∧ rstd (N' : EReal) f = r
      ∧ v ≠ 0 ∧ r * r * v = 1 ∧ ∑ k, c k = 0 := by
  choose g hg using hf
  obtain ⟨e, he, hee⟩ := eps_pos
  have hN0 : N' ≠ 0 := hn.ne'
  have hcen : ∀ k, cen (N' : EReal) f k = ((g k - (∑ i, g i) * (1 / N') : ℝ) : EReal) := fun k => by
    simp only [cen, mean, hg, coe_sum]
    rw [Ideal.div_coe hN0, ← EReal.coe_mul, ← EReal.coe_sub]
  have hvar : var (N' : EReal) f = (((∑ k, (g k - (∑ i, g i) * (1 / N')) * (g k - (∑ i, g i) * (1 / N'))) * (1 / N') + e : ℝ) : EReal) := by
    simp only [var, mean, hcen, ← EReal.coe_mul, coe_sum]
    rw [Ideal.div_coe hN0, hee, ← EReal.coe_mul, ← EReal.coe_add]
  have hpos : 0 < (∑ k, (g k - (∑ i, g i) * (1 / N')) * (g k - (∑ i, g i) * (1 / N'))) * (1 / N') + e := by
    have : 0 ≤ (∑ k, (g k - (∑ i, g i) * (1 / N')) * (g k - (∑ i, g i) * (1 / N'))) * (1 / N') :=
      mul_nonneg (Finset.sum_nonneg fun k _ => mul_self_nonneg _) (by positivity)
    linarith
  refine ⟨fun k => g k - (∑ i, g i) * (1 / N'), _, (Real.sqrt ((∑ k, (g k - (∑ i, g i) * (1 / N')) * (g k - (∑ i, g i) * (1 / N'))) * (1 / N') + e))⁻¹,
    hcen, hvar, ?_, hpos.ne', ?_, ?_⟩
  · rw [rstd, hvar, Ideal.rsqrt_coe, if_neg hpos.le.not_gt, if_neg hpos.ne']
  · have := Real.mul_self_sqrt hpos.le
    have h0 : Real.sqrt ((∑ k, (g k - (∑ i, g i) * (1 / N')) * (g k - (∑ i, g i) * (1 / N'))) * (1 / N') + e) ≠ 0 :=
      (Real.sqrt_pos.mpr hpos).ne'
    generalize Real.sqrt ((∑ k, (g k - (∑ i, g i) * (1 / N')) * (g k - (∑ i, g i) * (1 / N'))) * (1 / N') + e) = q at *
    rw [← this]
    field_simp
  · rw [Finset.sum_sub_distrib, Finset.sum_const, Finset.card_univ, Fintype.card_fin, nsmul_eq_mul, hN]
    field_simp
    ring

/-- The two forms of the gradient of a normalisation agree on real entries. -/
theorem lnBwd_eq (N : EReal) (N' : ℝ) (hNN : N = (N' : EReal)) (hN : (n : ℝ) = N') (hn : 0 < N') (f d : Fin n → EReal)
    (hf : ∀ k, Re (f k)) (hd : ∀ k, Re (d k)) (j : Fin n) : lnBwd N f d j = lnBwdR N f d j := by
  subst hNN
  obtain ⟨c, v, r, hc, hv, hr, hv0, hrv, hc0⟩ := parts N' hN hn f hf
  choose d' hd' using hd
  have hN0 : N' ≠ 0 := hn.ne'
  simp only [lnBwd, lnBwdR, dCen, viaVar, nrm, mean, hc, hv, hr, hd', Ideal.div_coe hN0, Ideal.div_coe hv0, litNegHalf,
    ← EReal.coe_mul, ← EReal.coe_add, ← EReal.coe_sub, ← EReal.coe_neg, coe_sum]
  rw [real_ln d' N' v r c hN0 hv0 hrv hc0 j]

theorem Re.nrm (N : EReal) (N' : ℝ) (hNN : N = (N' : EReal)) (hN : (n : ℝ) = N') (hn : 0 < N') (f : Fin n → EReal)
    (hf : ∀ k, Re (f k)) (j : Fin n) : Re (nrm N f j) := by
  subst hNN
  obtain ⟨c, v, r, hc, hv, hr, -, -, -⟩ := parts N' hN hn f hf
  rw [MixRows.nrm, hc, hr]
  exact (Re.coe _).mul (Re.coe _)

/-- The logistic function through the hyperbolic tangent, as the kernel computes it. -/
def sigK (y : EReal) : EReal :=
  Ideal.ofBits .f32 0x3F000000#32 * Ideal.tanh (Ideal.ofBits .f32 0x3F000000#32 * y) + Ideal.ofBits .f32 0x3F000000#32
/-- The logistic function as the reference writes it. -/
def sigR (y : EReal) : EReal :=
  Ideal.div (1) (1 + Ideal.exp (-y))
/-- The gradient of the swish as the kernel computes it. -/
def dSwish (dc y : EReal) : EReal :=
  dc * (sigK y * (1 + y * (1 - sigK y)))
/-- The gradient of the swish in the differentiated form. -/
def dSwishR (dc y : EReal) : EReal :=
  dc * sigR y + y * dc * (sigR y * (1 - sigR y))

theorem sig_real (y : ℝ) : 1 / 2 * Real.tanh (1 / 2 * y) + 1 / 2 = 1 * (1 / (1 + Real.exp (-y))) := by
  have h1 : Real.exp (-y) = Real.exp (-(1 / 2 * y)) * Real.exp (-(1 / 2 * y)) := by rw [← Real.exp_add]; ring_nf
  have h2 : Real.exp (1 / 2 * y) * Real.exp (-(1 / 2 * y)) = 1 := by rw [← Real.exp_add]; simp
  rw [Real.tanh_eq_sinh_div_cosh, Real.sinh_eq, Real.cosh_eq, h1]
  have ha := Real.exp_pos (1 / 2 * y)
  have hb := Real.exp_pos (-(1 / 2 * y))
  generalize Real.exp (1 / 2 * y) = a at *
  generalize Real.exp (-(1 / 2 * y)) = b at *
  have hab : a + b ≠ 0 := by positivity
  have hbb : 1 + b * b ≠ 0 := by positivity
  field_simp
  nlinarith [h2]

theorem sigK_coe (y : ℝ) : sigK (y : EReal) = ((1 / 2 * Real.tanh (1 / 2 * y) + 1 / 2 : ℝ) : EReal) := by
  rw [sigK, litHalf, ← EReal.coe_mul, Ideal.tanh_coe, ← EReal.coe_mul, ← EReal.coe_add]
theorem sigR_coe (y : ℝ) : sigR (y : EReal) = ((1 * (1 / (1 + Real.exp (-y))) : ℝ) : EReal) := by
  have : 1 + Real.exp (-y) ≠ 0 := by have := Real.exp_pos (-y); positivity
  rw [sigR, (EReal.coe_one.symm : (1 : EReal) = ((1 : ℝ) : EReal)), ← EReal.coe_neg, Ideal.exp_coe, ← EReal.coe_add, Ideal.div_coe this, ← EReal.coe_mul]

theorem dSwish_eq {dc y : EReal} (hdc : Re dc) (hy : Re y) : dSwish dc y = dSwishR dc y := by
  obtain ⟨a, rfl⟩ := hdc
  obtain ⟨b, rfl⟩ := hy
  rw [dSwish, dSwishR, sigK_coe, sigR_coe, (EReal.coe_one.symm : (1 : EReal) = ((1 : ℝ) : EReal)), sig_real]
  simp only [← EReal.coe_mul, ← EReal.coe_add, ← EReal.coe_sub]
  congr 1
  ring

theorem Re.dSwish {dc y : EReal} (hdc : Re dc) (hy : Re y) : Re (dSwish dc y) := by
  obtain ⟨a, rfl⟩ := hdc
  obtain ⟨b, rfl⟩ := hy
  rw [MixRows.dSwish, sigK_coe, (EReal.coe_one.symm : (1 : EReal) = ((1 : ℝ) : EReal))]
  exact (Re.coe _).mul ((Re.coe _).mul ((Re.coe _).add ((Re.coe _).mul ((Re.coe _).sub (Re.coe _)))))

/-- The number of lanes of a row of mixer A, of a group of mixer B. -/
def D512 : EReal := Ideal.ofBits .f32 0x44000000#32
def D128 : EReal := Ideal.ofBits .f32 0x43000000#32

/-- The swish's argument at lane `l` of a row: the normalised lanes, scaled and shifted. -/
def yA (g b : Fin 512 → EReal) (f : Fin 512 → EReal) (l : Fin 512) : EReal := nrm D512 f l * g l + b l

end MixRows
-- ==== Proof.PayNorm.lean ====
module

public import proofs.«01_k».proof.Proof.RowMath
public import proofs.«01_k».proof.Proof.Gen.KernelIdeal.Skeleton
public import Idealize.ShloMosaic.Lib.Pointwise

/-!
The kernel's payloads of mixer A and of one group's normalisation in mixer B, at an index, in the words of `RowMath`.
-/

@[expose] public section

set_option maxRecDepth 16384

noncomputable section

namespace MixRows

open Idealize.ShloMosaic Cert.KernelIdeal Cert.KernelIdeal.Gen

/-- Row `r` of a block. -/
abbrev row512 (b : FVec Ideal S512x512 .f32) (r : Fin 512) : Fin 512 → EReal := fun k => b (ix2 r k)
abbrev row128 (b : FVec Ideal S512x128 .f32) (r : Fin 512) : Fin 128 → EReal := fun k => b (ix2 r k)

theorem pay13_at (a : Vec Ideal S512x512 .f32) (r l : Fin 512) : k0_pay13 (F := Ideal) a (ix2 r l) = cen D512 (row512 a r) l := by
  pointwise [k0_pay13]
  try rfl

theorem pay14_at (a : Vec Ideal S512x512 .f32) (r : Fin 512) : k0_pay14 (F := Ideal) a (ix2 r 0) = rstd D512 (row512 a r) := by
  pointwise [k0_pay14, pay13_at]
  try rfl

theorem pay15_at (a : Vec Ideal S512x512 .f32) (r l : Fin 512) : k0_pay15 (F := Ideal) a (ix2 r l) = nrm D512 (row512 a r) l := by
  pointwise [k0_pay15, pay13_at, pay14_at]
  try rfl

theorem pay16_at (g : Vec Ideal S1x512 .f32) (a : Vec Ideal S512x512 .f32) (b : Vec Ideal S1x512 .f32) (r l : Fin 512) :
    k0_pay16 (F := Ideal) g a b (ix2 r l) = yA (fun k => g (ix2 0 k)) (fun k => b (ix2 0 k)) (row512 a r) l := by
  pointwise [k0_pay16, k0_pay12, pay15_at]
  try rfl

theorem pay18_at (g : Vec Ideal S1x512 .f32) (a : Vec Ideal S512x512 .f32) (b : Vec Ideal S1x512 .f32) (d : Vec Ideal S512x512 .f32) (r l : Fin 512) :
    k0_pay18 (F := Ideal) (k0_pay16 g a b) (k0_pay17 g a b) (Ideal.ofBits .f32 0x3F000000#32) d (ix2 r l)
      = dSwish (d (ix2 r l)) (yA (fun k => g (ix2 0 k)) (fun k => b (ix2 0 k)) (row512 a r) l) := by
  pointwise [k0_pay18, k0_pay17, pay16_at]
  try rfl

section A
variable (g : Vec Ideal S1x512 .f32) (a : Vec Ideal S512x512 .f32) (b : Vec Ideal S1x512 .f32) (d : Vec Ideal S512x512 .f32)

/-- The gradient of the swish at row `r`, lane `l` of a block. -/
def dyA (r l : Fin 512) : EReal := dSwish (d (ix2 r l)) (yA (fun k => g (ix2 0 k)) (fun k => b (ix2 0 k)) (row512 a r) l)

/-- What the gain's gradient gains at a point. -/
theorem pay19_at (acc : Vec Ideal S1x512 .f32) (l : Fin 512) :
    k0_pay19 (F := Ideal) (k0_pay15 a) (k0_pay16 g a b) (k0_pay17 g a b) (Scalar.ofBits .f32 0x3F000000#32) d acc (ix2 0 l)
      = acc (ix2 0 l) + ∑ r : Fin 512, dyA g a b d r l * nrm D512 (row512 a r) l := by
  pointwise [k0_pay19, pay18_at, pay15_at]
  try rfl

/-- What the offset's gradient gains at a point. -/
theorem pay20_at (acc : Vec Ideal S1x512 .f32) (l : Fin 512) :
    k0_pay20 (F := Ideal) (k0_pay16 g a b) (k0_pay17 g a b) (Scalar.ofBits .f32 0x3F000000#32) d acc (ix2 0 l)
      = acc (ix2 0 l) + ∑ r : Fin 512, dyA g a b d r l := by
  pointwise [k0_pay20, pay18_at]
  try rfl

/-- The gradient of mixer A's input. -/
theorem pay23_at (r l : Fin 512) :
    k0_pay23 (F := Ideal) (k0_pay21 (k0_pay12 g) (k0_pay15 a) (k0_pay16 g a b) (k0_pay17 g a b) (Scalar.ofBits .f32 0x3F000000#32) d)
        (k0_pay22 (k0_pay14 a)) (ix2 r l)
      = lnBwd D512 (row512 a r) (fun k => dyA g a b d r k * g (ix2 0 k)) l := by
  pointwise [k0_pay23, k0_pay22, k0_pay21, k0_pay12, pay18_at, pay15_at, pay14_at]
  try rfl

end A

theorem pay26_at (a : Vec Ideal S512x128 .f32) (r : Fin 512) (l : Fin 128) : k0_pay26 (F := Ideal) a (ix2 r l) = cen D128 (row128 a r) l := by
  pointwise [k0_pay26]
  try rfl

theorem pay27_at (a : Vec Ideal S512x128 .f32) (r : Fin 512) : k0_pay27 (F := Ideal) a (ix2 r 0) = rstd D128 (row128 a r) := by
  pointwise [k0_pay27, pay26_at]
  try rfl

theorem pay28_at (a : Vec Ideal S512x128 .f32) (r : Fin 512) (l : Fin 128) : k0_pay28 (F := Ideal) a (ix2 r l) = nrm D128 (row128 a r) l := by
  pointwise [k0_pay28, pay26_at, pay27_at]
  try rfl

/-- The normalised, scaled and shifted lane of a group. -/
theorem pay29_at (g : Vec Ideal S1x128 .f32) (a : Vec Ideal S512x128 .f32) (b : Vec Ideal S1x128 .f32) (r : Fin 512) (l : Fin 128) :
    k0_pay29 (F := Ideal) g a b (ix2 r l) = nrm D128 (row128 a r) l * g (ix2 0 l) + b (ix2 0 l) := by
  pointwise [k0_pay29, k0_pay25, pay28_at]
  try rfl

end MixRows
-- ==== Proof.PayMix.lean ====
module

public import proofs.«01_k».proof.Proof.PayNorm

/-!
The kernel writes one chunk of a group over and over, each time cut into named values at other places.  Here each of
those is shown to be one and the same function of its tiles, and that function is read at an index.
-/

@[expose] public section

set_option maxRecDepth 16384

noncomputable section

namespace MixRows

open Idealize.ShloMosaic Cert.KernelIdeal Cert.KernelIdeal.Gen

section
variable (o : ℕ) (ho : S512x128.Slices ![o, 0] S128x128)

/-- The gradient of mixer B's first factor in the chunk at row `o` of the block. -/
def duT (v : FVec Ideal S512x128 .bf16) (w : FVec Ideal S1x128x128 .bf16) (b d : FVec Ideal S128x128 .f32) : FVec Ideal S128x128 .bf16 :=
  truncf .bf16 (mulf d (addf (matmul dot_S128x128_S128x128_S128x128_1_0_0_1_n_n none (shapeCast S128x128 w shapeCasts_S1x128x128_S128x128)
    (extractStridedSlice S128x128 ![o, 0] v ho) (constant S128x128 .f32 0x00000000#32)) (shapeCast S128x128 b shapeCasts_S128x128_S128x128))) bitsLt_bf16_f32

/-- The gradient of the spatial weights with the chunk at row `o` of the block added. -/
def dwT (v : FVec Ideal S512x128 .bf16) (d u : FVec Ideal S128x128 .f32) (acc : FVec Ideal S1x128x128 .f32) : FVec Ideal S1x128x128 .f32 :=
  shapeCast S1x128x128 (addf (shapeCast S128x128 acc shapeCasts_S1x128x128_S128x128) (select k0_pay24
    (matmul dot_S128x128_S128x128_S128x128_1_1_0_0_n_n none (k0_pay34 d u) (extractStridedSlice S128x128 ![o, 0] v ho) (constant S128x128 .f32 0x00000000#32))
    (broadcast S128x128 (Scalar.ofBits .f32 0x00000000#32)))) shapeCasts_S128x128_S1x128x128

end

section
variable (A : Vec Ideal S512x128 .f32) (G B : Vec Ideal S1x128 .f32) (W : Vec Ideal S1x128x128 .bf16) (b d u acc : Vec Ideal S128x128 .f32)
  (v : FVec Ideal S512x128 .bf16) (K : Vec Ideal S1x128x128 .f32) (D N : Vec Ideal S512x128 .f32) (r : Vec Ideal S1x128 .f32)

/-! The normalisation of a group. -/
theorem nrm69 : k0_pay69 A = k0_pay28 A := rfl
theorem nrm106 : k0_pay106 A = k0_pay28 A := rfl
theorem nrm146 : k0_pay146 (k0_pay142 A) (k0_pay143 A) k0_pay144 = k0_pay28 A := rfl
theorem v1_70 : k0_pay70 G A B = k0_pay29 G A B := rfl
theorem v1_108 : k0_pay108 (k0_pay107 G A B) = k0_pay29 G A B := rfl
theorem v1_147 : k0_pay147 (k0_pay140 G) (k0_pay141 B) (k0_pay142 A) (k0_pay143 A) k0_pay144 = k0_pay29 G A B := rfl

/-! The gradient of the first factor. -/
theorem du31 : k0_pay31 (k0_pay30 G A B W b) d = duT 0 slices_S512x128_o0_0_S128x128 (k0_pay29 G A B) W b d := rfl
theorem du39 : k0_pay39 (k0_pay37 W) (k0_pay38 v) b d = duT 128 slices_S512x128_o128_0_S128x128 v W b d := rfl
theorem du46 : k0_pay46 v W b d = duT 256 slices_S512x128_o256_0_S128x128 v W b d := rfl
theorem du52 : k0_pay52 v W b d = duT 384 slices_S512x128_o384_0_S128x128 v W b d := rfl
theorem du80 : k0_pay80 v W b d = duT 128 slices_S512x128_o128_0_S128x128 v W b d := rfl
theorem du86 : k0_pay86 v W b d = duT 256 slices_S512x128_o256_0_S128x128 v W b d := rfl
theorem du93 : k0_pay93 v W b d = duT 384 slices_S512x128_o384_0_S128x128 v W b d := rfl
theorem du115 : k0_pay115 v W b d = duT 128 slices_S512x128_o128_0_S128x128 v W b d := rfl
theorem du122 : k0_pay122 v W b d = duT 256 slices_S512x128_o256_0_S128x128 v W b d := rfl
theorem du128 : k0_pay128 v W b d = duT 384 slices_S512x128_o384_0_S128x128 v W b d := rfl
theorem du155 : k0_pay155 v W b d = duT 128 slices_S512x128_o128_0_S128x128 v W b d := rfl
theorem du162 : k0_pay162 v W b d = duT 256 slices_S512x128_o256_0_S128x128 v W b d := rfl
theorem du169 : k0_pay169 v W b d = duT 384 slices_S512x128_o384_0_S128x128 v W b d := rfl
theorem du73 : k0_pay73 (k0_pay71 W) (k0_pay72 G A B) (constant S128x128 FTy.f32 0#32) b d = duT 0 slices_S512x128_o0_0_S128x128 (k0_pay29 G A B) W b d := rfl
theorem du109 : k0_pay109 (k0_pay107 G A B) W b d = duT 0 slices_S512x128_o0_0_S128x128 (k0_pay29 G A B) W b d := rfl
theorem du148 : k0_pay148 (k0_pay140 G) (k0_pay141 B) (k0_pay142 A) (k0_pay143 A) k0_pay144 W b d = duT 0 slices_S512x128_o0_0_S128x128 (k0_pay29 G A B) W b d := rfl

/-! The gradient of the bias, before the sum over lanes. -/
theorem db41 : k0_pay41 d u acc = k0_pay33 d u acc := rfl
theorem db48 : k0_pay48 d u acc = k0_pay33 d u acc := rfl
theorem db54 : k0_pay54 d u acc = k0_pay33 d u acc := rfl
theorem db75 : k0_pay75 d u acc = k0_pay33 d u acc := rfl
theorem db82 : k0_pay82 d u acc = k0_pay33 d u acc := rfl
theorem db88 : k0_pay88 d u acc = k0_pay33 d u acc := rfl
theorem db95 : k0_pay95 d u acc = k0_pay33 d u acc := rfl
theorem db111 : k0_pay111 d u acc = k0_pay33 d u acc := rfl
theorem db117 : k0_pay117 d u acc = k0_pay33 d u acc := rfl
theorem db124 : k0_pay124 d u acc = k0_pay33 d u acc := rfl
theorem db150 : k0_pay150 d u acc = k0_pay33 d u acc := rfl
theorem db157 : k0_pay157 d u acc = k0_pay33 d u acc := rfl
theorem db171 : k0_pay171 d u acc = k0_pay33 d u acc := rfl
theorem db131 : k0_pay131 (k0_pay130 d u acc) = k0_pay33 d u acc := rfl
theorem db165 : k0_pay165 (k0_pay164 d u acc) = k0_pay33 d u acc := rfl

/-! The gradient of the spatial weights. -/
theorem dw35 : k0_pay35 k0_pay24 v d u K = dwT 0 slices_S512x128_o0_0_S128x128 v d u K := rfl
theorem dw43 : k0_pay43 k0_pay24 v d u K = dwT 128 slices_S512x128_o128_0_S128x128 v d u K := rfl
theorem dw50 : k0_pay50 k0_pay24 v d u K = dwT 256 slices_S512x128_o256_0_S128x128 v d u K := rfl
theorem dw77 : k0_pay77 k0_pay24 v d u K = dwT 0 slices_S512x128_o0_0_S128x128 v d u K := rfl
theorem dw84 : k0_pay84 k0_pay24 v d u K = dwT 128 slices_S512x128_o128_0_S128x128 v d u K := rfl
theorem dw173 : k0_pay173 k0_pay24 v d u K = dwT 384 slices_S512x128_o384_0_S128x128 v d u K := rfl
theorem dw58 : k0_pay58 (k0_pay56 K) (k0_pay57 k0_pay24 v d u) = dwT 384 slices_S512x128_o384_0_S128x128 v d u K := rfl
theorem dw91 : k0_pay91 (k0_pay90 k0_pay24 v d u K) = dwT 256 slices_S512x128_o256_0_S128x128 v d u K := rfl
theorem dw97 : k0_pay97 k0_pay24 v (k0_pay96 d u) K = dwT 384 slices_S512x128_o384_0_S128x128 v d u K := rfl
theorem dw113 : k0_pay113 k0_pay24 (k0_pay107 G A B) d u K = dwT 0 slices_S512x128_o0_0_S128x128 (k0_pay29 G A B) d u K := rfl
theorem dw120 : k0_pay120 (k0_pay119 k0_pay24 v d u K) = dwT 128 slices_S512x128_o128_0_S128x128 v d u K := rfl
theorem dw126 : k0_pay126 k0_pay24 v (k0_pay125 d u) K = dwT 256 slices_S512x128_o256_0_S128x128 v d u K := rfl
theorem dw133 : k0_pay133 k0_pay24 v (k0_pay129 d u) K = dwT 384 slices_S512x128_o384_0_S128x128 v d u K := rfl
theorem dw153 : k0_pay153 (k0_pay152 k0_pay24 (k0_pay140 G) (k0_pay141 B) (k0_pay142 A) (k0_pay143 A) k0_pay144 d u K) = dwT 0 slices_S512x128_o0_0_S128x128 (k0_pay29 G A B) d u K := rfl
theorem dw160 : k0_pay160 k0_pay24 v (k0_pay158 d u) (k0_pay159 K) = dwT 128 slices_S512x128_o128_0_S128x128 v d u K := rfl
theorem dw167 : k0_pay167 k0_pay24 v (k0_pay163 d u) K = dwT 256 slices_S512x128_o256_0_S128x128 v d u K := rfl

/-! The gradient of the normalised gate. -/
theorem dv45 : k0_pay45 (k0_pay44 d u W) = k0_pay36 d u W := rfl
theorem dv79 : k0_pay79 (k0_pay78 d u W) = k0_pay36 d u W := rfl
theorem dv51 : k0_pay51 (k0_pay49 d u) W = k0_pay36 d u W := rfl
theorem dv59 : k0_pay59 (k0_pay55 d u) W = k0_pay36 d u W := rfl
theorem dv85 : k0_pay85 (k0_pay83 d u) W = k0_pay36 d u W := rfl
theorem dv92 : k0_pay92 (k0_pay89 d u) W = k0_pay36 d u W := rfl
theorem dv98 : k0_pay98 (k0_pay96 d u) W = k0_pay36 d u W := rfl
theorem dv114 : k0_pay114 (k0_pay112 d u) W = k0_pay36 d u W := rfl
theorem dv121 : k0_pay121 (k0_pay118 d u) W = k0_pay36 d u W := rfl
theorem dv127 : k0_pay127 (k0_pay125 d u) W = k0_pay36 d u W := rfl
theorem dv134 : k0_pay134 (k0_pay129 d u) W = k0_pay36 d u W := rfl
theorem dv154 : k0_pay154 (k0_pay151 d u) W = k0_pay36 d u W := rfl
theorem dv161 : k0_pay161 (k0_pay158 d u) W = k0_pay36 d u W := rfl
theorem dv168 : k0_pay168 (k0_pay163 d u) W = k0_pay36 d u W := rfl
theorem dv174 : k0_pay174 d u W = k0_pay36 d u W := rfl

/-! The gradients of a group's gain and offset, and of its input. -/
theorem dg99 : k0_pay99 N D r = k0_pay60 N D r := rfl
theorem dg135 : k0_pay135 N D r = k0_pay60 N D r := rfl
theorem dg175 : k0_pay175 N D r = k0_pay60 N D r := rfl
theorem do100 : k0_pay100 D r = k0_pay61 D r := rfl
theorem do138 : k0_pay138 (k0_pay136 r) (k0_pay137 D) = k0_pay61 D r := rfl
theorem do176 : k0_pay176 D r = k0_pay61 D r := rfl

/-- The gradient of a group's input. -/
def dvT : FVec Ideal S512x128 .bf16 :=
  k0_pay65 (k0_pay27 A) (k0_pay28 A) (k0_pay63 (k0_pay25 G) D) (k0_pay64 (k0_pay25 G) (k0_pay28 A) D)
theorem dx65 : k0_pay65 (k0_pay27 A) (k0_pay28 A) (k0_pay63 (k0_pay25 G) D) (k0_pay64 (k0_pay25 G) (k0_pay28 A) D) = dvT A G D := rfl
theorem dx102 : k0_pay102 (k0_pay68 A) (k0_pay28 A) (k0_pay101 (k0_pay66 G) D) = dvT A G D := rfl
theorem dx139 : k0_pay139 (k0_pay103 G) (k0_pay105 A) (k0_pay28 A) D = dvT A G D := rfl
theorem dx1 : k0_pay1 (k0_pay177 (k0_pay140 G) (k0_pay28 A) D) (k0_pay178 (k0_pay145 (k0_pay143 A) k0_pay144)) = dvT A G D := rfl

end

/-! The functions of the tiles, at an index. -/

section
variable (d u : Vec Ideal S128x128 .f32)

theorem dbT_at (acc : Vec Ideal S128x128 .f32) (t k : Fin 128) :
    k0_pay33 (F := Ideal) d u acc (ix2 t k) = acc (ix2 t k) + d (ix2 t k) * u (ix2 t k) := by
  pointwise [k0_pay33, k0_pay32]

theorem dv1T_at (W : Vec Ideal S1x128x128 .bf16) (s k : Fin 128) :
    k0_pay36 (F := Ideal) d u W (ix2 s k) = ∑ t : Fin 128, W (ix3 0 s t) * (d (ix2 t k) * u (ix2 t k)) := by
  pointwise [k0_pay36, k0_pay34, k0_pay32]

theorem duT_at (o : ℕ) (ho : S512x128.Slices ![o, 0] S128x128) (hb : o + 128 ≤ 512) (v : FVec Ideal S512x128 .bf16) (W : Vec Ideal S1x128x128 .bf16)
    (b e : Vec Ideal S128x128 .f32) (t k : Fin 128) :
    duT o ho v W b e (ix2 t k) = e (ix2 t k) * ((∑ s : Fin 128, W (ix3 0 t s) * v (ix2 ⟨o + s, by omega⟩ k)) + b (ix2 t k)) := by
  pointwise [duT]

theorem maskK : ∀ t s : Fin 128, IntOp.cmpi CmpIPredicate.sge (BitVec.ofNat 32 (t : ℕ)) (BitVec.ofNat 32 (s : ℕ))
    = if (s : ℕ) ≤ t then 1#1 else 0#1 := by decide +kernel

theorem dwT_at (o : ℕ) (ho : S512x128.Slices ![o, 0] S128x128) (hb : o + 128 ≤ 512) (v : FVec Ideal S512x128 .bf16) (acc : Vec Ideal S1x128x128 .f32)
    (t s : Fin 128) :
    dwT o ho v d u acc (ix3 0 t s) = acc (ix3 0 t s)
      + if (s : ℕ) ≤ t then ∑ k : Fin 128, d (ix2 t k) * u (ix2 t k) * v (ix2 ⟨o + s, by omega⟩ k) else 0 := by
  pointwise [dwT, k0_pay24, k0_pay34, k0_pay32]
  rw [maskK]
  split <;> rfl

end

section
variable (A D : Vec Ideal S512x128 .f32) (G : Vec Ideal S1x128 .f32)

theorem dgT_at (N : Vec Ideal S512x128 .f32) (r : Vec Ideal S1x128 .f32) (k : Fin 128) :
    k0_pay60 (F := Ideal) N D r (ix2 0 k) = r (ix2 0 k) + ∑ i : Fin 512, D (ix2 i k) * N (ix2 i k) := by
  pointwise [k0_pay60]

theorem doT_at (r : Vec Ideal S1x128 .f32) (k : Fin 128) :
    k0_pay61 (F := Ideal) D r (ix2 0 k) = r (ix2 0 k) + ∑ i : Fin 512, D (ix2 i k) := by
  pointwise [k0_pay61]

theorem dvT_at (i : Fin 512) (k : Fin 128) :
    dvT A G D (ix2 i k) = lnBwd D128 (row128 A i) (fun l => D (ix2 i l) * G (ix2 0 l)) k := by
  pointwise [dvT, k0_pay65, k0_pay63, k0_pay64, k0_pay62, k0_pay25, pay27_at, pay28_at]
  rfl

end

end MixRows
-- ==== Proof.KerA.lean ====
module

public import proofs.«01_k».proof.Proof.Gen.KernelIdeal.Value
public import proofs.«01_k».proof.Proof.PayMix
public import Idealize.ShloMosaic.Lib.Pipeline.ReadBack
public import Idealize.ShloMosaic.Lib.Pipeline.ValueKit

/-!
What a grid point leaves in the three outputs of mixer A, at an index, over the point's blocks.
-/

@[expose] public section

set_option maxRecDepth 16384

noncomputable section

namespace MixRows

open Idealize.ShloMosaic Idealize.SL.Sem Cert.KernelIdeal Cert.KernelIdeal.Gen Cert.KernelIdeal.Value

/-- What the named outputs and the carried scratch hold. -/
abbrev Tup : Type := Vec Ideal S512x512 .f32 × Vec Ideal S512x1024 .bf16 × Vec Ideal S1x512 .f32 × Vec Ideal S1x512 .f32 × Vec Ideal S1x512 .f32
  × Vec Ideal S1x512 .f32 × Vec Ideal S4x128x128 .f32 × Vec Ideal S128x4 .f32 × Vec Ideal S128x512 .f32

section
variable (m : (ℓ : Loc nD τ sig) → Buf (Elt Ideal) ℓ) (c : Dev nD) (t : Fin cfg0.N) (acc : Tup)

/-! The blocks the point reads. -/
abbrev b0 : Vec Ideal S512x1024 .f32 := iblk m c 0 t
abbrev b1 : Vec Ideal S512x512 .f32 := iblk m c 1 t
abbrev b2 : Vec Ideal S512x512 .f32 := iblk m c 2 t
abbrev b3 : Vec Ideal S512x512 .f32 := iblk m c 3 t
abbrev b4 : Vec Ideal S1x512 .f32 := iblk m c 4 t
abbrev b5 : Vec Ideal S1x512 .f32 := iblk m c 5 t
abbrev b6 : Vec Ideal S1x512 .f32 := iblk m c 6 t
abbrev b7 : Vec Ideal S1x512 .f32 := iblk m c 7 t
abbrev b8 : Vec Ideal S4x128x128 .bf16 := iblk m c 8 t
abbrev b9 : Vec Ideal S4x128x128 .bf16 := iblk m c 9 t
abbrev b10 : Vec Ideal S128x512 .f32 := iblk m c 10 t

/-- The left half of a wide block. -/
def half (x : Vec Ideal S512x1024 .f32) : Vec Ideal S512x512 .f32 :=
  View.ld x (Rect.unit ![0, 0] ![512, 512] inb_S512x1024_S512x512_0_0)
theorem half_at (x : Vec Ideal S512x1024 .f32) (r l : Fin 512) : half x (ix2 r l) = x (ix2 r ⟨l, by omega⟩) :=
  View.ld_unit_apply_of _ _ _ _ _ _ (fun a => by match a with
    | ⟨0, _⟩ => exact (Nat.zero_add _).symm
    | ⟨1, _⟩ => exact (Nat.zero_add _).symm)

/-- Mixer A's gradient at the swish's input, at row `r` of the point's block. -/
abbrev dyB (r l : Fin 512) : EReal := dyA (b4 m c t) (b3 m c t) (b5 m c t) (half (b0 m c t)) r l

/-- What a carried value starts from at a point: zero at the first, else what the point before left. -/
def inc (x : EReal) : EReal := if t.val % 16 = 0 then 0 else x

theorem inc_first (h0 : t.val % 16 = 0) (x : EReal) : 0 = inc t x := (if_pos h0).symm
theorem inc_next (h0 : ¬t.val % 16 = 0) (x : EReal) : x = inc t x := (if_neg h0).symm

theorem zero_row (l : Fin 512) : k0_pay6 (F := Ideal) (ix2 0 l) = 0 := by pointwise [k0_pay6]
theorem zero_row7 (l : Fin 512) : k0_pay7 (F := Ideal) (ix2 0 l) = 0 := by pointwise [k0_pay7]

theorem st11 (r l : Fin 512) : (stAt0 m c t.val t.isLt acc).1 (ix2 r l)
    = lnBwd D512 (row512 (b3 m c t) r) (fun k => dyB m c t r k * b4 m c t (ix2 0 k)) l := by
  by_cases h0 : t.val % 16 = 0
  · have h1 : ¬t.val % 16 = 15 := by omega
    rw [stAt0_A m c t acc h0 h1]
    dsimp only
    frame_open
    frame_out
    exact pay23_at _ _ _ (half _) r l
  · by_cases h1 : t.val % 16 = 15
    · rw [stAt0_C m c t acc h0 h1]
      dsimp only
      frame_open
      frame_out
      exact pay23_at _ _ _ (half _) r l
    · rw [stAt0_B m c t acc h0 h1]
      dsimp only
      frame_open
      frame_out
      exact pay23_at _ _ _ (half _) r l

theorem st13 (l : Fin 512) : (stAt0 m c t.val t.isLt acc).2.2.1 (ix2 0 l)
    = inc t (acc.2.2.1 (ix2 0 l)) + ∑ r : Fin 512, dyB m c t r l * nrm D512 (row512 (b3 m c t) r) l := by
  by_cases h0 : t.val % 16 = 0
  · have h1 : ¬t.val % 16 = 15 := by omega
    rw [stAt0_A m c t acc h0 h1, ← inc_first t h0]
    dsimp only
    frame_open
    frame_out
    refine (pay19_at _ _ _ (half _) _ l).trans ?_
    rw [zero_row]
    rfl
  · rw [← inc_next t h0]
    by_cases h1 : t.val % 16 = 15
    · rw [stAt0_C m c t acc h0 h1]
      dsimp only
      frame_open
      frame_out
      exact pay19_at _ _ _ (half _) _ l
    · rw [stAt0_B m c t acc h0 h1]
      dsimp only
      frame_open
      frame_out
      exact pay19_at _ _ _ (half _) _ l

theorem st14 (l : Fin 512) : (stAt0 m c t.val t.isLt acc).2.2.2.1 (ix2 0 l)
    = inc t (acc.2.2.2.1 (ix2 0 l)) + ∑ r : Fin 512, dyB m c t r l := by
  by_cases h0 : t.val % 16 = 0
  · have h1 : ¬t.val % 16 = 15 := by omega
    rw [stAt0_A m c t acc h0 h1, ← inc_first t h0]
    dsimp only
    frame_open
    frame_out
    refine (pay20_at _ _ _ (half _) _ l).trans ?_
    rw [zero_row7]
    rfl
  · rw [← inc_next t h0]
    by_cases h1 : t.val % 16 = 15
    · rw [stAt0_C m c t acc h0 h1]
      dsimp only
      frame_open
      frame_out
      exact pay20_at _ _ _ (half _) _ l
    · rw [stAt0_B m c t acc h0 h1]
      dsimp only
      frame_open
      frame_out
      exact pay20_at _ _ _ (half _) _ l

end

end MixRows
-- ==== Proof.KerB.lean ====
module

public import proofs.«01_k».proof.Proof.KerA

/-!
What a grid point leaves in the outputs of mixer B, at an index, over the point's blocks.
-/

@[expose] public section

set_option maxRecDepth 16384

noncomputable section

namespace MixRows

open Idealize.ShloMosaic Idealize.SL.Sem Cert.KernelIdeal Cert.KernelIdeal.Gen Cert.KernelIdeal.Value

section
variable {Val : EltTy → Type} {s : Shape} {e : EltTy} [∀ e, Nonempty (Val e)]

/-- The tile at `B` of what stores left: a store elsewhere is passed over, the store of the tile itself is read. -/
def left (L : List (View.Piece Val s e)) (B : Rect s) : B.shape.Idx → Val e := View.ld (View.canon L) B
theorem left_skip (r B : Rect s) (w : r.shape.Idx → Val e) (L : List (View.Piece Val s e)) (h : LoadRect.disj r B.toLoadRect = true) :
    left (⟨r, w⟩ :: L) B = left L B :=
  funext fun j => View.canon_cons_of_not_mem ⟨r, w⟩ L (LoadRect.idx_not_mem_of_disj h j)
theorem left_hit (r : Rect s) (w : r.shape.Idx → Val e) (L : List (View.Piece Val s e)) : left (⟨r, w⟩ :: L) r = w :=
  funext fun j => View.canon_cons_emb r w L j
theorem left_fill {off : Fin s.rank → ℕ} (inb : ∀ a, off a + s.size a ≤ s.size a) (Z : s.Idx → Val e) (L : List (View.Piece Val s e)) (r : Rect s)
    (h : ∀ a, off a = 0) : left (⟨Rect.unit off (no_index s.size) inb, Z⟩ :: L) r = View.ld Z r := by
  rw [left, View.canon_cons_unit_lit inb Z L h]

/-- A tile of an array, at an index. -/
theorem ld2_at {A B : ℕ} (X : (⟨2, ![A, B]⟩ : Shape).Idx → Val e) (a b p q : ℕ) (inb) (i : Fin p) (j : Fin q) (hi : a + i < A) (hj : b + j < B) :
    View.ld X (Rect.unit (s := ⟨2, ![A, B]⟩) ![a, b] ![p, q] inb) (ix2 i j) = X (ix2 ⟨a + i, hi⟩ ⟨b + j, hj⟩) :=
  View.ld_unit_apply_of _ _ _ _ _ _ (fun x => by match x with
    | ⟨0, _⟩ => rfl
    | ⟨1, _⟩ => rfl)
theorem ld3_at {A B C : ℕ} (X : (⟨3, ![A, B, C]⟩ : Shape).Idx → Val e) (a b c p q r : ℕ) (inb) (i : Fin p) (j : Fin q) (k : Fin r)
    (hi : a + i < A) (hj : b + j < B) (hk : c + k < C) :
    View.ld X (Rect.unit (s := ⟨3, ![A, B, C]⟩) ![a, b, c] ![p, q, r] inb) (ix3 i j k) = X (ix3 ⟨a + i, hi⟩ ⟨b + j, hj⟩ ⟨c + k, hk⟩) :=
  View.ld_unit_apply_of _ _ _ _ _ _ (fun x => by match x with
    | ⟨0, _⟩ => rfl
    | ⟨1, _⟩ => rfl
    | ⟨2, _⟩ => rfl)
end

section
variable {Val : EltTy → Type} {e : EltTy} [∀ e, Nonempty (Val e)]
theorem left2_at {A B : ℕ} (L : List (View.Piece Val ⟨2, ![A, B]⟩ e)) (a b p q : ℕ) (inb) (i : Fin p) (j : Fin q) (hi : a + i < A) (hj : b + j < B) :
    View.canon L (ix2 ⟨a + i, hi⟩ ⟨b + j, hj⟩) = left L (Rect.unit (s := ⟨2, ![A, B]⟩) ![a, b] ![p, q] inb) (ix2 i j) :=
  (ld2_at (View.canon L) a b p q inb i j hi hj).symm
theorem left3_at {A B C : ℕ} (L : List (View.Piece Val ⟨3, ![A, B, C]⟩ e)) (a b c p q r : ℕ) (inb) (i : Fin p) (j : Fin q) (k : Fin r)
    (hi : a + i < A) (hj : b + j < B) (hk : c + k < C) : View.canon L (ix3 ⟨a + i, hi⟩ ⟨b + j, hj⟩ ⟨c + k, hk⟩)
      = left L (Rect.unit (s := ⟨3, ![A, B, C]⟩) ![a, b, c] ![p, q, r] inb) (ix3 i j k) :=
  (ld3_at (View.canon L) a b c p q r inb i j k hi hj hk).symm
end

section
variable {e : EltTy}
theorem left_S1x512 (L : List (View.Piece (Elt Ideal) S1x512 e)) (a b : ℕ) (inb) (i : Fin 1) (j : Fin 128) (hi : a + i < 1) (hj : b + j < 512) :
    View.canon L (ix2 ⟨a + i, hi⟩ ⟨b + j, hj⟩) = left L (Rect.unit (s := S1x512) ![a, b] ![1, 128] inb) (ix2 i j) := left2_at L a b 1 128 inb i j hi hj
theorem left_S512x128 (L : List (View.Piece (Elt Ideal) S512x128 e)) (a b : ℕ) (inb) (i : Fin 128) (j : Fin 128) (hi : a + i < 512) (hj : b + j < 128) :
    View.canon L (ix2 ⟨a + i, hi⟩ ⟨b + j, hj⟩) = left L (Rect.unit (s := S512x128) ![a, b] ![128, 128] inb) (ix2 i j) := left2_at L a b 128 128 inb i j hi hj
theorem left_S512x1024 (L : List (View.Piece (Elt Ideal) S512x1024 e)) (a b p : ℕ) (inb) (i : Fin p) (j : Fin 128) (hi : a + i < 512) (hj : b + j < 1024) :
    View.canon L (ix2 ⟨a + i, hi⟩ ⟨b + j, hj⟩) = left L (Rect.unit (s := S512x1024) ![a, b] ![p, 128] inb) (ix2 i j) := left2_at L a b p 128 inb i j hi hj
theorem left_S128x512 (L : List (View.Piece (Elt Ideal) S128x512 e)) (a b : ℕ) (inb) (i : Fin 128) (j : Fin 128) (hi : a + i < 128) (hj : b + j < 512) :
    View.canon L (ix2 ⟨a + i, hi⟩ ⟨b + j, hj⟩) = left L (Rect.unit (s := S128x512) ![a, b] ![128, 128] inb) (ix2 i j) := left2_at L a b 128 128 inb i j hi hj
theorem left_S4x128x128 (L : List (View.Piece (Elt Ideal) S4x128x128 e)) (a : ℕ) (inb) (i j : Fin 128) (ha : a + (0 : Fin 1) < 4) (hi hj) :
    View.canon L (ix3 ⟨a + (0 : Fin 1), ha⟩ ⟨0 + i, hi⟩ ⟨0 + j, hj⟩) = left L (Rect.unit (s := S4x128x128) ![a, 0, 0] ![1, 128, 128] inb) (ix3 0 i j) :=
  left3_at L a 0 0 1 128 128 inb 0 i j ha hi hj
end

/-- Lane `k` of group `g`. -/
abbrev lane (g : Fin 4) (k : Fin 128) : Fin 512 := ⟨g * 128 + k, by omega⟩

section
variable (x0 : Vec Ideal S512x1024 .f32) (x1 x2 : Vec Ideal S512x512 .f32) (x6 x7 : Vec Ideal S1x512 .f32) (x8 x9 : Vec Ideal S4x128x128 .bf16)
  (x10 : Vec Ideal S128x512 .f32)

/-- Group `g` of row `r` of a block. -/
def vB (r : Fin 512) (g : Fin 4) : Fin 128 → EReal := fun k => x2 (ix2 r (lane g k))
/-- The gradient of the product's second factor at row `r` of a block. -/
def dv2B (r : Fin 512) (g : Fin 4) (k : Fin 128) : EReal := x0 (ix2 r ⟨512 + (g * 128 + k), by omega⟩) * x1 (ix2 r (lane g k))
/-- Row `s` of the chunk that row `r` of a block lies in. -/
def mate (r : Fin 512) (s : Fin 128) : Fin 512 := ⟨r / 128 * 128 + s, by omega⟩
def inChunk (r : Fin 512) : Fin 128 := ⟨r % 128, by omega⟩
/-- The gradient of the normalised gate at row `r` of a block. -/
def dv1B (r : Fin 512) (g : Fin 4) (k : Fin 128) : EReal := ∑ t : Fin 128, x9 (ix3 g (inChunk r) t) * dv2B x0 x1 (mate r t) g k

def dv1S (g : Fin 4) : Vec Ideal S512x128 .f32 := fun i => dv1B x0 x1 x9 (i 0) g (i 1)

/-- Row `i` of chunk `c` of a block. -/
abbrev brow (c : Fin 4) (i : Fin 128) : Fin 512 := ⟨c * 128 + i, by omega⟩
theorem mate_brow (c : Fin 4) (i s : Fin 128) : mate (brow c i) s = brow c s := Fin.ext (by simp only [mate]; omega)
theorem inChunk_brow (c : Fin 4) (i : Fin 128) : inChunk (brow c i) = i := Fin.ext (by simp only [inChunk]; omega)

/-- One chunk of it, as the kernel computes it from its tiles. -/
theorem dv1_tile (c g : Fin 4) (o og o5 gn : ℕ) (ho : o = c * 128) (hg : og = g * 128) (h5 : o5 = 512 + g * 128) (hgn : gn = g) (a0 a1 a9)
    (i k : Fin 128) :
    k0_pay36 (F := Ideal) (View.ld x0 (Rect.unit ![o, o5] ![128, 128] a0)) (View.ld x1 (Rect.unit ![o, og] ![128, 128] a1))
      (View.ld x9 (Rect.unit ![gn, 0, 0] ![1, 128, 128] a9)) (ix2 i k) = dv1B x0 x1 x9 (brow c i) g k := by
  subst ho hg h5 hgn
  refine (dv1T_at _ _ _ i k).trans (Finset.sum_congr rfl fun t _ => ?_)
  rw [mate_brow, inChunk_brow, dv2B]
  refine congrArg₂ (· * ·) ?_ (congrArg₂ (· * ·) ?_ ?_)
  · exact View.ld_unit_apply_of _ _ _ _ _ _ (fun x => by match x with
      | ⟨0, _⟩ => rfl
      | ⟨1, _⟩ => exact (Nat.zero_add _).symm
      | ⟨2, _⟩ => exact (Nat.zero_add _).symm)
  · exact View.ld_unit_apply_of _ _ _ _ _ _ (fun x => by match x with
      | ⟨0, _⟩ => rfl
      | ⟨1, _⟩ => exact (Nat.add_assoc _ _ _).symm)
  · exact View.ld_unit_apply_of _ _ _ _ _ _ (fun x => by match x with
      | ⟨0, _⟩ => rfl
      | ⟨1, _⟩ => rfl)

theorem whole_idx (inb) (j : S512x128.Idx) :
    (Rect.unit (s := S512x128) ![0, 0] ![512, 128] inb).toLoadRect.idx j = j :=
  funext fun x => Fin.ext ((Rect.idx_unit_val _ _ inb j x).trans (by match x with
    | ⟨0, _⟩ => exact Nat.zero_add _
    | ⟨1, _⟩ => exact Nat.zero_add _))

/-- The scratch, after the four chunks of a group have been stored into it. -/
theorem dv1_scratch (g : Fin 4) (og o5 gn : ℕ) (hg : og = g * 128) (h5 : o5 = 512 + g * 128) (hgn : gn = g)
    {d0 d1 d2 d3 u0 u1 u2 u3 w} (L : List (View.Piece (Elt Ideal) S512x128 .f32)) :
    (View.whole cc0_scratch0).readCov (Val := Elt Ideal)
      (⟨Rect.unit (s := S512x128) ![384, 0] ![128, 128] inb_S512x128_S128x128_384_0, k0_pay36 (F := Ideal) (View.ld x0 (Rect.unit ![384, o5] ![128, 128] d3))
          (View.ld x1 (Rect.unit ![384, og] ![128, 128] u3)) (View.ld x9 (Rect.unit ![gn, 0, 0] ![1, 128, 128] w))⟩
        :: ⟨Rect.unit (s := S512x128) ![256, 0] ![128, 128] inb_S512x128_S128x128_256_0, k0_pay36 (F := Ideal) (View.ld x0 (Rect.unit ![256, o5] ![128, 128] d2))
          (View.ld x1 (Rect.unit ![256, og] ![128, 128] u2)) (View.ld x9 (Rect.unit ![gn, 0, 0] ![1, 128, 128] w))⟩
        :: ⟨Rect.unit (s := S512x128) ![128, 0] ![128, 128] inb_S512x128_S128x128_128_0, k0_pay36 (F := Ideal) (View.ld x0 (Rect.unit ![128, o5] ![128, 128] d1))
          (View.ld x1 (Rect.unit ![128, og] ![128, 128] u1)) (View.ld x9 (Rect.unit ![gn, 0, 0] ![1, 128, 128] w))⟩
        :: ⟨Rect.unit (s := S512x128) ![0, 0] ![128, 128] inb_S512x128_S128x128_0_0, k0_pay36 (F := Ideal) (View.ld x0 (Rect.unit ![0, o5] ![128, 128] d0))
          (View.ld x1 (Rect.unit ![0, og] ![128, 128] u0)) (View.ld x9 (Rect.unit ![gn, 0, 0] ![1, 128, 128] w))⟩ :: L)
      (Rect.unit (s := S512x128) ![0, 0] ![512, 128] inb_S512x128_S512x128_0_0).toLoadRect = dv1S x0 x1 x9 g := by
  rw [View.readCov_eq_canon']
  funext j
  change S512x128.Idx at j
  refine (congrArg (View.canon _) (whole_idx _ j)).trans ?_
  obtain ⟨r, k, rfl⟩ : ∃ (r : Fin 512) (k : Fin 128), j = ix2 r k := ⟨j 0, j 1, eq_ix2 j⟩
  show _ = dv1B x0 x1 x9 r g k
  obtain ⟨c, i, rfl⟩ : ∃ (c : Fin 4) (i : Fin 128), r = brow c i := ⟨⟨r / 128, by omega⟩, ⟨r % 128, by omega⟩, Fin.ext (by simp only; omega)⟩
  have e : (k : Fin 128) = ⟨0 + k, by omega⟩ := Fin.ext (Nat.zero_add _).symm
  match c with
  | 0 =>
    conv_lhs => rw [e]
    refine (left_S512x128 _ 0 0 inb_S512x128_S128x128_0_0 i k (by omega) (by omega)).trans ?_
    simp (disch := decide) only [left_skip, left_hit]
    exact dv1_tile x0 x1 x9 0 g _ _ _ _ rfl hg h5 hgn _ _ _ i k
  | 1 =>
    conv_lhs => rw [e]
    refine (left_S512x128 _ 128 0 inb_S512x128_S128x128_128_0 i k (by omega) (by omega)).trans ?_
    simp (disch := decide) only [left_skip, left_hit]
    exact dv1_tile x0 x1 x9 1 g _ _ _ _ rfl hg h5 hgn _ _ _ i k
  | 2 =>
    conv_lhs => rw [e]
    refine (left_S512x128 _ 256 0 inb_S512x128_S128x128_256_0 i k (by omega) (by omega)).trans ?_
    simp (disch := decide) only [left_skip, left_hit]
    exact dv1_tile x0 x1 x9 2 g _ _ _ _ rfl hg h5 hgn _ _ _ i k
  | 3 =>
    conv_lhs => rw [e]
    refine (left_S512x128 _ 384 0 inb_S512x128_S128x128_384_0 i k (by omega) (by omega)).trans ?_
    simp (disch := decide) only [left_skip, left_hit]
    exact dv1_tile x0 x1 x9 3 g _ _ _ _ rfl hg h5 hgn _ _ _ i k

theorem vB_tile (g : Fin 4) (og : ℕ) (hg : og = g * 128) (a2) (r : Fin 512) :
    row128 (View.ld x2 (Rect.unit ![0, og] ![512, 128] a2)) r = vB x2 r g := by
  subst hg
  funext k
  exact View.ld_unit_apply_of _ _ _ _ _ _ (fun x => by match x with
    | ⟨0, _⟩ => exact (Nat.zero_add _).symm
    | ⟨1, _⟩ => rfl)

/-! A tile of a block, at an index. -/
theorem x0_tile (c g : Fin 4) (o o5 : ℕ) (ho : o = c * 128) (h5 : o5 = 512 + g * 128) (a) (i k : Fin 128) :
    View.ld x0 (Rect.unit ![o, o5] ![128, 128] a) (ix2 i k) = x0 (ix2 (brow c i) ⟨512 + (g * 128 + k), by omega⟩) := by
  subst ho h5
  exact View.ld_unit_apply_of _ _ _ _ _ _ (fun x => by match x with
    | ⟨0, _⟩ => rfl
    | ⟨1, _⟩ => exact (Nat.add_assoc _ _ _).symm)
theorem x1_tile (c g : Fin 4) (o og : ℕ) (ho : o = c * 128) (hg : og = g * 128) (a) (i k : Fin 128) :
    View.ld x1 (Rect.unit ![o, og] ![128, 128] a) (ix2 i k) = x1 (ix2 (brow c i) (lane g k)) := by
  subst ho hg
  exact View.ld_unit_apply_of _ _ _ _ _ _ (fun x => by match x with
    | ⟨0, _⟩ => rfl
    | ⟨1, _⟩ => rfl)
theorem row_tile (x : Vec Ideal S1x512 .f32) (g : Fin 4) (og : ℕ) (hg : og = g * 128) (a) (k : Fin 128) :
    View.ld x (Rect.unit ![0, og] ![1, 128] a) (ix2 0 k) = x (ix2 0 (lane g k)) := by
  subst hg
  exact View.ld_unit_apply_of _ _ _ _ _ _ (fun x => by match x with
    | ⟨0, _⟩ => rfl
    | ⟨1, _⟩ => rfl)
theorem bias_tile (x : Vec Ideal S128x512 .f32) (g : Fin 4) (og : ℕ) (hg : og = g * 128) (a) (t k : Fin 128) :
    View.ld x (Rect.unit ![0, og] ![128, 128] a) (ix2 t k) = x (ix2 t (lane g k)) := by
  subst hg
  exact View.ld_unit_apply_of _ _ _ _ _ _ (fun x => by match x with
    | ⟨0, _⟩ => exact (Nat.zero_add _).symm
    | ⟨1, _⟩ => rfl)
theorem mat_tile {e : EltTy} (x : Vec Ideal S4x128x128 e) (g : Fin 4) (gn : ℕ) (hg : gn = g) (a) (t s : Fin 128) :
    View.ld x (Rect.unit ![gn, 0, 0] ![1, 128, 128] a) (ix3 0 t s) = x (ix3 g t s) := by
  subst hg
  exact View.ld_unit_apply_of _ _ _ _ _ _ (fun x => by match x with
    | ⟨0, _⟩ => rfl
    | ⟨1, _⟩ => exact (Nat.zero_add _).symm
    | ⟨2, _⟩ => exact (Nat.zero_add _).symm)

/-- The normalised gate at row `r` of a block. -/
def v1B (r : Fin 512) (g : Fin 4) (k : Fin 128) : EReal := nrm D128 (vB x2 r g) k * x6 (ix2 0 (lane g k)) + x7 (ix2 0 (lane g k))
theorem v1_tile (g : Fin 4) (og : ℕ) (hg : og = g * 128) {a2 a6 a7} (r : Fin 512) (k : Fin 128) :
    k0_pay29 (F := Ideal) (View.ld x6 (Rect.unit ![0, og] ![1, 128] a6)) (View.ld x2 (Rect.unit ![0, og] ![512, 128] a2))
      (View.ld x7 (Rect.unit ![0, og] ![1, 128] a7)) (ix2 r k) = v1B x2 x6 x7 r g k := by
  rw [pay29_at, vB_tile x2 g og hg, row_tile x6 g og hg, row_tile x7 g og hg]
  rfl

/-- The gradient of the product's first factor, and of the gate's input, at row `r` of a block. -/
def duB (r : Fin 512) (g : Fin 4) (k : Fin 128) : EReal :=
  x0 (ix2 r ⟨512 + (g * 128 + k), by omega⟩)
    * ((∑ s : Fin 128, x8 (ix3 g (inChunk r) s) * v1B x2 x6 x7 (mate r s) g k) + x10 (ix2 (inChunk r) (lane g k)))
def dvB (r : Fin 512) (g : Fin 4) (k : Fin 128) : EReal :=
  lnBwd D128 (vB x2 r g) (fun l => dv1B x0 x1 x9 r g l * x6 (ix2 0 (lane g l))) k

theorem du_tile (c g : Fin 4) (o og o5 gn : ℕ) (ho : o = c * 128) (hg : og = g * 128) (h5 : o5 = 512 + g * 128) (hgn : gn = g) (hs)
    {a0 a2 a6 a7 a8 a10} (i k : Fin 128) :
    duT o hs (k0_pay29 (F := Ideal) (View.ld x6 (Rect.unit ![0, og] ![1, 128] a6)) (View.ld x2 (Rect.unit ![0, og] ![512, 128] a2))
        (View.ld x7 (Rect.unit ![0, og] ![1, 128] a7))) (View.ld x8 (Rect.unit ![gn, 0, 0] ![1, 128, 128] a8))
      (View.ld x10 (Rect.unit ![0, og] ![128, 128] a10)) (View.ld x0 (Rect.unit ![o, o5] ![128, 128] a0)) (ix2 i k)
      = duB x0 x2 x6 x7 x8 x10 (brow c i) g k := by
  have hb : o + 128 ≤ 512 := by omega
  rw [duT_at o hs hb, x0_tile x0 c g o o5 ho h5, bias_tile x10 g og hg, duB, inChunk_brow]
  refine congrArg (fun q => _ * (q + _)) (Finset.sum_congr rfl fun s _ => ?_)
  rw [mat_tile x8 g gn hgn, v1_tile x2 x6 x7 g og hg, mate_brow]
  subst ho
  rfl

theorem dv_tile (g : Fin 4) (og : ℕ) (hg : og = g * 128) {a2 a6} (r : Fin 512) (k : Fin 128) :
    dvT (View.ld x2 (Rect.unit ![0, og] ![512, 128] a2)) (View.ld x6 (Rect.unit ![0, og] ![1, 128] a6))
      (dv1S x0 x1 x9 g) (ix2 r k) = dvB x0 x1 x2 x6 x9 r g k := by
  rw [dvT_at, vB_tile x2 g og hg, dvB]
  refine congrArg (fun f => lnBwd D128 (vB x2 r g) f k) (funext fun l => ?_)
  rw [row_tile x6 g og hg]
  rfl

/-- What a group's gain and offset gain at a point. -/
theorem dgain_tile (g : Fin 4) (og : ℕ) (hg : og = g * 128) {a2} (x : Vec Ideal S1x128 .f32) (k : Fin 128) :
    k0_pay60 (F := Ideal) (k0_pay28 (View.ld x2 (Rect.unit ![0, og] ![512, 128] a2))) (dv1S x0 x1 x9 g) x (ix2 0 k)
      = x (ix2 0 k) + ∑ r : Fin 512, dv1B x0 x1 x9 r g k * nrm D128 (vB x2 r g) k := by
  rw [dgT_at]
  refine congrArg (_ + ·) (Finset.sum_congr rfl fun r _ => ?_)
  rw [pay28_at, vB_tile x2 g og hg]
  rfl
theorem doff_tile (g : Fin 4) (x : Vec Ideal S1x128 .f32) (k : Fin 128) :
    k0_pay61 (F := Ideal) (dv1S x0 x1 x9 g) x (ix2 0 k) = x (ix2 0 k) + ∑ r : Fin 512, dv1B x0 x1 x9 r g k := by
  rw [doT_at]
  rfl

/-- What the bias's gradient gains at a point, before the sum over lanes; and what the spatial weights' gradient gains. -/
def dbB (t : Fin 128) (g : Fin 4) (k : Fin 128) : EReal := ∑ c : Fin 4, dv2B x0 x1 (brow c t) g k
def dwB (g : Fin 4) (t s : Fin 128) : EReal :=
  ∑ c : Fin 4, if (s : ℕ) ≤ t then ∑ k : Fin 128, dv2B x0 x1 (brow c t) g k * v1B x2 x6 x7 (brow c s) g k else 0

theorem dv2_tile (c g : Fin 4) (o og o5 : ℕ) (ho : o = c * 128) (hg : og = g * 128) (h5 : o5 = 512 + g * 128) {a0 a1} (i k : Fin 128) :
    View.ld x0 (Rect.unit ![o, o5] ![128, 128] a0) (ix2 i k) * View.ld x1 (Rect.unit ![o, og] ![128, 128] a1) (ix2 i k)
      = dv2B x0 x1 (brow c i) g k := by
  rw [x0_tile x0 c g o o5 ho h5, x1_tile x1 c g o og ho hg]
  rfl

theorem db_tile (g : Fin 4) (og o5 : ℕ) (hg : og = g * 128) (h5 : o5 = 512 + g * 128) {d0 d1 d2 d3 u0 u1 u2 u3} (x : Vec Ideal S128x128 .f32)
    (t k : Fin 128) :
    k0_pay33 (F := Ideal) (View.ld x0 (Rect.unit ![384, o5] ![128, 128] d3)) (View.ld x1 (Rect.unit ![384, og] ![128, 128] u3))
      (k0_pay33 (F := Ideal) (View.ld x0 (Rect.unit ![256, o5] ![128, 128] d2)) (View.ld x1 (Rect.unit ![256, og] ![128, 128] u2))
        (k0_pay33 (F := Ideal) (View.ld x0 (Rect.unit ![128, o5] ![128, 128] d1)) (View.ld x1 (Rect.unit ![128, og] ![128, 128] u1))
          (k0_pay33 (F := Ideal) (View.ld x0 (Rect.unit ![0, o5] ![128, 128] d0)) (View.ld x1 (Rect.unit ![0, og] ![128, 128] u0)) x))) (ix2 t k)
      = x (ix2 t k) + dbB x0 x1 t g k := by
  rw [dbT_at, dbT_at, dbT_at, dbT_at, dv2_tile x0 x1 3 g 384 og o5 rfl hg h5, dv2_tile x0 x1 2 g 256 og o5 rfl hg h5,
    dv2_tile x0 x1 1 g 128 og o5 rfl hg h5, dv2_tile x0 x1 0 g 0 og o5 rfl hg h5, dbB, Fin.sum_univ_four]
  simp only [add_assoc]

theorem dw_piece (c g : Fin 4) (o og o5 : ℕ) (ho : o = c * 128) (hg : og = g * 128) (h5 : o5 = 512 + g * 128) (hs) {a0 a1 a2 a6 a7}
    (x : Vec Ideal S1x128x128 .f32) (t s : Fin 128) :
    dwT o hs (k0_pay29 (F := Ideal) (View.ld x6 (Rect.unit ![0, og] ![1, 128] a6)) (View.ld x2 (Rect.unit ![0, og] ![512, 128] a2))
        (View.ld x7 (Rect.unit ![0, og] ![1, 128] a7))) (View.ld x0 (Rect.unit ![o, o5] ![128, 128] a0))
        (View.ld x1 (Rect.unit ![o, og] ![128, 128] a1)) x (ix3 0 t s)
      = x (ix3 0 t s) + if (s : ℕ) ≤ t then ∑ k : Fin 128, dv2B x0 x1 (brow c t) g k * v1B x2 x6 x7 (brow c s) g k else 0 := by
  have hb : o + 128 ≤ 512 := by omega
  rw [dwT_at _ _ o hs hb]
  refine congrArg (fun q => _ + if (s : ℕ) ≤ t then q else 0) (Finset.sum_congr rfl fun k _ => ?_)
  rw [dv2_tile x0 x1 c g o og o5 ho hg h5, v1_tile x2 x6 x7 g og hg]
  subst ho
  rfl

theorem dw_tile (g : Fin 4) (og o5 : ℕ) (hg : og = g * 128) (h5 : o5 = 512 + g * 128) {d0 d1 d2 d3 u0 u1 u2 u3 a2 a6 a7}
    (x : Vec Ideal S1x128x128 .f32) (t s : Fin 128) (v : FVec Ideal S512x128 .bf16)
    (hv : v = k0_pay29 (F := Ideal) (View.ld x6 (Rect.unit ![0, og] ![1, 128] a6)) (View.ld x2 (Rect.unit ![0, og] ![512, 128] a2))
        (View.ld x7 (Rect.unit ![0, og] ![1, 128] a7))) :
    dwT 384 slices_S512x128_o384_0_S128x128 v (View.ld x0 (Rect.unit ![384, o5] ![128, 128] d3)) (View.ld x1 (Rect.unit ![384, og] ![128, 128] u3))
      (dwT 256 slices_S512x128_o256_0_S128x128 v (View.ld x0 (Rect.unit ![256, o5] ![128, 128] d2)) (View.ld x1 (Rect.unit ![256, og] ![128, 128] u2))
        (dwT 128 slices_S512x128_o128_0_S128x128 v (View.ld x0 (Rect.unit ![128, o5] ![128, 128] d1)) (View.ld x1 (Rect.unit ![128, og] ![128, 128] u1))
          (dwT 0 slices_S512x128_o0_0_S128x128 v (View.ld x0 (Rect.unit ![0, o5] ![128, 128] d0)) (View.ld x1 (Rect.unit ![0, og] ![128, 128] u0)) x)))
        (ix3 0 t s)
      = x (ix3 0 t s) + dwB x0 x1 x2 x6 x7 g t s := by
  subst hv
  rw [dw_piece x0 x1 x2 x6 x7 3 g 384 og o5 rfl hg h5, dw_piece x0 x1 x2 x6 x7 2 g 256 og o5 rfl hg h5,
    dw_piece x0 x1 x2 x6 x7 1 g 128 og o5 rfl hg h5, dw_piece x0 x1 x2 x6 x7 0 g 0 og o5 rfl hg h5, dwB, Fin.sum_univ_four]
  simp only [add_assoc]

end

end MixRows
-- ==== Proof.KerC.lean ====
module

public import proofs.«01_k».proof.Proof.KerB

/-!
What a grid point leaves in the outputs of mixer B and in the carried scratch, over the point's blocks and what was there before.
-/

@[expose] public section

set_option maxRecDepth 16384

noncomputable section

namespace MixRows

open Idealize.ShloMosaic Idealize.SL.Sem Cert.KernelIdeal Cert.KernelIdeal.Gen Cert.KernelIdeal.Value

/-- A row written in four pieces, one per group. -/
theorem row4 (w0 w1 w2 w3 : Vec Ideal S1x128 .f32) (L : List (View.Piece (Elt Ideal) S1x512 .f32)) (f : Fin 4 → Fin 128 → EReal)
    (h0 : ∀ k, w0 (ix2 0 k) = f 0 k) (h1 : ∀ k, w1 (ix2 0 k) = f 1 k) (h2 : ∀ k, w2 (ix2 0 k) = f 2 k) (h3 : ∀ k, w3 (ix2 0 k) = f 3 k)
    (g : Fin 4) (k : Fin 128) :
    View.canon (⟨Rect.unit (s := S1x512) ![0, 384] ![1, 128] inb_S1x512_S1x128_0_384, w3⟩
      :: ⟨Rect.unit (s := S1x512) ![0, 256] ![1, 128] inb_S1x512_S1x128_0_256, w2⟩
      :: ⟨Rect.unit (s := S1x512) ![0, 128] ![1, 128] inb_S1x512_S1x128_0_128, w1⟩
      :: ⟨Rect.unit (s := S1x512) ![0, 0] ![1, 128] inb_S1x512_S1x128_0_0, w0⟩ :: L) (ix2 0 (lane g k)) = f g k := by
  match g with
  | 0 =>
    refine (left_S1x512 _ 0 0 inb_S1x512_S1x128_0_0 0 k (by omega) (by omega)).trans ?_
    simp (disch := decide) only [left_skip, left_hit, h0]
  | 1 =>
    refine (left_S1x512 _ 0 128 inb_S1x512_S1x128_0_128 0 k (by omega) (by omega)).trans ?_
    simp (disch := decide) only [left_skip, left_hit, h1]
  | 2 =>
    refine (left_S1x512 _ 0 256 inb_S1x512_S1x128_0_256 0 k (by omega) (by omega)).trans ?_
    simp (disch := decide) only [left_skip, left_hit, h2]
  | 3 =>
    refine (left_S1x512 _ 0 384 inb_S1x512_S1x128_0_384 0 k (by omega) (by omega)).trans ?_
    simp (disch := decide) only [left_skip, left_hit, h3]

/-- Four square blocks side by side, each written four times. -/
theorem sq4 (w0 a0 b0 c0 w1 a1 b1 c1 w2 a2 b2 c2 w3 a3 b3 c3 : Vec Ideal S128x128 .f32) (L : List (View.Piece (Elt Ideal) S128x512 .f32))
    (f : Fin 4 → Fin 128 → Fin 128 → EReal) (h0 : ∀ t k, w0 (ix2 t k) = f 0 t k) (h1 : ∀ t k, w1 (ix2 t k) = f 1 t k)
    (h2 : ∀ t k, w2 (ix2 t k) = f 2 t k) (h3 : ∀ t k, w3 (ix2 t k) = f 3 t k) (g : Fin 4) (t k : Fin 128) :
    View.canon (
      ⟨Rect.unit (s := S128x512) ![0, 384] ![128, 128] inb_S128x512_S128x128_0_384, w3⟩
        :: ⟨Rect.unit (s := S128x512) ![0, 384] ![128, 128] inb_S128x512_S128x128_0_384, c3⟩
        :: ⟨Rect.unit (s := S128x512) ![0, 384] ![128, 128] inb_S128x512_S128x128_0_384, b3⟩
        :: ⟨Rect.unit (s := S128x512) ![0, 384] ![128, 128] inb_S128x512_S128x128_0_384, a3⟩
        :: ⟨Rect.unit (s := S128x512) ![0, 256] ![128, 128] inb_S128x512_S128x128_0_256, w2⟩
        :: ⟨Rect.unit (s := S128x512) ![0, 256] ![128, 128] inb_S128x512_S128x128_0_256, c2⟩
        :: ⟨Rect.unit (s := S128x512) ![0, 256] ![128, 128] inb_S128x512_S128x128_0_256, b2⟩
        :: ⟨Rect.unit (s := S128x512) ![0, 256] ![128, 128] inb_S128x512_S128x128_0_256, a2⟩
        :: ⟨Rect.unit (s := S128x512) ![0, 128] ![128, 128] inb_S128x512_S128x128_0_128, w1⟩
        :: ⟨Rect.unit (s := S128x512) ![0, 128] ![128, 128] inb_S128x512_S128x128_0_128, c1⟩
        :: ⟨Rect.unit (s := S128x512) ![0, 128] ![128, 128] inb_S128x512_S128x128_0_128, b1⟩
        :: ⟨Rect.unit (s := S128x512) ![0, 128] ![128, 128] inb_S128x512_S128x128_0_128, a1⟩
        :: ⟨Rect.unit (s := S128x512) ![0, 0] ![128, 128] inb_S128x512_S128x128_0_0, w0⟩
        :: ⟨Rect.unit (s := S128x512) ![0, 0] ![128, 128] inb_S128x512_S128x128_0_0, c0⟩
        :: ⟨Rect.unit (s := S128x512) ![0, 0] ![128, 128] inb_S128x512_S128x128_0_0, b0⟩
        :: ⟨Rect.unit (s := S128x512) ![0, 0] ![128, 128] inb_S128x512_S128x128_0_0, a0⟩ :: L) (ix2 t (lane g k)) = f g t k := by
  have e : t = ⟨0 + t, by omega⟩ := Fin.ext (Nat.zero_add _).symm
  match g with
  | 0 =>
    conv_lhs => rw [e]
    refine (left_S128x512 _ 0 0 inb_S128x512_S128x128_0_0 t k (by omega) (by omega)).trans ?_
    simp (disch := decide) only [left_skip, left_hit, h0]
  | 1 =>
    conv_lhs => rw [e]
    refine (left_S128x512 _ 0 128 inb_S128x512_S128x128_0_128 t k (by omega) (by omega)).trans ?_
    simp (disch := decide) only [left_skip, left_hit, h1]
  | 2 =>
    conv_lhs => rw [e]
    refine (left_S128x512 _ 0 256 inb_S128x512_S128x128_0_256 t k (by omega) (by omega)).trans ?_
    simp (disch := decide) only [left_skip, left_hit, h2]
  | 3 =>
    conv_lhs => rw [e]
    refine (left_S128x512 _ 0 384 inb_S128x512_S128x128_0_384 t k (by omega) (by omega)).trans ?_
    simp (disch := decide) only [left_skip, left_hit, h3]

/-- Four square matrices stacked, each written four times. -/
theorem mat4 (w0 a0 b0 c0 w1 a1 b1 c1 w2 a2 b2 c2 w3 a3 b3 c3 : Vec Ideal S1x128x128 .f32) (L : List (View.Piece (Elt Ideal) S4x128x128 .f32))
    (f : Fin 4 → Fin 128 → Fin 128 → EReal) (h0 : ∀ t s, w0 (ix3 0 t s) = f 0 t s) (h1 : ∀ t s, w1 (ix3 0 t s) = f 1 t s)
    (h2 : ∀ t s, w2 (ix3 0 t s) = f 2 t s) (h3 : ∀ t s, w3 (ix3 0 t s) = f 3 t s) (g : Fin 4) (t s : Fin 128) :
    View.canon (
      ⟨Rect.unit (s := S4x128x128) ![3, 0, 0] ![1, 128, 128] inb_S4x128x128_S1x128x128_3_0_0, w3⟩
        :: ⟨Rect.unit (s := S4x128x128) ![3, 0, 0] ![1, 128, 128] inb_S4x128x128_S1x128x128_3_0_0, c3⟩
        :: ⟨Rect.unit (s := S4x128x128) ![3, 0, 0] ![1, 128, 128] inb_S4x128x128_S1x128x128_3_0_0, b3⟩
        :: ⟨Rect.unit (s := S4x128x128) ![3, 0, 0] ![1, 128, 128] inb_S4x128x128_S1x128x128_3_0_0, a3⟩
        :: ⟨Rect.unit (s := S4x128x128) ![2, 0, 0] ![1, 128, 128] inb_S4x128x128_S1x128x128_2_0_0, w2⟩
        :: ⟨Rect.unit (s := S4x128x128) ![2, 0, 0] ![1, 128, 128] inb_S4x128x128_S1x128x128_2_0_0, c2⟩
        :: ⟨Rect.unit (s := S4x128x128) ![2, 0, 0] ![1, 128, 128] inb_S4x128x128_S1x128x128_2_0_0, b2⟩
        :: ⟨Rect.unit (s := S4x128x128) ![2, 0, 0] ![1, 128, 128] inb_S4x128x128_S1x128x128_2_0_0, a2⟩
        :: ⟨Rect.unit (s := S4x128x128) ![1, 0, 0] ![1, 128, 128] inb_S4x128x128_S1x128x128_1_0_0, w1⟩
        :: ⟨Rect.unit (s := S4x128x128) ![1, 0, 0] ![1, 128, 128] inb_S4x128x128_S1x128x128_1_0_0, c1⟩
        :: ⟨Rect.unit (s := S4x128x128) ![1, 0, 0] ![1, 128, 128] inb_S4x128x128_S1x128x128_1_0_0, b1⟩
        :: ⟨Rect.unit (s := S4x128x128) ![1, 0, 0] ![1, 128, 128] inb_S4x128x128_S1x128x128_1_0_0, a1⟩
        :: ⟨Rect.unit (s := S4x128x128) ![0, 0, 0] ![1, 128, 128] inb_S4x128x128_S1x128x128_0_0_0, w0⟩
        :: ⟨Rect.unit (s := S4x128x128) ![0, 0, 0] ![1, 128, 128] inb_S4x128x128_S1x128x128_0_0_0, c0⟩
        :: ⟨Rect.unit (s := S4x128x128) ![0, 0, 0] ![1, 128, 128] inb_S4x128x128_S1x128x128_0_0_0, b0⟩
        :: ⟨Rect.unit (s := S4x128x128) ![0, 0, 0] ![1, 128, 128] inb_S4x128x128_S1x128x128_0_0_0, a0⟩ :: L) (ix3 g t s) = f g t s := by
  have et : t = ⟨0 + t, by omega⟩ := Fin.ext (Nat.zero_add _).symm
  have es : s = ⟨0 + s, by omega⟩ := Fin.ext (Nat.zero_add _).symm
  match g with
  | 0 =>
    conv_lhs => rw [et, es]
    refine (left_S4x128x128 _ 0 inb_S4x128x128_S1x128x128_0_0_0 t s (by decide) (by omega) (by omega)).trans ?_
    simp (disch := decide) only [left_skip, left_hit, h0]
  | 1 =>
    conv_lhs => rw [et, es]
    refine (left_S4x128x128 _ 1 inb_S4x128x128_S1x128x128_1_0_0 t s (by decide) (by omega) (by omega)).trans ?_
    simp (disch := decide) only [left_skip, left_hit, h1]
  | 2 =>
    conv_lhs => rw [et, es]
    refine (left_S4x128x128 _ 2 inb_S4x128x128_S1x128x128_2_0_0 t s (by decide) (by omega) (by omega)).trans ?_
    simp (disch := decide) only [left_skip, left_hit, h2]
  | 3 =>
    conv_lhs => rw [et, es]
    refine (left_S4x128x128 _ 3 inb_S4x128x128_S1x128x128_3_0_0 t s (by decide) (by omega) (by omega)).trans ?_
    simp (disch := decide) only [left_skip, left_hit, h3]

theorem zero8 (l : Fin 512) : k0_pay8 (F := Ideal) (ix2 0 l) = 0 := by pointwise [k0_pay8]
theorem zero9 (l : Fin 512) : k0_pay9 (F := Ideal) (ix2 0 l) = 0 := by pointwise [k0_pay9]
theorem zero10 (g : Fin 4) (t s : Fin 128) : k0_pay10 (F := Ideal) (ix3 g t s) = 0 := by pointwise [k0_pay10]
theorem zero11 (t : Fin 128) (l : Fin 512) : k0_pay11 (F := Ideal) (ix2 t l) = 0 := by pointwise [k0_pay11]

end MixRows
-- ==== Proof.KerD.lean ====
module

public import proofs.«01_k».proof.Proof.KerC

/-!
What a grid point leaves in mixer B's row sums and in the carried scratch, over the point's blocks and what was there before.
-/

@[expose] public section

set_option maxRecDepth 16384

noncomputable section

namespace MixRows

open Idealize.ShloMosaic Idealize.SL.Sem Cert.KernelIdeal Cert.KernelIdeal.Gen Cert.KernelIdeal.Value

section
variable (m : (ℓ : Loc nD τ sig) → Buf (Elt Ideal) ℓ) (c : Dev nD) (t : Fin cfg0.N) (acc : Tup)

theorem st15 (g : Fin 4) (k : Fin 128) : (stAt0 m c t.val t.isLt acc).2.2.2.2.1 (ix2 0 (lane g k))
    = inc t (acc.2.2.2.2.1 (ix2 0 (lane g k))) + ∑ r : Fin 512, dv1B (b0 m c t) (b1 m c t) (b9 m c t) r g k * nrm D128 (vB (b2 m c t) r g) k := by
  by_cases h0 : t.val % 16 = 0
  · have h1 : ¬t.val % 16 = 15 := by omega
    rw [stAt0_A m c t acc h0 h1]
    dsimp only
    frame_open
    simp (disch := decide) only [↓ View.readCov_skip, ↓ View.readCov_cons_toLoadRect, ↓ View.readCov_fill]
    frame_out
    simp only [nrm69, nrm106, nrm146, dv45, dv79, dv51, dv59, dv85, dv92, dv98, dv114, dv121, dv127, dv134, dv154, dv161, dv168, dv174, dg99,
        dg135, dg175,
        dv1_scratch _ _ _ 0 0 512 0 rfl rfl rfl, dv1_scratch _ _ _ 1 128 640 1 rfl rfl rfl,
        dv1_scratch _ _ _ 2 256 768 2 rfl rfl rfl, dv1_scratch _ _ _ 3 384 896 3 rfl rfl rfl]
    refine row4 _ _ _ _ _ (fun g k => inc t (acc.2.2.2.2.1 (ix2 0 (lane g k))) + ∑ r : Fin 512, dv1B (b0 m c t) (b1 m c t) (b9 m c t) r g k * nrm D128 (vB (b2 m c t) r g) k) ?_ ?_ ?_ ?_ g k
    · exact fun k => (dgain_tile _ _ _ _ 0 0 rfl _ k).trans (congrArg (· + _) ((row_tile (k0_pay8 (F := Ideal)) 0 0 rfl _ k).trans ((zero8 _).trans (inc_first t h0 _))))
    · exact fun k => (dgain_tile _ _ _ _ 1 128 rfl _ k).trans (congrArg (· + _) ((row_tile (k0_pay8 (F := Ideal)) 1 128 rfl _ k).trans ((zero8 _).trans (inc_first t h0 _))))
    · exact fun k => (dgain_tile _ _ _ _ 2 256 rfl _ k).trans (congrArg (· + _) ((row_tile (k0_pay8 (F := Ideal)) 2 256 rfl _ k).trans ((zero8 _).trans (inc_first t h0 _))))
    · exact fun k => (dgain_tile _ _ _ _ 3 384 rfl _ k).trans (congrArg (· + _) ((row_tile (k0_pay8 (F := Ideal)) 3 384 rfl _ k).trans ((zero8 _).trans (inc_first t h0 _))))
  · by_cases h1 : t.val % 16 = 15
    · rw [stAt0_C m c t acc h0 h1]
      dsimp only
      frame_open
      simp (disch := decide) only [↓ View.readCov_skip, ↓ View.readCov_cons_toLoadRect, ↓ View.readCov_fill]
      frame_out
      simp only [nrm69, nrm106, nrm146, dv45, dv79, dv51, dv59, dv85, dv92, dv98, dv114, dv121, dv127, dv134, dv154, dv161, dv168, dv174, dg99,
          dg135, dg175,
          dv1_scratch _ _ _ 0 0 512 0 rfl rfl rfl, dv1_scratch _ _ _ 1 128 640 1 rfl rfl rfl,
          dv1_scratch _ _ _ 2 256 768 2 rfl rfl rfl, dv1_scratch _ _ _ 3 384 896 3 rfl rfl rfl]
      refine row4 _ _ _ _ _ (fun g k => inc t (acc.2.2.2.2.1 (ix2 0 (lane g k))) + ∑ r : Fin 512, dv1B (b0 m c t) (b1 m c t) (b9 m c t) r g k * nrm D128 (vB (b2 m c t) r g) k) ?_ ?_ ?_ ?_ g k
      · exact fun k => (dgain_tile _ _ _ _ 0 0 rfl _ k).trans (congrArg (· + _) ((row_tile _ 0 0 rfl _ k).trans (inc_next t h0 _)))
      · exact fun k => (dgain_tile _ _ _ _ 1 128 rfl _ k).trans (congrArg (· + _) ((row_tile _ 1 128 rfl _ k).trans (inc_next t h0 _)))
      · exact fun k => (dgain_tile _ _ _ _ 2 256 rfl _ k).trans (congrArg (· + _) ((row_tile _ 2 256 rfl _ k).trans (inc_next t h0 _)))
      · exact fun k => (dgain_tile _ _ _ _ 3 384 rfl _ k).trans (congrArg (· + _) ((row_tile _ 3 384 rfl _ k).trans (inc_next t h0 _)))
    · rw [stAt0_B m c t acc h0 h1]
      dsimp only
      frame_open
      simp (disch := decide) only [↓ View.readCov_skip, ↓ View.readCov_cons_toLoadRect, ↓ View.readCov_fill]
      frame_out
      simp only [nrm69, nrm106, nrm146, dv45, dv79, dv51, dv59, dv85, dv92, dv98, dv114, dv121, dv127, dv134, dv154, dv161, dv168, dv174, dg99,
          dg135, dg175,
          dv1_scratch _ _ _ 0 0 512 0 rfl rfl rfl, dv1_scratch _ _ _ 1 128 640 1 rfl rfl rfl,
          dv1_scratch _ _ _ 2 256 768 2 rfl rfl rfl, dv1_scratch _ _ _ 3 384 896 3 rfl rfl rfl]
      refine row4 _ _ _ _ _ (fun g k => inc t (acc.2.2.2.2.1 (ix2 0 (lane g k))) + ∑ r : Fin 512, dv1B (b0 m c t) (b1 m c t) (b9 m c t) r g k * nrm D128 (vB (b2 m c t) r g) k) ?_ ?_ ?_ ?_ g k
      · exact fun k => (dgain_tile _ _ _ _ 0 0 rfl _ k).trans (congrArg (· + _) ((row_tile _ 0 0 rfl _ k).trans (inc_next t h0 _)))
      · exact fun k => (dgain_tile _ _ _ _ 1 128 rfl _ k).trans (congrArg (· + _) ((row_tile _ 1 128 rfl _ k).trans (inc_next t h0 _)))
      · exact fun k => (dgain_tile _ _ _ _ 2 256 rfl _ k).trans (congrArg (· + _) ((row_tile _ 2 256 rfl _ k).trans (inc_next t h0 _)))
      · exact fun k => (dgain_tile _ _ _ _ 3 384 rfl _ k).trans (congrArg (· + _) ((row_tile _ 3 384 rfl _ k).trans (inc_next t h0 _)))

theorem st16 (g : Fin 4) (k : Fin 128) : (stAt0 m c t.val t.isLt acc).2.2.2.2.2.1 (ix2 0 (lane g k))
    = inc t (acc.2.2.2.2.2.1 (ix2 0 (lane g k))) + ∑ r : Fin 512, dv1B (b0 m c t) (b1 m c t) (b9 m c t) r g k := by
  by_cases h0 : t.val % 16 = 0
  · have h1 : ¬t.val % 16 = 15 := by omega
    rw [stAt0_A m c t acc h0 h1]
    dsimp only
    frame_open
    simp (disch := decide) only [↓ View.readCov_skip, ↓ View.readCov_cons_toLoadRect, ↓ View.readCov_fill]
    frame_out
    simp only [dv45, dv79, dv51, dv59, dv85, dv92, dv98, dv114, dv121, dv127, dv134, dv154, dv161, dv168, dv174, do100, do138, do176,
        dv1_scratch _ _ _ 0 0 512 0 rfl rfl rfl, dv1_scratch _ _ _ 1 128 640 1 rfl rfl rfl,
        dv1_scratch _ _ _ 2 256 768 2 rfl rfl rfl, dv1_scratch _ _ _ 3 384 896 3 rfl rfl rfl]
    refine row4 _ _ _ _ _ (fun g k => inc t (acc.2.2.2.2.2.1 (ix2 0 (lane g k))) + ∑ r : Fin 512, dv1B (b0 m c t) (b1 m c t) (b9 m c t) r g k) ?_ ?_ ?_ ?_ g k
    · exact fun k => (doff_tile _ _ _ 0 _ k).trans (congrArg (· + _) ((row_tile (k0_pay9 (F := Ideal)) 0 0 rfl _ k).trans ((zero9 _).trans (inc_first t h0 _))))
    · exact fun k => (doff_tile _ _ _ 1 _ k).trans (congrArg (· + _) ((row_tile (k0_pay9 (F := Ideal)) 1 128 rfl _ k).trans ((zero9 _).trans (inc_first t h0 _))))
    · exact fun k => (doff_tile _ _ _ 2 _ k).trans (congrArg (· + _) ((row_tile (k0_pay9 (F := Ideal)) 2 256 rfl _ k).trans ((zero9 _).trans (inc_first t h0 _))))
    · exact fun k => (doff_tile _ _ _ 3 _ k).trans (congrArg (· + _) ((row_tile (k0_pay9 (F := Ideal)) 3 384 rfl _ k).trans ((zero9 _).trans (inc_first t h0 _))))
  · by_cases h1 : t.val % 16 = 15
    · rw [stAt0_C m c t acc h0 h1]
      dsimp only
      frame_open
      simp (disch := decide) only [↓ View.readCov_skip, ↓ View.readCov_cons_toLoadRect, ↓ View.readCov_fill]
      frame_out
      simp only [dv45, dv79, dv51, dv59, dv85, dv92, dv98, dv114, dv121, dv127, dv134, dv154, dv161, dv168, dv174, do100, do138, do176,
          dv1_scratch _ _ _ 0 0 512 0 rfl rfl rfl, dv1_scratch _ _ _ 1 128 640 1 rfl rfl rfl,
          dv1_scratch _ _ _ 2 256 768 2 rfl rfl rfl, dv1_scratch _ _ _ 3 384 896 3 rfl rfl rfl]
      refine row4 _ _ _ _ _ (fun g k => inc t (acc.2.2.2.2.2.1 (ix2 0 (lane g k))) + ∑ r : Fin 512, dv1B (b0 m c t) (b1 m c t) (b9 m c t) r g k) ?_ ?_ ?_ ?_ g k
      · exact fun k => (doff_tile _ _ _ 0 _ k).trans (congrArg (· + _) ((row_tile _ 0 0 rfl _ k).trans (inc_next t h0 _)))
      · exact fun k => (doff_tile _ _ _ 1 _ k).trans (congrArg (· + _) ((row_tile _ 1 128 rfl _ k).trans (inc_next t h0 _)))
      · exact fun k => (doff_tile _ _ _ 2 _ k).trans (congrArg (· + _) ((row_tile _ 2 256 rfl _ k).trans (inc_next t h0 _)))
      · exact fun k => (doff_tile _ _ _ 3 _ k).trans (congrArg (· + _) ((row_tile _ 3 384 rfl _ k).trans (inc_next t h0 _)))
    · rw [stAt0_B m c t acc h0 h1]
      dsimp only
      frame_open
      simp (disch := decide) only [↓ View.readCov_skip, ↓ View.readCov_cons_toLoadRect, ↓ View.readCov_fill]
      frame_out
      simp only [dv45, dv79, dv51, dv59, dv85, dv92, dv98, dv114, dv121, dv127, dv134, dv154, dv161, dv168, dv174, do100, do138, do176,
          dv1_scratch _ _ _ 0 0 512 0 rfl rfl rfl, dv1_scratch _ _ _ 1 128 640 1 rfl rfl rfl,
          dv1_scratch _ _ _ 2 256 768 2 rfl rfl rfl, dv1_scratch _ _ _ 3 384 896 3 rfl rfl rfl]
      refine row4 _ _ _ _ _ (fun g k => inc t (acc.2.2.2.2.2.1 (ix2 0 (lane g k))) + ∑ r : Fin 512, dv1B (b0 m c t) (b1 m c t) (b9 m c t) r g k) ?_ ?_ ?_ ?_ g k
      · exact fun k => (doff_tile _ _ _ 0 _ k).trans (congrArg (· + _) ((row_tile _ 0 0 rfl _ k).trans (inc_next t h0 _)))
      · exact fun k => (doff_tile _ _ _ 1 _ k).trans (congrArg (· + _) ((row_tile _ 1 128 rfl _ k).trans (inc_next t h0 _)))
      · exact fun k => (doff_tile _ _ _ 2 _ k).trans (congrArg (· + _) ((row_tile _ 2 256 rfl _ k).trans (inc_next t h0 _)))
      · exact fun k => (doff_tile _ _ _ 3 _ k).trans (congrArg (· + _) ((row_tile _ 3 384 rfl _ k).trans (inc_next t h0 _)))

theorem st17 (g : Fin 4) (i j : Fin 128) : (stAt0 m c t.val t.isLt acc).2.2.2.2.2.2.1 (ix3 g i j)
    = inc t (acc.2.2.2.2.2.2.1 (ix3 g i j)) + dwB (b0 m c t) (b1 m c t) (b2 m c t) (b6 m c t) (b7 m c t) g i j := by
  by_cases h0 : t.val % 16 = 0
  · have h1 : ¬t.val % 16 = 15 := by omega
    rw [stAt0_A m c t acc h0 h1]
    dsimp only
    frame_open
    simp (disch := decide) only [↓ View.readCov_skip, ↓ View.readCov_cons_toLoadRect, ↓ View.readCov_fill]
    frame_out
    simp only [v1_70, v1_108, v1_147, dw35, dw43, dw50, dw77, dw84, dw173, dw58, dw91, dw97, dw113, dw120, dw126, dw133, dw153, dw160, dw167]
    refine mat4 _ _ _ _ _ _ _ _ _ _ _ _ _ _ _ _ _ (fun g i j => inc t (acc.2.2.2.2.2.2.1 (ix3 g i j)) + dwB (b0 m c t) (b1 m c t) (b2 m c t) (b6 m c t) (b7 m c t) g i j) ?_ ?_ ?_ ?_ g i j
    · exact fun i j => (dw_tile _ _ _ _ _ 0 0 512 rfl rfl _ i j _ rfl).trans (congrArg (· + _) ((mat_tile (e := .f32) (k0_pay10 (F := Ideal)) 0 0 rfl _ i j).trans ((zero10 _ _ _).trans (inc_first t h0 _))))
    · exact fun i j => (dw_tile _ _ _ _ _ 1 128 640 rfl rfl _ i j _ rfl).trans (congrArg (· + _) ((mat_tile (e := .f32) (k0_pay10 (F := Ideal)) 1 1 rfl _ i j).trans ((zero10 _ _ _).trans (inc_first t h0 _))))
    · exact fun i j => (dw_tile _ _ _ _ _ 2 256 768 rfl rfl _ i j _ rfl).trans (congrArg (· + _) ((mat_tile (e := .f32) (k0_pay10 (F := Ideal)) 2 2 rfl _ i j).trans ((zero10 _ _ _).trans (inc_first t h0 _))))
    · exact fun i j => (dw_tile _ _ _ _ _ 3 384 896 rfl rfl _ i j _ rfl).trans (congrArg (· + _) ((mat_tile (e := .f32) (k0_pay10 (F := Ideal)) 3 3 rfl _ i j).trans ((zero10 _ _ _).trans (inc_first t h0 _))))
  · by_cases h1 : t.val % 16 = 15
    · rw [stAt0_C m c t acc h0 h1]
      dsimp only
      frame_open
      simp (disch := decide) only [↓ View.readCov_skip, ↓ View.readCov_cons_toLoadRect, ↓ View.readCov_fill]
      frame_out
      simp only [v1_70, v1_108, v1_147, dw35, dw43, dw50, dw77, dw84, dw173, dw58, dw91, dw97, dw113, dw120, dw126, dw133, dw153, dw160, dw167]
      refine mat4 _ _ _ _ _ _ _ _ _ _ _ _ _ _ _ _ _ (fun g i j => inc t (acc.2.2.2.2.2.2.1 (ix3 g i j)) + dwB (b0 m c t) (b1 m c t) (b2 m c t) (b6 m c t) (b7 m c t) g i j) ?_ ?_ ?_ ?_ g i j
      · exact fun i j => (dw_tile _ _ _ _ _ 0 0 512 rfl rfl _ i j _ rfl).trans (congrArg (· + _) ((mat_tile _ 0 0 rfl _ i j).trans (inc_next t h0 _)))
      · exact fun i j => (dw_tile _ _ _ _ _ 1 128 640 rfl rfl _ i j _ rfl).trans (congrArg (· + _) ((mat_tile _ 1 1 rfl _ i j).trans (inc_next t h0 _)))
      · exact fun i j => (dw_tile _ _ _ _ _ 2 256 768 rfl rfl _ i j _ rfl).trans (congrArg (· + _) ((mat_tile _ 2 2 rfl _ i j).trans (inc_next t h0 _)))
      · exact fun i j => (dw_tile _ _ _ _ _ 3 384 896 rfl rfl _ i j _ rfl).trans (congrArg (· + _) ((mat_tile _ 3 3 rfl _ i j).trans (inc_next t h0 _)))
    · rw [stAt0_B m c t acc h0 h1]
      dsimp only
      frame_open
      simp (disch := decide) only [↓ View.readCov_skip, ↓ View.readCov_cons_toLoadRect, ↓ View.readCov_fill]
      frame_out
      simp only [v1_70, v1_108, v1_147, dw35, dw43, dw50, dw77, dw84, dw173, dw58, dw91, dw97, dw113, dw120, dw126, dw133, dw153, dw160, dw167]
      refine mat4 _ _ _ _ _ _ _ _ _ _ _ _ _ _ _ _ _ (fun g i j => inc t (acc.2.2.2.2.2.2.1 (ix3 g i j)) + dwB (b0 m c t) (b1 m c t) (b2 m c t) (b6 m c t) (b7 m c t) g i j) ?_ ?_ ?_ ?_ g i j
      · exact fun i j => (dw_tile _ _ _ _ _ 0 0 512 rfl rfl _ i j _ rfl).trans (congrArg (· + _) ((mat_tile _ 0 0 rfl _ i j).trans (inc_next t h0 _)))
      · exact fun i j => (dw_tile _ _ _ _ _ 1 128 640 rfl rfl _ i j _ rfl).trans (congrArg (· + _) ((mat_tile _ 1 1 rfl _ i j).trans (inc_next t h0 _)))
      · exact fun i j => (dw_tile _ _ _ _ _ 2 256 768 rfl rfl _ i j _ rfl).trans (congrArg (· + _) ((mat_tile _ 2 2 rfl _ i j).trans (inc_next t h0 _)))
      · exact fun i j => (dw_tile _ _ _ _ _ 3 384 896 rfl rfl _ i j _ rfl).trans (congrArg (· + _) ((mat_tile _ 3 3 rfl _ i j).trans (inc_next t h0 _)))

theorem stS (g : Fin 4) (i k : Fin 128) : (stAt0 m c t.val t.isLt acc).2.2.2.2.2.2.2.2 (ix2 i (lane g k))
    = inc t (acc.2.2.2.2.2.2.2.2 (ix2 i (lane g k))) + dbB (b0 m c t) (b1 m c t) i g k := by
  by_cases h0 : t.val % 16 = 0
  · have h1 : ¬t.val % 16 = 15 := by omega
    rw [stAt0_A m c t acc h0 h1]
    dsimp only
    frame_open
    simp (disch := decide) only [↓ View.readCov_skip, ↓ View.readCov_cons_toLoadRect, ↓ View.readCov_fill]
    frame_out
    simp only [read_unread_whole, db41, db48, db54, db75, db82, db88, db95, db111, db117, db124, db150, db157, db171, db131, db165]
    refine sq4 _ _ _ _ _ _ _ _ _ _ _ _ _ _ _ _ _ (fun g i k => inc t (acc.2.2.2.2.2.2.2.2 (ix2 i (lane g k))) + dbB (b0 m c t) (b1 m c t) i g k) ?_ ?_ ?_ ?_ g i k
    · exact fun i k => (db_tile _ _ 0 0 512 rfl rfl _ i k).trans (congrArg (· + _) ((bias_tile (k0_pay11 (F := Ideal)) 0 0 rfl _ i k).trans ((zero11 _ _).trans (inc_first t h0 _))))
    · exact fun i k => (db_tile _ _ 1 128 640 rfl rfl _ i k).trans (congrArg (· + _) ((bias_tile (k0_pay11 (F := Ideal)) 1 128 rfl _ i k).trans ((zero11 _ _).trans (inc_first t h0 _))))
    · exact fun i k => (db_tile _ _ 2 256 768 rfl rfl _ i k).trans (congrArg (· + _) ((bias_tile (k0_pay11 (F := Ideal)) 2 256 rfl _ i k).trans ((zero11 _ _).trans (inc_first t h0 _))))
    · exact fun i k => (db_tile _ _ 3 384 896 rfl rfl _ i k).trans (congrArg (· + _) ((bias_tile (k0_pay11 (F := Ideal)) 3 384 rfl _ i k).trans ((zero11 _ _).trans (inc_first t h0 _))))
  · by_cases h1 : t.val % 16 = 15
    · rw [stAt0_C m c t acc h0 h1]
      dsimp only
      frame_open
      simp (disch := decide) only [↓ View.readCov_skip, ↓ View.readCov_cons_toLoadRect, ↓ View.readCov_fill]
      frame_out
      simp only [read_unread_whole, db41, db48, db54, db75, db82, db88, db95, db111, db117, db124, db150, db157, db171, db131, db165]
      refine sq4 _ _ _ _ _ _ _ _ _ _ _ _ _ _ _ _ _ (fun g i k => inc t (acc.2.2.2.2.2.2.2.2 (ix2 i (lane g k))) + dbB (b0 m c t) (b1 m c t) i g k) ?_ ?_ ?_ ?_ g i k
      · exact fun i k => (db_tile _ _ 0 0 512 rfl rfl _ i k).trans (congrArg (· + _) ((bias_tile _ 0 0 rfl _ i k).trans (inc_next t h0 _)))
      · exact fun i k => (db_tile _ _ 1 128 640 rfl rfl _ i k).trans (congrArg (· + _) ((bias_tile _ 1 128 rfl _ i k).trans (inc_next t h0 _)))
      · exact fun i k => (db_tile _ _ 2 256 768 rfl rfl _ i k).trans (congrArg (· + _) ((bias_tile _ 2 256 rfl _ i k).trans (inc_next t h0 _)))
      · exact fun i k => (db_tile _ _ 3 384 896 rfl rfl _ i k).trans (congrArg (· + _) ((bias_tile _ 3 384 rfl _ i k).trans (inc_next t h0 _)))
    · rw [stAt0_B m c t acc h0 h1]
      dsimp only
      frame_open
      simp (disch := decide) only [↓ View.readCov_skip, ↓ View.readCov_cons_toLoadRect, ↓ View.readCov_fill]
      frame_out
      simp only [read_unread_whole, db41, db48, db54, db75, db82, db88, db95, db111, db117, db124, db150, db157, db171, db131, db165]
      refine sq4 _ _ _ _ _ _ _ _ _ _ _ _ _ _ _ _ _ (fun g i k => inc t (acc.2.2.2.2.2.2.2.2 (ix2 i (lane g k))) + dbB (b0 m c t) (b1 m c t) i g k) ?_ ?_ ?_ ?_ g i k
      · exact fun i k => (db_tile _ _ 0 0 512 rfl rfl _ i k).trans (congrArg (· + _) ((bias_tile _ 0 0 rfl _ i k).trans (inc_next t h0 _)))
      · exact fun i k => (db_tile _ _ 1 128 640 rfl rfl _ i k).trans (congrArg (· + _) ((bias_tile _ 1 128 rfl _ i k).trans (inc_next t h0 _)))
      · exact fun i k => (db_tile _ _ 2 256 768 rfl rfl _ i k).trans (congrArg (· + _) ((bias_tile _ 2 256 rfl _ i k).trans (inc_next t h0 _)))
      · exact fun i k => (db_tile _ _ 3 384 896 rfl rfl _ i k).trans (congrArg (· + _) ((bias_tile _ 3 384 rfl _ i k).trans (inc_next t h0 _)))

end

end MixRows
-- ==== Proof.KerE.lean ====
module

public import proofs.«01_k».proof.Proof.KerC

/-!
What a grid point leaves in the gradient of mixer B's two inputs, over the point's blocks.
-/

@[expose] public section

set_option maxRecDepth 16384

noncomputable section

namespace MixRows

open Idealize.ShloMosaic Idealize.SL.Sem Cert.KernelIdeal Cert.KernelIdeal.Gen Cert.KernelIdeal.Value

section
variable (x0 : Vec Ideal S512x1024 .f32) (x1 x2 : Vec Ideal S512x512 .f32) (x6 x7 : Vec Ideal S1x512 .f32) (x8 x9 : Vec Ideal S4x128x128 .bf16)
  (x10 : Vec Ideal S128x512 .f32)

/-- The stores into a block of the gradient of mixer B's inputs, the last first. -/
abbrev stores12 : List (View.Piece (Elt Ideal) S512x1024 .bf16) :=
  [ ⟨Rect.unit (s := S512x1024) ![0, 896] ![512, 128] inb_S512x1024_S512x128_0_896, dvT (View.ld x2 (Rect.unit ![0, 384] ![512, 128] inb_S512x512_S512x128_0_384)) (View.ld x6 (Rect.unit ![0, 384] ![1, 128] inb_S1x512_S1x128_0_384)) (dv1S x0 x1 x9 3)⟩,
    ⟨Rect.unit (s := S512x1024) ![384, 384] ![128, 128] inb_S512x1024_S128x128_384_384, duT 384 slices_S512x128_o384_0_S128x128
      (k0_pay29 (View.ld x6 (Rect.unit ![0, 384] ![1, 128] inb_S1x512_S1x128_0_384)) (View.ld x2 (Rect.unit ![0, 384] ![512, 128] inb_S512x512_S512x128_0_384)) (View.ld x7 (Rect.unit ![0, 384] ![1, 128] inb_S1x512_S1x128_0_384)))
      (View.ld x8 (Rect.unit ![3, 0, 0] ![1, 128, 128] inb_S4x128x128_S1x128x128_3_0_0)) (View.ld x10 (Rect.unit ![0, 384] ![128, 128] inb_S128x512_S128x128_0_384)) (View.ld x0 (Rect.unit ![384, 896] ![128, 128] inb_S512x1024_S128x128_384_896))⟩,
    ⟨Rect.unit (s := S512x1024) ![256, 384] ![128, 128] inb_S512x1024_S128x128_256_384, duT 256 slices_S512x128_o256_0_S128x128
      (k0_pay29 (View.ld x6 (Rect.unit ![0, 384] ![1, 128] inb_S1x512_S1x128_0_384)) (View.ld x2 (Rect.unit ![0, 384] ![512, 128] inb_S512x512_S512x128_0_384)) (View.ld x7 (Rect.unit ![0, 384] ![1, 128] inb_S1x512_S1x128_0_384)))
      (View.ld x8 (Rect.unit ![3, 0, 0] ![1, 128, 128] inb_S4x128x128_S1x128x128_3_0_0)) (View.ld x10 (Rect.unit ![0, 384] ![128, 128] inb_S128x512_S128x128_0_384)) (View.ld x0 (Rect.unit ![256, 896] ![128, 128] inb_S512x1024_S128x128_256_896))⟩,
    ⟨Rect.unit (s := S512x1024) ![128, 384] ![128, 128] inb_S512x1024_S128x128_128_384, duT 128 slices_S512x128_o128_0_S128x128
      (k0_pay29 (View.ld x6 (Rect.unit ![0, 384] ![1, 128] inb_S1x512_S1x128_0_384)) (View.ld x2 (Rect.unit ![0, 384] ![512, 128] inb_S512x512_S512x128_0_384)) (View.ld x7 (Rect.unit ![0, 384] ![1, 128] inb_S1x512_S1x128_0_384)))
      (View.ld x8 (Rect.unit ![3, 0, 0] ![1, 128, 128] inb_S4x128x128_S1x128x128_3_0_0)) (View.ld x10 (Rect.unit ![0, 384] ![128, 128] inb_S128x512_S128x128_0_384)) (View.ld x0 (Rect.unit ![128, 896] ![128, 128] inb_S512x1024_S128x128_128_896))⟩,
    ⟨Rect.unit (s := S512x1024) ![0, 384] ![128, 128] inb_S512x1024_S128x128_0_384, duT 0 slices_S512x128_o0_0_S128x128
      (k0_pay29 (View.ld x6 (Rect.unit ![0, 384] ![1, 128] inb_S1x512_S1x128_0_384)) (View.ld x2 (Rect.unit ![0, 384] ![512, 128] inb_S512x512_S512x128_0_384)) (View.ld x7 (Rect.unit ![0, 384] ![1, 128] inb_S1x512_S1x128_0_384)))
      (View.ld x8 (Rect.unit ![3, 0, 0] ![1, 128, 128] inb_S4x128x128_S1x128x128_3_0_0)) (View.ld x10 (Rect.unit ![0, 384] ![128, 128] inb_S128x512_S128x128_0_384)) (View.ld x0 (Rect.unit ![0, 896] ![128, 128] inb_S512x1024_S128x128_0_896))⟩,
    ⟨Rect.unit (s := S512x1024) ![0, 768] ![512, 128] inb_S512x1024_S512x128_0_768, dvT (View.ld x2 (Rect.unit ![0, 256] ![512, 128] inb_S512x512_S512x128_0_256)) (View.ld x6 (Rect.unit ![0, 256] ![1, 128] inb_S1x512_S1x128_0_256)) (dv1S x0 x1 x9 2)⟩,
    ⟨Rect.unit (s := S512x1024) ![384, 256] ![128, 128] inb_S512x1024_S128x128_384_256, duT 384 slices_S512x128_o384_0_S128x128
      (k0_pay29 (View.ld x6 (Rect.unit ![0, 256] ![1, 128] inb_S1x512_S1x128_0_256)) (View.ld x2 (Rect.unit ![0, 256] ![512, 128] inb_S512x512_S512x128_0_256)) (View.ld x7 (Rect.unit ![0, 256] ![1, 128] inb_S1x512_S1x128_0_256)))
      (View.ld x8 (Rect.unit ![2, 0, 0] ![1, 128, 128] inb_S4x128x128_S1x128x128_2_0_0)) (View.ld x10 (Rect.unit ![0, 256] ![128, 128] inb_S128x512_S128x128_0_256)) (View.ld x0 (Rect.unit ![384, 768] ![128, 128] inb_S512x1024_S128x128_384_768))⟩,
    ⟨Rect.unit (s := S512x1024) ![256, 256] ![128, 128] inb_S512x1024_S128x128_256_256, duT 256 slices_S512x128_o256_0_S128x128
      (k0_pay29 (View.ld x6 (Rect.unit ![0, 256] ![1, 128] inb_S1x512_S1x128_0_256)) (View.ld x2 (Rect.unit ![0, 256] ![512, 128] inb_S512x512_S512x128_0_256)) (View.ld x7 (Rect.unit ![0, 256] ![1, 128] inb_S1x512_S1x128_0_256)))
      (View.ld x8 (Rect.unit ![2, 0, 0] ![1, 128, 128] inb_S4x128x128_S1x128x128_2_0_0)) (View.ld x10 (Rect.unit ![0, 256] ![128, 128] inb_S128x512_S128x128_0_256)) (View.ld x0 (Rect.unit ![256, 768] ![128, 128] inb_S512x1024_S128x128_256_768))⟩,
    ⟨Rect.unit (s := S512x1024) ![128, 256] ![128, 128] inb_S512x1024_S128x128_128_256, duT 128 slices_S512x128_o128_0_S128x128
      (k0_pay29 (View.ld x6 (Rect.unit ![0, 256] ![1, 128] inb_S1x512_S1x128_0_256)) (View.ld x2 (Rect.unit ![0, 256] ![512, 128] inb_S512x512_S512x128_0_256)) (View.ld x7 (Rect.unit ![0, 256] ![1, 128] inb_S1x512_S1x128_0_256)))
      (View.ld x8 (Rect.unit ![2, 0, 0] ![1, 128, 128] inb_S4x128x128_S1x128x128_2_0_0)) (View.ld x10 (Rect.unit ![0, 256] ![128, 128] inb_S128x512_S128x128_0_256)) (View.ld x0 (Rect.unit ![128, 768] ![128, 128] inb_S512x1024_S128x128_128_768))⟩,
    ⟨Rect.unit (s := S512x1024) ![0, 256] ![128, 128] inb_S512x1024_S128x128_0_256, duT 0 slices_S512x128_o0_0_S128x128
      (k0_pay29 (View.ld x6 (Rect.unit ![0, 256] ![1, 128] inb_S1x512_S1x128_0_256)) (View.ld x2 (Rect.unit ![0, 256] ![512, 128] inb_S512x512_S512x128_0_256)) (View.ld x7 (Rect.unit ![0, 256] ![1, 128] inb_S1x512_S1x128_0_256)))
      (View.ld x8 (Rect.unit ![2, 0, 0] ![1, 128, 128] inb_S4x128x128_S1x128x128_2_0_0)) (View.ld x10 (Rect.unit ![0, 256] ![128, 128] inb_S128x512_S128x128_0_256)) (View.ld x0 (Rect.unit ![0, 768] ![128, 128] inb_S512x1024_S128x128_0_768))⟩,
    ⟨Rect.unit (s := S512x1024) ![0, 640] ![512, 128] inb_S512x1024_S512x128_0_640, dvT (View.ld x2 (Rect.unit ![0, 128] ![512, 128] inb_S512x512_S512x128_0_128)) (View.ld x6 (Rect.unit ![0, 128] ![1, 128] inb_S1x512_S1x128_0_128)) (dv1S x0 x1 x9 1)⟩,
    ⟨Rect.unit (s := S512x1024) ![384, 128] ![128, 128] inb_S512x1024_S128x128_384_128, duT 384 slices_S512x128_o384_0_S128x128
      (k0_pay29 (View.ld x6 (Rect.unit ![0, 128] ![1, 128] inb_S1x512_S1x128_0_128)) (View.ld x2 (Rect.unit ![0, 128] ![512, 128] inb_S512x512_S512x128_0_128)) (View.ld x7 (Rect.unit ![0, 128] ![1, 128] inb_S1x512_S1x128_0_128)))
      (View.ld x8 (Rect.unit ![1, 0, 0] ![1, 128, 128] inb_S4x128x128_S1x128x128_1_0_0)) (View.ld x10 (Rect.unit ![0, 128] ![128, 128] inb_S128x512_S128x128_0_128)) (View.ld x0 (Rect.unit ![384, 640] ![128, 128] inb_S512x1024_S128x128_384_640))⟩,
    ⟨Rect.unit (s := S512x1024) ![256, 128] ![128, 128] inb_S512x1024_S128x128_256_128, duT 256 slices_S512x128_o256_0_S128x128
      (k0_pay29 (View.ld x6 (Rect.unit ![0, 128] ![1, 128] inb_S1x512_S1x128_0_128)) (View.ld x2 (Rect.unit ![0, 128] ![512, 128] inb_S512x512_S512x128_0_128)) (View.ld x7 (Rect.unit ![0, 128] ![1, 128] inb_S1x512_S1x128_0_128)))
      (View.ld x8 (Rect.unit ![1, 0, 0] ![1, 128, 128] inb_S4x128x128_S1x128x128_1_0_0)) (View.ld x10 (Rect.unit ![0, 128] ![128, 128] inb_S128x512_S128x128_0_128)) (View.ld x0 (Rect.unit ![256, 640] ![128, 128] inb_S512x1024_S128x128_256_640))⟩,
    ⟨Rect.unit (s := S512x1024) ![128, 128] ![128, 128] inb_S512x1024_S128x128_128_128, duT 128 slices_S512x128_o128_0_S128x128
      (k0_pay29 (View.ld x6 (Rect.unit ![0, 128] ![1, 128] inb_S1x512_S1x128_0_128)) (View.ld x2 (Rect.unit ![0, 128] ![512, 128] inb_S512x512_S512x128_0_128)) (View.ld x7 (Rect.unit ![0, 128] ![1, 128] inb_S1x512_S1x128_0_128)))
      (View.ld x8 (Rect.unit ![1, 0, 0] ![1, 128, 128] inb_S4x128x128_S1x128x128_1_0_0)) (View.ld x10 (Rect.unit ![0, 128] ![128, 128] inb_S128x512_S128x128_0_128)) (View.ld x0 (Rect.unit ![128, 640] ![128, 128] inb_S512x1024_S128x128_128_640))⟩,
    ⟨Rect.unit (s := S512x1024) ![0, 128] ![128, 128] inb_S512x1024_S128x128_0_128, duT 0 slices_S512x128_o0_0_S128x128
      (k0_pay29 (View.ld x6 (Rect.unit ![0, 128] ![1, 128] inb_S1x512_S1x128_0_128)) (View.ld x2 (Rect.unit ![0, 128] ![512, 128] inb_S512x512_S512x128_0_128)) (View.ld x7 (Rect.unit ![0, 128] ![1, 128] inb_S1x512_S1x128_0_128)))
      (View.ld x8 (Rect.unit ![1, 0, 0] ![1, 128, 128] inb_S4x128x128_S1x128x128_1_0_0)) (View.ld x10 (Rect.unit ![0, 128] ![128, 128] inb_S128x512_S128x128_0_128)) (View.ld x0 (Rect.unit ![0, 640] ![128, 128] inb_S512x1024_S128x128_0_640))⟩,
    ⟨Rect.unit (s := S512x1024) ![0, 512] ![512, 128] inb_S512x1024_S512x128_0_512, dvT (View.ld x2 (Rect.unit ![0, 0] ![512, 128] inb_S512x512_S512x128_0_0)) (View.ld x6 (Rect.unit ![0, 0] ![1, 128] inb_S1x512_S1x128_0_0)) (dv1S x0 x1 x9 0)⟩,
    ⟨Rect.unit (s := S512x1024) ![384, 0] ![128, 128] inb_S512x1024_S128x128_384_0, duT 384 slices_S512x128_o384_0_S128x128
      (k0_pay29 (View.ld x6 (Rect.unit ![0, 0] ![1, 128] inb_S1x512_S1x128_0_0)) (View.ld x2 (Rect.unit ![0, 0] ![512, 128] inb_S512x512_S512x128_0_0)) (View.ld x7 (Rect.unit ![0, 0] ![1, 128] inb_S1x512_S1x128_0_0)))
      (View.ld x8 (Rect.unit ![0, 0, 0] ![1, 128, 128] inb_S4x128x128_S1x128x128_0_0_0)) (View.ld x10 (Rect.unit ![0, 0] ![128, 128] inb_S128x512_S128x128_0_0)) (View.ld x0 (Rect.unit ![384, 512] ![128, 128] inb_S512x1024_S128x128_384_512))⟩,
    ⟨Rect.unit (s := S512x1024) ![256, 0] ![128, 128] inb_S512x1024_S128x128_256_0, duT 256 slices_S512x128_o256_0_S128x128
      (k0_pay29 (View.ld x6 (Rect.unit ![0, 0] ![1, 128] inb_S1x512_S1x128_0_0)) (View.ld x2 (Rect.unit ![0, 0] ![512, 128] inb_S512x512_S512x128_0_0)) (View.ld x7 (Rect.unit ![0, 0] ![1, 128] inb_S1x512_S1x128_0_0)))
      (View.ld x8 (Rect.unit ![0, 0, 0] ![1, 128, 128] inb_S4x128x128_S1x128x128_0_0_0)) (View.ld x10 (Rect.unit ![0, 0] ![128, 128] inb_S128x512_S128x128_0_0)) (View.ld x0 (Rect.unit ![256, 512] ![128, 128] inb_S512x1024_S128x128_256_512))⟩,
    ⟨Rect.unit (s := S512x1024) ![128, 0] ![128, 128] inb_S512x1024_S128x128_128_0, duT 128 slices_S512x128_o128_0_S128x128
      (k0_pay29 (View.ld x6 (Rect.unit ![0, 0] ![1, 128] inb_S1x512_S1x128_0_0)) (View.ld x2 (Rect.unit ![0, 0] ![512, 128] inb_S512x512_S512x128_0_0)) (View.ld x7 (Rect.unit ![0, 0] ![1, 128] inb_S1x512_S1x128_0_0)))
      (View.ld x8 (Rect.unit ![0, 0, 0] ![1, 128, 128] inb_S4x128x128_S1x128x128_0_0_0)) (View.ld x10 (Rect.unit ![0, 0] ![128, 128] inb_S128x512_S128x128_0_0)) (View.ld x0 (Rect.unit ![128, 512] ![128, 128] inb_S512x1024_S128x128_128_512))⟩,
    ⟨Rect.unit (s := S512x1024) ![0, 0] ![128, 128] inb_S512x1024_S128x128_0_0, duT 0 slices_S512x128_o0_0_S128x128
      (k0_pay29 (View.ld x6 (Rect.unit ![0, 0] ![1, 128] inb_S1x512_S1x128_0_0)) (View.ld x2 (Rect.unit ![0, 0] ![512, 128] inb_S512x512_S512x128_0_0)) (View.ld x7 (Rect.unit ![0, 0] ![1, 128] inb_S1x512_S1x128_0_0)))
      (View.ld x8 (Rect.unit ![0, 0, 0] ![1, 128, 128] inb_S4x128x128_S1x128x128_0_0_0)) (View.ld x10 (Rect.unit ![0, 0] ![128, 128] inb_S128x512_S128x128_0_0)) (View.ld x0 (Rect.unit ![0, 512] ![128, 128] inb_S512x1024_S128x128_0_512))⟩ ]

theorem lo12 (g c : Fin 4) (i k : Fin 128) : View.canon (stores12 x0 x1 x2 x6 x7 x8 x9 x10) (ix2 (brow c i) ⟨g * 128 + k, by omega⟩)
    = duB x0 x2 x6 x7 x8 x10 (brow c i) g k := by
  match g, c with
  | 0, 0 =>
    refine (left_S512x1024 _ 0 0 128 inb_S512x1024_S128x128_0_0 i k (by omega) (by omega)).trans ?_
    simp (disch := decide) only [left_skip, left_hit]
    exact du_tile x0 x2 x6 x7 x8 x10 0 0 0 0 512 0 rfl rfl rfl rfl _ i k
  | 0, 1 =>
    refine (left_S512x1024 _ 128 0 128 inb_S512x1024_S128x128_128_0 i k (by omega) (by omega)).trans ?_
    simp (disch := decide) only [left_skip, left_hit]
    exact du_tile x0 x2 x6 x7 x8 x10 1 0 128 0 512 0 rfl rfl rfl rfl _ i k
  | 0, 2 =>
    refine (left_S512x1024 _ 256 0 128 inb_S512x1024_S128x128_256_0 i k (by omega) (by omega)).trans ?_
    simp (disch := decide) only [left_skip, left_hit]
    exact du_tile x0 x2 x6 x7 x8 x10 2 0 256 0 512 0 rfl rfl rfl rfl _ i k
  | 0, 3 =>
    refine (left_S512x1024 _ 384 0 128 inb_S512x1024_S128x128_384_0 i k (by omega) (by omega)).trans ?_
    simp (disch := decide) only [left_skip, left_hit]
    exact du_tile x0 x2 x6 x7 x8 x10 3 0 384 0 512 0 rfl rfl rfl rfl _ i k
  | 1, 0 =>
    refine (left_S512x1024 _ 0 128 128 inb_S512x1024_S128x128_0_128 i k (by omega) (by omega)).trans ?_
    simp (disch := decide) only [left_skip, left_hit]
    exact du_tile x0 x2 x6 x7 x8 x10 0 1 0 128 640 1 rfl rfl rfl rfl _ i k
  | 1, 1 =>
    refine (left_S512x1024 _ 128 128 128 inb_S512x1024_S128x128_128_128 i k (by omega) (by omega)).trans ?_
    simp (disch := decide) only [left_skip, left_hit]
    exact du_tile x0 x2 x6 x7 x8 x10 1 1 128 128 640 1 rfl rfl rfl rfl _ i k
  | 1, 2 =>
    refine (left_S512x1024 _ 256 128 128 inb_S512x1024_S128x128_256_128 i k (by omega) (by omega)).trans ?_
    simp (disch := decide) only [left_skip, left_hit]
    exact du_tile x0 x2 x6 x7 x8 x10 2 1 256 128 640 1 rfl rfl rfl rfl _ i k
  | 1, 3 =>
    refine (left_S512x1024 _ 384 128 128 inb_S512x1024_S128x128_384_128 i k (by omega) (by omega)).trans ?_
    simp (disch := decide) only [left_skip, left_hit]
    exact du_tile x0 x2 x6 x7 x8 x10 3 1 384 128 640 1 rfl rfl rfl rfl _ i k
  | 2, 0 =>
    refine (left_S512x1024 _ 0 256 128 inb_S512x1024_S128x128_0_256 i k (by omega) (by omega)).trans ?_
    simp (disch := decide) only [left_skip, left_hit]
    exact du_tile x0 x2 x6 x7 x8 x10 0 2 0 256 768 2 rfl rfl rfl rfl _ i k
  | 2, 1 =>
    refine (left_S512x1024 _ 128 256 128 inb_S512x1024_S128x128_128_256 i k (by omega) (by omega)).trans ?_
    simp (disch := decide) only [left_skip, left_hit]
    exact du_tile x0 x2 x6 x7 x8 x10 1 2 128 256 768 2 rfl rfl rfl rfl _ i k
  | 2, 2 =>
    refine (left_S512x1024 _ 256 256 128 inb_S512x1024_S128x128_256_256 i k (by omega) (by omega)).trans ?_
    simp (disch := decide) only [left_skip, left_hit]
    exact du_tile x0 x2 x6 x7 x8 x10 2 2 256 256 768 2 rfl rfl rfl rfl _ i k
  | 2, 3 =>
    refine (left_S512x1024 _ 384 256 128 inb_S512x1024_S128x128_384_256 i k (by omega) (by omega)).trans ?_
    simp (disch := decide) only [left_skip, left_hit]
    exact du_tile x0 x2 x6 x7 x8 x10 3 2 384 256 768 2 rfl rfl rfl rfl _ i k
  | 3, 0 =>
    refine (left_S512x1024 _ 0 384 128 inb_S512x1024_S128x128_0_384 i k (by omega) (by omega)).trans ?_
    simp (disch := decide) only [left_skip, left_hit]
    exact du_tile x0 x2 x6 x7 x8 x10 0 3 0 384 896 3 rfl rfl rfl rfl _ i k
  | 3, 1 =>
    refine (left_S512x1024 _ 128 384 128 inb_S512x1024_S128x128_128_384 i k (by omega) (by omega)).trans ?_
    simp (disch := decide) only [left_skip, left_hit]
    exact du_tile x0 x2 x6 x7 x8 x10 1 3 128 384 896 3 rfl rfl rfl rfl _ i k
  | 3, 2 =>
    refine (left_S512x1024 _ 256 384 128 inb_S512x1024_S128x128_256_384 i k (by omega) (by omega)).trans ?_
    simp (disch := decide) only [left_skip, left_hit]
    exact du_tile x0 x2 x6 x7 x8 x10 2 3 256 384 896 3 rfl rfl rfl rfl _ i k
  | 3, 3 =>
    refine (left_S512x1024 _ 384 384 128 inb_S512x1024_S128x128_384_384 i k (by omega) (by omega)).trans ?_
    simp (disch := decide) only [left_skip, left_hit]
    exact du_tile x0 x2 x6 x7 x8 x10 3 3 384 384 896 3 rfl rfl rfl rfl _ i k

theorem hi12 (g : Fin 4) (r : Fin 512) (k : Fin 128) : View.canon (stores12 x0 x1 x2 x6 x7 x8 x9 x10) (ix2 r ⟨512 + (g * 128 + k), by omega⟩)
    = dvB x0 x1 x2 x6 x9 r g k := by
  have e (g : Fin 4) (o) (ho : o = 512 + (g : ℕ) * 128) (h) : (ix2 r ⟨512 + (g * 128 + k), by omega⟩ : S512x1024.Idx) = ix2 ⟨0 + r, by omega⟩ ⟨o + k, h⟩ := by
    subst ho
    congr 1
    · exact Fin.ext (Nat.zero_add _).symm
    · exact Fin.ext (Nat.add_assoc _ _ _).symm
  match g with
  | 0 =>
    refine (congrArg _ (e 0 512 rfl (by omega))).trans ((left_S512x1024 _ 0 512 512 inb_S512x1024_S512x128_0_512 r k (by omega) (by omega)).trans ?_)
    simp (disch := decide) only [left_skip, left_hit]
    exact dv_tile x0 x1 x2 x6 x9 0 0 rfl r k
  | 1 =>
    refine (congrArg _ (e 1 640 rfl (by omega))).trans ((left_S512x1024 _ 0 640 512 inb_S512x1024_S512x128_0_640 r k (by omega) (by omega)).trans ?_)
    simp (disch := decide) only [left_skip, left_hit]
    exact dv_tile x0 x1 x2 x6 x9 1 128 rfl r k
  | 2 =>
    refine (congrArg _ (e 2 768 rfl (by omega))).trans ((left_S512x1024 _ 0 768 512 inb_S512x1024_S512x128_0_768 r k (by omega) (by omega)).trans ?_)
    simp (disch := decide) only [left_skip, left_hit]
    exact dv_tile x0 x1 x2 x6 x9 2 256 rfl r k
  | 3 =>
    refine (congrArg _ (e 3 896 rfl (by omega))).trans ((left_S512x1024 _ 0 896 512 inb_S512x1024_S512x128_0_896 r k (by omega) (by omega)).trans ?_)
    simp (disch := decide) only [left_skip, left_hit]
    exact dv_tile x0 x1 x2 x6 x9 3 384 rfl r k

end

section
variable (m : (ℓ : Loc nD τ sig) → Buf (Elt Ideal) ℓ) (c : Dev nD) (t : Fin cfg0.N) (acc : Tup)

theorem st12 : (stAt0 m c t.val t.isLt acc).2.1
    = View.canon (stores12 (b0 m c t) (b1 m c t) (b2 m c t) (b6 m c t) (b7 m c t) (b8 m c t) (b9 m c t) (b10 m c t)) := by
  by_cases h0 : t.val % 16 = 0
  · have h1 : ¬t.val % 16 = 15 := by omega
    rw [stAt0_A m c t acc h0 h1]
    dsimp only
    frame_open
    simp (disch := decide) only [↓ View.readCov_skip, ↓ View.readCov_cons_toLoadRect, ↓ View.readCov_fill]
    frame_out
    simp only [nrm69, nrm106, nrm146, v1_70, v1_108, v1_147, du31, du39, du46, du52, du80, du86, du93, du115, du122, du128, du155, du162, du169,
        du73, du109, du148, dv45, dv79, dv51, dv59, dv85, dv92, dv98, dv114, dv121, dv127, dv134, dv154, dv161, dv168, dv174, dx65, dx102,
        dx139, dx1,
        dv1_scratch _ _ _ 0 0 512 0 rfl rfl rfl, dv1_scratch _ _ _ 1 128 640 1 rfl rfl rfl,
        dv1_scratch _ _ _ 2 256 768 2 rfl rfl rfl, dv1_scratch _ _ _ 3 384 896 3 rfl rfl rfl]

  · by_cases h1 : t.val % 16 = 15
    · rw [stAt0_C m c t acc h0 h1]
      dsimp only
      frame_open
      simp (disch := decide) only [↓ View.readCov_skip, ↓ View.readCov_cons_toLoadRect, ↓ View.readCov_fill]
      frame_out
      simp only [nrm69, nrm106, nrm146, v1_70, v1_108, v1_147, du31, du39, du46, du52, du80, du86, du93, du115, du122, du128, du155, du162, du169,
          du73, du109, du148, dv45, dv79, dv51, dv59, dv85, dv92, dv98, dv114, dv121, dv127, dv134, dv154, dv161, dv168, dv174, dx65, dx102,
          dx139, dx1,
          dv1_scratch _ _ _ 0 0 512 0 rfl rfl rfl, dv1_scratch _ _ _ 1 128 640 1 rfl rfl rfl,
          dv1_scratch _ _ _ 2 256 768 2 rfl rfl rfl, dv1_scratch _ _ _ 3 384 896 3 rfl rfl rfl]
    · rw [stAt0_B m c t acc h0 h1]
      dsimp only
      frame_open
      simp (disch := decide) only [↓ View.readCov_skip, ↓ View.readCov_cons_toLoadRect, ↓ View.readCov_fill]
      frame_out
      simp only [nrm69, nrm106, nrm146, v1_70, v1_108, v1_147, du31, du39, du46, du52, du80, du86, du93, du115, du122, du128, du155, du162, du169,
          du73, du109, du148, dv45, dv79, dv51, dv59, dv85, dv92, dv98, dv114, dv121, dv127, dv134, dv154, dv161, dv168, dv174, dx65, dx102,
          dx139, dx1,
          dv1_scratch _ _ _ 0 0 512 0 rfl rfl rfl, dv1_scratch _ _ _ 1 128 640 1 rfl rfl rfl,
          dv1_scratch _ _ _ 2 256 768 2 rfl rfl rfl, dv1_scratch _ _ _ 3 384 896 3 rfl rfl rfl]

end

end MixRows
-- ==== Proof.KerF.lean ====
module

public import proofs.«01_k».proof.Proof.KerC

/-!
What the last grid point leaves in the gradient of the spatial bias.
-/

@[expose] public section

set_option maxRecDepth 16384

noncomputable section

namespace MixRows

open Idealize.ShloMosaic Idealize.SL.Sem Cert.KernelIdeal Cert.KernelIdeal.Gen Cert.KernelIdeal.Value

theorem sel_ne (a b : BitVec 32) (h : IntOp.cmpi .eq a b = 0#1) (x : EReal) : Scalar.select (IntOp.cmpi .eq a b) x 0 = 0 := by
  rw [h]
  rfl

/-- The sums over lanes of four square blocks, one to a column. -/
theorem cols4 (w0 w1 w2 w3 : Vec Ideal S128x128 .f32) (f : Fin 4 → Fin 128 → Fin 128 → EReal) (h0 : ∀ t k, w0 (ix2 t k) = f 0 t k)
    (h1 : ∀ t k, w1 (ix2 t k) = f 1 t k) (h2 : ∀ t k, w2 (ix2 t k) = f 2 t k) (h3 : ∀ t k, w3 (ix2 t k) = f 3 t k) (i : Fin 128) (g : Fin 4) :
    k0_pay2 (F := Ideal) (k0_pay3 w0 w1 w2) k0_pay4 (Scalar.ofBits .f32 0#32) (k0_pay5 w3) (ix2 i g) = ∑ k : Fin 128, f g i k := by
  match g with
  | 0 =>
    pointwise [k0_pay2, k0_pay3, k0_pay4, k0_pay5]
    simp (disch := decide) only [sel_ne, h0, add_zero, zero_add]
  | 1 =>
    pointwise [k0_pay2, k0_pay3, k0_pay4, k0_pay5]
    simp (disch := decide) only [sel_ne, h1, add_zero, zero_add]
  | 2 =>
    pointwise [k0_pay2, k0_pay3, k0_pay4, k0_pay5]
    simp (disch := decide) only [sel_ne, h2, add_zero, zero_add]
  | 3 =>
    pointwise [k0_pay2, k0_pay3, k0_pay4, k0_pay5]
    simp (disch := decide) only [sel_ne, h3, add_zero, zero_add]

section
variable (m : (ℓ : Loc nD τ sig) → Buf (Elt Ideal) ℓ) (c : Dev nD) (t : Fin cfg0.N) (acc : Tup)

theorem st18 (h0 : ¬t.val % 16 = 0) (h1 : t.val % 16 = 15) (i : Fin 128) (g : Fin 4) :
    (stAt0 m c t.val t.isLt acc).2.2.2.2.2.2.2.1 (ix2 i g)
      = ∑ k : Fin 128, (acc.2.2.2.2.2.2.2.2 (ix2 i (lane g k)) + dbB (b0 m c t) (b1 m c t) i g k) := by
  rw [stAt0_C m c t acc h0 h1]
  dsimp only
  frame_open
  simp (disch := decide) only [↓ View.readCov_skip, ↓ View.readCov_cons_toLoadRect, ↓ View.readCov_fill]
  frame_out
  simp only [read_unread_whole, db41, db48, db54, db75, db82, db88, db95, db111, db117, db124, db150, db157, db171, db131, db165]
  refine cols4 _ _ _ _ (fun g i k => acc.2.2.2.2.2.2.2.2 (ix2 i (lane g k)) + dbB (b0 m c t) (b1 m c t) i g k) ?_ ?_ ?_ ?_ i g
  · exact fun i k => (db_tile _ _ 0 0 512 rfl rfl _ i k).trans (congrArg (· + _) (bias_tile _ 0 0 rfl _ i k))
  · exact fun i k => (db_tile _ _ 1 128 640 rfl rfl _ i k).trans (congrArg (· + _) (bias_tile _ 1 128 rfl _ i k))
  · exact fun i k => (db_tile _ _ 2 256 768 rfl rfl _ i k).trans (congrArg (· + _) (bias_tile _ 2 256 rfl _ i k))
  · exact fun i k => (db_tile _ _ 3 384 896 rfl rfl _ i k).trans (congrArg (· + _) (bias_tile _ 3 384 rfl _ i k))
end

end MixRows
-- ==== Proof.KerSum.lean ====
module

public import proofs.«01_k».proof.Proof.KerD
public import proofs.«01_k».proof.Proof.KerE
public import proofs.«01_k».proof.Proof.KerF

/-!
The eight results as the grid leaves them: the two row-blocked ones at the point their row falls to, the six
accumulated ones as sums over the sixteen points.
-/

@[expose] public section

set_option maxRecDepth 16384

noncomputable section

namespace MixRows

open Idealize.ShloMosaic Idealize.SL.Sem Cert.KernelIdeal Cert.KernelIdeal.Gen Cert.KernelIdeal.Value

/-- Point `p` of the grid. -/
def pt (p : Fin 16) : Fin cfg0.N := ⟨p, lt_of_lt_of_eq p.2 N_0.symm⟩

section
variable (m : (ℓ : Loc nD τ sig) → Buf (Elt Ideal) ℓ) (c : Dev nD)

/-- A carried value every point adds its part to is, after the last point, the sum of the parts. -/
theorem sum_points (h : Tup → EReal) (S : Fin cfg0.N → EReal)
    (hs : ∀ (t : Fin cfg0.N) (acc : Tup), h (stAt0 m c t.val t.isLt acc) = inc t (h acc) + S t) :
    h (outsAt0 m c 15 (lt_of_lt_of_eq (by decide) N_0.symm)) = ∑ p : Fin 16, S (pt p) := by
  have key : ∀ (n : ℕ) (hn : n < cfg0.N) (hb : n < 16),
      h (outsAt0 m c n hn) = ∑ p : Fin (n + 1), S (pt ⟨p, by omega⟩) := by
    intro n
    induction n with
    | zero =>
      intro hn hb
      rw [outsAt0_zero, hs ⟨0, hn⟩, ← inc_first ⟨0, hn⟩ rfl, zero_add, Fin.sum_univ_one]
      rfl
    | succ n ih =>
      intro hn hb
      rw [outsAt0_succ, hs ⟨n + 1, hn⟩, ← inc_next ⟨n + 1, hn⟩ (by simp only []; omega), ih (by omega) (by omega),
        Fin.sum_univ_castSucc (n := n + 1)]
      rfl
  exact key 15 _ (by decide)

variable (l : Fin 512) (g : Fin 4) (k i j : Fin 128)

theorem g13 : G13 m c (ix2 0 l)
    = ∑ p : Fin 16, ∑ r : Fin 512, dyB m c (pt p) r l * nrm D512 (row512 (b3 m c (pt p)) r) l := by
  refine (congrFun ((G13_last m c).trans (congrArg (fun x : Tup => x.2.2.1) (outsAt0_sweep m c 15 (lt_of_lt_of_eq (by decide) N_0.symm)).symm)) _).trans ?_
  exact sum_points m c (fun x => x.2.2.1 (ix2 0 l))
    (fun t => ∑ r : Fin 512, dyB m c t r l * nrm D512 (row512 (b3 m c t) r) l) (fun t acc => st13 m c t acc l)
theorem g14 : G14 m c (ix2 0 l) = ∑ p : Fin 16, ∑ r : Fin 512, dyB m c (pt p) r l := by
  refine (congrFun ((G14_last m c).trans (congrArg (fun x : Tup => x.2.2.2.1) (outsAt0_sweep m c 15 (lt_of_lt_of_eq (by decide) N_0.symm)).symm)) _).trans ?_
  exact sum_points m c (fun x => x.2.2.2.1 (ix2 0 l))
    (fun t => ∑ r : Fin 512, dyB m c t r l) (fun t acc => st14 m c t acc l)
theorem g15 : G15 m c (ix2 0 (lane g k)) = ∑ p : Fin 16, ∑ r : Fin 512,
    dv1B (b0 m c (pt p)) (b1 m c (pt p)) (b9 m c (pt p)) r g k * nrm D128 (vB (b2 m c (pt p)) r g) k := by
  refine (congrFun ((G15_last m c).trans (congrArg (fun x : Tup => x.2.2.2.2.1) (outsAt0_sweep m c 15 (lt_of_lt_of_eq (by decide) N_0.symm)).symm)) _).trans ?_
  exact sum_points m c (fun x => x.2.2.2.2.1 (ix2 0 (lane g k)))
    (fun t => ∑ r : Fin 512, dv1B (b0 m c t) (b1 m c t) (b9 m c t) r g k * nrm D128 (vB (b2 m c t) r g) k) (fun t acc => st15 m c t acc g k)
theorem g16 : G16 m c (ix2 0 (lane g k)) = ∑ p : Fin 16, ∑ r : Fin 512,
    dv1B (b0 m c (pt p)) (b1 m c (pt p)) (b9 m c (pt p)) r g k := by
  refine (congrFun ((G16_last m c).trans (congrArg (fun x : Tup => x.2.2.2.2.2.1) (outsAt0_sweep m c 15 (lt_of_lt_of_eq (by decide) N_0.symm)).symm)) _).trans ?_
  exact sum_points m c (fun x => x.2.2.2.2.2.1 (ix2 0 (lane g k)))
    (fun t => ∑ r : Fin 512, dv1B (b0 m c t) (b1 m c t) (b9 m c t) r g k) (fun t acc => st16 m c t acc g k)
theorem g17 : G17 m c (ix3 g i j) = ∑ p : Fin 16,
    dwB (b0 m c (pt p)) (b1 m c (pt p)) (b2 m c (pt p)) (b6 m c (pt p)) (b7 m c (pt p)) g i j := by
  refine (congrFun ((G17_last m c).trans (congrArg (fun x : Tup => x.2.2.2.2.2.2.1) (outsAt0_sweep m c 15 (lt_of_lt_of_eq (by decide) N_0.symm)).symm)) _).trans ?_
  exact sum_points m c (fun x => x.2.2.2.2.2.2.1 (ix3 g i j))
    (fun t => dwB (b0 m c t) (b1 m c t) (b2 m c t) (b6 m c t) (b7 m c t) g i j) (fun t acc => st17 m c t acc g i j)

/-- The carried sum of the last result, then that result: its lanes summed. -/
theorem gS : (outsAt0 m c 15 (lt_of_lt_of_eq (by decide) N_0.symm)).2.2.2.2.2.2.2.2 (ix2 i (lane g k))
    = ∑ p : Fin 16, dbB (b0 m c (pt p)) (b1 m c (pt p)) i g k :=
  sum_points m c (fun x => x.2.2.2.2.2.2.2.2 (ix2 i (lane g k)))
    (fun t => dbB (b0 m c t) (b1 m c t) i g k) (fun t acc => stS m c t acc g i k)
/-- What the last point leaves, from what the fifteen before it left. -/
theorem outs_last : ∃ acc : Tup, outsAt0 m c 15 (lt_of_lt_of_eq (by decide) N_0.symm) = stAt0 m c (pt 15).val (pt 15).isLt acc :=
  ⟨_, outsAt0_succ m c 14 (lt_of_lt_of_eq (by decide) N_0.symm)⟩
theorem g18 : G18 m c (ix2 i g) = ∑ k : Fin 128, ∑ p : Fin 16, dbB (b0 m c (pt p)) (b1 m c (pt p)) i g k := by
  refine (congrFun ((G18_last m c).trans (congrArg (fun x : Tup => x.2.2.2.2.2.2.2.1) (outsAt0_sweep m c 15 (lt_of_lt_of_eq (by decide) N_0.symm)).symm)) _).trans ?_
  have hS := fun k => gS m c g k i
  obtain ⟨acc, ha⟩ := outs_last m c
  rw [ha] at hS ⊢
  have h0 : ¬(pt 15).val % 16 = 0 := by show ¬15 % 16 = 0; decide
  refine (st18 m c (pt 15) acc h0 rfl i g).trans ?_
  refine Finset.sum_congr rfl fun k _ => ?_
  rw [← hS, stS, ← inc_next (pt 15) h0]

/-- What a point leaves starts from what some tuple held before it. -/
theorem outs_from (n : ℕ) (hn : n < cfg0.N) : ∃ acc : Tup, outsAt0 m c n hn = stAt0 m c n hn acc := by
  cases n with
  | zero => exact ⟨_, outsAt0_zero m c hn⟩
  | succ n => exact ⟨_, outsAt0_succ m c n hn⟩

/-- The point row `n` falls to, and its place in that point's block. -/
def ptOf (n : Fin 8192) : Fin cfg0.N := pt ⟨n / 512, by omega⟩
def rOf (n : Fin 8192) : Fin 512 := ⟨n % 512, by omega⟩

theorem g11 (n : Fin 8192) : G11 m c (ix2 n l) = lnBwd D512 (row512 (b3 m c (ptOf n)) (rOf n))
    (fun k => dyB m c (ptOf n) (rOf n) k * b4 m c (ptOf n) (ix2 0 k)) l := by
  have hp : pt11Of (ix2 n l) = (ptOf n).val := by
    show 1 * (n.val / 512 - 0) + 1 * (l.val / 512 - 0) = n.val / 512
    omega
  have hl : loc11Of (ix2 n l) = ix2 (rOf n) l := by
    funext a; apply Fin.ext
    match a with
    | ⟨0, _⟩ => rfl
    | ⟨1, _⟩ => exact Nat.mod_eq_of_lt l.isLt
  unfold G11
  rw [dif_pos (lt_of_eq_of_lt hp (ptOf n).isLt), hl]
  obtain ⟨acc, ha⟩ := outs_from m c _ (ptOf n).isLt
  simp only [hp]
  rw [← outsAt0_sweep m c _ (ptOf n).isLt, ha]
  exact st11 m c (ptOf n) acc (rOf n) l

theorem g12 (n : Fin 8192) (q : Fin 1024) : G12 m c (ix2 n q) = View.canon (stores12 (b0 m c (ptOf n)) (b1 m c (ptOf n))
    (b2 m c (ptOf n)) (b6 m c (ptOf n)) (b7 m c (ptOf n)) (b8 m c (ptOf n)) (b9 m c (ptOf n)) (b10 m c (ptOf n))) (ix2 (rOf n) q) := by
  have hp : pt12Of (ix2 n q) = (ptOf n).val := by
    show 1 * (n.val / 512 - 0) + 1 * (q.val / 1024 - 0) = n.val / 512
    omega
  have hl : loc12Of (ix2 n q) = ix2 (rOf n) q := by
    funext a; apply Fin.ext
    match a with
    | ⟨0, _⟩ => rfl
    | ⟨1, _⟩ => exact Nat.mod_eq_of_lt q.isLt
  unfold G12
  rw [dif_pos (lt_of_eq_of_lt hp (ptOf n).isLt), hl]
  obtain ⟨acc, ha⟩ := outs_from m c _ (ptOf n).isLt
  simp only [hp]
  rw [← outsAt0_sweep m c _ (ptOf n).isLt, ha]
  exact congrFun (st12 m c (ptOf n) acc) (ix2 (rOf n) q)

end

end MixRows
-- ==== Proof.KerBlk.lean ====
module

public import proofs.«01_k».proof.Proof.KerB
public import Idealize.ShloMosaic.Lib.Tactic.CleanTypes
public import Idealize.ShloMosaic.Lib.IdealHost

/-!
The blocks a grid point reads, at an index, over the program's arguments.
-/

@[expose] public section

set_option maxRecDepth 16384

noncomputable section

namespace MixRows

open Idealize.ShloMosaic Idealize.SL.Sem Cert.KernelIdeal Cert.KernelIdeal.Gen Cert.KernelIdeal.Value

/-- Row `r` of point `t`'s block is row `512 t + r` of the array. -/
def rowAt (t : Fin cfg0.N) (r : Fin 512) : Fin 8192 :=
  ⟨t.val * 512 + r, by have h := lt_of_lt_of_eq t.isLt N_0; omega⟩

section
variable (m : (ℓ : Loc nD τ sig) → Buf (Elt Ideal) ℓ) (c : Dev nD)

/-! The arguments. -/
abbrev kA0 : FVec Ideal S8192x1024 .f32 := m ((c.tc : Thread nD τ).loc main_arg0)
abbrev kA1 : FVec Ideal S8192x2048 .f32 := m ((c.tc : Thread nD τ).loc main_arg1)
abbrev kA2 : FVec Ideal S8192x512 .f32 := m ((c.tc : Thread nD τ).loc main_arg2)
abbrev kA3 : FVec Ideal S512 .f32 := m ((c.tc : Thread nD τ).loc main_arg3)
abbrev kA4 : FVec Ideal S512 .f32 := m ((c.tc : Thread nD τ).loc main_arg4)
abbrev kA5 : FVec Ideal S4x128 .f32 := m ((c.tc : Thread nD τ).loc main_arg5)
abbrev kA6 : FVec Ideal S4x128 .f32 := m ((c.tc : Thread nD τ).loc main_arg6)
abbrev kA7 : FVec Ideal S4x128x128 .f32 := m ((c.tc : Thread nD τ).loc main_arg7)
abbrev kA8 : FVec Ideal S4x128 .f32 := m ((c.tc : Thread nD τ).loc main_arg8)

/-- Where the blocks of the row-blocked inputs lie. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 2)
    ∧ (win0_2.index t (0 : Fin 2) = t.val ∧ win0_2.index t (1 : Fin 2) = 3)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0)
    ∧ (win0_10.index t (0 : Fin 2) = 0 ∧ win0_10.index t (1 : Fin 2) = 0) := by decide +kernel

variable (t : Fin cfg0.N)

theorem b0_at (r : Fin 512) (k : Fin 1024) : b0 m c t (ix2 r k) = kA0 m c (ix2 (rowAt t r) k) := by
  unfold rowAt
  blk_ext! [b0, iblk, V, idx t]
theorem b1_at (r k : Fin 512) : b1 m c t (ix2 r k) = kA1 m c (ix2 (rowAt t r) ⟨1024 + k, by omega⟩) := by
  unfold rowAt
  blk_ext! [b1, iblk, V, idx t]
theorem b2_at (r k : Fin 512) : b2 m c t (ix2 r k) = kA1 m c (ix2 (rowAt t r) ⟨1536 + k, by omega⟩) := by
  unfold rowAt
  blk_ext! [b2, iblk, V, idx t]
theorem b3_at (r k : Fin 512) : b3 m c t (ix2 r k) = kA2 m c (ix2 (rowAt t r) k) := by
  unfold rowAt
  blk_ext! [b3, iblk, V, idx t]

/-- The causal weights as the host prepares them: the mask of the two coordinates, then the weights or zero. -/
def causal (w : FVec Ideal S4x128x128 .f32) : FVec Ideal S4x128x128 .f32 :=
  select (broadcastInDim S4x128x128 ![0, 1, 2] bcast_S1x128x128_S4x128x128_0_1_2
    (broadcastInDim S1x128x128 ![1, 2] bcast_S128x128_S1x128x128_1_2
      (select (cmpi CmpIPredicate.sge (addi (iotaInDim S128x128 32 0) (broadcastInDim S128x128 ![] bcast_S_S128x128 (constantI S_ 32 0#32)))
          (iotaInDim S128x128 32 1))
        (broadcastInDim S128x128 ![] bcast_S_S128x128 (constantI S_ 1 1#1))
        (broadcastInDim S128x128 ![] bcast_S_S128x128 (constantI S_ 1 0#1)))))
    w (broadcastInDim S4x128x128 ![] bcast_S_S4x128x128 (constant S_ .f32 0#32))
theorem causal_mask : ∀ t s : Fin 128, Scalar.select (IntOp.cmpi CmpIPredicate.sge (IntOp.addi (BitVec.ofNat 32 ↑t) 0#32) (BitVec.ofNat 32 ↑s)) 1#1 0#1
    = if (s : ℕ) ≤ t then 1#1 else 0#1 := by decide +kernel
theorem causal_at (w : FVec Ideal S4x128x128 .f32) (g : Fin 4) (i j : Fin 128) :
    causal w (ix3 g i j) = if (j : ℕ) ≤ i then w (ix3 g i j) else 0 := by
  unfold causal
  pointwise [causal_mask]
  split <;> rfl

/-! The operands the host prepares, at an index. -/
theorem lag_at (k : Fin 512) : (V m c main_v9 : FVec Ideal S1x512 .f32) (ix2 0 k) = kA3 m c (ix1 k) := by
  simp only [V, hostOps0, hostOps0_1, hostOps0_2, hostOps0_3, hostOps0_4, List.flatten_cons, List.flatten_nil, List.cons_append, List.nil_append, List.append_nil]
  entry_read
  pointwise
theorem lab_at (k : Fin 512) : (V m c main_v10 : FVec Ideal S1x512 .f32) (ix2 0 k) = kA4 m c (ix1 k) := by
  simp only [V, hostOps0, hostOps0_1, hostOps0_2, hostOps0_3, hostOps0_4, List.flatten_cons, List.flatten_nil, List.cons_append, List.nil_append, List.append_nil]
  entry_read
  pointwise
theorem lvg_at (g : Fin 4) (k : Fin 128) : (V m c main_v11 : FVec Ideal S1x512 .f32) (ix2 0 (lane g k)) = kA5 m c (ix2 g k) := by
  unfold lane
  simp only [V, hostOps0, hostOps0_1, hostOps0_2, hostOps0_3, hostOps0_4, List.flatten_cons, List.flatten_nil, List.cons_append, List.nil_append, List.append_nil]
  entry_read
  pointwise
theorem lvb_at (g : Fin 4) (k : Fin 128) : (V m c main_v12 : FVec Ideal S1x512 .f32) (ix2 0 (lane g k)) = kA6 m c (ix2 g k) := by
  unfold lane
  simp only [V, hostOps0, hostOps0_1, hostOps0_2, hostOps0_3, hostOps0_4, List.flatten_cons, List.flatten_nil, List.cons_append, List.nil_append, List.append_nil]
  entry_read
  pointwise
theorem ws_at (g : Fin 4) (i j : Fin 128) : (V m c main_v4 : FVec Ideal S4x128x128 .bf16) (ix3 g i j)
    = if (j : ℕ) ≤ i then kA7 m c (ix3 g i j) else 0 := by
  simp only [V, hostOps0, hostOps0_1, hostOps0_2, hostOps0_3, hostOps0_4, List.flatten_cons, List.flatten_nil, List.cons_append, List.nil_append, List.append_nil]
  entry_read
  simp only [StableHlo.TRef.ofBuf_toBuf]
  exact causal_at (kA7 m c) g i j
theorem wst_at (g : Fin 4) (i j : Fin 128) : (V m c main_v5 : FVec Ideal S4x128x128 .bf16) (ix3 g i j)
    = if (i : ℕ) ≤ j then kA7 m c (ix3 g j i) else 0 := by
  simp only [V, hostOps0, hostOps0_1, hostOps0_2, hostOps0_3, hostOps0_4, List.flatten_cons, List.flatten_nil, List.cons_append, List.nil_append, List.append_nil]
  entry_read
  simp only [StableHlo.TRef.ofBuf_toBuf]
  show (transpose S4x128x128 [0, 2, 1] (causal (kA7 m c)) _) (ix3 g i j) = _
  pointwise [causal_at]
theorem bias_at (g : Fin 4) (i k : Fin 128) : (V m c main_v8 : FVec Ideal S128x512 .f32) (ix2 i (lane g k)) = kA8 m c (ix2 g i) := by
  unfold lane
  simp only [V, hostOps0, hostOps0_1, hostOps0_2, hostOps0_3, hostOps0_4, List.flatten_cons, List.flatten_nil, List.cons_append, List.nil_append, List.append_nil]
  entry_read
  pointwise

theorem b4_at (k : Fin 512) : b4 m c t (ix2 0 k) = kA3 m c (ix1 k) := by
  rw [← lag_at]
  blk_ext [b4, iblk, idx t]
theorem b5_at (k : Fin 512) : b5 m c t (ix2 0 k) = kA4 m c (ix1 k) := by
  rw [← lab_at]
  blk_ext [b5, iblk, idx t]
theorem b6_at (g : Fin 4) (k : Fin 128) : b6 m c t (ix2 0 (lane g k)) = kA5 m c (ix2 g k) := by
  rw [← lvg_at]
  blk_ext [b6, iblk, idx t]
theorem b7_at (g : Fin 4) (k : Fin 128) : b7 m c t (ix2 0 (lane g k)) = kA6 m c (ix2 g k) := by
  rw [← lvb_at]
  blk_ext [b7, iblk, idx t]
theorem b8_at (g : Fin 4) (i j : Fin 128) : b8 m c t (ix3 g i j) = if (j : ℕ) ≤ i then kA7 m c (ix3 g i j) else 0 := by
  rw [← ws_at]
  blk_ext [b8, iblk, idx t]
theorem b9_at (g : Fin 4) (i j : Fin 128) : b9 m c t (ix3 g i j) = if (i : ℕ) ≤ j then kA7 m c (ix3 g j i) else 0 := by
  rw [← wst_at]
  blk_ext [b9, iblk, idx t]
theorem b10_at (g : Fin 4) (i k : Fin 128) : b10 m c t (ix2 i (lane g k)) = kA8 m c (ix2 g i) := by
  rw [← bias_at m c g i k]
  blk_ext [b10, iblk, idx t]

end

end MixRows
-- ==== Proof.Sums.lean ====
module

public import proofs.«01_k».proof.Proof.Gen.ReferenceIdeal.Run
public import Idealize.ShloMosaic.Lib.Pipeline.ValueKit
public import Idealize.ShloMosaic.Lib.IdealHost
public import Idealize.ShloMosaic.Lib.Tactic.CleanTypes

/-!
Host sums over several axes at an index: the sums over the rows of the gradients of the gains, offsets and biases,
and the contraction over three axes of the gradient of the spatial weights.
-/

@[expose] public section

set_option maxRecDepth 16384

noncomputable section

namespace MixRows

open Idealize.ShloMosaic Idealize.SL.Sem

/-- The sum over the first two axes of three. -/
theorem sum_axes01_of3 {n0 n1 n2 : ℕ} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  refine congrArg (init + ·) ?_
  refine (Finset.sum_filter_eq_sum_of_fiber _ (fun k : Fin n0 × Fin n1 => ix3 k.1 k.2 l)
    (fun _ _ e => Prod.ext (congrFun e 0) (congrFun e 1)) (fun i => ?_) v).trans (by simp only [Fintype.sum_prod_type])
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext a; apply Fin.ext
    match a with
    | ⟨0, _⟩ => rfl

/-- The sum over the first two axes of four. -/
theorem sum_axes01_of4 {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (g : Fin n2) (l : Fin n3) :
    Ideal.hostReduceAdd h v init (ix2 g l) = init + ∑ a : Fin n0, ∑ b : Fin n1, v (ix4 a b g l) := by
  refine congrArg (init + ·) ?_
  refine (Finset.sum_filter_eq_sum_of_fiber _ (fun k : Fin n0 × Fin n1 => ix4 k.1 k.2 g l)
    (fun _ _ e => Prod.ext (congrFun e 0) (congrFun e 1)) (fun i => ?_) v).trans (by simp only [Fintype.sum_prod_type])
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext a; apply Fin.ext
    match a with
    | ⟨0, _⟩ => rfl
    | ⟨1, _⟩ => rfl

/-- The sum over the first two axes and the last of five. -/
theorem sum_axes014_of5 {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (t : Fin n2) (g : Fin n3) :
    Ideal.hostReduceAdd h v init (ix2 t g) = init + ∑ a : Fin n0, ∑ b : Fin n1, ∑ d : Fin n4, v (ix5 a b t g d) := by
  refine congrArg (init + ·) ?_
  refine (Finset.sum_filter_eq_sum_of_fiber _ (fun k : Fin n0 × Fin n1 × Fin n4 => ix5 k.1 k.2.1 t g k.2.2)
    (fun _ _ e => Prod.ext (congrFun e 0) (Prod.ext (congrFun e 1) (congrFun e 4))) (fun i => ?_) v).trans
      (by simp only [Fintype.sum_prod_type])
  constructor
  · intro e
    refine ⟨(i 0, i 1, i 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext a; apply Fin.ext
    match a with
    | ⟨0, _⟩ => rfl
    | ⟨1, _⟩ => rfl

open Cert.ReferenceIdeal Cert.ReferenceIdeal.Value

/-- The contraction of the gradient of the spatial weights: over the sequences, the chunks and the lanes of a group. -/
abbrev dW := dot_S4x2x32x128x128_S2x32x128x4x128_S4x128x128_123_014_4_2_0_3

/-- A contracted index from its three coordinates. -/
def dWk (b : Fin 2) (c : Fin 32) (d : Fin 128) : dW.contr.Idx := fun p =>
  match p with
  | ⟨0, _⟩ => b
  | ⟨1, _⟩ => c
  | ⟨2, _⟩ => d

def dWEquiv : Fin 2 × Fin 32 × Fin 128 ≃ dW.contr.Idx where
  toFun k := dWk k.1 k.2.1 k.2.2
  invFun k := (k ⟨0, by decide⟩, k ⟨1, by decide⟩, k ⟨2, by decide⟩)
  left_inv _ := rfl
  right_inv k := by
    funext p
    match p with
    | ⟨0, _⟩ => rfl
    | ⟨1, _⟩ => rfl
    | ⟨2, _⟩ => rfl

theorem dotW_at (x : FVec Ideal S4x2x32x128x128 .f32) (y : FVec Ideal S2x32x128x4x128 .f32) (g : Fin 4) (t s : Fin 128) :
    Host.dotGeneral dW none x y (ix3 g t s) = ∑ b : Fin 2, ∑ c : Fin 32, ∑ d : Fin 128, x (ix5 g b c d t) * y (ix5 b c s g d) := by
  refine (zero_add _).trans ?_
  refine (Equiv.sum_comp dWEquiv _).symm.trans ?_
  rw [Fintype.sum_prod_type]
  refine Finset.sum_congr rfl fun b _ => ?_
  rw [Fintype.sum_prod_type]
  refine Finset.sum_congr rfl fun c _ => Finset.sum_congr rfl fun d _ => ?_
  refine congrArg₂ (· * ·) (congrArg x ?_) (congrArg y ?_)
  all_goals
    funext a; apply Fin.ext
    match a with
    | ⟨0, _⟩ => rfl
    | ⟨1, _⟩ => rfl
    | ⟨2, _⟩ => rfl
    | ⟨3, _⟩ => rfl
    | ⟨4, _⟩ => rfl

end MixRows
-- ==== Proof.RefNorm.lean ====
module

public import proofs.«01_k».proof.Proof.RowMath
public import proofs.«01_k».proof.Proof.Sums
public import Idealize.ShloMosaic.Lib.Pipeline.ValueKit
public import Idealize.ShloMosaic.Lib.IdealHost
public import Idealize.ShloMosaic.Lib.Tactic.CleanTypes

/-!
The reference's values at an index, in the words of `RowMath`: mixer A and the normalisation of mixer B.
-/

@[expose] public section

set_option maxRecDepth 16384

noncomputable section

namespace MixRows

open Idealize.ShloMosaic Idealize.SL.Sem Cert.ReferenceIdeal Cert.ReferenceIdeal.Value

/-- Row `s` of sequence `b` is row `4096 b + s` of the whole. -/
def flat (b : Fin 2) (s : Fin 4096) : Fin 8192 := ⟨b * 4096 + s, by omega⟩

section
variable (V0 : Valuation τ sig (Elt Ideal))

/-- The arguments. -/
abbrev rA0 : FVec Ideal S8192x1024 .f32 := V0 (Proc.devRef .tc main_arg0)
abbrev rA1 : FVec Ideal S8192x2048 .f32 := V0 (Proc.devRef .tc main_arg1)
abbrev rA2 : FVec Ideal S8192x512 .f32 := V0 (Proc.devRef .tc main_arg2)
abbrev rA3 : FVec Ideal S512 .f32 := V0 (Proc.devRef .tc main_arg3)
abbrev rA4 : FVec Ideal S512 .f32 := V0 (Proc.devRef .tc main_arg4)

/-- Row `n` of mixer A's input, the gain, the offset. -/
def aRow (n : Fin 8192) : Fin 512 → EReal := fun k => rA2 V0 (ix2 n k)
def aGain : Fin 512 → EReal := fun k => rA3 V0 (ix1 k)
def aOff : Fin 512 → EReal := fun k => rA4 V0 (ix1 k)
/-- The gradient of mixer A's output. -/
def aCot (n : Fin 8192) : Fin 512 → EReal := fun k => rA0 V0 (ix2 n ⟨k, by omega⟩)

variable (b : Fin 2) (s : Fin 4096) (l : Fin 512)

theorem res8_at : (res_main_v8 V0 : FVec Ideal S2x4096x512 .f32) (ix3 b s l) = cen D512 (aRow V0 (flat b s)) l := by
  unfold res_main_v8
  clean_types
  pointwise [res_main_v2]
  rfl

theorem res15_at : (res_main_v15 V0 : FVec Ideal S2x4096x1 .f32) (ix3 b s 0) = var D512 (aRow V0 (flat b s)) := by
  unfold res_main_v15
  clean_types
  pointwise [res8_at]
  rfl

theorem res16_at : (res_main_v16 V0 : FVec Ideal S2x4096x1 .f32) (ix3 b s 0) = rstd D512 (aRow V0 (flat b s)) := by
  unfold res_main_v16
  clean_types
  pointwise [res15_at]
  rfl

theorem res21_at : (res_main_v21 V0 : FVec Ideal S2x4096x512 .f32) (ix3 b s l) = nrm D512 (aRow V0 (flat b s)) l := by
  unfold res_main_v21
  clean_types
  pointwise [res8_at, res16_at]
  rfl

theorem res27_at : (res_main_v27 V0 : FVec Ideal S2x4096x512 .f32) (ix3 b s l)
    = yA (aGain V0) (aOff V0) (aRow V0 (flat b s)) l := by
  unfold res_main_v27
  clean_types
  pointwise [res21_at, res_main_v22]
  rfl

theorem res28_at : (res_main_v28_2 V0 : FVec Ideal S2x4096x512 .f32) (ix3 b s l)
    = sigR (yA (aGain V0) (aOff V0) (aRow V0 (flat b s)) l) := by
  unfold res_main_v28_2
  clean_types
  pointwise [res27_at]
  rfl

/-- The gradient of the swish's argument. -/
def dyR (n : Fin 8192) (l : Fin 512) : EReal := dSwishR (aCot V0 n l) (yA (aGain V0) (aOff V0) (aRow V0 n) l)

theorem res73_at : (res_main_v73 V0 : FVec Ideal S2x4096x512 .f32) (ix3 b s l) = aCot V0 (flat b s) l := by
  unfold res_main_v73
  clean_types
  pointwise [res_main_v72]
  rfl

theorem res123_at : (res_main_v123 V0 : FVec Ideal S2x4096x512 .f32) (ix3 b s l) = dyR V0 (flat b s) l := by
  unfold res_main_v123
  clean_types
  pointwise [res73_at, res28_at, res27_at]
  rfl

theorem res131_at : (res_main_v131 V0 : FVec Ideal S2x4096x512 .f32) (ix3 b s l) = dyR V0 (flat b s) l * aGain V0 l := by
  unfold res_main_v131
  clean_types
  pointwise [res123_at, res_main_v22]
  rfl

theorem res142_at : (res_main_v142 V0 : FVec Ideal S2x4096x512 .f32) (ix3 b s l)
    = viaVar D512 (aRow V0 (flat b s)) (fun k => dyR V0 (flat b s) k * aGain V0 k) := by
  unfold res_main_v142
  clean_types
  pointwise [res8_at, res131_at]
  rw [Fin.sum_univ_one, res15_at, res16_at]
  rfl

theorem res146_at : (res_main_v146 V0 : FVec Ideal S2x4096x512 .f32) (ix3 b s l)
    = dCen D512 (aRow V0 (flat b s)) (fun k => dyR V0 (flat b s) k * aGain V0 k) l := by
  unfold res_main_v146
  clean_types
  pointwise [res8_at, res131_at, res142_at, res16_at]
  rfl

/-- The gradient of mixer A's input. -/
def dA1 (j : S8192x512.Idx) : EReal := lnBwdR D512 (aRow V0 (j 0)) (fun k => dyR V0 (j 0) k * aGain V0 k) (j 1)

theorem flat_divMod (n : Fin 8192) : flat ⟨n / 4096, by omega⟩ ⟨n % 4096, by omega⟩ = n := Fin.ext (by simp only [flat]; omega)

/-- The reference's first result. -/
abbrev ref0 : FVec Ideal S8192x512 .f32 := shapeCast _ (addf (res_main_v146 V0) (broadcastInDim S2x4096x512 ![0, 1] Gen.bcast_S2x4096_S2x4096x512_0_1 (Host.reduceAdd (Host.divf (shapeCast _ (Host.reduceAdd (Host.negf (res_main_v146 V0)) (constant S_ .f32 0x00000000#32) Gen.reducesTo_S2x4096x512_S2x4096_d2 Gen.h_S_) Gen.shapeCasts_S2x4096_S2x4096x1) (broadcastInDim S2x4096x1 ![] Gen.bcast_S_S2x4096x1 (constant S_ .f32 0x44000000#32))) (constant S_ .f32 0x00000000#32) Gen.reducesTo_S2x4096x1_S2x4096_d2 Gen.h_S_))) Gen.shapeCasts_S2x4096x512_S8192x512
/-- Its third and fourth. -/
abbrev ref2 : FVec Ideal S1x512 .f32 := shapeCast _ (Host.reduceAdd (shapeCast _ (Host.reduceAdd (mulf (res_main_v21 V0) (res_main_v123 V0)) (constant S_ .f32 0x00000000#32) Gen.reducesTo_S2x4096x512_S512_d0_1 Gen.h_S_) Gen.shapeCasts_S512_S1x1x512) (constant S_ .f32 0x00000000#32) Gen.reducesTo_S1x1x512_S512_d0_1 Gen.h_S_) Gen.shapeCasts_S512_S1x512
abbrev ref3 : FVec Ideal S1x512 .f32 := shapeCast _ (Host.reduceAdd (shapeCast _ (Host.reduceAdd (res_main_v123 V0) (constant S_ .f32 0x00000000#32) Gen.reducesTo_S2x4096x512_S512_d0_1 Gen.h_S_) Gen.shapeCasts_S512_S1x1x512) (constant S_ .f32 0x00000000#32) Gen.reducesTo_S1x1x512_S512_d0_1 Gen.h_S_) Gen.shapeCasts_S512_S1x512

theorem ref0_at (n : Fin 8192) : ref0 V0 (ix2 n l) = dA1 V0 (ix2 n l) := by
  unfold ref0
  clean_types
  pointwise [res146_at]
  rw [Fin.sum_univ_one]
  simp only [flat_divMod]
  rfl

theorem ref2_at : ref2 V0 (ix2 0 l) = ∑ b : Fin 2, ∑ s : Fin 4096, nrm D512 (aRow V0 (flat b s)) l * dyR V0 (flat b s) l := by
  unfold ref2
  clean_types
  pointwise [sum_axes01_of3, res21_at, res123_at]
  rw [Fin.sum_univ_one, Fin.sum_univ_one]

theorem ref3_at : ref3 V0 (ix2 0 l) = ∑ b : Fin 2, ∑ s : Fin 4096, dyR V0 (flat b s) l := by
  unfold ref3
  clean_types
  pointwise [sum_axes01_of3, res123_at]
  rw [Fin.sum_univ_one, Fin.sum_univ_one]

end

end MixRows
-- ==== Proof.RefMix.lean ====
module

public import proofs.«01_k».proof.Proof.RefNorm
public import Idealize.ShloMosaic.Lib.KernelVsHost

/-!
The reference's values of mixer B at an index.  The rows are numbered by chunk: row `t` of chunk `q` is row `128 q + t`.
-/

@[expose] public section

set_option maxRecDepth 16384

noncomputable section

namespace MixRows

open Idealize.ShloMosaic Idealize.SL.Sem Cert.ReferenceIdeal Cert.ReferenceIdeal.Value

/-- Chunk `c` of sequence `b`, among all the chunks; row `t` of chunk `q`. -/
def chunkOf (b : Fin 2) (c : Fin 32) : Fin 64 := ⟨b * 32 + c, by omega⟩
def crow (q : Fin 64) (t : Fin 128) : Fin 8192 := ⟨q * 128 + t, by omega⟩
def cOf (s : Fin 4096) : Fin 32 := ⟨s / 128, by omega⟩
def tOf (s : Fin 4096) : Fin 128 := ⟨s % 128, by omega⟩
/-- Row `t` of chunk `c`, in its sequence. -/
def srow (c : Fin 32) (t : Fin 128) : Fin 4096 := ⟨c * 128 + t, by omega⟩

theorem flat_srow (b : Fin 2) (c : Fin 32) (t : Fin 128) : flat b (srow c t) = crow (chunkOf b c) t :=
  Fin.ext (by simp only [flat, srow, crow, chunkOf]; omega)
theorem crow_of (b : Fin 2) (s : Fin 4096) : crow (chunkOf b (cOf s)) (tOf s) = flat b s :=
  Fin.ext (by simp only [flat, cOf, tOf, crow, chunkOf]; omega)

theorem chunk_divMod (n : Fin 8192) : chunkOf ⟨n / 4096, by omega⟩ (cOf ⟨n % 4096, by omega⟩) = ⟨n / 128, by omega⟩ :=
  Fin.ext (by simp only [chunkOf, cOf]; omega)
theorem t_divMod (n : Fin 8192) : tOf ⟨n % 4096, by omega⟩ = ⟨n % 128, by omega⟩ := Fin.ext (by simp only [tOf]; omega)

/-- The causal mask, from the comparison of the two coordinates. -/
theorem maskR : ∀ t s : Fin 128, Scalar.select (IntOp.cmpi CmpIPredicate.sge (IntOp.addi (BitVec.ofNat 32 ↑t) 0#32) (BitVec.ofNat 32 ↑s)) 1#1 0#1
    = if (s : ℕ) ≤ t then 1#1 else 0#1 := by decide +kernel

section
variable (V0 : Valuation τ sig (Elt Ideal))

abbrev rA5 : FVec Ideal S4x128 .f32 := V0 (Proc.devRef .tc main_arg5)
abbrev rA6 : FVec Ideal S4x128 .f32 := V0 (Proc.devRef .tc main_arg6)
abbrev rA7 : FVec Ideal S4x128x128 .f32 := V0 (Proc.devRef .tc main_arg7)
abbrev rA8 : FVec Ideal S4x128 .f32 := V0 (Proc.devRef .tc main_arg8)

/-- Group `g` of row `n` of the gate's input; of the other factor; of the gradient of the product. -/
def vRow (n : Fin 8192) (g : Fin 4) : Fin 128 → EReal := fun k => rA1 V0 (ix2 n ⟨1536 + (g * 128 + k), by omega⟩)
def uRow (n : Fin 8192) (g : Fin 4) : Fin 128 → EReal := fun k => rA1 V0 (ix2 n ⟨1024 + (g * 128 + k), by omega⟩)
def bCot (n : Fin 8192) (g : Fin 4) : Fin 128 → EReal := fun k => rA0 V0 (ix2 n ⟨512 + (g * 128 + k), by omega⟩)

/-- The normalised gate. -/
def v1 (n : Fin 8192) (g : Fin 4) (d : Fin 128) : EReal := nrm D128 (vRow V0 n g) d * rA5 V0 (ix2 g d) + rA6 V0 (ix2 g d)
/-- The causal spatial weights. -/
def wS (g : Fin 4) (t s : Fin 128) : EReal := if (s : ℕ) ≤ t then rA7 V0 (ix3 g t s) else 0
/-- The spatially mixed gate at row `t` of chunk `q`. -/
def v2 (q : Fin 64) (t : Fin 128) (g : Fin 4) (d : Fin 128) : EReal :=
  (∑ s : Fin 128, v1 V0 (crow q s) g d * wS V0 g t s) + rA8 V0 (ix2 g t)
/-- Its gradient; then the gradient of the normalised gate at a row of a chunk. -/
def dv2 (n : Fin 8192) (g : Fin 4) (d : Fin 128) : EReal := uRow V0 n g d * bCot V0 n g d
def dv1 (q : Fin 64) (s : Fin 128) (g : Fin 4) (d : Fin 128) : EReal :=
  ∑ t : Fin 128, dv2 V0 (crow q t) g d * wS V0 g t s

variable (b : Fin 2) (s : Fin 4096) (g : Fin 4) (d : Fin 128)

theorem res35_at : (res_main_v35 V0 : FVec Ideal S2x4096x4x128 .f32) (ix4 b s g d) = cen D128 (vRow V0 (flat b s) g) d := by
  unfold res_main_v35
  clean_types
  pointwise [res_main_v29]
  rfl

theorem res42_at : (res_main_v42 V0 : FVec Ideal S2x4096x4x1 .f32) (ix4 b s g 0) = var D128 (vRow V0 (flat b s) g) := by
  unfold res_main_v42
  clean_types
  pointwise [res35_at]
  rfl

theorem res43_at : (res_main_v43 V0 : FVec Ideal S2x4096x4x1 .f32) (ix4 b s g 0) = rstd D128 (vRow V0 (flat b s) g) := by
  unfold res_main_v43
  clean_types
  pointwise [res42_at]
  rfl

theorem res48_at : (res_main_v48 V0 : FVec Ideal S2x4096x4x128 .f32) (ix4 b s g d) = nrm D128 (vRow V0 (flat b s) g) d := by
  unfold res_main_v48
  clean_types
  pointwise [res35_at, res43_at]
  rfl

theorem res55_at (c : Fin 32) (t : Fin 128) : (res_main_v55 V0 : FVec Ideal S2x32x128x4x128 .f32) (ix5 b c t g d)
    = v1 V0 (crow (chunkOf b c) t) g d := by
  rw [← flat_srow]
  unfold res_main_v55
  clean_types
  pointwise [res48_at, res_main_v49]
  rfl

theorem res59_at (t s : Fin 128) : (res_main_v59_0 V0 : FVec Ideal S4x128x128 .f32) (ix3 g t s) = wS V0 g t s := by
  unfold res_main_v59_0
  clean_types
  pointwise [res_main_v59_1]
  rw [show (FloatOps.sitofp FTy.f32 0#32 : Ideal .f32) = 0 from sitofp_zero, maskR]
  unfold wS
  split <;> rfl

theorem res68_at (l : Fin 512) : (res_main_v68 V0 : FVec Ideal S2x4096x512 .f32) (ix3 b s l)
    = v2 V0 (chunkOf b (cOf s)) (tOf s) ⟨l / 128, by omega⟩ ⟨l % 128, by omega⟩ := by
  unfold res_main_v68
  clean_types
  pointwise [res55_at, res59_at]
  rfl

theorem res77_at (c : Fin 32) (t : Fin 128) : (res_main_v77 V0 : FVec Ideal S2x32x128x4x128 .f32) (ix5 b c t g d)
    = dv2 V0 (crow (chunkOf b c) t) g d := by
  rw [← flat_srow]
  unfold res_main_v77
  clean_types
  pointwise [res_main_v67, res_main_v74, res_main_v72]
  rfl

theorem res85_at (c : Fin 32) (t : Fin 128) : (res_main_v85 V0 : FVec Ideal S4x2x32x128x128 .f32) (ix5 g b c d t)
    = dv2 V0 (crow (chunkOf b c) t) g d := by
  unfold res_main_v85
  clean_types
  pointwise [res77_at]

theorem res90_at : (res_main_v90 V0 : FVec Ideal S2x4096x4x128 .f32) (ix4 b s g d)
    = dv1 V0 (chunkOf b (cOf s)) (tOf s) g d := by
  unfold res_main_v90
  clean_types
  pointwise [res85_at, res59_at]
  rfl

/-- Group `g`'s gain. -/
abbrev gainB (g : Fin 4) : Fin 128 → EReal := fun k => rA5 V0 (ix2 g k)

theorem res98_at : (res_main_v98 V0 : FVec Ideal S2x4096x4x128 .f32) (ix4 b s g d)
    = dv1 V0 (chunkOf b (cOf s)) (tOf s) g d * gainB V0 g d := by
  unfold res_main_v98
  clean_types
  pointwise [res90_at, res_main_v49]

theorem res109_at : (res_main_v109 V0 : FVec Ideal S2x4096x4x128 .f32) (ix4 b s g d)
    = viaVar D128 (vRow V0 (flat b s) g) (fun k => dv1 V0 (chunkOf b (cOf s)) (tOf s) g k * gainB V0 g k) := by
  unfold res_main_v109
  clean_types
  pointwise [res35_at, res98_at]
  rw [Fin.sum_univ_one, res42_at, res43_at]
  rfl

theorem res113_at : (res_main_v113 V0 : FVec Ideal S2x4096x4x128 .f32) (ix4 b s g d)
    = dCen D128 (vRow V0 (flat b s) g) (fun k => dv1 V0 (chunkOf b (cOf s)) (tOf s) g k * gainB V0 g k) d := by
  unfold res_main_v113
  clean_types
  pointwise [res35_at, res98_at, res109_at, res43_at]
  rfl

/-- The gradient of mixer B's two inputs. -/
def dU (n : Fin 8192) (g : Fin 4) (d : Fin 128) : EReal :=
  bCot V0 n g d * v2 V0 ⟨n / 128, by omega⟩ ⟨n % 128, by omega⟩ g d
def dV (n : Fin 8192) (g : Fin 4) (d : Fin 128) : EReal :=
  lnBwdR D128 (vRow V0 n g) (fun k => dv1 V0 ⟨n / 128, by omega⟩ ⟨n % 128, by omega⟩ g k * gainB V0 g k) d

/-- The reference's second result. -/
abbrev ref1 : FVec Ideal S8192x1024 .bf16 := truncf .bf16 (concatenate S8192x1024 1 [⟨S8192x512, (shapeCast _ (mulf (res_main_v74 V0) (res_main_v68 V0)) Gen.shapeCasts_S2x4096x512_S8192x512)⟩, ⟨S8192x512, (shapeCast _ (addf (res_main_v113 V0) (broadcastInDim S2x4096x4x128 ![0, 1, 2] Gen.bcast_S2x4096x4_S2x4096x4x128_0_1_2 (Host.reduceAdd (Host.divf (shapeCast _ (Host.reduceAdd (Host.negf (res_main_v113 V0)) (constant S_ .f32 0x00000000#32) Gen.reducesTo_S2x4096x4x128_S2x4096x4_d3 Gen.h_S_) Gen.shapeCasts_S2x4096x4_S2x4096x4x1) (broadcastInDim S2x4096x4x1 ![] Gen.bcast_S_S2x4096x4x1 (constant S_ .f32 0x43000000#32))) (constant S_ .f32 0x00000000#32) Gen.reducesTo_S2x4096x4x1_S2x4096x4_d3 Gen.h_S_))) Gen.shapeCasts_S2x4096x4x128_S8192x512)⟩] Gen.concatenates_S8192x512_S8192x512_S8192x1024_d1) Gen.bitsLt_bf16_f32
/-- The fifth to the eighth. -/
abbrev ref4 : FVec Ideal S1x512 .f32 := shapeCast _ (Host.reduceAdd (shapeCast _ (Host.reduceAdd (mulf (res_main_v48 V0) (res_main_v90 V0)) (constant S_ .f32 0x00000000#32) Gen.reducesTo_S2x4096x4x128_S4x128_d0_1 Gen.h_S_) Gen.shapeCasts_S4x128_S1x1x4x128) (constant S_ .f32 0x00000000#32) Gen.reducesTo_S1x1x4x128_S4x128_d0_1 Gen.h_S_) Gen.shapeCasts_S4x128_S1x512
abbrev ref5 : FVec Ideal S1x512 .f32 := shapeCast _ (Host.reduceAdd (shapeCast _ (Host.reduceAdd (res_main_v90 V0) (constant S_ .f32 0x00000000#32) Gen.reducesTo_S2x4096x4x128_S4x128_d0_1 Gen.h_S_) Gen.shapeCasts_S4x128_S1x1x4x128) (constant S_ .f32 0x00000000#32) Gen.reducesTo_S1x1x4x128_S4x128_d0_1 Gen.h_S_) Gen.shapeCasts_S4x128_S1x512
abbrev ref6 : FVec Ideal S4x128x128 .f32 := select (res_main_v59_1 V0) (Host.dotGeneral (φ₁ := .f32) (φ₂ := .f32) dot_S4x2x32x128x128_S2x32x128x4x128_S4x128x128_123_014_4_2_0_3 none (res_main_v85 V0) (res_main_v55 V0)) (broadcastInDim S4x128x128 ![] Gen.bcast_S_S4x128x128 (constant S_ .f32 0x00000000#32))
abbrev ref7 : FVec Ideal S128x4 .f32 := transpose S128x4 [1, 0] (transpose S4x128 [1, 0] (Host.reduceAdd (broadcastInDim S128x4x1 ![0, 1] Gen.bcast_S128x4_S128x4x1_0_1 (Host.reduceAdd (shapeCast _ (Host.reduceAdd (res_main_v77 V0) (constant S_ .f32 0x00000000#32) Gen.reducesTo_S2x32x128x4x128_S128x4_d0_1_4 Gen.h_S_) Gen.shapeCasts_S128x4_S1x1x128x4x1) (constant S_ .f32 0x00000000#32) Gen.reducesTo_S1x1x128x4x1_S128x4_d0_1_4 Gen.h_S_)) (constant S_ .f32 0x00000000#32) Gen.reducesTo_S128x4x1_S128x4_d2 Gen.h_S_) Gen.transposes_S128x4_S4x128_1_0) Gen.transposes_S4x128_S128x4_1_0

theorem ref1_lo (n : Fin 8192) : ref1 V0 (ix2 n ⟨g * 128 + d, by omega⟩) = dU V0 n g d := by
  unfold ref1
  clean_types
  pointwise [res68_at, res_main_v74, res_main_v72]
  have hg : (⟨(g * 128 + d : ℕ) / 128, by omega⟩ : Fin 4) = g := Fin.ext (by dsimp only; omega)
  have hd : (⟨(g * 128 + d : ℕ) % 128, by omega⟩ : Fin 128) = d := Fin.ext (by dsimp only; omega)
  rw [dif_pos (by omega), chunk_divMod, t_divMod, hg, hd]
  rfl

theorem ref1_hi (n : Fin 8192) : ref1 V0 (ix2 n ⟨512 + (g * 128 + d), by omega⟩) = dV V0 n g d := by
  unfold ref1
  clean_types
  pointwise [res113_at]
  rw [Fin.sum_univ_one, chunk_divMod, t_divMod, flat_divMod]
  rfl

theorem ref4_at : ref4 V0 (ix2 0 ⟨g * 128 + d, by omega⟩) = ∑ b : Fin 2, ∑ s : Fin 4096,
    nrm D128 (vRow V0 (flat b s) g) d * dv1 V0 (chunkOf b (cOf s)) (tOf s) g d := by
  unfold ref4
  clean_types
  pointwise [sum_axes01_of4, res48_at, res90_at]
  rw [Fin.sum_univ_one, Fin.sum_univ_one]

theorem ref5_at : ref5 V0 (ix2 0 ⟨g * 128 + d, by omega⟩) = ∑ b : Fin 2, ∑ s : Fin 4096, dv1 V0 (chunkOf b (cOf s)) (tOf s) g d := by
  unfold ref5
  clean_types
  pointwise [sum_axes01_of4, res90_at]
  rw [Fin.sum_univ_one, Fin.sum_univ_one]

theorem ref6_at (t s : Fin 128) : ref6 V0 (ix3 g t s) = if (s : ℕ) ≤ t then
    (∑ b : Fin 2, ∑ c : Fin 32, ∑ d : Fin 128, dv2 V0 (crow (chunkOf b c) t) g d * v1 V0 (crow (chunkOf b c) s) g d) else 0 := by
  have h := dotW_at (res_main_v85 V0) (res_main_v55 V0) g t s
  unfold ref6
  clean_types
  pointwise [res_main_v59_1]
  simp only [res85_at, res55_at] at h
  rw [maskR]
  split
  · exact h
  · rfl

theorem ref7_at (t : Fin 128) : ref7 V0 (ix2 t g) = ∑ b : Fin 2, ∑ c : Fin 32, ∑ d : Fin 128, dv2 V0 (crow (chunkOf b c) t) g d := by
  unfold ref7
  clean_types
  pointwise [sum_axes014_of5, res77_at]
  simp only [Fin.sum_univ_one]

end

end MixRows
-- ==== Proof.Join.lean ====
module

public import proofs.«01_k».proof.Proof.KerSum
public import proofs.«01_k».proof.Proof.KerBlk
public import proofs.«01_k».proof.Proof.RefMix

/-!
The kernel's eight results against the reference's, index by index, where the two programs' arguments agree and those the
gradients are taken at hold real numbers.
-/

@[expose] public section

set_option maxRecDepth 16384

noncomputable section

namespace MixRows

open Idealize.ShloMosaic Idealize.SL.Sem Cert.KernelIdeal Cert.KernelIdeal.Gen Cert.KernelIdeal.Value

/-- A sum over blocks and rows in a block is the sum over all rows. -/
theorem sum_blocks {A B N : ℕ} (h : A * B = N) (F : Fin N → EReal) (e : Fin A → Fin B → Fin N) (he : ∀ p r, (e p r).val = p * B + r) :
    ∑ p : Fin A, ∑ r : Fin B, F (e p r) = ∑ n, F n := by
  subst h
  rw [← Fintype.sum_prod_type' (f := fun p r => F (e p r)), ← Equiv.sum_comp finProdFinEquiv]
  refine Finset.sum_congr rfl fun x _ => congrArg F (Fin.ext ?_)
  rw [he, finProdFinEquiv_apply_val]
  ring

/-- The grid's order of the rows against the sequences'. -/
theorem rows_eq (F : Fin 8192 → EReal) : ∑ p : Fin 16, ∑ r : Fin 512, F (rowAt (pt p) r) = ∑ b : Fin 2, ∑ s : Fin 4096, F (flat b s) :=
  (sum_blocks (by decide) F (fun p r => rowAt (pt p) r) fun _ _ => rfl).trans
    (sum_blocks (by decide) F flat fun _ _ => rfl).symm

/-- Chunk `c` of point `p`'s block, among all chunks. -/
def chunkAt (p : Fin 16) (c : Fin 4) : Fin 64 := ⟨p * 4 + c, by omega⟩
theorem chunks_eq (F : Fin 64 → EReal) : ∑ p : Fin 16, ∑ c : Fin 4, F (chunkAt p c) = ∑ b : Fin 2, ∑ c : Fin 32, F (chunkOf b c) :=
  (sum_blocks (by decide) F chunkAt fun _ _ => rfl).trans (sum_blocks (by decide) F chunkOf fun _ _ => rfl).symm
theorem rowAt_brow (p : Fin 16) (c : Fin 4) (i : Fin 128) : rowAt (pt p) (brow c i) = crow (chunkAt p c) i :=
  Fin.ext (by simp only [rowAt, pt, crow, chunkAt]; omega)

/-- Row `n`'s chunk, and its place in the chunk. -/
abbrev qOf (n : Fin 8192) : Fin 64 := ⟨n / 128, by omega⟩
abbrev iOf (n : Fin 8192) : Fin 128 := ⟨n % 128, by omega⟩
theorem inChunk_rowAt (t : Fin cfg0.N) (r : Fin 512) : inChunk r = iOf (rowAt t r) :=
  Fin.ext (by simp only [inChunk, rowAt]; omega)
theorem rowAt_mate (t : Fin cfg0.N) (r : Fin 512) (s : Fin 128) : rowAt t (mate r s) = crow (qOf (rowAt t r)) s :=
  Fin.ext (by simp only [mate, rowAt, crow]; omega)
theorem rowAt_of (n : Fin 8192) : rowAt (ptOf n) (rOf n) = n := Fin.ext (by simp only [rowAt, ptOf, pt, rOf]; omega)

section
variable (m : (ℓ : Loc nD τ sig) → Buf (Elt Ideal) ℓ) (c : Dev nD)
variable (V0 : Valuation Cert.ReferenceIdeal.τ Cert.ReferenceIdeal.sig (Elt Ideal))

/-- The two programs are given the same arrays. -/
structure Same : Prop where
  e0 : rA0 V0 = kA0 m c
  e1 : rA1 V0 = kA1 m c
  e2 : rA2 V0 = kA2 m c
  e3 : rA3 V0 = kA3 m c
  e4 : rA4 V0 = kA4 m c
  e5 : rA5 V0 = kA5 m c
  e6 : rA6 V0 = kA6 m c
  e7 : rA7 V0 = kA7 m c
  e8 : rA8 V0 = kA8 m c

/-- The arrays the two forms of a gradient need real entries of. -/
structure Real7 : Prop where
  f0 : ∀ i, Re (rA0 V0 i)
  f1 : ∀ i, Re (rA1 V0 i)
  f2 : ∀ i, Re (rA2 V0 i)
  f3 : ∀ i, Re (rA3 V0 i)
  f4 : ∀ i, Re (rA4 V0 i)
  f5 : ∀ i, Re (rA5 V0 i)
  f7 : ∀ i, Re (rA7 V0 i)

variable {m c V0} (h : Same m c V0) (f : Real7 V0) (t : Fin cfg0.N) (r l : Fin 512) (g : Fin 4) (k : Fin 128)
include h

/-! A point's values, in the reference's words. -/
theorem row_a : row512 (b3 m c t) r = aRow V0 (rowAt t r) := by
  funext k
  rw [aRow, h.e2, ← b3_at]
theorem row_v : vB (b2 m c t) r g = vRow V0 (rowAt t r) g := by
  funext k
  rw [vB, vRow, h.e1, b2_at]
theorem gain_a (l : Fin 512) : b4 m c t (ix2 0 l) = aGain V0 l := by rw [aGain, h.e3, b4_at]
theorem off_a (l : Fin 512) : b5 m c t (ix2 0 l) = aOff V0 l := by rw [aOff, h.e4, b5_at]
theorem gain_v : b6 m c t (ix2 0 (lane g k)) = gainB V0 g k := by rw [gainB, h.e5, b6_at]
theorem dv2_eq : dv2B (b0 m c t) (b1 m c t) r g k = dv2 V0 (rowAt t r) g k := by
  rw [dv2B, dv2, uRow, bCot, h.e0, h.e1, b0_at, b1_at, mul_comm]
theorem v1_eq : v1B (b2 m c t) (b6 m c t) (b7 m c t) r g k = v1 V0 (rowAt t r) g k := by
  rw [v1B, v1, row_v h, h.e5, h.e6, b6_at, b7_at]
theorem dv1_eq : dv1B (b0 m c t) (b1 m c t) (b9 m c t) r g k = dv1 V0 (qOf (rowAt t r)) (iOf (rowAt t r)) g k := by
  rw [dv1B, dv1]
  refine Finset.sum_congr rfl fun s _ => ?_
  rw [dv2_eq h, rowAt_mate, b9_at, wS, h.e7, ← inChunk_rowAt, mul_comm]
theorem du_eq : duB (b0 m c t) (b2 m c t) (b6 m c t) (b7 m c t) (b8 m c t) (b10 m c t) r g k = dU V0 (rowAt t r) g k := by
  have hi : (⟨(rowAt t r).val % 128, by omega⟩ : Fin 128) = inChunk r := (inChunk_rowAt t r).symm
  rw [duB, dU, hi, bCot, v2, h.e0, h.e8, b0_at, b10_at]
  refine congrArg (kA0 m c _ * ·) (congrArg (· + kA8 m c _) (Finset.sum_congr rfl fun s _ => ?_))
  rw [v1_eq h, rowAt_mate, b8_at, wS, h.e7, mul_comm]

include f
theorem re_cot (n : Fin 8192) (l : Fin 512) : Re (aCot V0 n l) := f.f0 _
theorem re_dy (n : Fin 8192) (l : Fin 512) : Re (dyR V0 n l) := by
  have hc : Re (aCot V0 n l) := f.f0 _
  have hy : Re (yA (aGain V0) (aOff V0) (aRow V0 n) l) :=
    ((Re.nrm D512 512 lit512 (by norm_num) (by norm_num) _ (fun k => f.f2 _) l).mul (f.f3 _)).add (f.f4 _)
  rw [dyR, ← dSwish_eq hc hy]
  exact Re.dSwish hc hy
theorem re_dv1 (q : Fin 64) (s : Fin 128) (g : Fin 4) (k : Fin 128) : Re (dv1 V0 q s g k) := by
  refine Re.sum fun t => ((f.f1 _).mul (f.f0 _)).mul ?_
  rw [wS]
  split
  · exact f.f7 _
  · exact Re.zero

theorem dy_eq : dyB m c t r l = dyR V0 (rowAt t r) l := by
  have hc : Re (aCot V0 (rowAt t r) l) := f.f0 _
  have hy : Re (yA (aGain V0) (aOff V0) (aRow V0 (rowAt t r)) l) :=
    ((Re.nrm D512 512 lit512 (by norm_num) (by norm_num) _ (fun k => f.f2 _) l).mul (f.f3 _)).add (f.f4 _)
  have h1 : (fun k => b4 m c t (ix2 0 k)) = aGain V0 := funext fun k => gain_a h t k
  have h2 : (fun k => b5 m c t (ix2 0 k)) = aOff V0 := funext fun k => off_a h t k
  have h3 : half (b0 m c t) (ix2 r l) = aCot V0 (rowAt t r) l := by
    rw [half_at, aCot, h.e0, b0_at]
  rw [dyR, ← dSwish_eq hc hy, dyB, dyA, row_a h, h1, h2, h3]

theorem dv_eq : dvB (b0 m c t) (b1 m c t) (b2 m c t) (b6 m c t) (b9 m c t) r g k = dV V0 (rowAt t r) g k := by
  have h1 : (fun l => dv1B (b0 m c t) (b1 m c t) (b9 m c t) r g l * b6 m c t (ix2 0 (lane g l)))
      = fun l => dv1 V0 (qOf (rowAt t r)) (iOf (rowAt t r)) g l * gainB V0 g l := funext fun l => by
    rw [dv1_eq h, gain_v h]
  rw [dvB, dV, row_v h, h1]
  exact lnBwd_eq D128 128 lit128 (by norm_num) (by norm_num) _ _ (fun k => f.f1 _) (fun k => (re_dv1 h f _ _ _ _).mul (f.f5 _)) k

/-! The results. -/
theorem join0 (n : Fin 8192) : G11 m c (ix2 n l) = ref0 V0 (ix2 n l) := by
  rw [g11, ref0_at]
  have h1 : (fun k => dyB m c (ptOf n) (rOf n) k * b4 m c (ptOf n) (ix2 0 k)) = fun k => dyR V0 n k * aGain V0 k := funext fun k => by
    rw [dy_eq h f, gain_a h, rowAt_of]
  rw [h1, row_a h, rowAt_of]
  exact lnBwd_eq D512 512 lit512 (by norm_num) (by norm_num) _ _ (fun k => f.f2 _) (fun k => (re_dy h f _ _).mul (f.f3 _)) l
theorem join1_lo (n : Fin 8192) : G12 m c (ix2 n ⟨g * 128 + k, by omega⟩) = ref1 V0 (ix2 n ⟨g * 128 + k, by omega⟩) := by
  have hr : rOf n = brow ⟨n % 512 / 128, by omega⟩ ⟨n % 128, by omega⟩ := Fin.ext (by simp only [rOf]; omega)
  rw [g12, ref1_lo, hr, lo12, ← hr, du_eq h, rowAt_of]
theorem join1_hi (n : Fin 8192) : G12 m c (ix2 n ⟨512 + (g * 128 + k), by omega⟩) = ref1 V0 (ix2 n ⟨512 + (g * 128 + k), by omega⟩) := by
  rw [g12, ref1_hi, hi12, dv_eq h f, rowAt_of]
theorem join2 : G13 m c (ix2 0 l) = ref2 V0 (ix2 0 l) := by
  rw [g13, ref2_at, ← rows_eq (fun n => nrm D512 (aRow V0 n) l * dyR V0 n l)]
  change @Eq EReal _ _
  refine Finset.sum_congr rfl fun p _ => Finset.sum_congr rfl fun r _ => ?_
  rw [dy_eq h f, row_a h, mul_comm]
theorem join3 : G14 m c (ix2 0 l) = ref3 V0 (ix2 0 l) := by
  rw [g14, ref3_at, ← rows_eq (fun n => dyR V0 n l)]
  change @Eq EReal _ _
  exact Finset.sum_congr rfl fun p _ => Finset.sum_congr rfl fun r _ => dy_eq h f _ _ _
omit f
theorem dv1_flat (b : Fin 2) (s : Fin 4096) :
    dv1 V0 (chunkOf b (cOf s)) (tOf s) g k = dv1 V0 (qOf (flat b s)) (iOf (flat b s)) g k := by
  congr 1
  · exact Fin.ext (by simp only [chunkOf, cOf, flat]; omega)
  · exact Fin.ext (by simp only [tOf, flat]; omega)
theorem join4 : G15 m c (ix2 0 (lane g k)) = ref4 V0 (ix2 0 (lane g k)) := by
  refine Eq.trans ?_ (ref4_at V0 g k).symm
  simp only [dv1_flat h]
  rw [g15, ← rows_eq (fun n => nrm D128 (vRow V0 n g) k * dv1 V0 (qOf n) (iOf n) g k)]
  change @Eq EReal _ _
  refine Finset.sum_congr rfl fun p _ => Finset.sum_congr rfl fun r _ => ?_
  rw [dv1_eq h, row_v h, mul_comm]
theorem join5 : G16 m c (ix2 0 (lane g k)) = ref5 V0 (ix2 0 (lane g k)) := by
  refine Eq.trans ?_ (ref5_at V0 g k).symm
  simp only [dv1_flat h]
  rw [g16, ← rows_eq (fun n => dv1 V0 (qOf n) (iOf n) g k)]
  change @Eq EReal _ _
  exact Finset.sum_congr rfl fun p _ => Finset.sum_congr rfl fun r _ => dv1_eq h _ _ _ _
theorem join6 (i j : Fin 128) : G17 m c (ix3 g i j) = ref6 V0 (ix3 g i j) := by
  rw [g17, ref6_at]
  simp only [dwB, dv2_eq h, v1_eq h, rowAt_brow]
  split
  · exact chunks_eq (fun q => ∑ d : Fin 128, dv2 V0 (crow q i) g d * v1 V0 (crow q j) g d)
  · simp only [Finset.sum_const_zero]
theorem join7 (i : Fin 128) : G18 m c (ix2 i g) = ref7 V0 (ix2 i g) := by
  rw [g18, ref7_at, Finset.sum_comm, ← chunks_eq (fun q => ∑ d : Fin 128, dv2 V0 (crow q i) g d)]
  simp only [dbB, dv2_eq h, rowAt_brow]
  change @Eq EReal _ _
  exact Finset.sum_congr rfl fun p _ => Finset.sum_comm

end

end MixRows
-- ==== Proof.Pre.lean ====
module

public import proofs.«01_k».proof.Defs
public import proofs.«01_k».proof.Proof.Gen.Pre_finite_rows
public import proofs.«01_k».proof.Proof.Join
public import Idealize.ShloMosaic.Lib.ReduceAll

/-!
What the precondition says: every entry of the seven arrays it reads is a real number.
-/

@[expose] public section

set_option maxRecDepth 16384

noncomputable section

namespace MixRows

open Idealize.ShloMosaic Idealize.SL.Sem

/-- One entry's test, "its absolute value is below infinity". -/
theorem re_of_flag {e : EReal} (h : Ideal.cmp .olt (max e (-e)) (Ideal.ofBits .f32 0x7F800000#32) = 1#1) : Re e := by
  have h0 := (Ideal.cmp_olt_eq_one _ _).mp h
  have htop : Ideal.ofBits .f32 0x7F800000#32 = ⊤ := by simp [Ideal.ofBits, Ideal.ieee]
  rw [htop] at h0
  exact Re.of_abs h0

instance : Subsingleton Cert.Pre_finite_rows.S_.Idx := ⟨fun a b => funext fun i => i.elim0⟩

/-- One array's test: all its entries' tests, together. -/
theorem re_of_all {s : Shape} {d : List (Fin s.rank)} (x : FVec Ideal s .f32)
    (hb : Cert.Pre_finite_rows.S_.BroadcastsInDim s (![] : Fin 0 → Fin s.rank)) (hr : s.ReducesTo d Cert.Pre_finite_rows.S_)
    (hu : 0 < Cert.Pre_finite_rows.S_.numel) (j : Cert.Pre_finite_rows.S_.Idx)
    (h : Host.reduce IntOp.andi (cmpf .olt (Host.absf x) (broadcastInDim s ![] hb (constant Cert.Pre_finite_rows.S_ .f32 0x7F800000#32)))
      (constantI Cert.Pre_finite_rows.S_ 1 1#1) hr hu j = 1#1) (i : s.Idx) : Re (x i) :=
  re_of_flag (Host.reduce_andi_all _ _ hr hu j h i)

section
variable {m : (ℓ : Loc Cert.KernelIdeal.nD Cert.KernelIdeal.τ Cert.KernelIdeal.sig) → Buf (Elt Ideal) ℓ} {c : Dev Cert.KernelIdeal.nD}
variable {V0 : Valuation Cert.ReferenceIdeal.τ Cert.ReferenceIdeal.sig (Elt Ideal)}

/-- The precondition at the kernel's arguments gives the reference's real entries. -/
theorem real_of_pre [Cert.Pre_finite_rows.Facts] (hp : Cert.Pre_KernelIdeal_finite_rows m) (h : Same m c V0) : Real7 V0 := by
  have e := congrFun (hp c) (fun i => i.elim0)
  dsimp only [Cert.Pre_finite_rows.fn, Cert.Pre_finite_rows.fn_part1] at e
  obtain ⟨e, e7⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => h.e0 ▸ re_of_all _ _ _ _ _ e0 i, fun i => h.e1 ▸ re_of_all _ _ _ _ _ e1 i, fun i => h.e2 ▸ re_of_all _ _ _ _ _ e2 i,
    fun i => h.e3 ▸ re_of_all _ _ _ _ _ e3 i, fun i => h.e4 ▸ re_of_all _ _ _ _ _ e4 i, fun i => h.e5 ▸ re_of_all _ _ _ _ _ e5 i,
    fun i => h.e7 ▸ re_of_all _ _ _ _ _ e7 i⟩

end

end MixRows

end
-- ==== Proof.Whole.lean ====
module

public import proofs.«01_k».proof.Proof.Pre
public import proofs.«01_k».proof.Proof.Gen.ReferenceIdeal.Run

/-!
The eight results as whole arrays, and the claim that relates the two programs' runs.
-/

@[expose] public section

set_option maxRecDepth 16384

noncomputable section

namespace MixRows

open Idealize.ShloMosaic Idealize.SL.Sem Cert.KernelIdeal Cert.KernelIdeal.Gen Cert.KernelIdeal.Value

/-- Two arrays of two axes are equal when they are entry by entry; likewise three. -/
theorem ext2 {A B : ℕ} {α : Type} {F G : Shape.Idx ⟨2, ![A, B]⟩ → α} (h : ∀ a b, F (ix2 a b) = G (ix2 a b)) : F = G :=
  funext fun i => by rw [eq_ix2 i]; exact h _ _
theorem ext3 {A B C : ℕ} {α : Type} {F G : Shape.Idx ⟨3, ![A, B, C]⟩ → α} (h : ∀ a b c, F (ix3 a b c) = G (ix3 a b c)) : F = G :=
  funext fun i => by rw [eq_ix3 i]; exact h _ _ _

/-- A column below 512 is a head's lane. -/
theorem lane_of (l : Fin 512) : lane ⟨l / 128, by omega⟩ ⟨l % 128, by omega⟩ = l := Fin.ext (by simp only [lane]; omega)

section
variable {m : (ℓ : Loc nD τ sig) → Buf (Elt Ideal) ℓ} {c : Dev nD}
variable {V0 : Valuation Cert.ReferenceIdeal.τ Cert.ReferenceIdeal.sig (Elt Ideal)}
variable (h : Same m c V0) (f : Real7 V0)
include h

theorem whole4 : G15 m c = ref4 V0 := ext2 fun z l => by
  obtain rfl : z = 0 := Subsingleton.elim _ _
  rw [← lane_of l]
  exact join4 h _ _
theorem whole5 : G16 m c = ref5 V0 := ext2 fun z l => by
  obtain rfl : z = 0 := Subsingleton.elim _ _
  rw [← lane_of l]
  exact join5 h _ _
theorem whole6 : G17 m c = ref6 V0 := ext3 fun _ _ _ => join6 h _ _ _
theorem whole7 : G18 m c = ref7 V0 := ext2 fun _ _ => join7 h _ _

include f
theorem whole0 : G11 m c = ref0 V0 := ext2 fun _ _ => join0 h f _ _
theorem whole1 : G12 m c = ref1 V0 := ext2 fun n q => by
  by_cases hq : q.val < 512
  · have e : q = ⟨(⟨q / 128, by omega⟩ : Fin 4) * 128 + (⟨q % 128, by omega⟩ : Fin 128), by simp only; omega⟩ :=
      Fin.ext (by simp only; omega)
    rw [e]
    exact join1_lo h f _ _ _
  · have e : q = ⟨512 + ((⟨(q - 512) / 128, by omega⟩ : Fin 4) * 128 + (⟨q % 128, by omega⟩ : Fin 128)), by simp only; omega⟩ :=
      Fin.ext (by simp only; omega)
    rw [e]
    exact join1_hi h f _ _ _
theorem whole2 : G13 m c = ref2 V0 := ext2 fun z l => by
  obtain rfl : z = 0 := Subsingleton.elim _ _
  exact join2 h f _
theorem whole3 : G14 m c = ref3 V0 := ext2 fun z l => by
  obtain rfl : z = 0 := Subsingleton.elim _ _
  exact join3 h f _

end

/-- The two programs agree on every result, where the precondition holds. -/
theorem algebraic : Cert.algebraic_KernelIdeal_ReferenceIdeal_pre_finite_rows := by
  intro m g m' g' hp ha
  have hs : ∀ c, Same m c (StableHlo.launchContents m' c) := fun c =>
    ⟨(ha c).1, (ha c).2.1, (ha c).2.2.1, (ha c).2.2.2.1, (ha c).2.2.2.2.1, (ha c).2.2.2.2.2.1, (ha c).2.2.2.2.2.2.1,
      (ha c).2.2.2.2.2.2.2.1, (ha c).2.2.2.2.2.2.2.2⟩
  have hf : ∀ c, Real7 (StableHlo.launchContents m' c) := fun c => real_of_pre hp (hs c)
  refine ⟨fun c => G11 m c, fun c => G12 m c, fun c => G13 m c, fun c => G14 m c, fun c => G15 m c, fun c => G16 m c,
    fun c => G17 m c, fun c => G18 m c, Cert.KernelIdeal.Value.run m g, ?_⟩
  refine θ_run_mono (Cert.ReferenceIdeal.Value.run m' g') fun r hr c => ?_
  obtain ⟨r0, r1, r2, r3, r4, r5, r6, r7, kept⟩ := hr c
  exact ⟨r0.trans (whole0 (hs c) (hf c)).symm, r1.trans (whole1 (hs c) (hf c)).symm, r2.trans (whole2 (hs c) (hf c)).symm,
    r3.trans (whole3 (hs c) (hf c)).symm, r4.trans (whole4 (hs c)).symm, r5.trans (whole5 (hs c)).symm,
    r6.trans (whole6 (hs c)).symm, r7.trans (whole7 (hs c)).symm, kept⟩

end MixRows

end
-- ==== Proof.FfnMath.lean ====
module

public import proofs.«01_k».proof.Proof.RowMath

/-!
One row of the feed-forward layer's backward pass: the norm over 1024 lanes and its gradient, the gate and
its gradient, each in the kernel's form and in the form that differentiating the forward lines gives. The
norm's two forms agree at every entry, the gate's where the entries are real numbers.
-/

@[expose] public section

noncomputable section

namespace FfnBwd

open Idealize.ShloMosaic MixRows

/-- The number of lanes of a row, and the factor of the residual branch. -/
def D1024 : EReal := Ideal.ofBits .f32 0x44800000#32
def half : EReal := Ideal.ofBits .f32 0x3F000000#32

theorem lit1024 : D1024 = ((1024 : ℝ) : EReal) := by
  simp [D1024, Ideal.ofBits, Ideal.ieee, -EReal.coe_mul]; norm_num
theorem re_half : Re half := ⟨_, litHalf⟩

/-- The mean square and the constant under the root, and the reciprocal of the root. -/
def sqm (f : Fin 1024 → EReal) : EReal := mean D1024 (fun k => f k * f k) + eps
def rr (f : Fin 1024 → EReal) : EReal := Ideal.rsqrt (sqm f)

/-- The gradient of the norm as the kernel computes it, `u` the gradient at the scaled row. -/
def rmsBwd (f u : Fin 1024 → EReal) (k : Fin 1024) : EReal :=
  rr f * (u k - f k * (rr f * rr f) * mean D1024 (fun j => u j * f j))

/-- The part that comes through the mean square, and the gradient, in the differentiated form. -/
def viaSq (f u : Fin 1024 → EReal) : EReal :=
  Ideal.div ((∑ k, f k * u k) * (Ideal.ofBits .f32 0xBF000000#32 * Ideal.div (rr f) (sqm f))) D1024
def rmsBwdR (f u : Fin 1024 → EReal) (k : Fin 1024) : EReal :=
  u k * rr f + f k * viaSq f u + viaSq f u * f k

/-- Over real entries the mean square and the reciprocal root are real. -/
theorem sq_parts (f : Fin 1024 → EReal) (hf : ∀ k, Re (f k)) :
    ∃ v r : ℝ, sqm f = v ∧ rr f = r ∧ v ≠ 0 ∧ r * r * v = 1 ∧ 0 < r := by
  choose g hg using hf
  obtain ⟨e, he, hee⟩ := eps_pos
  have hv : sqm f = (((∑ k, g k * g k) * (1 / 1024) + e : ℝ) : EReal) := by
    simp only [sqm, mean, hg, ← EReal.coe_mul, coe_sum, lit1024]
    rw [Ideal.div_coe (by norm_num), hee, ← EReal.coe_mul, ← EReal.coe_add]
  have hpos : 0 < (∑ k, g k * g k) * (1 / 1024) + e := by
    have : 0 ≤ (∑ k, g k * g k) * (1 / 1024) := mul_nonneg (Finset.sum_nonneg fun k _ => mul_self_nonneg _) (by norm_num)
    linarith
  refine ⟨_, (Real.sqrt ((∑ k, g k * g k) * (1 / 1024) + e))⁻¹, hv, ?_, hpos.ne', ?_⟩
  · rw [rr, hv, Ideal.rsqrt_coe, if_neg hpos.le.not_gt, if_neg hpos.ne']
  · refine ⟨?_, inv_pos.mpr (Real.sqrt_pos.mpr hpos)⟩
    have := Real.mul_self_sqrt hpos.le
    have h0 : Real.sqrt ((∑ k, g k * g k) * (1 / 1024) + e) ≠ 0 := (Real.sqrt_pos.mpr hpos).ne'
    generalize Real.sqrt ((∑ k, g k * g k) * (1 / 1024) + e) = q at *
    rw [← this]
    field_simp

theorem re_rr (f : Fin 1024 → EReal) (hf : ∀ k, Re (f k)) : Re (rr f) := by
  obtain ⟨v, r, -, hr, -, -⟩ := sq_parts f hf
  exact ⟨r, hr⟩

/-- A square is not negative, at the infinities neither. -/
theorem sq_nonneg (x : EReal) : 0 ≤ x * x := by
  induction x with
  | bot => rw [EReal.bot_mul_bot]; exact le_top
  | coe x => rw [← EReal.coe_mul]; exact_mod_cast mul_self_nonneg x
  | top => rw [EReal.top_mul_top]; exact le_top

/-- With an infinite entry the mean square is infinite and the reciprocal root zero. -/
theorem sq_top (f : Fin 1024 → EReal) (hf : ¬∀ k, Re (f k)) : sqm f = ⊤ ∧ rr f = 0 := by
  obtain ⟨k, hk⟩ := not_forall.mp hf
  have h1 : f k * f k = ⊤ := by
    generalize f k = x at hk
    induction x with
    | bot => exact EReal.bot_mul_bot
    | coe x => exact absurd ⟨x, rfl⟩ hk
    | top => exact EReal.top_mul_top
  have h2 : ∑ j, f j * f j = ⊤ :=
    top_le_iff.mp (h1.symm.le.trans (Finset.single_le_sum (f := fun j => f j * f j) (fun j _ => sq_nonneg (f j)) (Finset.mem_univ k)))
  obtain ⟨e, -, he⟩ := eps_pos
  have h3 : sqm f = ⊤ := by
    rw [sqm, mean, h2, lit1024, Ideal.div_coe (by norm_num), EReal.top_mul_coe_of_pos (by norm_num), he, EReal.top_add_coe]
  refine ⟨h3, ?_⟩
  rw [rr, h3]
  rfl

/-- A difference times a positive number, and the sum of its parts with the second in two halves, at any two terms. -/
theorem forms_eq {r p w : ℝ} (hr : 0 < r) (hp : 0 < p) (hw : w + w = -(r * p)) (u t : EReal) :
    (r : EReal) * (u - p * t) = u * r + w * t + w * t := by
  have h0 : w < 0 := by nlinarith [mul_pos hr hp]
  induction t with
  | bot =>
    rw [EReal.coe_mul_bot_of_pos hp, EReal.coe_mul_bot_of_neg h0]
    induction u with
    | bot => simp [EReal.coe_mul_bot_of_pos hr, EReal.bot_mul_coe_of_pos hr]
    | coe u => rw [← EReal.coe_mul, EReal.coe_sub_bot, EReal.coe_mul_top_of_pos hr, EReal.coe_add_top, EReal.top_add_top]
    | top => rw [EReal.top_sub_bot, EReal.coe_mul_top_of_pos hr, EReal.top_mul_coe_of_pos hr, EReal.top_add_top, EReal.top_add_top]
  | coe t =>
    induction u with
    | bot => rw [EReal.bot_sub, EReal.coe_mul_bot_of_pos hr, EReal.bot_mul_coe_of_pos hr, EReal.bot_add, EReal.bot_add]
    | coe u =>
      simp only [← EReal.coe_mul, ← EReal.coe_add, ← EReal.coe_sub]
      exact congrArg _ (by linear_combination (-t) * hw)
    | top =>
      rw [← EReal.coe_mul, ← EReal.coe_mul, EReal.top_sub_coe, EReal.coe_mul_top_of_pos hr, EReal.top_mul_coe_of_pos hr,
        EReal.top_add_coe, EReal.top_add_coe]
  | top =>
    rw [EReal.coe_mul_top_of_pos hp, EReal.coe_mul_top_of_neg h0, EReal.sub_top, EReal.coe_mul_bot_of_pos hr, EReal.add_bot]

/-- The two forms of the norm's gradient agree, at infinite entries too. -/
theorem rmsBwd_eq (f u : Fin 1024 → EReal) (k : Fin 1024) : rmsBwd f u k = rmsBwdR f u k := by
  by_cases hf : ∀ k, Re (f k)
  · obtain ⟨v, r, hv, hr, hv0, hrv, hr0⟩ := sq_parts f hf
    obtain ⟨x, hx⟩ := hf k
    have hs : ∑ j, u j * f j = ∑ j, f j * u j := Finset.sum_congr rfl fun j _ => mul_comm _ _
    have hq : 1 / v = r * r := by field_simp; linarith [hrv]
    have h1024 : (1024 : ℝ) ≠ 0 := by norm_num
    simp only [rmsBwd, rmsBwdR, viaSq, mean, hv, hr, hx, lit1024, Ideal.div_coe h1024, Ideal.div_coe hv0, litNegHalf, hs]
    rw [hq]
    generalize ∑ j, f j * u j = t
    generalize u k = y
    have e := forms_eq (r := r) (p := r * r * (1 / 1024)) (w := -(1 / 2) * (r * (r * r)) * (1 / 1024)) hr0 (by positivity) (by ring) y (x * t)
    simp only [EReal.coe_mul] at e ⊢
    refine Eq.trans (congrArg (fun a => (r : EReal) * (y - a)) ?_) (e.trans (congrArg₂ (fun a b => y * (r : EReal) + a + b) ?_ ?_)) <;> ac_rfl
  · obtain ⟨hv, hr⟩ := sq_top f hf
    have h0 : Ideal.div 0 (⊤ : EReal) = 0 := by simp [Ideal.div]
    have h1 : viaSq f u = 0 := by
      rw [viaSq, hv, hr, h0, mul_zero, mul_zero, lit1024, Ideal.div_coe (by norm_num), zero_mul]
    rw [rmsBwd, rmsBwdR, hr, h1]
    simp

/-- The logistic function's two forms agree on real numbers. -/
theorem sig_eq {a : EReal} (h : Re a) : sigK a = sigR a := by
  obtain ⟨y, rfl⟩ := h
  rw [sigK_coe, sigR_coe, sig_real]
theorem re_sig {a : EReal} (h : Re a) : Re (sigK a) := by
  obtain ⟨y, rfl⟩ := h
  exact ⟨_, sigK_coe y⟩

/-- The gradient at the gate's argument `a`, `d` the gradient at the gated value, as the kernel computes it. -/
def gateBwd (d b a : EReal) : EReal := d * b * (sigK a + a * sigK a * (1 - sigK a))

theorem gateBwd_eq {d b a : EReal} (hd : Re d) (hb : Re b) (ha : Re a) : gateBwd d b a = dSwishR (d * b) a := by
  obtain ⟨d, rfl⟩ := hd
  obtain ⟨b, rfl⟩ := hb
  obtain ⟨a, rfl⟩ := ha
  rw [gateBwd, dSwishR, sigK_coe, sigR_coe, (EReal.coe_one.symm : (1 : EReal) = ((1 : ℝ) : EReal)), sig_real]
  simp only [← EReal.coe_mul, ← EReal.coe_add, ← EReal.coe_sub]
  congr 1
  ring

section
variable (go x g : Fin 1024 → EReal) (wg wu : Fin 1024 → Fin 2816 → EReal) (wd : Fin 2816 → Fin 1024 → EReal)

/-! One row of the layer, in the kernel's form. -/
/-- The normed row, and its product with a weight. -/
def hRow (k : Fin 1024) : EReal := x k * rr x * g k
def inRow (w : Fin 1024 → Fin 2816 → EReal) (f : Fin 2816) : EReal := ∑ k, hRow x g k * w k f
/-- The gradient at the gated value. -/
def dsRow (f : Fin 2816) : EReal := ∑ k, half * go k * wd f k
/-- The gradients at the two products. -/
def daRow (f : Fin 2816) : EReal := gateBwd (dsRow go wd f) (inRow x g wu f) (inRow x g wg f)
def dbRow (f : Fin 2816) : EReal := dsRow go wd f * (inRow x g wg f * sigK (inRow x g wg f))
/-- The gated value. -/
def sRow (f : Fin 2816) : EReal := inRow x g wg f * sigK (inRow x g wg f) * inRow x g wu f
/-- The gradient at the normed row. -/
def dhRow (k : Fin 1024) : EReal := ∑ f, daRow go x g wg wu wd f * wg k f + ∑ f, dbRow go x g wg wd f * wu k f
/-- The gradient at the layer's input, and a row's part of the gradient of the norm's weight. -/
def gxRow (k : Fin 1024) : EReal := go k + rmsBwd x (fun j => dhRow go x g wg wu wd j * g j) k
def dgRow (k : Fin 1024) : EReal := dhRow go x g wg wu wd k * x k * rr x

/-! The same in the differentiated form. -/
def daRowR (f : Fin 2816) : EReal := dSwishR (dsRow go wd f * inRow x g wu f) (inRow x g wg f)
def dbRowR (f : Fin 2816) : EReal := inRow x g wg f * sigR (inRow x g wg f) * dsRow go wd f
def sRowR (f : Fin 2816) : EReal := inRow x g wg f * sigR (inRow x g wg f) * inRow x g wu f
def dhRowR (k : Fin 1024) : EReal := ∑ f, dbRowR go x g wg wd f * wu k f + ∑ f, daRowR go x g wg wu wd f * wg k f
def gxRowR (k : Fin 1024) : EReal := go k + rmsBwdR x (fun j => dhRowR go x g wg wu wd j * g j) k
def dgRowR (k : Fin 1024) : EReal := x k * rr x * dhRowR go x g wg wu wd k

variable (hgo : ∀ k, Re (go k)) (hx : ∀ k, Re (x k)) (hg : ∀ k, Re (g k)) (hwg : ∀ k f, Re (wg k f)) (hwu : ∀ k f, Re (wu k f))
  (hwd : ∀ f k, Re (wd f k))
include hx hg
theorem re_in (w : Fin 1024 → Fin 2816 → EReal) (hw : ∀ k f, Re (w k f)) (f : Fin 2816) : Re (inRow x g w f) :=
  Re.sum fun k => (((hx k).mul (re_rr x hx)).mul (hg k)).mul (hw k f)
omit hx hg in
include hgo hwd in
theorem re_ds (f : Fin 2816) : Re (dsRow go wd f) := Re.sum fun k => (re_half.mul (hgo k)).mul (hwd f k)

include hwg in
theorem sRow_eq (f : Fin 2816) : sRow x g wg wu f = sRowR x g wg wu f := by
  rw [sRow, sRowR, sig_eq (re_in x g hx hg wg hwg f)]
include hwg in
theorem dbRow_eq (f : Fin 2816) : dbRow go x g wg wd f = dbRowR go x g wg wd f := by
  rw [dbRow, dbRowR, sig_eq (re_in x g hx hg wg hwg f), mul_comm]

include hgo hwg hwu hwd
theorem daRow_eq (f : Fin 2816) : daRow go x g wg wu wd f = daRowR go x g wg wu wd f :=
  gateBwd_eq (re_ds go wd hgo hwd f) (re_in x g hx hg wu hwu f) (re_in x g hx hg wg hwg f)
theorem dhRow_eq (k : Fin 1024) : dhRow go x g wg wu wd k = dhRowR go x g wg wu wd k := by
  rw [dhRow, dhRowR, add_comm]
  exact congrArg₂ (· + ·) (Finset.sum_congr rfl fun f _ => by rw [dbRow_eq go x g wg wd hx hg hwg])
    (Finset.sum_congr rfl fun f _ => by rw [daRow_eq go x g wg wu wd hgo hx hg hwg hwu hwd])
theorem gxRow_eq (k : Fin 1024) : gxRow go x g wg wu wd k = gxRowR go x g wg wu wd k := by
  rw [gxRow, gxRowR, rmsBwd_eq x _]
  simp only [dhRow_eq go x g wg wu wd hgo hx hg hwg hwu hwd]
theorem dgRow_eq (k : Fin 1024) : dgRow go x g wg wu wd k = dgRowR go x g wg wu wd k := by
  rw [dgRow, dgRowR, dhRow_eq go x g wg wu wd hgo hx hg hwg hwu hwd, mul_assoc, mul_comm]

end

end FfnBwd

end
-- ==== Proof.PayFfn.lean ====
module

public import proofs.«01_k».proof.Proof.Gen.Kernel2Ideal.Skeleton
public import proofs.«01_k».proof.Proof.FfnMath
public import Idealize.ShloMosaic.Lib.Pointwise

/-!
The values the feed-forward kernel computes from a point's blocks, at an index.
-/

@[expose] public section

set_option maxRecDepth 16384

noncomputable section

namespace FfnBwd

open Idealize.ShloMosaic Idealize.SL.Sem MixRows Cert.Kernel2Ideal Cert.Kernel2Ideal.Gen

/-- A row of a block. -/
abbrev row (x : Vec Ideal S256x1024 .f32) (r : Fin 256) (k : Fin 1024) : EReal := x (ix2 r k)

variable (r : Fin 256) (k : Fin 1024) (f : Fin 2816)

theorem pay6_at (o : Vec Ideal S256x1024 .f32) : k0_pay6 (F := Ideal) o (ix2 r k) = half * o (ix2 r k) := by
  pointwise [k0_pay6]
  try rfl
theorem pay7_at : k0_pay7 (F := Ideal) (ix2 r k) = 0 := by
  pointwise [k0_pay7]
theorem pay8_at : k0_pay8 (F := Ideal) (ix2 0 k) = 0 := by
  pointwise [k0_pay8]
theorem pay1_at (v : FVec Ideal S256x2816 .f32) : k0_pay1 (F := Ideal) v (ix2 r f) = v (ix2 r f) := by
  pointwise [k0_pay1]
theorem pay9_at (o : Vec Ideal S256x1024 .bf16) (w : Vec Ideal S1x2816x1024 .bf16) :
    k0_pay9 (F := Ideal) o w (ix2 r f) = ∑ k : Fin 1024, o (ix2 r k) * w (ix3 0 f k) := by
  pointwise [k0_pay9]
theorem pay10_at (a : Vec Ideal S256x2816 .bf16) : k0_pay10 (F := Ideal) a (ix2 r f) = a (ix2 r f) := by
  pointwise [k0_pay10]
theorem pay11_at (a : Vec Ideal S256x2816 .bf16) : k0_pay11 (F := Ideal) a (ix2 r f) = a (ix2 r f) := by
  pointwise [k0_pay11]
theorem pay12_at (a : Vec Ideal S256x2816 .bf16) : k0_pay12 (F := Ideal) a (ix2 r f) = sigK (a (ix2 r f)) := by
  pointwise [k0_pay12, pay10_at]
  try rfl
theorem pay13_at (a : Vec Ideal S256x2816 .bf16) : k0_pay13 (F := Ideal) a (ix2 r f) = a (ix2 r f) * sigK (a (ix2 r f)) := by
  pointwise [k0_pay13, pay10_at, pay12_at]
theorem pay14_at (o : Vec Ideal S256x1024 .bf16) (w : Vec Ideal S1x2816x1024 .bf16) (a b : Vec Ideal S256x2816 .bf16) :
    k0_pay14 (F := Ideal) o w a b (ix2 r f) = gateBwd (∑ k : Fin 1024, o (ix2 r k) * w (ix3 0 f k)) (b (ix2 r f)) (a (ix2 r f)) := by
  pointwise [k0_pay14, pay9_at, pay11_at, pay12_at, pay13_at]
  try rfl
theorem pay15_at (o : Vec Ideal S256x1024 .bf16) (w : Vec Ideal S1x2816x1024 .bf16) (a : Vec Ideal S256x2816 .bf16) :
    k0_pay15 (F := Ideal) o w a (ix2 r f) = (∑ k : Fin 1024, o (ix2 r k) * w (ix3 0 f k)) * (a (ix2 r f) * sigK (a (ix2 r f))) := by
  pointwise [k0_pay15, pay9_at, pay13_at]
theorem pay16_at (a b : Vec Ideal S256x2816 .bf16) :
    k0_pay16 (F := Ideal) a b (ix2 r f) = a (ix2 r f) * sigK (a (ix2 r f)) * b (ix2 r f) := by
  pointwise [k0_pay16, pay11_at, pay13_at]
theorem pay2_at (p q : FVec Ideal S256x2816 .bf16) (z : Vec Ideal S256x1024 .f32) (u v : Vec Ideal S1x2816x1024 .bf16) :
    k0_pay2 (F := Ideal) p q z u v (ix2 r k)
      = z (ix2 r k) + (∑ f : Fin 2816, p (ix2 r f) * u (ix3 0 f k) + ∑ f : Fin 2816, q (ix2 r f) * v (ix3 0 f k)) := by
  pointwise [k0_pay2]
theorem pay3_at (x : Vec Ideal S256x1024 .f32) : k0_pay3 (F := Ideal) x (ix2 r 0) = rr (row x r) := by
  pointwise [k0_pay3]
  try rfl
theorem pay4_at (x : Vec Ideal S256x1024 .f32) (g : Vec Ideal S1x1024 .f32) (d o : Vec Ideal S256x1024 .f32) :
    k0_pay4 (F := Ideal) x g d o (ix2 r k) = o (ix2 r k) + rmsBwd (row x r) (fun j => d (ix2 r j) * g (ix2 0 j)) k := by
  pointwise [k0_pay4, pay3_at]
  try rfl
theorem pay5_at (x d : Vec Ideal S256x1024 .f32) (z : Vec Ideal S1x1024 .f32) :
    k0_pay5 (F := Ideal) x d z (ix2 0 k) = z (ix2 0 k) + ∑ r : Fin 256, d (ix2 r k) * x (ix2 r k) * rr (row x r) := by
  pointwise [k0_pay5, pay3_at]
  try rfl

end FfnBwd

end
-- ==== Proof.KerFfn.lean ====
module

public import proofs.«01_k».proof.Proof.Gen.Kernel2Ideal.Frame
public import proofs.«01_k».proof.Proof.PayFfn
public import Idealize.ShloMosaic.Lib.Pipeline.ReadBack
public import Idealize.ShloMosaic.Lib.Pipeline.ValueKit

/-!
What a grid point leaves in the six outputs of the feed-forward layer's backward call, at an index, over the point's blocks.
-/

@[expose] public section

set_option maxRecDepth 16384

noncomputable section

namespace FfnBwd

open Idealize.ShloMosaic Idealize.SL.Sem MixRows Cert.Kernel2Ideal Cert.Kernel2Ideal.Gen

section
variable (m : (ℓ : Loc nD τ sig) → Buf (Elt Ideal) ℓ) (c : Dev nD) (t : Fin cfg0.N)

/-! The blocks the point reads: the gradient, the layer's input, the gain, the two saved products and the three weights. -/
abbrev bGo : Vec Ideal S256x1024 .f32 := iblk m c 0 t
abbrev bX : Vec Ideal S256x1024 .f32 := iblk m c 1 t
abbrev bG : Vec Ideal S1x1024 .f32 := iblk m c 2 t
abbrev bA : Vec Ideal S256x2816 .bf16 := iblk m c 3 t
abbrev bB : Vec Ideal S256x2816 .bf16 := iblk m c 4 t
abbrev bWg : Vec Ideal S1x2816x1024 .bf16 := iblk m c 5 t
abbrev bWu : Vec Ideal S1x2816x1024 .bf16 := iblk m c 6 t
abbrev bWd : Vec Ideal S1x2816x1024 .bf16 := iblk m c 7 t

/-! The point's values at row `r`: the halved gradient, the gradients at the gate and at the two products, and at the norm's output. -/
def dsB (r : Fin 256) (f : Fin 2816) : EReal := ∑ k : Fin 1024, half * bGo m c t (ix2 r k) * bWd m c t (ix3 0 f k)
def daB (r : Fin 256) (f : Fin 2816) : EReal := gateBwd (dsB m c t r f) (bB m c t (ix2 r f)) (bA m c t (ix2 r f))
def dbB (r : Fin 256) (f : Fin 2816) : EReal := dsB m c t r f * (bA m c t (ix2 r f) * sigK (bA m c t (ix2 r f)))
def dhB (r : Fin 256) (k : Fin 1024) : EReal :=
  ∑ f : Fin 2816, daB m c t r f * bWg m c t (ix3 0 f k) + ∑ f : Fin 2816, dbB m c t r f * bWu m c t (ix3 0 f k)

variable (r : Fin 256) (k : Fin 1024) (f : Fin 2816)

theorem ds_pay : ∑ k : Fin 1024, k0_pay6 (F := Ideal) (bGo m c t) (ix2 r k) * bWd m c t (ix3 0 f k) = dsB m c t r f :=
  Finset.sum_congr rfl fun k _ => congrArg (· * bWd m c t (ix3 0 f k)) (pay6_at r k (bGo m c t))
theorem da_pay : k0_pay14 (F := Ideal) (k0_pay6 (F := Ideal) (bGo m c t)) (bWd m c t) (bA m c t) (bB m c t) (ix2 r f) = daB m c t r f := by
  rw [pay14_at, ds_pay]
  rfl
theorem db_pay : k0_pay15 (F := Ideal) (k0_pay6 (F := Ideal) (bGo m c t)) (bWd m c t) (bA m c t) (ix2 r f) = dbB m c t r f := by
  rw [pay15_at, ds_pay]
  rfl

theorem gh_point : (outsAt0 m c t.val t.isLt).2.2.2.2.2 (ix2 r k) = half * bGo m c t (ix2 r k) := by
  by_cases h : t.val % 32 = 0
  · rw [outsAt0_A m c t h]
    dsimp only
    frame_open
    frame_out
    exact pay6_at r k _
  · rw [outsAt0_B m c t h]
    dsimp only
    frame_open
    frame_out
    exact pay6_at r k _

theorem s_point : (outsAt0 m c t.val t.isLt).2.2.2.2.1 (ix2 r f)
    = bA m c t (ix2 r f) * sigK (bA m c t (ix2 r f)) * bB m c t (ix2 r f) := by
  by_cases h : t.val % 32 = 0
  · rw [outsAt0_A m c t h]
    dsimp only
    frame_open
    frame_out
    exact (pay1_at r f _).trans (pay16_at r f _ _)
  · rw [outsAt0_B m c t h]
    dsimp only
    frame_open
    frame_out
    exact (pay1_at r f _).trans (pay16_at r f _ _)

theorem da_point : (outsAt0 m c t.val t.isLt).2.2.1 (ix2 r f) = daB m c t r f := by
  by_cases h : t.val % 32 = 0
  · rw [outsAt0_A m c t h]
    dsimp only
    frame_open
    frame_out
    exact da_pay m c t r f
  · rw [outsAt0_B m c t h]
    dsimp only
    frame_open
    frame_out
    exact da_pay m c t r f

theorem db_point : (outsAt0 m c t.val t.isLt).2.2.2.1 (ix2 r f) = dbB m c t r f := by
  by_cases h : t.val % 32 = 0
  · rw [outsAt0_A m c t h]
    dsimp only
    frame_open
    frame_out
    exact db_pay m c t r f
  · rw [outsAt0_B m c t h]
    dsimp only
    frame_open
    frame_out
    exact db_pay m c t r f

/-- The gradient at the norm's output, as the point gathers it in its scratch. -/
abbrev dhPay : Vec Ideal S256x1024 .f32 :=
  k0_pay2 (k0_pay14 (k0_pay6 (bGo m c t)) (bWd m c t) (bA m c t) (bB m c t)) (k0_pay15 (k0_pay6 (bGo m c t)) (bWd m c t) (bA m c t))
    (k0_pay7 (F := Ideal)) (bWg m c t) (bWu m c t)
theorem dh_pay : dhPay m c t (ix2 r k) = dhB m c t r k := by
  refine (pay2_at r k _ _ _ _ _).trans ?_
  rw [pay7_at, zero_add]
  exact congrArg₂ (· + ·) (Finset.sum_congr rfl fun f _ => congrArg (· * bWg m c t (ix3 0 f k)) (da_pay m c t r f))
    (Finset.sum_congr rfl fun f _ => congrArg (· * bWu m c t (ix3 0 f k)) (db_pay m c t r f))

theorem gx_pay : k0_pay4 (F := Ideal) (bX m c t) (bG m c t) (dhPay m c t) (bGo m c t) (ix2 r k)
    = bGo m c t (ix2 r k) + rmsBwd (row (bX m c t) r) (fun j => dhB m c t r j * bG m c t (ix2 0 j)) k := by
  rw [pay4_at]
  exact congrArg (fun u => bGo m c t (ix2 r k) + rmsBwd (row (bX m c t) r) u k)
    (funext fun j => congrArg (· * bG m c t (ix2 0 j)) (dh_pay m c t r j))

/-- The point's part of the gain's gradient. -/
def dgB (k : Fin 1024) : EReal := ∑ r : Fin 256, dhB m c t r k * bX m c t (ix2 r k) * rr (row (bX m c t) r)
theorem dg_pay (z : Vec Ideal S1x1024 .f32) : k0_pay5 (F := Ideal) (bX m c t) (dhPay m c t) z (ix2 0 k) = z (ix2 0 k) + dgB m c t k := by
  rw [pay5_at]
  exact congrArg (z (ix2 0 k) + ·) (Finset.sum_congr rfl fun r _ =>
    congrArg (fun d => d * bX m c t (ix2 r k) * rr (row (bX m c t) r)) (dh_pay m c t r k))

theorem gx_point : (outsAt0 m c t.val t.isLt).1 (ix2 r k)
    = bGo m c t (ix2 r k) + rmsBwd (row (bX m c t) r) (fun j => dhB m c t r j * bG m c t (ix2 0 j)) k := by
  by_cases h : t.val % 32 = 0
  · rw [outsAt0_A m c t h]
    dsimp only
    frame_open
    simp (disch := decide) only [↓ View.readCov_skip, ↓ View.readCov_cons_toLoadRect, ↓ View.readCov_fill]
    frame_out
    exact gx_pay m c t r k
  · rw [outsAt0_B m c t h]
    dsimp only
    frame_open
    simp (disch := decide) only [↓ View.readCov_skip, ↓ View.readCov_cons_toLoadRect, ↓ View.readCov_fill]
    frame_out
    exact gx_pay m c t r k

/-- The first point starts the gain's gradient from zero; a later one adds to what the point before left. -/
theorem dg_first (h : t.val % 32 = 0) : (outsAt0 m c t.val t.isLt).2.1 (ix2 0 k) = dgB m c t k := by
  rw [outsAt0_A m c t h]
  dsimp only
  frame_open
  simp (disch := decide) only [↓ View.readCov_skip, ↓ View.readCov_cons_toLoadRect, ↓ View.readCov_fill]
  frame_out
  refine (dg_pay m c t k _).trans ?_
  rw [pay8_at, zero_add]
theorem dg_next (h : ¬t.val % 32 = 0) : (outsAt0 m c t.val t.isLt).2.1 (ix2 0 k)
    = (outsAt0 m c (t.val - 1) (Nat.lt_of_le_of_lt (Nat.sub_le _ _) t.isLt)).2.1 (ix2 0 k) + dgB m c t k := by
  rw [outsAt0_B m c t h]
  dsimp only
  frame_open
  simp (disch := decide) only [↓ View.readCov_skip, ↓ View.readCov_cons_toLoadRect, ↓ View.readCov_fill]
  frame_out
  exact dg_pay m c t k _

/-- After a point, the gain's gradient is the sum of the parts so far. -/
theorem dg_sum : ∀ (n : ℕ) (hn : n < cfg0.N), (outsAt0 m c n hn).2.1 (ix2 0 k)
    = ∑ p : Fin (n + 1), dgB m c ⟨p.val, lt_of_le_of_lt (Nat.le_of_lt_succ p.isLt) hn⟩ k
  | 0, hn => by
    rw [Fin.sum_univ_one]
    exact dg_first m c ⟨0, hn⟩ k rfl
  | n + 1, hn => by
    have hN : n + 1 < 32 := lt_of_lt_of_eq hn N_0
    refine (dg_next m c ⟨n + 1, hn⟩ k (by show ¬(n + 1) % 32 = 0; omega)).trans ?_
    rw [Fin.sum_univ_castSucc]
    exact congrArg (· + dgB m c ⟨n + 1, hn⟩ k) (dg_sum n (Nat.lt_of_succ_lt hn))

end

end FfnBwd

end
-- ==== Proof.BlkFfn.lean ====
module

public import proofs.«01_k».proof.Proof.KerFfn
public import Idealize.ShloMosaic.Lib.Tactic.CleanTypes
public import Idealize.ShloMosaic.Lib.StableHlo.RunRead
public import Idealize.ShloMosaic.Lib.IdealHost

/-!
The blocks a grid point of the feed-forward layer's backward call reads, at an index, over the program's arguments.
-/

@[expose] public section

set_option maxRecDepth 16384

noncomputable section

namespace FfnBwd

open Idealize.ShloMosaic Idealize.SL.Sem MixRows Cert.Kernel2Ideal Cert.Kernel2Ideal.Gen

/-- Row `r` of point `t`'s block is row `256 t + r` of the array. -/
def rowOf (t : Fin cfg0.N) (r : Fin 256) : Fin 8192 :=
  ⟨t.val * 256 + r, by have h := lt_of_lt_of_eq t.isLt N_0; omega⟩

section
variable (m : (ℓ : Loc nD τ sig) → Buf (Elt Ideal) ℓ) (c : Dev nD)

/-! The arguments: the gradient at the layer's output, its input, the gain, and the three weights. -/
abbrev aGo : FVec Ideal S8192x1024 .f32 := m ((c.tc : Thread nD τ).loc main_arg0)
abbrev aX : FVec Ideal S8192x1024 .f32 := m ((c.tc : Thread nD τ).loc main_arg1)
abbrev aG : FVec Ideal S1024 .f32 := m ((c.tc : Thread nD τ).loc main_arg2)
abbrev aWg : FVec Ideal S1024x2816 .f32 := m ((c.tc : Thread nD τ).loc main_arg3)
abbrev aWu : FVec Ideal S1024x2816 .f32 := m ((c.tc : Thread nD τ).loc main_arg4)
abbrev aWd : FVec Ideal S2816x1024 .f32 := m ((c.tc : Thread nD τ).loc main_arg5)

/-- Where the blocks of the inputs lie. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 1 ∧ win0_6.index t (1 : Fin 3) = 0 ∧ win0_6.index t (2 : Fin 3) = 0)
    ∧ (win0_7.index t (0 : Fin 3) = 2 ∧ win0_7.index t (1 : Fin 3) = 0 ∧ win0_7.index t (2 : Fin 3) = 0) := by decide +kernel

variable (t : Fin cfg0.N)

theorem bGo_at (r : Fin 256) (k : Fin 1024) : bGo m c t (ix2 r k) = aGo m c (ix2 (rowOf t r) k) := by
  unfold rowOf
  blk_ext! [bGo, iblk, V, idx t]
theorem bX_at (r : Fin 256) (k : Fin 1024) : bX m c t (ix2 r k) = aX m c (ix2 (rowOf t r) k) := by
  unfold rowOf
  blk_ext! [bX, iblk, V, idx t]

/-! The operands the host prepares, at an index. -/
theorem gain_at (k : Fin 1024) : (V m c main_v24 : FVec Ideal S1x1024 .f32) (ix2 0 k) = aG m c (ix1 k) := by
  simp only [V, hostOps0]
  entry_read
  pointwise
/-- The three weights as the host stacks them, the two input weights transposed. -/
def stack (wg wu : FVec Ideal S1024x2816 .f32) (wd : FVec Ideal S2816x1024 .f32) : FVec Ideal S3x2816x1024 .bf16 :=
  truncf .bf16 (concatenate S3x2816x1024 0
    [⟨S1x2816x1024, broadcastInDim S1x2816x1024 ![1, 2] bcast_S2816x1024_S1x2816x1024_1_2
      (transpose S2816x1024 [1, 0] wg transposes_S1024x2816_S2816x1024_1_0)⟩,
     ⟨S1x2816x1024, broadcastInDim S1x2816x1024 ![1, 2] bcast_S2816x1024_S1x2816x1024_1_2
      (transpose S2816x1024 [1, 0] wu transposes_S1024x2816_S2816x1024_1_0)⟩,
     ⟨S1x2816x1024, broadcastInDim S1x2816x1024 ![1, 2] bcast_S2816x1024_S1x2816x1024_1_2 wd⟩]
    concatenates_S1x2816x1024_S1x2816x1024_S1x2816x1024_S3x2816x1024_d0) bitsLt_bf16_f32

open StableHlo in
theorem stack_eq : (V m c main_v6 : FVec Ideal S3x2816x1024 .bf16) = stack (aWg m c) (aWu m c) (aWd m c) := by
  show after (hostOps0 (F := Ideal)) (fun b => m (c, b)) (Proc.devRef .tc main_v6) = _
  rw [after_last_write (i := 6) [main_v7, main_cst, main_v8, main_v9, main_cst_0, main_v10, main_v11, main_cst_1, main_v12, main_v13, main_v14,
    main_v15, main_v16, main_v17, main_v18, main_v19, main_v20, main_v21, main_v22, main_v23, main_v24] rfl rfl (by decide)]
  rw [unary_result, upto_last_write (i := 5) [] rfl rfl (by decide), nary_result]
  have e2 : upto (hostOps0 (F := Ideal)) (fun b => m (c, b)) 5 (Proc.devRef .tc main_v2)
      = broadcastInDim S1x2816x1024 ![1, 2] bcast_S2816x1024_S1x2816x1024_1_2
        (transpose S2816x1024 [1, 0] (aWg m c) transposes_S1024x2816_S2816x1024_1_0) := by
    rw [upto_last_write (i := 2) [main_v3, main_v4] rfl rfl (by decide), unary_result,
      upto_last_write (i := 0) [main_v1] rfl rfl (by decide), unary_result]
    rfl
  have e3 : upto (hostOps0 (F := Ideal)) (fun b => m (c, b)) 5 (Proc.devRef .tc main_v3)
      = broadcastInDim S1x2816x1024 ![1, 2] bcast_S2816x1024_S1x2816x1024_1_2
        (transpose S2816x1024 [1, 0] (aWu m c) transposes_S1024x2816_S2816x1024_1_0) := by
    rw [upto_last_write (i := 3) [main_v4] rfl rfl (by decide), unary_result,
      upto_last_write (i := 1) [main_v2] rfl rfl (by decide), unary_result, upto_unwritten [main_v0] rfl (by decide)]
  have e4 : upto (hostOps0 (F := Ideal)) (fun b => m (c, b)) 5 (Proc.devRef .tc main_v4)
      = broadcastInDim S1x2816x1024 ![1, 2] bcast_S2816x1024_S1x2816x1024_1_2 (aWd m c) := by
    rw [upto_last_write (i := 4) [] rfl rfl (by decide), unary_result, upto_unwritten [main_v0, main_v1, main_v2, main_v3] rfl (by decide)]
  unfold stack
  rw [← e2, ← e3, ← e4]
  rfl

theorem wg_at (f : Fin 2816) (k : Fin 1024) : (V m c main_v6 : FVec Ideal S3x2816x1024 .bf16) (ix3 0 f k) = aWg m c (ix2 k f) := by
  rw [stack_eq]
  pointwise [stack]
theorem wu_at (f : Fin 2816) (k : Fin 1024) : (V m c main_v6 : FVec Ideal S3x2816x1024 .bf16) (ix3 1 f k) = aWu m c (ix2 k f) := by
  rw [stack_eq]
  pointwise [stack]
theorem wd_at (f : Fin 2816) (k : Fin 1024) : (V m c main_v6 : FVec Ideal S3x2816x1024 .bf16) (ix3 2 f k) = aWd m c (ix2 f k) := by
  rw [stack_eq]
  pointwise [stack]
theorem a_at (n : Fin 8192) (f : Fin 2816) : (V m c main_v21 : FVec Ideal S8192x2816 .bf16) (ix2 n f)
    = inRow (fun k => aX m c (ix2 n k)) (fun k => aG m c (ix1 k)) (fun k f => aWg m c (ix2 k f)) f := by
  simp only [V, hostOps0]
  entry_read
  pointwise
  rfl
theorem b_at (n : Fin 8192) (f : Fin 2816) : (V m c main_v23 : FVec Ideal S8192x2816 .bf16) (ix2 n f)
    = inRow (fun k => aX m c (ix2 n k)) (fun k => aG m c (ix1 k)) (fun k f => aWu m c (ix2 k f)) f := by
  simp only [V, hostOps0]
  entry_read
  pointwise
  rfl

theorem bG_at (k : Fin 1024) : bG m c t (ix2 0 k) = aG m c (ix1 k) := by
  rw [← gain_at]
  blk_ext [bG, iblk, idx t]
theorem bWg_at (f : Fin 2816) (k : Fin 1024) : bWg m c t (ix3 0 f k) = aWg m c (ix2 k f) := by
  rw [← wg_at]
  blk_ext [bWg, iblk, idx t]
theorem bWu_at (f : Fin 2816) (k : Fin 1024) : bWu m c t (ix3 0 f k) = aWu m c (ix2 k f) := by
  rw [← wu_at]
  blk_ext [bWu, iblk, idx t]
theorem bWd_at (f : Fin 2816) (k : Fin 1024) : bWd m c t (ix3 0 f k) = aWd m c (ix2 f k) := by
  rw [← wd_at]
  blk_ext [bWd, iblk, idx t]
theorem bA_at (r : Fin 256) (f : Fin 2816) : bA m c t (ix2 r f)
    = inRow (fun k => aX m c (ix2 (rowOf t r) k)) (fun k => aG m c (ix1 k)) (fun k f => aWg m c (ix2 k f)) f := by
  rw [← a_at]
  unfold rowOf
  blk_ext [bA, iblk, idx t]
theorem bB_at (r : Fin 256) (f : Fin 2816) : bB m c t (ix2 r f)
    = inRow (fun k => aX m c (ix2 (rowOf t r) k)) (fun k => aG m c (ix1 k)) (fun k f => aWu m c (ix2 k f)) f := by
  rw [← b_at]
  unfold rowOf
  blk_ext [bB, iblk, idx t]

end

end FfnBwd

end
-- ==== Proof.RefFfn.lean ====
module

public import proofs.«01_k».proof.Proof.Gen.Reference2Ideal
public import proofs.«01_k».proof.Proof.FfnMath
public import Idealize.ShloMosaic.Lib.Pipeline.ValueKit
public import Idealize.ShloMosaic.Lib.IdealHost
public import Idealize.ShloMosaic.Lib.Tactic.CleanTypes

/-!
The reference's values of the feed-forward layer's backward pass, named step by step, and each at an index.
-/

@[expose] public section

set_option maxRecDepth 16384

noncomputable section

namespace FfnBwd.Ref

open Idealize.ShloMosaic Idealize.SL.Sem MixRows FfnBwd Cert.Reference2Ideal Cert.Reference2Ideal.Gen

abbrev Wide : Type := FVec Ideal S8192x1024 .f32
abbrev Hid : Type := FVec Ideal S8192x2816 .f32
abbrev Col : Type := FVec Ideal S8192x1 .f32

section
variable (go x : Wide) (g : FVec Ideal S1024 .f32) (wg wu : FVec Ideal S1024x2816 .f32) (wd : FVec Ideal S2816x1024 .f32)

abbrev zero : FVec Ideal S_ .f32 := constant S_ .f32 0x00000000#32
/-- The norm: the mean square and its constant, the reciprocal root, the rows scaled by it, then by the weight. -/
def sqmV : Col := addf (Host.divf (broadcastInDim S8192x1 ![0] bcast_S8192_S8192x1_0 (Host.reduceAdd (mulf x x) zero reducesTo_S8192x1024_S8192_d1 h_S_))
  (broadcastInDim S8192x1 ![] bcast_S_S8192x1 (constant S_ .f32 0x44800000#32))) (broadcastInDim S8192x1 ![] bcast_S_S8192x1 (constant S_ .f32 0x358637BD#32))
def rrV : Col := Host.rsqrt (sqmV x)
def nrmV : Wide := mulf x (broadcastInDim S8192x1024 ![0, 1] bcast_S8192x1_S8192x1024_0_1 (rrV x))
def gainV : Wide := broadcastInDim S8192x1024 ![0, 1] bcast_S1x1024_S8192x1024_0_1 (broadcastInDim S1x1024 ![1] bcast_S1024_S1x1024_1 g)
def hV : Wide := mulf (nrmV x) (gainV g)
/-- A product with a weight, the logistic function, the swish, the gated value. -/
def inV (w : FVec Ideal S1024x2816 .f32) : Hid := Host.dotGeneral dot_S8192x1024_S1024x2816_S8192x2816_1_0_0_1_n_n none (hV x g) w
abbrev oneV : Hid := broadcastInDim S8192x2816 ![] bcast_S_S8192x2816 (constant S_ .f32 0x3F800000#32)
def sigV : Hid := Host.divf oneV (addf oneV (Host.exp (Host.negf (inV x g wg))))
def swishV : Hid := mulf (inV x g wg) (sigV x g wg)
def sV : Hid := mulf (swishV x g wg) (inV x g wu)
/-- The gradients: at the branch's output, at the gated value, at the two products. -/
def ghV : Wide := mulf (broadcastInDim S8192x1024 ![] bcast_S_S8192x1024 (constant S_ .f32 0x3F000000#32)) (shapeCast _ go shapeCasts_S8192x1024_S8192x1024)
def dsV : Hid := Host.dotGeneral dot_S8192x1024_S2816x1024_S8192x2816_1_1_0_0_n_n none (ghV go) wd
def dbV : Hid := mulf (swishV x g wg) (dsV go wd)
def dgateV : Hid := mulf (dsV go wd) (inV x g wu)
def daV : Hid := addf (mulf (dgateV go x g wu wd) (sigV x g wg))
  (mulf (mulf (inV x g wg) (dgateV go x g wu wd)) (mulf (sigV x g wg) (subf oneV (sigV x g wg))))
/-- The gradient at the normed rows, and at the scaled ones. -/
def dhV : Wide := addf (Host.dotGeneral dot_S8192x2816_S1024x2816_S8192x1024_1_1_0_0_n_n none (dbV go x g wg wd) wu)
  (Host.dotGeneral dot_S8192x2816_S1024x2816_S8192x1024_1_1_0_0_n_n none (daV go x g wg wu wd) wg)
def duV : Wide := mulf (dhV go x g wg wu wd) (gainV g)
/-- From the gradient `dh` at the normed rows: that of the norm's weight. -/
def dgOf (dh : Wide) : FVec Ideal S1x1024 .f32 := shapeCast _ (Host.reduceAdd (shapeCast S1x1024
  (Host.reduceAdd (mulf (nrmV x) dh) zero reducesTo_S8192x1024_S1024_d0 h_S_) shapeCasts_S1024_S1x1024) zero
  reducesTo_S1x1024_S1024_d0 h_S_) shapeCasts_S1024_S1x1024
/-- From the gradient `du` at the scaled rows: the part that comes through the mean square, and the gradient at the norm's input, added to `res`. -/
def viaOf (du : Wide) : Wide := broadcastInDim S8192x1024 ![0] bcast_S8192_S8192x1024_0 (Host.reduceAdd (Host.divf
  (mulf (shapeCast _ (Host.reduceAdd (mulf x du) zero reducesTo_S8192x1024_S8192_d1 h_S_) shapeCasts_S8192_S8192x1)
    (mulf (broadcastInDim S8192x1 ![] bcast_S_S8192x1 (constant S_ .f32 0xBF000000#32)) (Host.divf (rrV x) (sqmV x))))
  (broadcastInDim S8192x1 ![] bcast_S_S8192x1 (constant S_ .f32 0x44800000#32))) zero reducesTo_S8192x1_S8192_d1 h_S_)
def gxOf (res du : Wide) : Wide := addf res (addf (addf (mulf du (broadcastInDim S8192x1024 ![0, 1] bcast_S8192x1_S8192x1024_0_1 (rrV x)))
  (mulf x (viaOf x du))) (mulf (viaOf x du) x))
def dgV : FVec Ideal S1x1024 .f32 := dgOf x (dhV go x g wg wu wd)
def gxV : Wide := gxOf x go (duV go x g wg wu wd)

/-! Each at an index, in the words of `FfnMath`. -/
abbrev rowW (y : Wide) (n : Fin 8192) (k : Fin 1024) : EReal := y (ix2 n k)
abbrev vec (y : FVec Ideal S1024 .f32) (k : Fin 1024) : EReal := y (ix1 k)
abbrev mat (w : FVec Ideal S1024x2816 .f32) (k : Fin 1024) (f : Fin 2816) : EReal := w (ix2 k f)
abbrev matD (w : FVec Ideal S2816x1024 .f32) (f : Fin 2816) (k : Fin 1024) : EReal := w (ix2 f k)

variable (n : Fin 8192) (k : Fin 1024) (f : Fin 2816)

theorem sqm_at : sqmV x (ix2 n 0) = sqm (rowW x n) := by
  pointwise [sqmV]
  try rfl
theorem rr_at : rrV x (ix2 n 0) = rr (rowW x n) := by
  pointwise [rrV, sqm_at]
  try rfl
theorem nrm_at : nrmV x (ix2 n k) = x (ix2 n k) * rr (rowW x n) := by
  pointwise [nrmV, rr_at]
theorem gain_at : gainV g (ix2 n k) = g (ix1 k) := by
  pointwise [gainV]
theorem h_at : hV x g (ix2 n k) = hRow (rowW x n) (vec g) k := by
  pointwise [hV, nrm_at, gain_at]
  try rfl
theorem in_at (w : FVec Ideal S1024x2816 .f32) : inV x g w (ix2 n f) = inRow (rowW x n) (vec g) (mat w) f := by
  pointwise [inV, h_at]
  try rfl
theorem sig_at : sigV x g wg (ix2 n f) = sigR (inRow (rowW x n) (vec g) (mat wg) f) := by
  pointwise [sigV, in_at]
  try rfl
theorem swish_at : swishV x g wg (ix2 n f) = inRow (rowW x n) (vec g) (mat wg) f * sigR (inRow (rowW x n) (vec g) (mat wg) f) := by
  pointwise [swishV, in_at, sig_at]
theorem s_at : sV x g wg wu (ix2 n f) = sRowR (rowW x n) (vec g) (mat wg) (mat wu) f := by
  pointwise [sV, swish_at, in_at]
  try rfl
theorem gh_at : ghV go (ix2 n k) = half * go (ix2 n k) := by
  pointwise [ghV]
  try rfl
theorem ds_at : dsV go wd (ix2 n f) = dsRow (rowW go n) (matD wd) f := by
  pointwise [dsV, gh_at]
  try rfl
theorem db_at : dbV go x g wg wd (ix2 n f) = dbRowR (rowW go n) (rowW x n) (vec g) (mat wg) (matD wd) f := by
  pointwise [dbV, swish_at, ds_at]
  try rfl
theorem dgate_at : dgateV go x g wu wd (ix2 n f) = dsRow (rowW go n) (matD wd) f * inRow (rowW x n) (vec g) (mat wu) f := by
  pointwise [dgateV, in_at, ds_at]
theorem da_at : daV go x g wg wu wd (ix2 n f) = daRowR (rowW go n) (rowW x n) (vec g) (mat wg) (mat wu) (matD wd) f := by
  pointwise [daV, dgate_at, in_at, sig_at]
  try rfl
theorem dh_at : dhV go x g wg wu wd (ix2 n k) = dhRowR (rowW go n) (rowW x n) (vec g) (mat wg) (mat wu) (matD wd) k := by
  pointwise [dhV, db_at, da_at]
  try rfl
theorem du_at : duV go x g wg wu wd (ix2 n k)
    = dhRowR (rowW go n) (rowW x n) (vec g) (mat wg) (mat wu) (matD wd) k * g (ix1 k) := by
  pointwise [duV, dh_at, gain_at]
theorem dg_of (dh : Wide) : dgOf x dh (ix2 0 k) = ∑ n : Fin 8192, x (ix2 n k) * rr (rowW x n) * dh (ix2 n k) := by
  pointwise [dgOf, nrm_at]
  rw [Fin.sum_univ_one]
theorem via_of (du : Wide) : viaOf x du (ix2 n k) = viaSq (rowW x n) (rowW du n) := by
  pointwise [viaOf]
  rw [Fin.sum_univ_one, rr_at, sqm_at]
  rfl
theorem gx_of (res du : Wide) : gxOf x res du (ix2 n k) = res (ix2 n k) + rmsBwdR (rowW x n) (rowW du n) k := by
  pointwise [gxOf, via_of, rr_at]
  try rfl
theorem dg_at : dgV go x g wg wu wd (ix2 0 k)
    = ∑ n : Fin 8192, dgRowR (rowW go n) (rowW x n) (vec g) (mat wg) (mat wu) (matD wd) k := by
  rw [dgV, dg_of]
  exact Finset.sum_congr rfl fun n _ => congrArg (x (ix2 n k) * rr (rowW x n) * ·) (dh_at go x g wg wu wd n k)
theorem gx_at : gxV go x g wg wu wd (ix2 n k)
    = gxRowR (rowW go n) (rowW x n) (vec g) (mat wg) (mat wu) (matD wd) k := by
  rw [gxV, gx_of]
  exact congrArg (fun u => go (ix2 n k) + rmsBwdR (rowW x n) u k) (funext fun j => du_at go x g wg wu wd n j)

end

end FfnBwd.Ref

end
-- ==== Proof.OutFfn.lean ====
module

public import proofs.«01_k».proof.Proof.Gen.Kernel2Ideal.Value
public import proofs.«01_k».proof.Proof.BlkFfn
public import proofs.«01_k».proof.Proof.RefFfn

/-!
The six results of the feed-forward layer's backward call, at an index, over the program's arguments.
-/

@[expose] public section

set_option maxRecDepth 16384

noncomputable section

namespace FfnBwd

open Idealize.ShloMosaic Idealize.SL.Sem MixRows Cert.Kernel2Ideal Cert.Kernel2Ideal.Gen Cert.Kernel2Ideal.Value

section
variable (m : (ℓ : Loc nD τ sig) → Buf (Elt Ideal) ℓ) (c : Dev nD)

/-! A row of the gradient and of the layer's input; the gain and the weights as functions. -/
abbrev goK (n : Fin 8192) : Fin 1024 → EReal := Ref.rowW (aGo m c) n
abbrev xK (n : Fin 8192) : Fin 1024 → EReal := Ref.rowW (aX m c) n
abbrev gK : Fin 1024 → EReal := Ref.vec (aG m c)
abbrev wgK : Fin 1024 → Fin 2816 → EReal := Ref.mat (aWg m c)
abbrev wuK : Fin 1024 → Fin 2816 → EReal := Ref.mat (aWu m c)
abbrev wdK : Fin 2816 → Fin 1024 → EReal := Ref.matD (aWd m c)

section
variable (t : Fin cfg0.N) (r : Fin 256) (k : Fin 1024) (f : Fin 2816)

/-! A point's values at its row `r`. -/
theorem ds_row : dsB m c t r f = dsRow (goK m c (rowOf t r)) (wdK m c) f :=
  Finset.sum_congr rfl fun k _ => by rw [bGo_at, bWd_at]
theorem da_row : daB m c t r f = daRow (goK m c (rowOf t r)) (xK m c (rowOf t r)) (gK m c) (wgK m c) (wuK m c) (wdK m c) f := by
  unfold daB
  rw [ds_row, bA_at, bB_at]
  rfl
theorem db_row : dbB m c t r f = dbRow (goK m c (rowOf t r)) (xK m c (rowOf t r)) (gK m c) (wgK m c) (wdK m c) f := by
  unfold dbB
  rw [ds_row, bA_at]
  rfl
theorem dh_row : dhB m c t r k = dhRow (goK m c (rowOf t r)) (xK m c (rowOf t r)) (gK m c) (wgK m c) (wuK m c) (wdK m c) k :=
  congrArg₂ (· + ·) (Finset.sum_congr rfl fun f _ => by rw [da_row, bWg_at]) (Finset.sum_congr rfl fun f _ => by rw [db_row, bWu_at])
theorem x_row : row (bX m c t) r = xK m c (rowOf t r) := funext fun k => bX_at m c t r k

theorem gx_row : (outsAt0 m c t.val t.isLt).1 (ix2 r k)
    = gxRow (goK m c (rowOf t r)) (xK m c (rowOf t r)) (gK m c) (wgK m c) (wuK m c) (wdK m c) k := by
  rw [gx_point, x_row, bGo_at]
  exact congrArg (fun u => goK m c (rowOf t r) k + rmsBwd (xK m c (rowOf t r)) u k) (funext fun j => by rw [dh_row, bG_at])
theorem s_row : (outsAt0 m c t.val t.isLt).2.2.2.2.1 (ix2 r f) = sRow (xK m c (rowOf t r)) (gK m c) (wgK m c) (wuK m c) f := by
  rw [s_point, bA_at, bB_at]
  rfl
theorem dg_part : dgB m c t k
    = ∑ r : Fin 256, dgRow (goK m c (rowOf t r)) (xK m c (rowOf t r)) (gK m c) (wgK m c) (wuK m c) (wdK m c) k :=
  Finset.sum_congr rfl fun r _ => by
    rw [dh_row, x_row, bX_at]
    rfl

/-- Where the blocks of the results lie. -/
theorem idxOut : ∀ t : Fin cfg0.N,
    (win0_8.index t (0 : Fin 2) = t.val ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) := by decide +kernel

/-! An index of an array from its two coordinates, and the coordinate that a block's position gives. -/
theorem starts {i v : ℕ} (s x : ℕ) (h : i = v) : i * s + 1 * x = v * s + x := by rw [h, one_mul]
theorem starts_zero {i s : ℕ} (x : ℕ) (h : i = 0) : i * s + 1 * x = x := by rw [h, zero_mul, zero_add, one_mul]
theorem ix2_of {A B : ℕ} {i : Shape.Idx ⟨2, ![A, B]⟩} {a : Fin A} {b : Fin B} (h0 : (i 0).val = a.val) (h1 : (i 1).val = b.val) :
    ix2 a b = i :=
  (eq_ix2 i).symm ▸ congrArg₂ ix2 (Fin.ext h0.symm) (Fin.ext h1.symm)

/-! The result arrays at a block's row. -/
theorem arr8 : ((dats m 0 c).arrAt 8 cfg0.N : FVec Ideal S8192x1024 .f32) (ix2 (rowOf t r) k)
    = gxRow (goK m c (rowOf t r)) (xK m c (rowOf t r)) (gK m c) (wgK m c) (wuK m c) (wdK m c) k :=
  ((congrArg ((dats m 0 c).arrAt 8 cfg0.N : FVec Ideal S8192x1024 .f32)
      (ix2_of (starts _ _ (idxOut t).1.1) (starts_zero _ (idxOut t).1.2))).trans
    (congrFun ((blocks8 m c t (flush0_8 t)).trans (flushed8 m c t)) (ix2 r k))).trans (gx_row m c t r k)
theorem arr10 : ((dats m 0 c).arrAt 10 cfg0.N : FVec Ideal S8192x2816 .bf16) (ix2 (rowOf t r) f)
    = daRow (goK m c (rowOf t r)) (xK m c (rowOf t r)) (gK m c) (wgK m c) (wuK m c) (wdK m c) f :=
  ((congrArg ((dats m 0 c).arrAt 10 cfg0.N : FVec Ideal S8192x2816 .bf16)
      (ix2_of (starts _ _ (idxOut t).2.2.1.1) (starts_zero _ (idxOut t).2.2.1.2))).trans
    (congrFun ((blocks10 m c t (flush0_10 t)).trans (flushed10 m c t)) (ix2 r f))).trans ((da_point m c t r f).trans (da_row m c t r f))
theorem arr11 : ((dats m 0 c).arrAt 11 cfg0.N : FVec Ideal S8192x2816 .bf16) (ix2 (rowOf t r) f)
    = dbRow (goK m c (rowOf t r)) (xK m c (rowOf t r)) (gK m c) (wgK m c) (wdK m c) f :=
  ((congrArg ((dats m 0 c).arrAt 11 cfg0.N : FVec Ideal S8192x2816 .bf16)
      (ix2_of (starts _ _ (idxOut t).2.2.2.1.1) (starts_zero _ (idxOut t).2.2.2.1.2))).trans
    (congrFun ((blocks11 m c t (flush0_11 t)).trans (flushed11 m c t)) (ix2 r f))).trans ((db_point m c t r f).trans (db_row m c t r f))
theorem arr12 : ((dats m 0 c).arrAt 12 cfg0.N : FVec Ideal S8192x2816 .bf16) (ix2 (rowOf t r) f)
    = sRow (xK m c (rowOf t r)) (gK m c) (wgK m c) (wuK m c) f :=
  ((congrArg ((dats m 0 c).arrAt 12 cfg0.N : FVec Ideal S8192x2816 .bf16)
      (ix2_of (starts _ _ (idxOut t).2.2.2.2.1.1) (starts_zero _ (idxOut t).2.2.2.2.1.2))).trans
    (congrFun ((blocks12 m c t (flush0_12 t)).trans (flushed12 m c t)) (ix2 r f))).trans (s_row m c t r f)
theorem arr13 : ((dats m 0 c).arrAt 13 cfg0.N : FVec Ideal S8192x1024 .bf16) (ix2 (rowOf t r) k) = half * goK m c (rowOf t r) k :=
  ((congrArg ((dats m 0 c).arrAt 13 cfg0.N : FVec Ideal S8192x1024 .bf16)
      (ix2_of (starts _ _ (idxOut t).2.2.2.2.2.1) (starts_zero _ (idxOut t).2.2.2.2.2.2))).trans
    (congrFun ((blocks13 m c t (flush0_13 t)).trans (flushed13 m c t)) (ix2 r k))).trans
      ((gh_point m c t r k).trans (congrArg (half * ·) (bGo_at m c t r k)))
end

/-- The rows of all the blocks are the rows of the array. -/
theorem rows_sum (F : Fin 8192 → EReal) :
    ∑ t : Fin 32, ∑ r : Fin 256, F (rowOf ⟨t.val, lt_of_lt_of_eq t.isLt N_0.symm⟩ r) = ∑ n : Fin 8192, F n := by
  refine (Fintype.sum_prod_type' fun (t : Fin 32) (r : Fin 256) => F (rowOf ⟨t.val, lt_of_lt_of_eq t.isLt N_0.symm⟩ r)).symm.trans ?_
  refine Fintype.sum_equiv (finProdFinEquiv (m := 32) (n := 256)) _ _ fun p => congrArg F (Fin.ext ?_)
  rw [rowOf, finProdFinEquiv_apply_val]
  ring

/-- The gain's gradient is written back once, after the last point. -/
theorem last_flush {t : Fin cfg0.N} (h : (cfg0.win 9).flush t = true) : t.val = 31 := by
  have h1 := (flush0_9 t).mp h
  have h2 := lt_of_lt_of_eq t.isLt N_0
  omega
theorem block9 (t : Fin cfg0.N) (h : (cfg0.win 9).flush t = true) :
    ((cfg0.win 9).blk t).view.read (Elt Ideal) ((dats m 0 c).arrAt 9 cfg0.N) = (cfg0.win 9).cut (grid0.coords t) (outsAt0 m c t.val t.isLt).2.1 :=
  ((dats m 0 c).read_blk_arrAt_eq_flushed 9
    (fun _ _ h h' hne => absurd (Fin.ext ((last_flush h).trans (last_flush h').symm)) hne) cfg0.N t t.isLt h).trans (flushed9 m c t)

/-- So it is the sum over all the rows. -/
theorem arr9 (k : Fin 1024) : ((dats m 0 c).arrAt 9 cfg0.N : FVec Ideal S1x1024 .f32) (ix2 0 k)
    = ∑ n : Fin 8192, dgRow (goK m c n) (xK m c n) (gK m c) (wgK m c) (wuK m c) (wdK m c) k := by
  have hl : 31 < cfg0.N := lt_of_lt_of_eq (by decide) N_0.symm
  refine ((congrArg ((dats m 0 c).arrAt 9 cfg0.N : FVec Ideal S1x1024 .f32)
      (ix2_of (starts_zero (s := 1) _ (idxOut ⟨31, hl⟩).2.1.1) (starts_zero (s := 1024) _ (idxOut ⟨31, hl⟩).2.1.2))).trans
    (congrFun (block9 m c ⟨31, hl⟩ ((flush0_9 ⟨31, hl⟩).mpr rfl)) (ix2 0 k))).trans ?_
  refine (dg_sum m c k 31 hl).trans ?_
  exact (Finset.sum_congr rfl fun p _ => dg_part m c ⟨p.val, _⟩ k).trans
    (rows_sum fun n => dgRow (goK m c n) (xK m c n) (gK m c) (wgK m c) (wuK m c) (wdK m c) k)
end

end FfnBwd

end
-- ==== Proof.WholeFfn.lean ====
module

public import proofs.«01_k».proof.Defs
public import proofs.«01_k».proof.Proof.Gen.Pre_finite_layer
public import proofs.«01_k».proof.Proof.Gen.Reference2Ideal.Run
public import proofs.«01_k».proof.Proof.OutFfn
public import proofs.«01_k».proof.Proof.Whole

/-!
The feed-forward layer's backward call: the precondition's content, the six results as whole arrays, and the claim that
relates the two programs' runs.
-/

@[expose] public section

set_option maxRecDepth 16384

noncomputable section

namespace FfnBwd

open Idealize.ShloMosaic Idealize.SL.Sem MixRows Cert.Kernel2Ideal Cert.Kernel2Ideal.Gen Cert.Kernel2Ideal.Value

/-- The precondition: every entry of the six arguments is a real number. -/
structure Real6 (go x : Ref.Wide) (g : FVec Ideal Cert.Reference2Ideal.S1024 .f32) (wg wu : FVec Ideal Cert.Reference2Ideal.S1024x2816 .f32)
    (wd : FVec Ideal Cert.Reference2Ideal.S2816x1024 .f32) : Prop where
  go : ∀ i, Re (go i)
  x : ∀ i, Re (x i)
  g : ∀ i, Re (g i)
  wg : ∀ i, Re (wg i)
  wu : ∀ i, Re (wu i)
  wd : ∀ i, Re (wd i)

theorem real_of_pre [Cert.Pre_finite_layer.Facts] {m : (ℓ : Loc nD τ sig) → Buf (Elt Ideal) ℓ} (hp : Cert.Pre_Kernel2Ideal_finite_layer m)
    (c : Dev nD) : Real6 (aGo m c) (aX m c) (aG m c) (aWg m c) (aWu m c) (aWd m c) := by
  have e := congrFun (hp c) (fun i => i.elim0)
  dsimp only [Cert.Pre_finite_layer.fn, Cert.Pre_finite_layer.fn_part1] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => re_of_all _ _ _ _ _ e0 i, fun i => re_of_all _ _ _ _ _ e1 i, fun i => re_of_all _ _ _ _ _ e2 i,
    fun i => re_of_all _ _ _ _ _ e3 i, fun i => re_of_all _ _ _ _ _ e4 i, fun i => re_of_all _ _ _ _ _ e5 i⟩

/-! The six result arrays. -/
section
variable (m : (ℓ : Loc nD τ sig) → Buf (Elt Ideal) ℓ) (c : Dev nD)
def out0 : FVec Ideal S8192x1024 .f32 := (dats m 0 c).arrAt 8 cfg0.N
def out1 : FVec Ideal S1x1024 .f32 := (dats m 0 c).arrAt 9 cfg0.N
def out2 : FVec Ideal S8192x2816 .bf16 := (dats m 0 c).arrAt 10 cfg0.N
def out3 : FVec Ideal S8192x2816 .bf16 := (dats m 0 c).arrAt 11 cfg0.N
def out4 : FVec Ideal S8192x2816 .bf16 := (dats m 0 c).arrAt 12 cfg0.N
def out5 : FVec Ideal S8192x1024 .bf16 := (dats m 0 c).arrAt 13 cfg0.N
end

/-- Every row is a row of a block. -/
theorem row_split (n : Fin 8192) : ∃ t r, n = rowOf t r :=
  ⟨⟨n / 256, lt_of_lt_of_eq (by omega) N_0.symm⟩, ⟨n % 256, by omega⟩, Fin.ext (by simp only [rowOf]; omega)⟩

section
variable {m : (ℓ : Loc nD τ sig) → Buf (Elt Ideal) ℓ} {c : Dev nD}

theorem whole5 : out5 m c = Ref.ghV (aGo m c) := ext2 fun n k => by
  obtain ⟨t, r, rfl⟩ := row_split n
  exact (arr13 m c t r k).trans (Ref.gh_at (aGo m c) (rowOf t r) k).symm

variable (R : Real6 (aGo m c) (aX m c) (aG m c) (aWg m c) (aWu m c) (aWd m c))
include R

theorem whole0 : out0 m c
    = Ref.gxV (aGo m c) (aX m c) (aG m c) (aWg m c) (aWu m c) (aWd m c) := ext2 fun n k => by
  obtain ⟨t, r, rfl⟩ := row_split n
  exact (arr8 m c t r k).trans ((gxRow_eq _ _ _ _ _ _ (fun _ => R.go _) (fun _ => R.x _) (fun _ => R.g _) (fun _ _ => R.wg _)
    (fun _ _ => R.wu _) (fun _ _ => R.wd _) k).trans (Ref.gx_at (aGo m c) (aX m c) (aG m c) (aWg m c) (aWu m c) (aWd m c) (rowOf t r) k).symm)
theorem whole1 : out1 m c
    = Ref.dgV (aGo m c) (aX m c) (aG m c) (aWg m c) (aWu m c) (aWd m c) := ext2 fun z k => by
  obtain rfl : z = 0 := Subsingleton.elim _ _
  refine (arr9 m c k).trans (Eq.trans ?_ (Ref.dg_at (aGo m c) (aX m c) (aG m c) (aWg m c) (aWu m c) (aWd m c) k).symm)
  change @Eq EReal _ _
  exact Finset.sum_congr rfl fun n _ => dgRow_eq _ _ _ _ _ _ (fun _ => R.go _) (fun _ => R.x _) (fun _ => R.g _) (fun _ _ => R.wg _)
    (fun _ _ => R.wu _) (fun _ _ => R.wd _) k
theorem whole2 : out2 m c
    = Ref.daV (aGo m c) (aX m c) (aG m c) (aWg m c) (aWu m c) (aWd m c) := ext2 fun n f => by
  obtain ⟨t, r, rfl⟩ := row_split n
  exact (arr10 m c t r f).trans ((daRow_eq _ _ _ _ _ _ (fun _ => R.go _) (fun _ => R.x _) (fun _ => R.g _) (fun _ _ => R.wg _)
    (fun _ _ => R.wu _) (fun _ _ => R.wd _) f).trans (Ref.da_at (aGo m c) (aX m c) (aG m c) (aWg m c) (aWu m c) (aWd m c) (rowOf t r) f).symm)
theorem whole3 : out3 m c
    = Ref.dbV (aGo m c) (aX m c) (aG m c) (aWg m c) (aWd m c) := ext2 fun n f => by
  obtain ⟨t, r, rfl⟩ := row_split n
  exact (arr11 m c t r f).trans ((dbRow_eq _ _ _ _ _ (fun _ => R.x _) (fun _ => R.g _) (fun _ _ => R.wg _) f).trans
    (Ref.db_at (aGo m c) (aX m c) (aG m c) (aWg m c) (aWd m c) (rowOf t r) f).symm)
theorem whole4 : out4 m c
    = Ref.sV (aX m c) (aG m c) (aWg m c) (aWu m c) := ext2 fun n f => by
  obtain ⟨t, r, rfl⟩ := row_split n
  exact (arr12 m c t r f).trans ((sRow_eq _ _ _ _ (fun _ => R.x _) (fun _ => R.g _) (fun _ _ => R.wg _) f).trans
    (Ref.s_at (aX m c) (aG m c) (aWg m c) (aWu m c) (rowOf t r) f).symm)

end

/-- The two programs agree on every result, where the precondition holds. -/
theorem algebraic : Cert.algebraic_Kernel2Ideal_Reference2Ideal_pre_finite_layer := by
  intro m g m' g' hp ha
  refine ⟨fun c => out0 m c, fun c => out1 m c, fun c => out2 m c,
    fun c => out3 m c, fun c => out4 m c, fun c => out5 m c,
    run_blocks m g, ?_⟩
  refine θ_run_mono (Cert.Reference2Ideal.Value.run m' g') fun r hr c => ?_
  obtain ⟨r0, r1, r2, r3, r4, r5, kept⟩ := hr c
  obtain ⟨h0, h1, h2, h3, h4, h5⟩ := ha c
  have R := real_of_pre hp c
  unfold Cert.Reference2Ideal.Value.res_main_v54 at r0
  unfold Cert.Reference2Ideal.Value.res_main_v55 at r1
  unfold Cert.Reference2Ideal.Value.res_main_v56 at r2
  rw [h0, h1, h2, h3, h4, h5] at r0 r1 r2
  rw [h0, h1, h2, h3, h5] at r3
  rw [h1, h2, h3, h4] at r4
  rw [h0] at r5
  exact ⟨r0.trans (whole0 R).symm, r1.trans (whole1 R).symm, r2.trans (whole2 R).symm, r3.trans (whole3 R).symm,
    r4.trans (whole4 R).symm, r5.trans whole5.symm, kept⟩

end FfnBwd

end
-- ==== Proof.WeightGrad.lean ====
module

public import proofs.«01_k».proof.Defs
public import proofs.«01_k».proof.Proof.Gen.Kernel3Ideal.Value
public import proofs.«01_k».proof.Proof.Gen.Reference3Ideal.Run
public import Idealize.ShloMosaic.Lib.Tactic.CleanTypes
public import Idealize.ShloMosaic.Lib.Pipeline.ValueKit
public import Idealize.ShloMosaic.Lib.IdealHost
public import Idealize.ShloMosaic.Lib.StableHlo.RunHlo

/-!
A weight's gradient: the product summed block of rows by block of rows, against the product over all rows.
-/

@[expose] public section

set_option maxRecDepth 16384

noncomputable section

namespace WeightGrad

open Idealize.ShloMosaic Idealize.SL.Sem Cert.Kernel3Ideal Cert.Kernel3Ideal.Gen Cert.Kernel3Ideal.Value

section
variable (m : (ℓ : Loc nD τ sig) → Buf (Elt Ideal) ℓ) (c : Dev nD)

/-! The two arguments: the gradient at the layer's output, and its input. -/
abbrev dA : FVec Ideal S8192x2816 .bf16 := m ((c.tc : Thread nD τ).loc main_arg0)
abbrev hA : FVec Ideal S8192x1024 .bf16 := m ((c.tc : Thread nD τ).loc main_arg1)

/-- Where a point's blocks lie: four blocks of rows for each block of columns. -/
theorem idx : ∀ t : Fin cfg0.N,
    (win0_0.index t (0 : Fin 2) = t.val % 4 ∧ win0_0.index t (1 : Fin 2) = t.val / 4)
    ∧ (win0_1.index t (0 : Fin 2) = t.val % 4 ∧ win0_1.index t (1 : Fin 2) = 0) := by decide +kernel

theorem lt8 (t : Fin cfg0.N) : t.val < 8 := lt_of_lt_of_eq t.isLt N_0

/-- Row `r` of the block of rows `k`, and column `i` of the block of columns `b`. -/
def rowAt (k : Fin 4) (r : Fin 2048) : Fin 8192 := ⟨k.val * 2048 + r, by omega⟩
def colAt (b : Fin 2) (i : Fin 1408) : Fin 2816 := ⟨b.val * 1408 + i, by omega⟩

abbrev bD (t : Fin cfg0.N) : Vec Ideal S2048x1408 .bf16 := iblk m c 0 t
abbrev bH (t : Fin cfg0.N) : Vec Ideal S2048x1024 .bf16 := iblk m c 1 t

theorem bD_at (t : Fin cfg0.N) (r : Fin 2048) (i : Fin 1408) :
    bD m c t (ix2 r i) = dA m c (ix2 (rowAt ⟨t.val % 4, by omega⟩ r) (colAt ⟨t.val / 4, by have := lt8 t; omega⟩ i)) := by
  unfold rowAt colAt
  blk_ext! [bD, iblk, V, idx t]
theorem bH_at (t : Fin cfg0.N) (r : Fin 2048) (l : Fin 1024) :
    bH m c t (ix2 r l) = hA m c (ix2 (rowAt ⟨t.val % 4, by omega⟩ r) l) := by
  unfold rowAt
  blk_ext! [bH, iblk, V, idx t]

/-- One block of rows' part of the product. -/
def part (d : FVec Ideal S8192x2816 .bf16) (h : FVec Ideal S8192x1024 .bf16) (b : Fin 2) (k : Fin 4) (i : Fin 1408) (l : Fin 1024) : EReal :=
  ∑ r : Fin 2048, d (ix2 (rowAt k r) (colAt b i)) * h (ix2 (rowAt k r) l)

theorem pay_at (acc : Vec Ideal S1408x1024 .f32) (x : Vec Ideal S2048x1408 .bf16) (y : Vec Ideal S2048x1024 .bf16) (i : Fin 1408) (l : Fin 1024) :
    k0_pay2 (F := Ideal) acc x y (ix2 i l) = acc (ix2 i l) + ∑ r : Fin 2048, x (ix2 r i) * y (ix2 r l) := by
  pointwise [k0_pay2]
theorem zero_at (i : Fin 1408) (l : Fin 1024) : k0_pay1 (F := Ideal) (ix2 i l) = 0 := by
  pointwise [k0_pay1]

/-- A step adds its point's part. -/
theorem step_at (b : Fin 2) (k : Fin 4) (h : 4 * b.val + k.val < cfg0.N) (acc : Vec Ideal S1408x1024 .f32) (i : Fin 1408) (l : Fin 1024) :
    step2 m c (4 * b.val + k.val) h acc (ix2 i l) = acc (ix2 i l) + part (dA m c) (hA m c) b k i l := by
  unfold step2
  rw [pay_at]
  refine congrArg (acc (ix2 i l) + ·) (Finset.sum_congr rfl fun r _ => ?_)
  refine congrArg₂ (· * ·) ((bD_at m c ⟨_, h⟩ r i).trans ?_) ((bH_at m c ⟨_, h⟩ r l).trans ?_)
  · congr 2 <;> · apply Fin.ext; simp only [rowAt, colAt]; omega
  · congr 2; apply Fin.ext; simp only [rowAt]; omega
theorem reset_at (b : Fin 2) (h : 4 * b.val + 0 < cfg0.N) (i : Fin 1408) (l : Fin 1024) :
    reset2 m c (4 * b.val) h (ix2 i l) = part (dA m c) (hA m c) b 0 i l :=
  (step_at m c b 0 h (k0_pay1 (F := Ideal)) i l).trans (by rw [zero_at, zero_add])

/-- The result at an index: its four parts. -/
theorem g2_at (b : Fin 2) (i : Fin 1408) (l : Fin 1024) : G2 m c (ix2 (colAt b i) l) = ∑ k : Fin 4, part (dA m c) (hA m c) b k i l := by
  have hr : run2Of (ix2 (colAt b i) l) = b.val := by
    show 1 * ((b.val * 1408 + i.val) / 1408 - 0) + 1 * (l.val / 1024 - 0) = b.val
    omega
  have hl : loc2Of (ix2 (colAt b i) l) = ix2 i l := funext fun a => Fin.ext (match a with
    | ⟨0, _⟩ => (by show (b.val * 1408 + i.val) % 1408 = i.val; omega)
    | ⟨1, _⟩ => (by show l.val % 1024 = l.val; omega))
  have hN : 4 * b.val + 3 < cfg0.N := by rw [show cfg0.N = 8 from N_0]; omega
  unfold G2
  rw [dif_pos (by rw [hr]; exact hN), hl]
  have e : ∀ (n : ℕ) (h : 4 * n + 3 < cfg0.N), n = b.val →
      Pipeline.accAt (reset2 m c) (step2 m c) (4 * n) 3 h = Pipeline.accAt (reset2 m c) (step2 m c) (4 * b.val) 3 hN := by
    intro n h hn; subst hn; rfl
  rw [e _ _ hr]
  show step2 m c (4 * b.val + (3 : Fin 4).val) _ (step2 m c (4 * b.val + (2 : Fin 4).val) _ (step2 m c (4 * b.val + (1 : Fin 4).val) _
    (reset2 m c (4 * b.val) _))) (ix2 i l) = _
  rw [step_at, step_at, step_at, reset_at, Fin.sum_univ_four]

end

/-- The parts together: the product over all rows. -/
theorem parts (d : FVec Ideal S8192x2816 .bf16) (h : FVec Ideal S8192x1024 .bf16) (b : Fin 2) (i : Fin 1408) (l : Fin 1024) :
    ∑ k : Fin 4, part d h b k i l = ∑ n : Fin 8192, d (ix2 n (colAt b i)) * h (ix2 n l) := by
  unfold part
  rw [← Fintype.sum_prod_type' (f := fun k r => d (ix2 (rowAt k r) (colAt b i)) * h (ix2 (rowAt k r) l))]
  refine Fintype.sum_equiv (finProdFinEquiv (m := 4) (n := 2048)) _ _ fun p => ?_
  have e : rowAt p.1 p.2 = finProdFinEquiv p := Fin.ext (by rw [rowAt, finProdFinEquiv_apply_val]; ring)
  rw [e]

/-- Every column is a column of one block. -/
theorem col_split (q : Fin 2816) : ∃ b i, q = colAt b i :=
  ⟨⟨q / 1408, by omega⟩, ⟨q % 1408, by omega⟩, Fin.ext (by simp only [colAt]; omega)⟩

/-- The reference's result, over its two arguments. -/
abbrev ref (d : FVec Ideal Cert.Reference3Ideal.S8192x2816 .bf16) (h : FVec Ideal Cert.Reference3Ideal.S8192x1024 .bf16) :
    FVec Ideal Cert.Reference3Ideal.S2816x1024 .f32 :=
  transpose Cert.Reference3Ideal.S2816x1024 [1, 0] (transpose Cert.Reference3Ideal.S1024x2816 [1, 0]
    (Host.dotGeneral Cert.Reference3Ideal.dot_S8192x2816_S8192x1024_S2816x1024_0_0_1_1_n_n none
      (extf .f32 d Cert.Reference3Ideal.Gen.bitsLt_bf16_f32) (extf .f32 h Cert.Reference3Ideal.Gen.bitsLt_bf16_f32))
    Cert.Reference3Ideal.Gen.transposes_S2816x1024_S1024x2816_1_0) Cert.Reference3Ideal.Gen.transposes_S1024x2816_S2816x1024_1_0

theorem ref_at (d : FVec Ideal Cert.Reference3Ideal.S8192x2816 .bf16) (h : FVec Ideal Cert.Reference3Ideal.S8192x1024 .bf16)
    (q : Fin 2816) (l : Fin 1024) : ref d h (ix2 q l) = ∑ n : Fin 8192, d (ix2 n q) * h (ix2 n l) := by
  pointwise [ref]

/-- The two programs compute the same product. -/
theorem algebraic : Cert.algebraic_Kernel3Ideal_Reference3Ideal := by
  intro m g m' g' _ ha
  refine ⟨fun c => G2 m c, Cert.Kernel3Ideal.Value.run m g, ?_⟩
  refine θ_run_mono (Cert.Reference3Ideal.Value.run m' g') fun r hr c => ?_
  obtain ⟨r0, kept⟩ := hr c
  refine ⟨r0.trans ?_, kept⟩
  rw [(ha c).1, (ha c).2]
  funext i
  rw [eq_ix2 i]
  obtain ⟨b, j, e⟩ := col_split (i 0)
  rw [e]
  exact (ref_at _ _ _ _).trans ((g2_at m c _ _ _).trans (parts _ _ _ _ _)).symm

end WeightGrad

end
-- ==== Proof.WeightGrad16.lean ====
module

public import proofs.«01_k».proof.Proof.Gen.Kernel4Ideal.Value
public import proofs.«01_k».proof.Proof.Gen.Reference4Ideal.Run
public import proofs.«01_k».proof.Proof.WeightGrad
public import Idealize.ShloMosaic.Lib.Pipeline.ReadBack

/-!
The same weight's gradient stored in the half-width format: the kernel sums the parts in its scratch and converts the sum after the last one.
-/

@[expose] public section

set_option maxRecDepth 16384

noncomputable section

namespace WeightGrad16

open Idealize.ShloMosaic Idealize.SL.Sem Cert.Kernel4Ideal Cert.Kernel4Ideal.Gen Cert.Kernel4Ideal.Value
open WeightGrad (rowAt colAt part parts col_split)

section
variable (m : (ℓ : Loc nD τ sig) → Buf (Elt Ideal) ℓ) (c : Dev nD)

/-! The two arguments: the gradient at the layer's output, and its input. -/
abbrev dA : FVec Ideal S8192x2816 .bf16 := m ((c.tc : Thread nD τ).loc main_arg0)
abbrev hA : FVec Ideal S8192x1024 .bf16 := m ((c.tc : Thread nD τ).loc main_arg1)

/-- Where a point's blocks lie: four blocks of rows for each block of columns. -/
theorem idx : ∀ t : Fin cfg0.N,
    (win0_0.index t (0 : Fin 2) = t.val % 4 ∧ win0_0.index t (1 : Fin 2) = t.val / 4)
    ∧ (win0_1.index t (0 : Fin 2) = t.val % 4 ∧ win0_1.index t (1 : Fin 2) = 0) := by decide +kernel

theorem lt8 (t : Fin cfg0.N) : t.val < 8 := lt_of_lt_of_eq t.isLt N_0

abbrev bD (t : Fin cfg0.N) : Vec Ideal S2048x1408 .bf16 := iblk m c 0 t
abbrev bH (t : Fin cfg0.N) : Vec Ideal S2048x1024 .bf16 := iblk m c 1 t

theorem bD_at (t : Fin cfg0.N) (r : Fin 2048) (i : Fin 1408) :
    bD m c t (ix2 r i) = dA m c (ix2 (rowAt ⟨t.val % 4, by omega⟩ r) (colAt ⟨t.val / 4, by have := lt8 t; omega⟩ i)) := by
  unfold rowAt colAt
  blk_ext! [bD, iblk, V, idx t]
theorem bH_at (t : Fin cfg0.N) (r : Fin 2048) (l : Fin 1024) :
    bH m c t (ix2 r l) = hA m c (ix2 (rowAt ⟨t.val % 4, by omega⟩ r) l) := by
  unfold rowAt
  blk_ext! [bH, iblk, V, idx t]

variable (i : Fin 1408) (l : Fin 1024)

theorem pay_at (acc : Vec Ideal S1408x1024 .f32) (x : Vec Ideal S2048x1408 .bf16) (y : Vec Ideal S2048x1024 .bf16) :
    k0_pay2 (F := Ideal) acc x y (ix2 i l) = acc (ix2 i l) + ∑ r : Fin 2048, x (ix2 r i) * y (ix2 r l) := by
  pointwise [k0_pay2]
theorem zero_at : k0_pay1 (F := Ideal) (ix2 i l) = 0 := by
  pointwise [k0_pay1]
theorem conv_at (acc : Vec Ideal S1408x1024 .f32) : k0_pay3 (F := Ideal) acc (ix2 i l) = acc (ix2 i l) := by
  pointwise [k0_pay3]

/-- What a point adds: its blocks' part of the product. -/
theorem part_at (t : Fin cfg0.N) : ∑ r : Fin 2048, bD m c t (ix2 r i) * bH m c t (ix2 r l)
    = part (dA m c) (hA m c) ⟨t.val / 4, by have := lt8 t; omega⟩ ⟨t.val % 4, by omega⟩ i l :=
  Finset.sum_congr rfl fun r _ => by rw [bD_at, bH_at]

/-- The first point of a block of columns starts its scratch from zero; a later one adds to what the point before left. -/
theorem sum_first (t : Fin cfg0.N) (h : t.val % 4 = 0) : (outsAt0 m c t.val t.isLt).2 (ix2 i l)
    = part (dA m c) (hA m c) ⟨t.val / 4, by have := lt8 t; omega⟩ ⟨t.val % 4, by omega⟩ i l := by
  rw [outsAt0_A m c t h (by omega), ← part_at]
  dsimp only
  frame_open
  simp (disch := decide) only [↓ View.readCov_skip, ↓ View.readCov_cons_toLoadRect, ↓ View.readCov_fill]
  frame_out
  refine (pay_at i l _ _ _).trans ?_
  rw [zero_at, zero_add]
theorem sum_next (t : Fin cfg0.N) (h : ¬t.val % 4 = 0) (h3 : ¬t.val % 4 = 3) : (outsAt0 m c t.val t.isLt).2 (ix2 i l)
    = (outsAt0 m c (t.val - 1) (Nat.lt_of_le_of_lt (Nat.sub_le _ _) t.isLt)).2 (ix2 i l)
      + part (dA m c) (hA m c) ⟨t.val / 4, by have := lt8 t; omega⟩ ⟨t.val % 4, by omega⟩ i l := by
  rw [outsAt0_B m c t h h3, ← part_at]
  dsimp only
  frame_open
  simp (disch := decide) only [↓ View.readCov_skip, ↓ View.readCov_cons_toLoadRect, ↓ View.readCov_fill]
  frame_out
  rw [read_unread_whole]
  exact pay_at i l _ _ _
/-- The last point converts the whole sum. -/
theorem out_last (t : Fin cfg0.N) (h : ¬t.val % 4 = 0) (h3 : t.val % 4 = 3) : (outsAt0 m c t.val t.isLt).1 (ix2 i l)
    = (outsAt0 m c (t.val - 1) (Nat.lt_of_le_of_lt (Nat.sub_le _ _) t.isLt)).2 (ix2 i l)
      + part (dA m c) (hA m c) ⟨t.val / 4, by have := lt8 t; omega⟩ ⟨t.val % 4, by omega⟩ i l := by
  rw [outsAt0_C m c t h h3, ← part_at]
  dsimp only
  frame_open
  simp (disch := decide) only [↓ View.readCov_skip, ↓ View.readCov_cons_toLoadRect, ↓ View.readCov_fill]
  frame_out
  rw [read_unread_whole]
  exact (conv_at i l _).trans (pay_at i l _ _ _)

/-- What the last point of a block of columns writes: its four parts. -/
theorem four (b : Fin 2) (h : 4 * b.val + 3 < cfg0.N) :
    (outsAt0 m c (4 * b.val + 3) h).1 (ix2 i l) = ∑ k : Fin 4, part (dA m c) (hA m c) b k i l := by
  have e : ∀ (k : Fin 4) (p : (4 * b.val + k.val) / 4 < 2) (q : (4 * b.val + k.val) % 4 < 4),
      part (dA m c) (hA m c) ⟨(4 * b.val + k.val) / 4, p⟩ ⟨(4 * b.val + k.val) % 4, q⟩ i l = part (dA m c) (hA m c) b k i l := by
    intro k p q
    congr 1 <;> · apply Fin.ext; show _ = _; dsimp only; omega
  have s0 := (sum_first m c i l ⟨4 * b.val + (0 : Fin 4).val, by omega⟩ (by show (4 * b.val + 0) % 4 = 0; omega)).trans (e 0 _ _)
  have s1 := (sum_next m c i l ⟨4 * b.val + (1 : Fin 4).val, by show 4 * b.val + 1 < _; omega⟩ (by show ¬(4 * b.val + 1) % 4 = 0; omega)
    (by show ¬(4 * b.val + 1) % 4 = 3; omega)).trans (congrArg₂ (· + ·) s0 (e 1 _ _))
  have s2 := (sum_next m c i l ⟨4 * b.val + (2 : Fin 4).val, by show 4 * b.val + 2 < _; omega⟩ (by show ¬(4 * b.val + 2) % 4 = 0; omega)
    (by show ¬(4 * b.val + 2) % 4 = 3; omega)).trans (congrArg₂ (· + ·) s1 (e 2 _ _))
  have s3 := (out_last m c i l ⟨4 * b.val + (3 : Fin 4).val, h⟩ (by show ¬(4 * b.val + 3) % 4 = 0; omega)
    (by show (4 * b.val + 3) % 4 = 3; omega)).trans (congrArg₂ (· + ·) s2 (e 3 _ _))
  change @Eq EReal _ _
  exact s3.trans (Fin.sum_univ_four fun k => part (dA m c) (hA m c) b k i l).symm

/-- The result at an index: its four parts. -/
theorem g2_at (b : Fin 2) : G2 m c (ix2 (colAt b i) l) = ∑ k : Fin 4, part (dA m c) (hA m c) b k i l := by
  have hr : run2Of (ix2 (colAt b i) l) = b.val := by
    show 1 * ((b.val * 1408 + i.val) / 1408 - 0) + 1 * (l.val / 1024 - 0) = b.val
    omega
  have hl : loc2Of (ix2 (colAt b i) l) = ix2 i l := funext fun a => Fin.ext (match a with
    | ⟨0, _⟩ => (by show (b.val * 1408 + i.val) % 1408 = i.val; omega)
    | ⟨1, _⟩ => (by show l.val % 1024 = l.val; omega))
  have hN : 4 * b.val + 3 < cfg0.N := by rw [show cfg0.N = 8 from N_0]; omega
  have e : ∀ (n : ℕ) (h : n < cfg0.N), n = 4 * b.val + 3 → outsAt0 m c n h = outsAt0 m c (4 * b.val + 3) hN := by
    intro n h hn; subst hn; rfl
  have hp : pt2Of (ix2 (colAt b i) l) = 4 * b.val + 3 := by rw [pt2Of, hr]
  unfold G2
  rw [dif_pos (by rw [hp]; exact hN), hl, ← outsAt0_sweep m c _ (by rw [hp]; exact hN), e _ _ hp]
  exact four m c i l b hN

end

/-- The reference's result: the product, converted. -/
abbrev ref (d : FVec Ideal S8192x2816 .bf16) (h : FVec Ideal S8192x1024 .bf16) : FVec Ideal S2816x1024 .bf16 :=
  truncf .bf16 (WeightGrad.ref d h) Cert.Reference4Ideal.Gen.bitsLt_bf16_f32
theorem ref_at (d : FVec Ideal S8192x2816 .bf16) (h : FVec Ideal S8192x1024 .bf16) (q : Fin 2816) (l : Fin 1024) :
    ref d h (ix2 q l) = ∑ n : Fin 8192, d (ix2 n q) * h (ix2 n l) :=
  WeightGrad.ref_at d h q l

/-- The two programs compute the same product. -/
theorem algebraic : Cert.algebraic_Kernel4Ideal_Reference4Ideal := by
  intro m g m' g' _ ha
  refine ⟨fun c => G2 m c, Cert.Kernel4Ideal.Value.run m g, ?_⟩
  refine θ_run_mono (Cert.Reference4Ideal.Value.run m' g') fun r hr c => ?_
  obtain ⟨r0, kept⟩ := hr c
  refine ⟨r0.trans ?_, kept⟩
  rw [(ha c).1, (ha c).2]
  funext i
  rw [eq_ix2 i]
  obtain ⟨b, j, e⟩ := col_split (i 0)
  rw [e]
  exact (ref_at _ _ _ _).trans ((g2_at m c _ _ _).trans (parts _ _ _ _ _)).symm

end WeightGrad16

end
-- ==== Proof.FfnFwd.lean ====
module

public import proofs.«01_k».proof.Defs
public import proofs.«01_k».proof.Proof.Gen.Kernel5Ideal.Value
public import proofs.«01_k».proof.Proof.Gen.Reference5Ideal.Run
public import proofs.«01_k».proof.Proof.WholeFfn

/-!
The feed-forward layer's forward call: its output, its two saved products and its normed rows.  The kernel's logistic function is the reference's at
every value, the two infinities included, so the results agree for all arguments.
-/

@[expose] public section

set_option maxRecDepth 16384

noncomputable section

namespace FfnFwd

open Idealize.ShloMosaic Idealize.SL.Sem MixRows Cert.Kernel5Ideal Cert.Kernel5Ideal.Gen Cert.Kernel5Ideal.Value
open FfnBwd (hRow inRow sRow sRowR stack starts starts_zero ix2_of)

/-- The two logistic functions agree everywhere. -/
theorem sig_all (y : EReal) : sigK y = sigR y := by
  have one : (1 : EReal) = ((1 : ℝ) : EReal) := rfl
  induction y with
  | bot =>
    have l : sigK ⊥ = 0 := by
      rw [sigK, litHalf, EReal.coe_mul_bot_of_pos (by norm_num), Ideal.tanh_bot, one, ← EReal.coe_neg, ← EReal.coe_mul, ← EReal.coe_add]
      norm_num
    rw [l, sigR, EReal.neg_bot, Ideal.exp_top, one, EReal.coe_add_top, Ideal.div, if_neg EReal.top_ne_zero, EReal.inv_top, mul_zero]
  | coe y => rw [sigK_coe, sigR_coe, sig_real]
  | top =>
    have l : sigK ⊤ = 1 := by
      rw [sigK, litHalf, EReal.coe_mul_top_of_pos (by norm_num), Ideal.tanh_top, one, ← EReal.coe_mul, ← EReal.coe_add]
      norm_num
    rw [l, sigR, EReal.neg_top, Ideal.exp_bot, add_zero, one, Ideal.div_coe one_ne_zero, ← EReal.coe_mul]
    norm_num

/-- A row of a block. -/
abbrev row (x : Vec Ideal S256x1024 .f32) (r : Fin 256) (k : Fin 1024) : EReal := x (ix2 r k)

section
variable (r : Fin 256) (k : Fin 1024) (f : Fin 2816)

/-! The values a point computes from its blocks, at an index. -/
theorem pay1_at (v : FVec Ideal S256x1024 .f32) : k0_pay1 (F := Ideal) v (ix2 r k) = v (ix2 r k) := by
  pointwise [k0_pay1]
theorem pay2_at (x y : Vec Ideal S256x1024 .f32) : k0_pay2 (F := Ideal) x y (ix2 r k) = x (ix2 r k) + FfnBwd.half * y (ix2 r k) := by
  pointwise [k0_pay2]
  try rfl
theorem pay3_at (x : Vec Ideal S256x1024 .f32) (g : Vec Ideal S1x1024 .f32) :
    k0_pay3 (F := Ideal) x g (ix2 r k) = hRow (row x r) (fun k => g (ix2 0 k)) k := by
  pointwise [k0_pay3]
  try rfl
theorem pay4_at : k0_pay4 (F := Ideal) (ix2 r k) = 0 := by
  pointwise [k0_pay4]
theorem pay5_at (h : Vec Ideal S256x1024 .bf16) : k0_pay5 (F := Ideal) h (ix2 r k) = h (ix2 r k) := by
  pointwise [k0_pay5]
theorem pay6_at (h : Vec Ideal S256x1024 .bf16) (w : Vec Ideal S1x2816x1024 .bf16) :
    k0_pay6 (F := Ideal) h w (ix2 r f) = ∑ k : Fin 1024, h (ix2 r k) * w (ix3 0 f k) := by
  pointwise [k0_pay6, pay5_at]
theorem pay7_at (h : Vec Ideal S256x1024 .bf16) (w : Vec Ideal S1x2816x1024 .bf16) :
    k0_pay7 (F := Ideal) h w (ix2 r f) = ∑ k : Fin 1024, h (ix2 r k) * w (ix3 0 f k) := by
  pointwise [k0_pay7, pay5_at]
theorem pay8_at (h : Vec Ideal S256x1024 .bf16) (w : Vec Ideal S1x2816x1024 .bf16) :
    k0_pay8 (F := Ideal) h w (ix2 r f) = ∑ k : Fin 1024, h (ix2 r k) * w (ix3 0 f k) := by
  pointwise [k0_pay8, pay6_at]
theorem pay9_at (h : Vec Ideal S256x1024 .bf16) (w : Vec Ideal S1x2816x1024 .bf16) :
    k0_pay9 (F := Ideal) h w (ix2 r f) = ∑ k : Fin 1024, h (ix2 r k) * w (ix3 0 f k) := by
  pointwise [k0_pay9, pay7_at]
theorem pay10_at (h : Vec Ideal S256x1024 .bf16) (u v w : Vec Ideal S1x2816x1024 .bf16) (z : Vec Ideal S256x1024 .f32) :
    k0_pay10 (F := Ideal) h u v z w (ix2 r k) = z (ix2 r k) + ∑ f : Fin 2816,
      (∑ k : Fin 1024, h (ix2 r k) * u (ix3 0 f k)) * sigK (∑ k : Fin 1024, h (ix2 r k) * u (ix3 0 f k))
        * (∑ k : Fin 1024, h (ix2 r k) * v (ix3 0 f k)) * w (ix3 0 f k) := by
  pointwise [k0_pay10, pay6_at, pay7_at]
  try rfl
end

section
variable (m : (ℓ : Loc nD τ sig) → Buf (Elt Ideal) ℓ) (c : Dev nD)

/-! The arguments: the layer's input, the gain and the three weights. -/
abbrev aX : FVec Ideal S8192x1024 .f32 := m ((c.tc : Thread nD τ).loc main_arg0)
abbrev aG : FVec Ideal S1024 .f32 := m ((c.tc : Thread nD τ).loc main_arg1)
abbrev aWg : FVec Ideal S1024x2816 .f32 := m ((c.tc : Thread nD τ).loc main_arg2)
abbrev aWu : FVec Ideal S1024x2816 .f32 := m ((c.tc : Thread nD τ).loc main_arg3)
abbrev aWd : FVec Ideal S2816x1024 .f32 := m ((c.tc : Thread nD τ).loc main_arg4)

/-- Row `r` of point `t`'s block is row `256 t + r` of the array. -/
def rowOf (t : Fin cfg0.N) (r : Fin 256) : Fin 8192 :=
  ⟨t.val * 256 + r, by have h := lt_of_lt_of_eq t.isLt N_0; omega⟩

/-- Where the blocks of the inputs and of the results lie. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 1 ∧ win0_3.index t (1 : Fin 3) = 0 ∧ win0_3.index t (2 : Fin 3) = 0)
    ∧ (win0_4.index t (0 : Fin 3) = 2 ∧ win0_4.index t (1 : Fin 3) = 0 ∧ win0_4.index t (2 : Fin 3) = 0) := by decide +kernel
theorem idxOut : ∀ t : Fin cfg0.N,
    (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) := by decide +kernel

open StableHlo in
theorem stack_eq : (V m c main_v6 : FVec Ideal S3x2816x1024 .bf16) = stack (aWg m c) (aWu m c) (aWd m c) := by
  show after (hostOps0 (F := Ideal)) (fun b => m (c, b)) (Proc.devRef .tc main_v6) = _
  rw [after_last_write (i := 6) [main_v7] rfl rfl (by decide)]
  rw [unary_result, upto_last_write (i := 5) [] rfl rfl (by decide), nary_result]
  have e2 : upto (hostOps0 (F := Ideal)) (fun b => m (c, b)) 5 (Proc.devRef .tc main_v2)
      = broadcastInDim S1x2816x1024 ![1, 2] bcast_S2816x1024_S1x2816x1024_1_2
        (transpose S2816x1024 [1, 0] (aWg m c) transposes_S1024x2816_S2816x1024_1_0) := by
    rw [upto_last_write (i := 2) [main_v3, main_v4] rfl rfl (by decide), unary_result,
      upto_last_write (i := 0) [main_v1] rfl rfl (by decide), unary_result]
    rfl
  have e3 : upto (hostOps0 (F := Ideal)) (fun b => m (c, b)) 5 (Proc.devRef .tc main_v3)
      = broadcastInDim S1x2816x1024 ![1, 2] bcast_S2816x1024_S1x2816x1024_1_2
        (transpose S2816x1024 [1, 0] (aWu m c) transposes_S1024x2816_S2816x1024_1_0) := by
    rw [upto_last_write (i := 3) [main_v4] rfl rfl (by decide), unary_result,
      upto_last_write (i := 1) [main_v2] rfl rfl (by decide), unary_result, upto_unwritten [main_v0] rfl (by decide)]
  have e4 : upto (hostOps0 (F := Ideal)) (fun b => m (c, b)) 5 (Proc.devRef .tc main_v4)
      = broadcastInDim S1x2816x1024 ![1, 2] bcast_S2816x1024_S1x2816x1024_1_2 (aWd m c) := by
    rw [upto_last_write (i := 4) [] rfl rfl (by decide), unary_result, upto_unwritten [main_v0, main_v1, main_v2, main_v3] rfl (by decide)]
  unfold stack
  rw [← e2, ← e3, ← e4]
  rfl
theorem wg_at (f : Fin 2816) (k : Fin 1024) : (V m c main_v6 : FVec Ideal S3x2816x1024 .bf16) (ix3 0 f k) = aWg m c (ix2 k f) := by
  rw [stack_eq]
  pointwise [stack]
theorem wu_at (f : Fin 2816) (k : Fin 1024) : (V m c main_v6 : FVec Ideal S3x2816x1024 .bf16) (ix3 1 f k) = aWu m c (ix2 k f) := by
  rw [stack_eq]
  pointwise [stack]
theorem wd_at (f : Fin 2816) (k : Fin 1024) : (V m c main_v6 : FVec Ideal S3x2816x1024 .bf16) (ix3 2 f k) = aWd m c (ix2 f k) := by
  rw [stack_eq]
  pointwise [stack]
theorem gain_at (k : Fin 1024) : (V m c main_v7 : FVec Ideal S1x1024 .f32) (ix2 0 k) = aG m c (ix1 k) := by
  simp only [V, hostOps0]
  entry_read
  pointwise

variable (t : Fin cfg0.N)

/-! The blocks the point reads: the layer's input, the gain and the three weights. -/
abbrev bX : Vec Ideal S256x1024 .f32 := iblk m c 0 t
abbrev bG : Vec Ideal S1x1024 .f32 := iblk m c 1 t
abbrev bWg : Vec Ideal S1x2816x1024 .bf16 := iblk m c 2 t
abbrev bWu : Vec Ideal S1x2816x1024 .bf16 := iblk m c 3 t
abbrev bWd : Vec Ideal S1x2816x1024 .bf16 := iblk m c 4 t

variable (r : Fin 256) (k : Fin 1024) (f : Fin 2816)

theorem bX_at : bX m c t (ix2 r k) = aX m c (ix2 (rowOf t r) k) := by
  unfold rowOf
  blk_ext! [bX, iblk, V, idx t]
theorem bG_at : bG m c t (ix2 0 k) = aG m c (ix1 k) := by
  rw [← gain_at]
  blk_ext [bG, iblk, idx t]
theorem bWg_at : bWg m c t (ix3 0 f k) = aWg m c (ix2 k f) := by
  rw [← wg_at]
  blk_ext [bWg, iblk, idx t]
theorem bWu_at : bWu m c t (ix3 0 f k) = aWu m c (ix2 k f) := by
  rw [← wu_at]
  blk_ext [bWu, iblk, idx t]
theorem bWd_at : bWd m c t (ix3 0 f k) = aWd m c (ix2 f k) := by
  rw [← wd_at]
  blk_ext [bWd, iblk, idx t]

/-! A row of the input, the gain and the weights as functions. -/
abbrev xK (n : Fin 8192) (k : Fin 1024) : EReal := aX m c (ix2 n k)
abbrev gK (k : Fin 1024) : EReal := aG m c (ix1 k)
abbrev wgK (k : Fin 1024) (f : Fin 2816) : EReal := aWg m c (ix2 k f)
abbrev wuK (k : Fin 1024) (f : Fin 2816) : EReal := aWu m c (ix2 k f)

theorem h_row : k0_pay3 (F := Ideal) (bX m c t) (bG m c t) (ix2 r k) = hRow (xK m c (rowOf t r)) (gK m c) k := by
  rw [pay3_at, show row (bX m c t) r = xK m c (rowOf t r) from funext fun k => bX_at m c t r k,
    show (fun k => bG m c t (ix2 0 k)) = gK m c from funext fun k => bG_at m c t k]
theorem a_row : ∑ k : Fin 1024, k0_pay3 (F := Ideal) (bX m c t) (bG m c t) (ix2 r k) * bWg m c t (ix3 0 f k)
    = inRow (xK m c (rowOf t r)) (gK m c) (wgK m c) f :=
  Finset.sum_congr rfl fun k _ => by rw [h_row, bWg_at]
theorem b_row : ∑ k : Fin 1024, k0_pay3 (F := Ideal) (bX m c t) (bG m c t) (ix2 r k) * bWu m c t (ix3 0 f k)
    = inRow (xK m c (rowOf t r)) (gK m c) (wuK m c) f :=
  Finset.sum_congr rfl fun k _ => by rw [h_row, bWu_at]

/-- One row of the layer's output. -/
def xoRow (x g : Fin 1024 → EReal) (wg wu : Fin 1024 → Fin 2816 → EReal) (wd : Fin 2816 → Fin 1024 → EReal) (k : Fin 1024) : EReal :=
  x k + FfnBwd.half * ∑ f : Fin 2816, sRow x g wg wu f * wd f k

/-! What the point leaves in its four outputs. -/
theorem h_point : (outsAt0 m c t).2.2.2 (ix2 r k) = hRow (xK m c (rowOf t r)) (gK m c) k := by
  unfold outsAt0
  dsimp only
  frame_open
  frame_out
  exact h_row m c t r k
theorem a_point : (outsAt0 m c t).2.1 (ix2 r f) = inRow (xK m c (rowOf t r)) (gK m c) (wgK m c) f := by
  unfold outsAt0
  dsimp only
  frame_open
  simp (disch := decide) only [↓ View.readCov_skip, ↓ View.readCov_cons_toLoadRect, ↓ View.readCov_fill]
  frame_out
  exact (pay8_at r f _ _).trans (a_row m c t r f)
theorem b_point : (outsAt0 m c t).2.2.1 (ix2 r f) = inRow (xK m c (rowOf t r)) (gK m c) (wuK m c) f := by
  unfold outsAt0
  dsimp only
  frame_open
  simp (disch := decide) only [↓ View.readCov_skip, ↓ View.readCov_cons_toLoadRect, ↓ View.readCov_fill]
  frame_out
  exact (pay9_at r f _ _).trans (b_row m c t r f)
theorem xo_point : (outsAt0 m c t).1 (ix2 r k)
    = xoRow (xK m c (rowOf t r)) (gK m c) (wgK m c) (wuK m c) (fun f k => aWd m c (ix2 f k)) k := by
  unfold outsAt0
  dsimp only
  frame_open
  simp (disch := decide) only [↓ View.readCov_skip, ↓ View.readCov_cons_toLoadRect, ↓ View.readCov_fill]
  frame_out
  refine (pay2_at r k _ _).trans ?_
  refine congrArg₂ (fun p q => p + FfnBwd.half * q) (bX_at m c t r k) ?_
  refine (pay1_at r k _).trans ((pay10_at r k _ _ _ _ _).trans ?_)
  rw [pay4_at, zero_add]
  refine Finset.sum_congr rfl fun f _ => ?_
  rw [a_row, b_row]
  exact congrArg (sRow (xK m c (rowOf t r)) (gK m c) (wgK m c) (wuK m c) f * ·) (bWd_at m c t k f)

/-! The result arrays at a block's row. -/
theorem arr5 : ((dats m 0 c).arrAt 5 cfg0.N : FVec Ideal S8192x1024 .f32) (ix2 (rowOf t r) k)
    = xoRow (xK m c (rowOf t r)) (gK m c) (wgK m c) (wuK m c) (fun f k => aWd m c (ix2 f k)) k :=
  ((congrArg ((dats m 0 c).arrAt 5 cfg0.N : FVec Ideal S8192x1024 .f32)
      (ix2_of (starts _ _ (idxOut t).1.1) (starts_zero _ (idxOut t).1.2))).trans
    (congrFun ((blocks5 m c t (flush0_5 t)).trans (flushed5 m c t)) (ix2 r k))).trans (xo_point m c t r k)
theorem arr6 : ((dats m 0 c).arrAt 6 cfg0.N : FVec Ideal S8192x2816 .bf16) (ix2 (rowOf t r) f)
    = inRow (xK m c (rowOf t r)) (gK m c) (wgK m c) f :=
  ((congrArg ((dats m 0 c).arrAt 6 cfg0.N : FVec Ideal S8192x2816 .bf16)
      (ix2_of (starts _ _ (idxOut t).2.1.1) (starts_zero _ (idxOut t).2.1.2))).trans
    (congrFun ((blocks6 m c t (flush0_6 t)).trans (flushed6 m c t)) (ix2 r f))).trans (a_point m c t r f)
theorem arr7 : ((dats m 0 c).arrAt 7 cfg0.N : FVec Ideal S8192x2816 .bf16) (ix2 (rowOf t r) f)
    = inRow (xK m c (rowOf t r)) (gK m c) (wuK m c) f :=
  ((congrArg ((dats m 0 c).arrAt 7 cfg0.N : FVec Ideal S8192x2816 .bf16)
      (ix2_of (starts _ _ (idxOut t).2.2.1.1) (starts_zero _ (idxOut t).2.2.1.2))).trans
    (congrFun ((blocks7 m c t (flush0_7 t)).trans (flushed7 m c t)) (ix2 r f))).trans (b_point m c t r f)
theorem arr8 : ((dats m 0 c).arrAt 8 cfg0.N : FVec Ideal S8192x1024 .bf16) (ix2 (rowOf t r) k)
    = hRow (xK m c (rowOf t r)) (gK m c) k :=
  ((congrArg ((dats m 0 c).arrAt 8 cfg0.N : FVec Ideal S8192x1024 .bf16)
      (ix2_of (starts _ _ (idxOut t).2.2.2.1) (starts_zero _ (idxOut t).2.2.2.2))).trans
    (congrFun ((blocks8 m c t (flush0_8 t)).trans (flushed8 m c t)) (ix2 r k))).trans (h_point m c t r k)
end

section
variable (x : FVec Ideal Cert.Reference5Ideal.S8192x1024 .f32) (g : FVec Ideal Cert.Reference5Ideal.S1024 .f32)
  (wg wu : FVec Ideal Cert.Reference5Ideal.S1024x2816 .f32) (wd : FVec Ideal Cert.Reference5Ideal.S2816x1024 .f32)

/-- The reference's output; its products and normed rows are the ones that the backward pass recomputes. -/
def xoV : FVec Ideal Cert.Reference5Ideal.S8192x1024 .f32 :=
  addf x (mulf (broadcastInDim Cert.Reference5Ideal.S8192x1024 ![] Cert.Reference5Ideal.Gen.bcast_S_S8192x1024 (constant Cert.Reference5Ideal.S_ .f32 0x3F000000#32))
    (Host.dotGeneral Cert.Reference5Ideal.dot_S8192x2816_S2816x1024_S8192x1024_1_0_0_1_n_n none (FfnBwd.Ref.sV x g wg wu) wd))

theorem xo_at (n : Fin 8192) (k : Fin 1024) : xoV x g wg wu wd (ix2 n k)
    = xoRow (fun k => x (ix2 n k)) (fun k => g (ix1 k)) (fun k f => wg (ix2 k f)) (fun k f => wu (ix2 k f)) (fun f k => wd (ix2 f k)) k := by
  have e : ∀ f, FfnBwd.Ref.sV x g wg wu (ix2 n f)
      = sRow (fun k => x (ix2 n k)) (fun k => g (ix1 k)) (fun k f => wg (ix2 k f)) (fun k f => wu (ix2 k f)) f := fun f => by
    rw [FfnBwd.Ref.s_at, sRow, sRowR, sig_all]
  pointwise [xoV, e]
  try rfl
end

section
variable (m : (ℓ : Loc nD τ sig) → Buf (Elt Ideal) ℓ) (c : Dev nD)

/-- Every row of the array is a row of one block. -/
theorem row_split (n : Fin 8192) : ∃ (t : Fin cfg0.N) (r : Fin 256), n = rowOf t r :=
  ⟨⟨n.val / 256, lt_of_lt_of_eq (by omega : n.val / 256 < 32) N_0.symm⟩, ⟨n.val % 256, Nat.mod_lt _ (by decide)⟩,
    Fin.ext (by show n.val = n.val / 256 * 256 + n.val % 256; omega)⟩

/-! The four result arrays. -/
def out0 : FVec Ideal S8192x1024 .f32 := (dats m 0 c).arrAt 5 cfg0.N
def out1 : FVec Ideal S8192x2816 .bf16 := (dats m 0 c).arrAt 6 cfg0.N
def out2 : FVec Ideal S8192x2816 .bf16 := (dats m 0 c).arrAt 7 cfg0.N
def out3 : FVec Ideal S8192x1024 .bf16 := (dats m 0 c).arrAt 8 cfg0.N

theorem whole0 : out0 m c = xoV (aX m c) (aG m c) (aWg m c) (aWu m c) (aWd m c) := ext2 fun n k => by
  obtain ⟨t, r, rfl⟩ := row_split n
  exact (arr5 m c t r k).trans (xo_at (aX m c) (aG m c) (aWg m c) (aWu m c) (aWd m c) (rowOf t r) k).symm
theorem whole1 : out1 m c = FfnBwd.Ref.inV (aX m c) (aG m c) (aWg m c) := ext2 fun n f => by
  obtain ⟨t, r, rfl⟩ := row_split n
  exact (arr6 m c t r f).trans (FfnBwd.Ref.in_at (aX m c) (aG m c) (rowOf t r) f (aWg m c)).symm
theorem whole2 : out2 m c = FfnBwd.Ref.inV (aX m c) (aG m c) (aWu m c) := ext2 fun n f => by
  obtain ⟨t, r, rfl⟩ := row_split n
  exact (arr7 m c t r f).trans (FfnBwd.Ref.in_at (aX m c) (aG m c) (rowOf t r) f (aWu m c)).symm
theorem whole3 : out3 m c = FfnBwd.Ref.hV (aX m c) (aG m c) := ext2 fun n k => by
  obtain ⟨t, r, rfl⟩ := row_split n
  exact (arr8 m c t r k).trans (FfnBwd.Ref.h_at (aX m c) (aG m c) (rowOf t r) k).symm
end

/-- The two programs agree on every result. -/
theorem algebraic : Cert.algebraic_Kernel5Ideal_Reference5Ideal := by
  intro m g m' g' _ ha
  refine ⟨fun c => out0 m c, fun c => out1 m c, fun c => out2 m c, fun c => out3 m c, run_blocks m g, ?_⟩
  refine θ_run_mono (Cert.Reference5Ideal.Value.run m' g') fun r hr c => ?_
  obtain ⟨r0, r1, r2, r3, kept⟩ := hr c
  obtain ⟨h0, h1, h2, h3, h4⟩ := ha c
  rw [h0, h1, h2, h3, h4] at r0
  rw [h0, h1, h2] at r1
  rw [h0, h1, h3] at r2
  rw [h0, h1] at r3
  exact ⟨r0.trans (whole0 m c).symm, r1.trans (whole1 m c).symm, r2.trans (whole2 m c).symm, r3.trans (whole3 m c).symm, kept⟩

end FfnFwd

end
-- ==== Proof.ProjBwd.lean ====
module

public import proofs.«01_k».proof.Defs
public import proofs.«01_k».proof.Proof.Gen.Kernel6Ideal.Value
public import proofs.«01_k».proof.Proof.Gen.Reference6Ideal.Run
public import proofs.«01_k».proof.Proof.WholeFfn

/-!
The backward call of the projection that feeds an attention mixer: the gradient at the normed rows as three products with the weight's parts, and
through the norm to the layer's input and the norm's weight.
-/

@[expose] public section

set_option maxRecDepth 16384

noncomputable section

namespace ProjBwd

open Idealize.ShloMosaic Idealize.SL.Sem MixRows Cert.Kernel6Ideal Cert.Kernel6Ideal.Gen Cert.Kernel6Ideal.Value
open FfnBwd (rmsBwd rr starts starts_zero ix2_of)

/-- A row of a block. -/
abbrev row (x : Vec Ideal S512x1024 .f32) (r : Fin 512) (k : Fin 1024) : EReal := x (ix2 r k)

section
variable (r : Fin 512) (k : Fin 1024)

/-! The values a point computes from its blocks, at an index. -/
theorem pay3_at : k0_pay3 (F := Ideal) (ix2 0 k) = 0 := by
  pointwise [k0_pay3]
theorem pay4_at (p q s : Vec Ideal S512x1024 .bf16) (u v w : Vec Ideal S1024x1024 .bf16) :
    k0_pay4 (F := Ideal) p u q v s w (ix2 r k) = ∑ j : Fin 1024, p (ix2 r j) * u (ix2 j k) + ∑ j : Fin 1024, q (ix2 r j) * v (ix2 j k)
      + ∑ j : Fin 1024, s (ix2 r j) * w (ix2 j k) := by
  pointwise [k0_pay4]
theorem pay5_at (x : Vec Ideal S512x1024 .f32) : k0_pay5 (F := Ideal) x (ix2 r 0) = rr (row x r) := by
  pointwise [k0_pay5]
  try rfl
theorem pay6_at (p q s : Vec Ideal S512x1024 .bf16) (u v w : Vec Ideal S1024x1024 .bf16) (g : Vec Ideal S1x1024 .f32) :
    k0_pay6 (F := Ideal) p u q v s w g (ix2 r k) = k0_pay4 (F := Ideal) p u q v s w (ix2 r k) * g (ix2 0 k) := by
  pointwise [k0_pay6]
theorem pay7_at (x : Vec Ideal S512x1024 .f32) : k0_pay7 (F := Ideal) x (ix2 r k) = x (ix2 r k) * (rr (row x r) * rr (row x r)) := by
  pointwise [k0_pay7, pay5_at]
theorem pay8_at (p q s : Vec Ideal S512x1024 .bf16) (u v w : Vec Ideal S1024x1024 .bf16) (x : Vec Ideal S512x1024 .f32) (g : Vec Ideal S1x1024 .f32) :
    k0_pay8 (F := Ideal) p u q v s w x g (ix2 r k) = k0_pay4 (F := Ideal) p u q v s w (ix2 r k) * g (ix2 0 k) * x (ix2 r k) := by
  pointwise [k0_pay8, pay6_at]
theorem gx_pay (p q s : Vec Ideal S512x1024 .bf16) (u v w : Vec Ideal S1024x1024 .bf16) (x o : Vec Ideal S512x1024 .f32) (g : Vec Ideal S1x1024 .f32) :
    k0_pay1 (F := Ideal) (k0_pay5 x) (k0_pay6 p u q v s w g) (k0_pay7 x) (k0_pay8 p u q v s w x g) o (ix2 r k)
      = o (ix2 r k) + rmsBwd (row x r) (fun j => k0_pay4 (F := Ideal) p u q v s w (ix2 r j) * g (ix2 0 j)) k := by
  pointwise [k0_pay1, pay5_at, pay6_at, pay7_at, pay8_at]
  try rfl
theorem dg_pay (d : FVec Ideal S512x1024 .f32) (x : Vec Ideal S512x1024 .f32) (z : Vec Ideal S1x1024 .f32) :
    k0_pay2 (F := Ideal) d x (k0_pay5 x) z (ix2 0 k) = z (ix2 0 k) + ∑ r : Fin 512, d (ix2 r k) * x (ix2 r k) * rr (row x r) := by
  pointwise [k0_pay2, pay5_at]
end

/-- Column `o + j` of the weight: where a part of the projection starts, and how far into it. -/
def col (o : ℕ) (ho : o + 1024 ≤ 3072) (j : Fin 1024) : Fin 3072 := ⟨o + j.val, by omega⟩

/-- The gradient at a normed row, from the gradients at the three parts of the projection. -/
def dhRow (p q s : Fin 1024 → EReal) (w : Fin 1024 → Fin 3072 → EReal) (k : Fin 1024) : EReal :=
  ∑ j, p j * w k (col 0 (by decide) j) + ∑ j, q j * w k (col 1024 (by decide) j) + ∑ j, s j * w k (col 2048 (by decide) j)

section
variable (m : (ℓ : Loc nD τ sig) → Buf (Elt Ideal) ℓ) (c : Dev nD)

/-! The arguments: the gradients at the three parts, the weight, the layer's input, the gain, and the gradient that the rest of the layer gives. -/
abbrev aQ : FVec Ideal S8192x1024 .bf16 := m ((c.tc : Thread nD τ).loc main_arg0)
abbrev aK : FVec Ideal S8192x1024 .bf16 := m ((c.tc : Thread nD τ).loc main_arg1)
abbrev aV : FVec Ideal S8192x1024 .bf16 := m ((c.tc : Thread nD τ).loc main_arg2)
abbrev aW : FVec Ideal S1024x3072 .f32 := m ((c.tc : Thread nD τ).loc main_arg3)
abbrev aX : FVec Ideal S8192x1024 .f32 := m ((c.tc : Thread nD τ).loc main_arg4)
abbrev aG : FVec Ideal S1024 .f32 := m ((c.tc : Thread nD τ).loc main_arg5)
abbrev aR : FVec Ideal S8192x1024 .f32 := m ((c.tc : Thread nD τ).loc main_arg6)

/-- Row `r` of point `t`'s block is row `512 t + r` of the array. -/
def rowOf (t : Fin cfg0.N) (r : Fin 512) : Fin 8192 :=
  ⟨t.val * 512 + r, by have h := lt_of_lt_of_eq t.isLt N_0; omega⟩

/-- Where the blocks of the inputs and of the results lie. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) := by decide +kernel
theorem idxOut : ∀ t : Fin cfg0.N,
    (win0_7.index t (0 : Fin 2) = t.val ∧ win0_7.index t (1 : Fin 2) = 0)
    ∧ (win0_8.index t (0 : Fin 2) = 0 ∧ win0_8.index t (1 : Fin 2) = 0) := by decide +kernel

theorem w_at (j : Fin 3072) (k : Fin 1024) : (V m c main_v1 : FVec Ideal S3072x1024 .bf16) (ix2 j k) = aW m c (ix2 k j) := by
  simp only [V, hostOps0]
  entry_read
  pointwise
theorem gain_at (k : Fin 1024) : (V m c main_v2 : FVec Ideal S1x1024 .f32) (ix2 0 k) = aG m c (ix1 k) := by
  simp only [V, hostOps0]
  entry_read
  pointwise

variable (t : Fin cfg0.N)

/-! The blocks the point reads. -/
abbrev bQ : Vec Ideal S512x1024 .bf16 := iblk m c 0 t
abbrev bK : Vec Ideal S512x1024 .bf16 := iblk m c 1 t
abbrev bV : Vec Ideal S512x1024 .bf16 := iblk m c 2 t
abbrev bW : Vec Ideal S3072x1024 .bf16 := iblk m c 3 t
abbrev bX : Vec Ideal S512x1024 .f32 := iblk m c 4 t
abbrev bG : Vec Ideal S1x1024 .f32 := iblk m c 5 t
abbrev bR : Vec Ideal S512x1024 .f32 := iblk m c 6 t

variable (r : Fin 512) (k : Fin 1024)

theorem bQ_at : bQ m c t (ix2 r k) = aQ m c (ix2 (rowOf t r) k) := by
  unfold rowOf
  blk_ext! [bQ, iblk, V, idx t]
theorem bK_at : bK m c t (ix2 r k) = aK m c (ix2 (rowOf t r) k) := by
  unfold rowOf
  blk_ext! [bK, iblk, V, idx t]
theorem bV_at : bV m c t (ix2 r k) = aV m c (ix2 (rowOf t r) k) := by
  unfold rowOf
  blk_ext! [bV, iblk, V, idx t]
theorem bX_at : bX m c t (ix2 r k) = aX m c (ix2 (rowOf t r) k) := by
  unfold rowOf
  blk_ext! [bX, iblk, V, idx t]
theorem bR_at : bR m c t (ix2 r k) = aR m c (ix2 (rowOf t r) k) := by
  unfold rowOf
  blk_ext! [bR, iblk, V, idx t]
theorem bG_at : bG m c t (ix2 0 k) = aG m c (ix1 k) := by
  rw [← gain_at]
  blk_ext [bG, iblk, idx t]
theorem bW_at (j : Fin 3072) : bW m c t (ix2 j k) = aW m c (ix2 k j) := by
  rw [← w_at]
  blk_ext [bW, iblk, idx t]

/-- The rows of the weight that a part reads. -/
abbrev wPart (o : ℕ) (inb : ∀ a, (![o, 0] : Fin 2 → ℕ) a + (![1024, 1024] : Fin 2 → ℕ) a ≤ S3072x1024.size a) : Vec Ideal S1024x1024 .bf16 := View.ld (bW m c t) (Rect.unit (s := S3072x1024) ![o, 0] ![1024, 1024] inb)
theorem wPart_at (o : ℕ) (inb) (ho : o + 1024 ≤ 3072) (j : Fin 1024) : wPart m c t o inb (ix2 j k) = aW m c (ix2 k (col o ho j)) := by
  refine (ld2_at (bW m c t) o 0 1024 1024 inb j k (by omega) (by omega)).trans ?_
  refine (congrArg (fun i => bW m c t (ix2 _ i)) (Fin.ext (Nat.zero_add _))).trans ?_
  exact bW_at m c t k (col o ho j)

/-- The gradient at the normed rows, as a point computes it. -/
abbrev dhB : FVec Ideal S512x1024 .f32 :=
  k0_pay4 (bQ m c t) (wPart m c t 0 inb_S3072x1024_S1024x1024_0_0) (bK m c t) (wPart m c t 1024 inb_S3072x1024_S1024x1024_1024_0)
    (bV m c t) (wPart m c t 2048 inb_S3072x1024_S1024x1024_2048_0)

/-- A row of an array. -/
abbrev rowA {e : FTy} (x : FVec Ideal S8192x1024 e) (n : Fin 8192) (k : Fin 1024) : EReal := x (ix2 n k)
abbrev wA (k : Fin 1024) (j : Fin 3072) : EReal := aW m c (ix2 k j)
abbrev gA (k : Fin 1024) : EReal := aG m c (ix1 k)
abbrev dhA (n : Fin 8192) : Fin 1024 → EReal := dhRow (rowA (aQ m c) n) (rowA (aK m c) n) (rowA (aV m c) n) (wA m c)

theorem dhB_at : dhB m c t (ix2 r k) = dhA m c (rowOf t r) k := by
  refine (pay4_at r k _ _ _ _ _ _).trans ?_
  exact congrArg₂ (· + ·) (congrArg₂ (· + ·)
      (Finset.sum_congr rfl fun j _ => congrArg₂ (· * ·) (bQ_at m c t r j) (wPart_at m c t k 0 _ _ j))
      (Finset.sum_congr rfl fun j _ => congrArg₂ (· * ·) (bK_at m c t r j) (wPart_at m c t k 1024 _ _ j)))
    (Finset.sum_congr rfl fun j _ => congrArg₂ (· * ·) (bV_at m c t r j) (wPart_at m c t k 2048 _ _ j))
theorem x_row : row (bX m c t) r = rowA (aX m c) (rowOf t r) := funext fun k => bX_at m c t r k

/-! What a point leaves in the results' blocks. -/
theorem gx_point : (outsAt0 m c t.val t.isLt).1 (ix2 r k)
    = bR m c t (ix2 r k) + rmsBwd (row (bX m c t) r) (fun j => dhB m c t (ix2 r j) * bG m c t (ix2 0 j)) k := by
  by_cases h : t.val % 16 = 0
  · rw [outsAt0_A m c t h]
    dsimp only
    frame_open
    simp (disch := decide) only [↓ View.readCov_skip, ↓ View.readCov_cons_toLoadRect, ↓ View.readCov_fill]
    frame_out
    exact gx_pay r k _ _ _ _ _ _ _ _ _
  · rw [outsAt0_B m c t h]
    dsimp only
    frame_open
    simp (disch := decide) only [↓ View.readCov_skip, ↓ View.readCov_cons_toLoadRect, ↓ View.readCov_fill]
    frame_out
    exact gx_pay r k _ _ _ _ _ _ _ _ _

/-- A point's part of the gain's gradient. -/
def dgB : EReal := ∑ r : Fin 512, dhB m c t (ix2 r k) * bX m c t (ix2 r k) * rr (row (bX m c t) r)

/-- The first point starts the gain's gradient from zero; a later one adds to what the point before left. -/
theorem dg_first (h : t.val % 16 = 0) : (outsAt0 m c t.val t.isLt).2 (ix2 0 k) = dgB m c t k := by
  rw [outsAt0_A m c t h]
  dsimp only
  frame_open
  simp (disch := decide) only [↓ View.readCov_skip, ↓ View.readCov_cons_toLoadRect, ↓ View.readCov_fill]
  frame_out
  refine (dg_pay k (dhB m c t) (bX m c t) _).trans ?_
  rw [pay3_at, zero_add]
  rfl
theorem dg_next (h : ¬t.val % 16 = 0) : (outsAt0 m c t.val t.isLt).2 (ix2 0 k)
    = (outsAt0 m c (t.val - 1) (Nat.lt_of_le_of_lt (Nat.sub_le _ _) t.isLt)).2 (ix2 0 k) + dgB m c t k := by
  rw [outsAt0_B m c t h]
  dsimp only
  frame_open
  simp (disch := decide) only [↓ View.readCov_skip, ↓ View.readCov_cons_toLoadRect, ↓ View.readCov_fill]
  frame_out
  exact dg_pay k (dhB m c t) (bX m c t) _

/-- After a point, the gain's gradient is the sum of the parts so far. -/
theorem dg_sum : ∀ (n : ℕ) (hn : n < cfg0.N), (outsAt0 m c n hn).2 (ix2 0 k)
    = ∑ p : Fin (n + 1), dgB m c ⟨p.val, lt_of_le_of_lt (Nat.le_of_lt_succ p.isLt) hn⟩ k
  | 0, hn => by
    rw [Fin.sum_univ_one]
    exact dg_first m c ⟨0, hn⟩ k rfl
  | n + 1, hn => by
    have hN : n + 1 < 16 := lt_of_lt_of_eq hn N_0
    refine (dg_next m c ⟨n + 1, hn⟩ k (by show ¬(n + 1) % 16 = 0; omega)).trans ?_
    rw [Fin.sum_univ_castSucc]
    exact congrArg (· + dgB m c ⟨n + 1, hn⟩ k) (dg_sum n (Nat.lt_of_succ_lt hn))

/-- The gradient at the layer's input, and a row's part of the gain's gradient, over the arguments. -/
abbrev gxA (n : Fin 8192) (k : Fin 1024) : EReal := aR m c (ix2 n k) + rmsBwd (rowA (aX m c) n) (fun j => dhA m c n j * gA m c j) k
abbrev dgA (n : Fin 8192) (k : Fin 1024) : EReal := dhA m c n k * aX m c (ix2 n k) * rr (rowA (aX m c) n)

theorem gx_row : (outsAt0 m c t.val t.isLt).1 (ix2 r k) = gxA m c (rowOf t r) k := by
  rw [gx_point, x_row, bR_at]
  exact congrArg (fun u => aR m c (ix2 (rowOf t r) k) + rmsBwd (rowA (aX m c) (rowOf t r)) u k) (funext fun j => by rw [dhB_at, bG_at])
theorem dg_part : dgB m c t k = ∑ r : Fin 512, dgA m c (rowOf t r) k :=
  Finset.sum_congr rfl fun r _ => by rw [dhB_at, x_row, bX_at]

/-! The result arrays. -/
theorem arr7 : ((dats m 0 c).arrAt 7 cfg0.N : FVec Ideal S8192x1024 .f32) (ix2 (rowOf t r) k) = gxA m c (rowOf t r) k :=
  ((congrArg ((dats m 0 c).arrAt 7 cfg0.N : FVec Ideal S8192x1024 .f32)
      (ix2_of (starts _ _ (idxOut t).1.1) (starts_zero _ (idxOut t).1.2))).trans
    (congrFun ((blocks7 m c t (flush0_7 t)).trans (flushed7 m c t)) (ix2 r k))).trans (gx_row m c t r k)

/-- The rows of all the blocks are the rows of the array. -/
theorem rows_sum (F : Fin 8192 → EReal) :
    ∑ t : Fin 16, ∑ r : Fin 512, F (rowOf ⟨t.val, lt_of_lt_of_eq t.isLt N_0.symm⟩ r) = ∑ n : Fin 8192, F n := by
  refine (Fintype.sum_prod_type' fun (t : Fin 16) (r : Fin 512) => F (rowOf ⟨t.val, lt_of_lt_of_eq t.isLt N_0.symm⟩ r)).symm.trans ?_
  refine Fintype.sum_equiv (finProdFinEquiv (m := 16) (n := 512)) _ _ fun p => congrArg F (Fin.ext ?_)
  rw [rowOf, finProdFinEquiv_apply_val]
  ring

/-- The gain's gradient is written back once, after the last point. -/
theorem last_flush {t : Fin cfg0.N} (h : (cfg0.win 8).flush t = true) : t.val = 15 := by
  have h1 := (flush0_8 t).mp h
  have h2 := lt_of_lt_of_eq t.isLt N_0
  omega
theorem block8 (t : Fin cfg0.N) (h : (cfg0.win 8).flush t = true) :
    ((cfg0.win 8).blk t).view.read (Elt Ideal) ((dats m 0 c).arrAt 8 cfg0.N) = (cfg0.win 8).cut (grid0.coords t) (outsAt0 m c t.val t.isLt).2 :=
  ((dats m 0 c).read_blk_arrAt_eq_flushed 8
    (fun _ _ h h' hne => absurd (Fin.ext ((last_flush h).trans (last_flush h').symm)) hne) cfg0.N t t.isLt h).trans (flushed8 m c t)

/-- So it is the sum over all the rows. -/
theorem arr8 (k : Fin 1024) : ((dats m 0 c).arrAt 8 cfg0.N : FVec Ideal S1x1024 .f32) (ix2 0 k) = ∑ n : Fin 8192, dgA m c n k := by
  have hl : 15 < cfg0.N := lt_of_lt_of_eq (by decide) N_0.symm
  refine ((congrArg ((dats m 0 c).arrAt 8 cfg0.N : FVec Ideal S1x1024 .f32)
      (ix2_of (starts_zero (s := 1) _ (idxOut ⟨15, hl⟩).2.1) (starts_zero (s := 1024) _ (idxOut ⟨15, hl⟩).2.2))).trans
    (congrFun (block8 m c ⟨15, hl⟩ ((flush0_8 ⟨15, hl⟩).mpr rfl)) (ix2 0 k))).trans ?_
  refine (dg_sum m c k 15 hl).trans ?_
  exact (Finset.sum_congr rfl fun p _ => dg_part m c ⟨p.val, _⟩ k).trans (rows_sum fun n => dgA m c n k)

/-- Every row is a row of a block. -/
theorem row_split (n : Fin 8192) : ∃ t r, n = rowOf t r :=
  ⟨⟨n / 512, lt_of_lt_of_eq (by omega) N_0.symm⟩, ⟨n % 512, by omega⟩, Fin.ext (by simp only [rowOf]; omega)⟩
end

/-! The reference's gradient at the normed rows: one product with the three gradients side by side. -/
section
variable (p q s : FVec Ideal Cert.Reference6Ideal.S8192x1024 .bf16) (w : FVec Ideal Cert.Reference6Ideal.S1024x3072 .f32)

def dhV : FVec Ideal Cert.Reference6Ideal.S8192x1024 .f32 :=
  Host.dotGeneral Cert.Reference6Ideal.dot_S8192x3072_S1024x3072_S8192x1024_1_1_0_0_n_n none
    (concatenate Cert.Reference6Ideal.S8192x3072 1
      [⟨Cert.Reference6Ideal.S8192x1024, extf .f32 p Cert.Reference6Ideal.Gen.bitsLt_bf16_f32⟩,
        ⟨Cert.Reference6Ideal.S8192x1024, extf .f32 q Cert.Reference6Ideal.Gen.bitsLt_bf16_f32⟩,
        ⟨Cert.Reference6Ideal.S8192x1024, extf .f32 s Cert.Reference6Ideal.Gen.bitsLt_bf16_f32⟩]
      Cert.Reference6Ideal.Gen.concatenates_S8192x1024_S8192x1024_S8192x1024_S8192x3072_d1) w
theorem dhV_at (n : Fin 8192) (k : Fin 1024) :
    dhV p q s w (ix2 n k) = dhRow (rowA p n) (rowA q n) (rowA s n) (fun k j => w (ix2 k j)) k := by
  pointwise [dhV]
  refine (Fin.sum_univ_add (a := 2048) (b := 1024) _).trans (congrArg₂ (· + ·) ((Fin.sum_univ_add (a := 1024) (b := 1024) _).trans
    (congrArg₂ (· + ·) (Finset.sum_congr rfl fun j _ => ?_) (Finset.sum_congr rfl fun j _ => ?_))) (Finset.sum_congr rfl fun j _ => ?_))
  · refine congrArg (· * _) (dif_pos (show j.val < 1024 from j.isLt)) |>.trans ?_
    exact congrArg (fun i => p (ix2 n j) * w (ix2 k i)) (Fin.ext (Nat.zero_add _).symm)
  · refine congrArg (· * _) ((dif_neg (show ¬1024 + j.val < 1024 by omega)).trans (dif_pos (show 1024 + j.val - 1024 < 1024 by omega))) |>.trans ?_
    exact congrArg (fun i => q (ix2 n i) * w (ix2 k (col 1024 (by decide) j))) (Fin.ext (Nat.add_sub_cancel_left _ _))
  · refine congrArg (· * _) ((dif_neg (show ¬2048 + j.val < 1024 by omega)).trans (dif_neg (show ¬2048 + j.val - 1024 < 1024 by omega))) |>.trans ?_
    exact congrArg (fun i => s (ix2 n i) * w (ix2 k (col 2048 (by decide) j))) (Fin.ext (by show 2048 + j.val - 1024 - 1024 = j.val; omega))
end

section
variable (m : (ℓ : Loc nD τ sig) → Buf (Elt Ideal) ℓ) (c : Dev nD)
/-! The two result arrays, and the reference's gradient over the same arguments. -/
def out0 : FVec Ideal S8192x1024 .f32 := (dats m 0 c).arrAt 7 cfg0.N
def out1 : FVec Ideal S1x1024 .f32 := (dats m 0 c).arrAt 8 cfg0.N
abbrev dhW : FfnBwd.Ref.Wide := dhV (aQ m c) (aK m c) (aV m c) (aW m c)

theorem dhW_at (n : Fin 8192) (k : Fin 1024) : dhW m c (ix2 n k) = dhA m c n k := dhV_at _ _ _ _ n k

theorem whole1 : out1 m c = FfnBwd.Ref.dgOf (aX m c) (dhW m c) := ext2 fun z k => by
  obtain rfl : z = 0 := Subsingleton.elim _ _
  refine (arr8 m c k).trans (Eq.trans ?_ (FfnBwd.Ref.dg_of (aX m c) k (dhW m c)).symm)
  change @Eq EReal _ _
  exact Finset.sum_congr rfl fun n _ => by
    rw [dhW_at]
    exact (mul_assoc _ _ _).trans (mul_comm _ _)

theorem whole0 : out0 m c = FfnBwd.Ref.gxOf (aX m c) (aR m c) (mulf (dhW m c) (FfnBwd.Ref.gainV (aG m c))) := ext2 fun n k => by
  obtain ⟨t, r, rfl⟩ := row_split n
  refine (arr7 m c t r k).trans (Eq.trans ?_
    (FfnBwd.Ref.gx_of (aX m c) (rowOf t r) k (aR m c) (mulf (dhW m c) (FfnBwd.Ref.gainV (aG m c)))).symm)
  have hu : (FfnBwd.Ref.rowW (mulf (dhW m c) (FfnBwd.Ref.gainV (aG m c))) (rowOf t r)) = fun j => dhA m c (rowOf t r) j * gA m c j :=
    funext fun j => congrArg₂ (· * ·) (dhW_at m c (rowOf t r) j) (FfnBwd.Ref.gain_at (aG m c) (rowOf t r) j)
  rw [hu]
  exact congrArg (aR m c (ix2 (rowOf t r) k) + ·) (FfnBwd.rmsBwd_eq _ _ k)
end

/-- The two programs agree on both results. -/
theorem algebraic : Cert.algebraic_Kernel6Ideal_Reference6Ideal := by
  intro m g m' g' _ ha
  refine ⟨fun c => out0 m c, fun c => out1 m c, run_blocks m g, ?_⟩
  refine θ_run_mono (Cert.Reference6Ideal.Value.run m' g') fun r hr c => ?_
  obtain ⟨r0, r1, kept⟩ := hr c
  obtain ⟨h0, h1, h2, h3, h4, h5, h6⟩ := ha c
  unfold Cert.Reference6Ideal.Value.res_main_v45 at r0
  rw [h0, h1, h2, h3, h4, h5, h6] at r0
  rw [h0, h1, h2, h3, h4] at r1
  exact ⟨r0.trans (whole0 m c).symm, r1.trans (whole1 m c).symm, kept⟩

end ProjBwd

end
-- ==== Proof.ProjFfn.lean ====
module

public import proofs.«01_k».proof.Defs
public import proofs.«01_k».proof.Proof.Gen.Kernel7Ideal.Value
public import proofs.«01_k».proof.Proof.Gen.Reference7Ideal.Run
public import proofs.«01_k».proof.Proof.FfnFwd

/-!
The forward call that first adds a layer's projected output to the residual rows and then runs the feed-forward layer on the sum.  The layer's part is
that of `FfnFwd` with the sum as its input, so the results agree for all arguments.
-/

@[expose] public section

set_option maxRecDepth 16384

noncomputable section

namespace ProjFfn

open Idealize.ShloMosaic Idealize.SL.Sem MixRows Cert.Kernel7Ideal Cert.Kernel7Ideal.Gen Cert.Kernel7Ideal.Value
open FfnBwd (hRow inRow sRow stack starts starts_zero ix2_of)
open FfnFwd (xoRow xoV sig_all)

/-- One row of the layer's input: a residual row and a row of outputs through the projection. -/
def sumRow (act res : Fin 1024 → EReal) (w : Fin 1024 → Fin 1024 → EReal) (k : Fin 1024) : EReal := res k + ∑ j, act j * w j k

section
variable (r : Fin 256) (k : Fin 1024) (f : Fin 2816) (x : Vec Ideal S256x1024 .f32) (a : Vec Ideal S256x1024 .bf16) (w : Vec Ideal S1024x1024 .bf16)
  (g : Vec Ideal S1x1024 .f32) (u : Vec Ideal S1x2816x1024 .bf16)

/-- The layer's input that a point computes, as a function of the column. -/
abbrev row (k : Fin 1024) : EReal := sumRow (fun j => a (ix2 r j)) (fun j => x (ix2 r j)) (fun j k => w (ix2 j k)) k

/-! The values a point computes from its blocks, at an index. -/
theorem pay3_at : k0_pay3 (F := Ideal) x a w (ix2 r k) = row r x a w k := by
  pointwise [k0_pay3]
  try rfl
theorem pay4_at : k0_pay4 (F := Ideal) x a w g (ix2 r k) = hRow (row r x a w) (fun k => g (ix2 0 k)) k := by
  pointwise [k0_pay4, pay3_at]
  try rfl
theorem pay5_at : k0_pay5 (F := Ideal) x a w g u (ix2 r f) = inRow (row r x a w) (fun k => g (ix2 0 k)) (fun k f => u (ix3 0 f k)) f := by
  pointwise [k0_pay5, pay4_at]
  try rfl
theorem pay6_at : k0_pay6 (F := Ideal) x a w g u (ix2 r f) = inRow (row r x a w) (fun k => g (ix2 0 k)) (fun k f => u (ix3 0 f k)) f := by
  pointwise [k0_pay6, pay4_at]
  try rfl
theorem pay7_at : k0_pay7 (F := Ideal) x a w g u (ix2 r f) = inRow (row r x a w) (fun k => g (ix2 0 k)) (fun k f => u (ix3 0 f k)) f := by
  pointwise [k0_pay7, pay5_at]
theorem pay1_at (b : FVec Ideal S256x2816 .f32) : k0_pay1 (F := Ideal) b (ix2 r f) = b (ix2 r f) := by
  pointwise [k0_pay1]
theorem pay2_at (p q : FVec Ideal S256x2816 .f32) (y : Vec Ideal S256x1024 .f32) : k0_pay2 (F := Ideal) p q y u (ix2 r k)
    = y (ix2 r k) + FfnBwd.half * ∑ f : Fin 2816, p (ix2 r f) * sigK (p (ix2 r f)) * q (ix2 r f) * u (ix3 0 f k) := by
  pointwise [k0_pay2]
  try rfl
end

section
variable (m : (ℓ : Loc nD τ sig) → Buf (Elt Ideal) ℓ) (c : Dev nD)

/-! The arguments: the outputs to project, the projection, the residual rows, the gain and the layer's weights. -/
abbrev aA : FVec Ideal S8192x1024 .bf16 := m ((c.tc : Thread nD τ).loc main_arg0)
abbrev aW : FVec Ideal S1024x1024 .f32 := m ((c.tc : Thread nD τ).loc main_arg1)
abbrev aR : FVec Ideal S8192x1024 .f32 := m ((c.tc : Thread nD τ).loc main_arg2)
abbrev aG : FVec Ideal S1024 .f32 := m ((c.tc : Thread nD τ).loc main_arg3)
abbrev aWg : FVec Ideal S1024x2816 .f32 := m ((c.tc : Thread nD τ).loc main_arg4)
abbrev aWu : FVec Ideal S1024x2816 .f32 := m ((c.tc : Thread nD τ).loc main_arg5)
abbrev aWd : FVec Ideal S2816x1024 .f32 := m ((c.tc : Thread nD τ).loc main_arg6)

/-- Row `r` of point `t`'s block is row `256 t + r` of the array, and every row is one. -/
def rowOf (t : Fin cfg0.N) (r : Fin 256) : Fin 8192 :=
  ⟨t.val * 256 + r, by have h := lt_of_lt_of_eq t.isLt N_0; omega⟩
theorem row_split (n : Fin 8192) : ∃ (t : Fin cfg0.N) (r : Fin 256), n = rowOf t r :=
  ⟨⟨n.val / 256, lt_of_lt_of_eq (by omega : n.val / 256 < 32) N_0.symm⟩, ⟨n.val % 256, Nat.mod_lt _ (by decide)⟩,
    Fin.ext (by show n.val = n.val / 256 * 256 + n.val % 256; omega)⟩

/-- Where the blocks of the inputs and of the results lie. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 3) = 1 ∧ win0_5.index t (1 : Fin 3) = 0 ∧ win0_5.index t (2 : Fin 3) = 0)
    ∧ (win0_6.index t (0 : Fin 3) = 2 ∧ win0_6.index t (1 : Fin 3) = 0 ∧ win0_6.index t (2 : Fin 3) = 0) := by decide +kernel
theorem idxOut : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) := by decide +kernel

open StableHlo in
theorem stack_eq : (V m c main_v6 : FVec Ideal S3x2816x1024 .bf16) = stack (aWg m c) (aWu m c) (aWd m c) := by
  show after (hostOps0 (F := Ideal)) (fun b => m (c, b)) (Proc.devRef .tc main_v6) = _
  rw [after_last_write (i := 6) [main_v7, main_v8] rfl rfl (by decide)]
  rw [unary_result, upto_last_write (i := 5) [] rfl rfl (by decide), nary_result]
  have e2 : upto (hostOps0 (F := Ideal)) (fun b => m (c, b)) 5 (Proc.devRef .tc main_v2)
      = broadcastInDim S1x2816x1024 ![1, 2] bcast_S2816x1024_S1x2816x1024_1_2
        (transpose S2816x1024 [1, 0] (aWg m c) transposes_S1024x2816_S2816x1024_1_0) := by
    rw [upto_last_write (i := 2) [main_v3, main_v4] rfl rfl (by decide), unary_result,
      upto_last_write (i := 0) [main_v1] rfl rfl (by decide), unary_result]
    rfl
  have e3 : upto (hostOps0 (F := Ideal)) (fun b => m (c, b)) 5 (Proc.devRef .tc main_v3)
      = broadcastInDim S1x2816x1024 ![1, 2] bcast_S2816x1024_S1x2816x1024_1_2
        (transpose S2816x1024 [1, 0] (aWu m c) transposes_S1024x2816_S2816x1024_1_0) := by
    rw [upto_last_write (i := 3) [main_v4] rfl rfl (by decide), unary_result,
      upto_last_write (i := 1) [main_v2] rfl rfl (by decide), unary_result, upto_unwritten [main_v0] rfl (by decide)]
  have e4 : upto (hostOps0 (F := Ideal)) (fun b => m (c, b)) 5 (Proc.devRef .tc main_v4)
      = broadcastInDim S1x2816x1024 ![1, 2] bcast_S2816x1024_S1x2816x1024_1_2 (aWd m c) := by
    rw [upto_last_write (i := 4) [] rfl rfl (by decide), unary_result, upto_unwritten [main_v0, main_v1, main_v2, main_v3] rfl (by decide)]
  unfold stack
  rw [← e2, ← e3, ← e4]
  rfl
theorem wg_at (f : Fin 2816) (k : Fin 1024) : (V m c main_v6 : FVec Ideal S3x2816x1024 .bf16) (ix3 0 f k) = aWg m c (ix2 k f) := by
  rw [stack_eq]
  pointwise [stack]
theorem wu_at (f : Fin 2816) (k : Fin 1024) : (V m c main_v6 : FVec Ideal S3x2816x1024 .bf16) (ix3 1 f k) = aWu m c (ix2 k f) := by
  rw [stack_eq]
  pointwise [stack]
theorem wd_at (f : Fin 2816) (k : Fin 1024) : (V m c main_v6 : FVec Ideal S3x2816x1024 .bf16) (ix3 2 f k) = aWd m c (ix2 f k) := by
  rw [stack_eq]
  pointwise [stack]
theorem gain_at (k : Fin 1024) : (V m c main_v8 : FVec Ideal S1x1024 .f32) (ix2 0 k) = aG m c (ix1 k) := by
  simp only [V, hostOps0]
  entry_read
  pointwise
theorem proj_at (j k : Fin 1024) : (V m c main_v7 : FVec Ideal S1024x1024 .bf16) (ix2 j k) = aW m c (ix2 j k) := by
  simp only [V, hostOps0]
  entry_read
  pointwise

variable (t : Fin cfg0.N)

/-! The blocks the point reads. -/
abbrev bA : Vec Ideal S256x1024 .bf16 := iblk m c 0 t
abbrev bW : Vec Ideal S1024x1024 .bf16 := iblk m c 1 t
abbrev bR : Vec Ideal S256x1024 .f32 := iblk m c 2 t
abbrev bG : Vec Ideal S1x1024 .f32 := iblk m c 3 t
abbrev bWg : Vec Ideal S1x2816x1024 .bf16 := iblk m c 4 t
abbrev bWu : Vec Ideal S1x2816x1024 .bf16 := iblk m c 5 t
abbrev bWd : Vec Ideal S1x2816x1024 .bf16 := iblk m c 6 t

variable (r : Fin 256) (j k : Fin 1024) (f : Fin 2816)

theorem bA_at : bA m c t (ix2 r k) = aA m c (ix2 (rowOf t r) k) := by
  unfold rowOf
  blk_ext! [bA, iblk, V, idx t]
theorem bR_at : bR m c t (ix2 r k) = aR m c (ix2 (rowOf t r) k) := by
  unfold rowOf
  blk_ext! [bR, iblk, V, idx t]
theorem bW_at : bW m c t (ix2 j k) = aW m c (ix2 j k) := by
  rw [← proj_at]
  blk_ext [bW, iblk, idx t]
theorem bG_at : bG m c t (ix2 0 k) = aG m c (ix1 k) := by
  rw [← gain_at]
  blk_ext [bG, iblk, idx t]
theorem bWg_at : bWg m c t (ix3 0 f k) = aWg m c (ix2 k f) := by
  rw [← wg_at]
  blk_ext [bWg, iblk, idx t]
theorem bWu_at : bWu m c t (ix3 0 f k) = aWu m c (ix2 k f) := by
  rw [← wu_at]
  blk_ext [bWu, iblk, idx t]
theorem bWd_at : bWd m c t (ix3 0 f k) = aWd m c (ix2 f k) := by
  rw [← wd_at]
  blk_ext [bWd, iblk, idx t]

/-! A row of the layer's input, the gain and the weights as functions. -/
abbrev xK (n : Fin 8192) : Fin 1024 → EReal := sumRow (fun j => aA m c (ix2 n j)) (fun j => aR m c (ix2 n j)) (fun j k => aW m c (ix2 j k))
abbrev gK (k : Fin 1024) : EReal := aG m c (ix1 k)
abbrev wgK (k : Fin 1024) (f : Fin 2816) : EReal := aWg m c (ix2 k f)
abbrev wuK (k : Fin 1024) (f : Fin 2816) : EReal := aWu m c (ix2 k f)

theorem x_row : row r (bR m c t) (bA m c t) (bW m c t) = xK m c (rowOf t r) := by
  unfold row xK
  rw [show (fun j => bA m c t (ix2 r j)) = fun j => aA m c (ix2 (rowOf t r) j) from funext fun k => bA_at m c t r k,
    show (fun j => bR m c t (ix2 r j)) = fun j => aR m c (ix2 (rowOf t r) j) from funext fun k => bR_at m c t r k,
    show (fun j k => bW m c t (ix2 j k)) = fun j k => aW m c (ix2 j k) from funext fun j => funext fun k => bW_at m c t j k]
theorem g_row : (fun k => bG m c t (ix2 0 k)) = gK m c := funext fun k => bG_at m c t k
theorem wg_row : (fun k f => bWg m c t (ix3 0 f k)) = wgK m c := funext fun k => funext fun f => bWg_at m c t k f
theorem wu_row : (fun k f => bWu m c t (ix3 0 f k)) = wuK m c := funext fun k => funext fun f => bWu_at m c t k f

/-! What the point leaves in its five outputs. -/
theorem x_point : (outsAt0 m c t).1 (ix2 r k) = xK m c (rowOf t r) k := by
  unfold outsAt0
  dsimp only
  frame_open
  frame_out
  refine (pay3_at r k _ _ _).trans ?_
  exact congrFun (x_row m c t r) k
theorem h_point : (outsAt0 m c t).2.2.2.2 (ix2 r k) = hRow (xK m c (rowOf t r)) (gK m c) k := by
  unfold outsAt0
  dsimp only
  frame_open
  frame_out
  rw [← x_row, ← g_row m c t]
  exact pay4_at r k _ _ _ _
theorem a_point : (outsAt0 m c t).2.2.1 (ix2 r f) = inRow (xK m c (rowOf t r)) (gK m c) (wgK m c) f := by
  unfold outsAt0
  dsimp only
  frame_open
  frame_out
  rw [← x_row, ← g_row m c t, ← wg_row m c t]
  exact pay7_at r f _ _ _ _ _
theorem b_point : (outsAt0 m c t).2.2.2.1 (ix2 r f) = inRow (xK m c (rowOf t r)) (gK m c) (wuK m c) f := by
  unfold outsAt0
  dsimp only
  frame_open
  frame_out
  rw [← x_row, ← g_row m c t, ← wu_row m c t]
  exact (pay1_at r f _).trans (pay6_at r f _ _ _ _ _)
theorem xo_point : (outsAt0 m c t).2.1 (ix2 r k)
    = xoRow (xK m c (rowOf t r)) (gK m c) (wgK m c) (wuK m c) (fun f k => aWd m c (ix2 f k)) k := by
  unfold outsAt0
  dsimp only
  frame_open
  simp (disch := decide) only [↓ View.readCov_skip, ↓ View.readCov_cons_toLoadRect, ↓ View.readCov_fill]
  frame_out
  rw [← x_row, ← g_row m c t, ← wg_row m c t, ← wu_row m c t]
  refine (pay2_at r k _ _ _ _).trans ?_
  refine congrArg₂ (fun p q => p + FfnBwd.half * q) (pay3_at r k _ _ _) (Finset.sum_congr rfl fun f _ => ?_)
  rw [pay5_at, pay6_at]
  exact congrArg (sRow _ _ _ _ f * ·) (bWd_at m c t k f)

/-! The result arrays at a block's row. -/
theorem arr7 : ((dats m 0 c).arrAt 7 cfg0.N : FVec Ideal S8192x1024 .f32) (ix2 (rowOf t r) k)
    = xK m c (rowOf t r) k :=
  ((congrArg ((dats m 0 c).arrAt 7 cfg0.N : FVec Ideal S8192x1024 .f32)
      (ix2_of (starts _ _ (idxOut t).1.1) (starts_zero _ (idxOut t).1.2))).trans
    (congrFun ((blocks7 m c t (flush0_7 t)).trans (flushed7 m c t)) (ix2 r k))).trans (x_point m c t r k)
theorem arr8 : ((dats m 0 c).arrAt 8 cfg0.N : FVec Ideal S8192x1024 .f32) (ix2 (rowOf t r) k)
    = xoRow (xK m c (rowOf t r)) (gK m c) (wgK m c) (wuK m c) (fun f k => aWd m c (ix2 f k)) k :=
  ((congrArg ((dats m 0 c).arrAt 8 cfg0.N : FVec Ideal S8192x1024 .f32)
      (ix2_of (starts _ _ (idxOut t).2.1.1) (starts_zero _ (idxOut t).2.1.2))).trans
    (congrFun ((blocks8 m c t (flush0_8 t)).trans (flushed8 m c t)) (ix2 r k))).trans (xo_point m c t r k)
theorem arr9 : ((dats m 0 c).arrAt 9 cfg0.N : FVec Ideal S8192x2816 .bf16) (ix2 (rowOf t r) f)
    = inRow (xK m c (rowOf t r)) (gK m c) (wgK m c) f :=
  ((congrArg ((dats m 0 c).arrAt 9 cfg0.N : FVec Ideal S8192x2816 .bf16)
      (ix2_of (starts _ _ (idxOut t).2.2.1.1) (starts_zero _ (idxOut t).2.2.1.2))).trans
    (congrFun ((blocks9 m c t (flush0_9 t)).trans (flushed9 m c t)) (ix2 r f))).trans (a_point m c t r f)
theorem arr10 : ((dats m 0 c).arrAt 10 cfg0.N : FVec Ideal S8192x2816 .bf16) (ix2 (rowOf t r) f)
    = inRow (xK m c (rowOf t r)) (gK m c) (wuK m c) f :=
  ((congrArg ((dats m 0 c).arrAt 10 cfg0.N : FVec Ideal S8192x2816 .bf16)
      (ix2_of (starts _ _ (idxOut t).2.2.2.1.1) (starts_zero _ (idxOut t).2.2.2.1.2))).trans
    (congrFun ((blocks10 m c t (flush0_10 t)).trans (flushed10 m c t)) (ix2 r f))).trans (b_point m c t r f)
theorem arr11 : ((dats m 0 c).arrAt 11 cfg0.N : FVec Ideal S8192x1024 .bf16) (ix2 (rowOf t r) k)
    = hRow (xK m c (rowOf t r)) (gK m c) k :=
  ((congrArg ((dats m 0 c).arrAt 11 cfg0.N : FVec Ideal S8192x1024 .bf16)
      (ix2_of (starts _ _ (idxOut t).2.2.2.2.1) (starts_zero _ (idxOut t).2.2.2.2.2))).trans
    (congrFun ((blocks11 m c t (flush0_11 t)).trans (flushed11 m c t)) (ix2 r k))).trans (h_point m c t r k)
end

/-- The reference's input of the layer. -/
def sumV (a : FVec Ideal Cert.Reference7Ideal.S8192x1024 .bf16) (w : FVec Ideal Cert.Reference7Ideal.S1024x1024 .f32)
    (x : FVec Ideal Cert.Reference7Ideal.S8192x1024 .f32) : FVec Ideal Cert.Reference7Ideal.S8192x1024 .f32 :=
  addf x (Host.dotGeneral Cert.Reference7Ideal.dot_S8192x1024_S1024x1024_S8192x1024_1_0_0_1_n_n none
    (extf .f32 a Cert.Reference7Ideal.Gen.bitsLt_bf16_f32) w)

theorem sum_at (a : FVec Ideal Cert.Reference7Ideal.S8192x1024 .bf16) (w : FVec Ideal Cert.Reference7Ideal.S1024x1024 .f32)
    (x : FVec Ideal Cert.Reference7Ideal.S8192x1024 .f32) (n : Fin 8192) (k : Fin 1024) :
    sumV a w x (ix2 n k) = sumRow (fun j => a (ix2 n j)) (fun j => x (ix2 n j)) (fun j k => w (ix2 j k)) k := by
  pointwise [sumV]
  try rfl

section
variable (m : (ℓ : Loc nD τ sig) → Buf (Elt Ideal) ℓ) (c : Dev nD)

/-! The five result arrays. -/
def out0 : FVec Ideal S8192x1024 .f32 := (dats m 0 c).arrAt 7 cfg0.N
def out1 : FVec Ideal S8192x1024 .f32 := (dats m 0 c).arrAt 8 cfg0.N
def out2 : FVec Ideal S8192x2816 .bf16 := (dats m 0 c).arrAt 9 cfg0.N
def out3 : FVec Ideal S8192x2816 .bf16 := (dats m 0 c).arrAt 10 cfg0.N
def out4 : FVec Ideal S8192x1024 .bf16 := (dats m 0 c).arrAt 11 cfg0.N

/-- The reference's input of the layer, at the kernel's arguments. -/
abbrev xV : FVec Ideal S8192x1024 .f32 := sumV (aA m c) (aW m c) (aR m c)
theorem xV_row (n : Fin 8192) : (fun k => xV m c (ix2 n k)) = xK m c n := funext fun k => sum_at (aA m c) (aW m c) (aR m c) n k

theorem whole0 : out0 m c = xV m c := ext2 fun n k => by
  obtain ⟨t, r, rfl⟩ := row_split n
  exact (arr7 m c t r k).trans (sum_at (aA m c) (aW m c) (aR m c) (rowOf t r) k).symm
theorem whole1 : out1 m c = xoV (xV m c) (aG m c) (aWg m c) (aWu m c) (aWd m c) := ext2 fun n k => by
  obtain ⟨t, r, rfl⟩ := row_split n
  refine (arr8 m c t r k).trans ?_
  rw [← xV_row]
  exact (FfnFwd.xo_at (xV m c) (aG m c) (aWg m c) (aWu m c) (aWd m c) (rowOf t r) k).symm
theorem whole2 : out2 m c = FfnBwd.Ref.inV (xV m c) (aG m c) (aWg m c) := ext2 fun n f => by
  obtain ⟨t, r, rfl⟩ := row_split n
  refine (arr9 m c t r f).trans ?_
  rw [← xV_row]
  exact (FfnBwd.Ref.in_at (xV m c) (aG m c) (rowOf t r) f (aWg m c)).symm
theorem whole3 : out3 m c = FfnBwd.Ref.inV (xV m c) (aG m c) (aWu m c) := ext2 fun n f => by
  obtain ⟨t, r, rfl⟩ := row_split n
  refine (arr10 m c t r f).trans ?_
  rw [← xV_row]
  exact (FfnBwd.Ref.in_at (xV m c) (aG m c) (rowOf t r) f (aWu m c)).symm
theorem whole4 : out4 m c = FfnBwd.Ref.hV (xV m c) (aG m c) := ext2 fun n k => by
  obtain ⟨t, r, rfl⟩ := row_split n
  refine (arr11 m c t r k).trans ?_
  rw [← xV_row]
  exact (FfnBwd.Ref.h_at (xV m c) (aG m c) (rowOf t r) k).symm
end

/-- The two programs agree on every result. -/
theorem algebraic : Cert.algebraic_Kernel7Ideal_Reference7Ideal := by
  intro m g m' g' _ ha
  refine ⟨fun c => out0 m c, fun c => out1 m c, fun c => out2 m c, fun c => out3 m c, fun c => out4 m c, run_blocks m g, ?_⟩
  refine θ_run_mono (Cert.Reference7Ideal.Value.run m' g') fun r hr c => ?_
  obtain ⟨r0, r1, r2, r3, r4, kept⟩ := hr c
  obtain ⟨h0, h1, h2, h3, h4, h5, h6⟩ := ha c
  unfold Cert.Reference7Ideal.Value.res_main_v23 at r1
  rw [h0, h1, h2] at r0
  rw [h0, h1, h2, h3, h4, h5, h6] at r1
  rw [h0, h1, h2, h3, h4] at r2
  rw [h0, h1, h2, h3, h5] at r3
  rw [h0, h1, h2, h3] at r4
  exact ⟨r0.trans (whole0 m c).symm, r1.trans (whole1 m c).symm, r2.trans (whole2 m c).symm, r3.trans (whole3 m c).symm,
    r4.trans (whole4 m c).symm, kept⟩

end ProjFfn

end
-- ==== Proof.WeightSquare.lean ====
module

public import proofs.«01_k».proof.Proof.Gen.Kernel8Ideal.Value
public import proofs.«01_k».proof.Proof.Gen.Reference8Ideal.Run
public import proofs.«01_k».proof.Proof.WeightGrad

/-!
The gradient of a square weight: the same call as in `WeightGrad`, on two arrays whose rows are 1024 wide, so that one block holds all columns and
only the rows are split.
-/

@[expose] public section

set_option maxRecDepth 16384

noncomputable section

namespace WeightSquare

open Idealize.ShloMosaic Idealize.SL.Sem Cert.Kernel8Ideal Cert.Kernel8Ideal.Gen Cert.Kernel8Ideal.Value
open WeightGrad (rowAt)

section
variable (m : (ℓ : Loc nD τ sig) → Buf (Elt Ideal) ℓ) (c : Dev nD)

/-! The two arguments: the gradient at the layer's output, and its input. -/
abbrev dA : FVec Ideal S8192x1024 .bf16 := m ((c.tc : Thread nD τ).loc main_arg0)
abbrev hA : FVec Ideal S8192x1024 .bf16 := m ((c.tc : Thread nD τ).loc main_arg1)

/-- Where a point's blocks lie. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0) := by decide +kernel

theorem lt4 (t : Fin cfg0.N) : t.val < 4 := lt_of_lt_of_eq t.isLt N_0

abbrev bD (t : Fin cfg0.N) : Vec Ideal S2048x1024 .bf16 := iblk m c 0 t
abbrev bH (t : Fin cfg0.N) : Vec Ideal S2048x1024 .bf16 := iblk m c 1 t

variable (i l : Fin 1024)

theorem bD_at (t : Fin cfg0.N) (r : Fin 2048) : bD m c t (ix2 r i) = dA m c (ix2 (rowAt ⟨t.val, lt4 t⟩ r) i) := by
  unfold rowAt
  blk_ext! [bD, iblk, V, idx t]
theorem bH_at (t : Fin cfg0.N) (r : Fin 2048) : bH m c t (ix2 r l) = hA m c (ix2 (rowAt ⟨t.val, lt4 t⟩ r) l) := by
  unfold rowAt
  blk_ext! [bH, iblk, V, idx t]

/-- One block of rows' part of the product. -/
def part (d h : FVec Ideal S8192x1024 .bf16) (k : Fin 4) (i l : Fin 1024) : EReal :=
  ∑ r : Fin 2048, d (ix2 (rowAt k r) i) * h (ix2 (rowAt k r) l)

theorem pay_at (acc : Vec Ideal S1024x1024 .f32) (x y : Vec Ideal S2048x1024 .bf16) :
    k0_pay2 (F := Ideal) acc x y (ix2 i l) = acc (ix2 i l) + ∑ r : Fin 2048, x (ix2 r i) * y (ix2 r l) := by
  pointwise [k0_pay2]
theorem zero_at : k0_pay1 (F := Ideal) (ix2 i l) = 0 := by
  pointwise [k0_pay1]

/-- A step adds its point's part; the first starts from zero. -/
theorem step_at (t : Fin cfg0.N) (acc : Vec Ideal S1024x1024 .f32) :
    step2 m c t.val t.isLt acc (ix2 i l) = acc (ix2 i l) + part (dA m c) (hA m c) ⟨t.val, lt4 t⟩ i l := by
  unfold step2
  rw [pay_at]
  exact congrArg (acc (ix2 i l) + ·) (Finset.sum_congr rfl fun r _ => congrArg₂ (· * ·) (bD_at m c i t r) (bH_at m c l t r))
theorem reset_at (h : 0 < cfg0.N) : reset2 m c 0 h (ix2 i l) = part (dA m c) (hA m c) 0 i l :=
  (step_at m c i l ⟨0, h⟩ (k0_pay1 (F := Ideal))).trans (by rw [zero_at, zero_add]; rfl)

/-- The result at an index: its four parts. -/
theorem g2_at : G2 m c (ix2 i l) = ∑ k : Fin 4, part (dA m c) (hA m c) k i l := by
  have hr : run2Of (ix2 i l) = 0 := by
    show 1 * (i.val / 1024 - 0) + 1 * (l.val / 1024 - 0) = 0
    omega
  have hl : loc2Of (ix2 i l) = ix2 i l := funext fun a => Fin.ext (match a with
    | ⟨0, _⟩ => (by show i.val % 1024 = i.val; omega)
    | ⟨1, _⟩ => (by show l.val % 1024 = l.val; omega))
  have hN : 4 * 0 + 3 < cfg0.N := by rw [show cfg0.N = 4 from N_0]; omega
  unfold G2
  rw [dif_pos (by rw [hr]; exact hN), hl]
  have e : ∀ (n : ℕ) (h : 4 * n + 3 < cfg0.N), n = 0 →
      Pipeline.accAt (reset2 m c) (step2 m c) (4 * n) 3 h = Pipeline.accAt (reset2 m c) (step2 m c) (4 * 0) 3 hN := by
    intro n h hn; subst hn; rfl
  rw [e _ _ hr]
  have s0 := reset_at m c i l (by omega)
  have s1 := (step_at m c i l ⟨1, by omega⟩ (reset2 m c 0 (by omega))).trans (congrArg (· + _) s0)
  have s2 := (step_at m c i l ⟨2, by omega⟩ _).trans (congrArg (· + _) s1)
  have s3 := (step_at m c i l ⟨3, by omega⟩ _).trans (congrArg (· + _) s2)
  change @Eq EReal _ _
  exact s3.trans (Fin.sum_univ_four fun k => part (dA m c) (hA m c) k i l).symm

end

/-- The parts together: the product over all rows. -/
theorem parts (d h : FVec Ideal S8192x1024 .bf16) (i l : Fin 1024) :
    ∑ k : Fin 4, part d h k i l = ∑ n : Fin 8192, d (ix2 n i) * h (ix2 n l) := by
  unfold part
  rw [← Fintype.sum_prod_type' (f := fun k r => d (ix2 (rowAt k r) i) * h (ix2 (rowAt k r) l))]
  refine Fintype.sum_equiv (finProdFinEquiv (m := 4) (n := 2048)) _ _ fun p => ?_
  have e : rowAt p.1 p.2 = finProdFinEquiv p := Fin.ext (by rw [rowAt, finProdFinEquiv_apply_val]; ring)
  rw [e]

/-- The reference's result, over its two arguments. -/
abbrev ref (d h : FVec Ideal Cert.Reference8Ideal.S8192x1024 .bf16) : FVec Ideal Cert.Reference8Ideal.S1024x1024 .f32 :=
  transpose Cert.Reference8Ideal.S1024x1024 [1, 0] (transpose Cert.Reference8Ideal.S1024x1024 [1, 0]
    (Host.dotGeneral Cert.Reference8Ideal.dot_S8192x1024_S8192x1024_S1024x1024_0_0_1_1_n_n none
      (extf .f32 d Cert.Reference8Ideal.Gen.bitsLt_bf16_f32) (extf .f32 h Cert.Reference8Ideal.Gen.bitsLt_bf16_f32))
    Cert.Reference8Ideal.Gen.transposes_S1024x1024_S1024x1024_1_0) Cert.Reference8Ideal.Gen.transposes_S1024x1024_S1024x1024_1_0

theorem ref_at (d h : FVec Ideal Cert.Reference8Ideal.S8192x1024 .bf16) (i l : Fin 1024) :
    ref d h (ix2 i l) = ∑ n : Fin 8192, d (ix2 n i) * h (ix2 n l) := by
  pointwise [ref]

/-- The two programs compute the same product. -/
theorem algebraic : Cert.algebraic_Kernel8Ideal_Reference8Ideal := by
  intro m g m' g' _ ha
  refine ⟨fun c => G2 m c, Cert.Kernel8Ideal.Value.run m g, ?_⟩
  refine θ_run_mono (Cert.Reference8Ideal.Value.run m' g') fun r hr c => ?_
  obtain ⟨r0, kept⟩ := hr c
  refine ⟨r0.trans ?_, kept⟩
  rw [(ha c).1, (ha c).2]
  funext i
  rw [eq_ix2 i]
  exact (ref_at _ _ _ _).trans ((g2_at m c _ _).trans (parts _ _ _ _)).symm

end WeightSquare

end
-- ==== Proof.ProjIn.lean ====
module

public import proofs.«01_k».proof.Proof.Gen.Kernel9Ideal.Value
public import proofs.«01_k».proof.Proof.Gen.Reference9Ideal.Run
public import proofs.«01_k».proof.Proof.FfnFwd

/-!
The attention's input projection: rows normed by a point of the grid, stored, read back and multiplied with the weight.
-/

@[expose] public section

set_option maxRecDepth 16384

noncomputable section

namespace ProjIn

open Idealize.ShloMosaic Idealize.SL.Sem MixRows Cert.Kernel9Ideal Cert.Kernel9Ideal.Gen Cert.Kernel9Ideal.Value
open FfnBwd (hRow starts starts_zero ix2_of)

section
variable (r : Fin 512) (k : Fin 1024) (q : Fin 3072)

/-! The values a point computes from its blocks, at an index. -/
theorem pay1_at (x : Vec Ideal S512x1024 .f32) (g : Vec Ideal S1x1024 .f32) :
    k0_pay1 (F := Ideal) x g (ix2 r k) = hRow (fun k => x (ix2 r k)) (fun k => g (ix2 0 k)) k := by
  pointwise [k0_pay1]
  try rfl
theorem pay2_at (h : Vec Ideal S512x1024 .bf16) (w : Vec Ideal S3072x1024 .bf16) :
    k0_pay2 (F := Ideal) h w (ix2 r q) = ∑ k : Fin 1024, h (ix2 r k) * w (ix2 q k) := by
  pointwise [k0_pay2]
end

section
variable (m : (ℓ : Loc nD τ sig) → Buf (Elt Ideal) ℓ) (c : Dev nD)

/-! The arguments: the rows, the weight and the norm's gain. -/
abbrev aX : FVec Ideal S8192x1024 .f32 := m ((c.tc : Thread nD τ).loc main_arg0)
abbrev aW : FVec Ideal S1024x3072 .f32 := m ((c.tc : Thread nD τ).loc main_arg1)
abbrev aG : FVec Ideal S1024 .f32 := m ((c.tc : Thread nD τ).loc main_arg2)

/-- Row `r` of point `t`'s block is row `512 t + r` of the array, and every row is one. -/
def rowOf (t : Fin cfg0.N) (r : Fin 512) : Fin 8192 :=
  ⟨t.val * 512 + r, by have h := lt_of_lt_of_eq t.isLt N_0; omega⟩
theorem row_split (n : Fin 8192) : ∃ (t : Fin cfg0.N) (r : Fin 512), n = rowOf t r :=
  ⟨⟨n.val / 512, lt_of_lt_of_eq (by omega : n.val / 512 < 16) N_0.symm⟩, ⟨n.val % 512, Nat.mod_lt _ (by decide)⟩,
    Fin.ext (by show n.val = n.val / 512 * 512 + n.val % 512; omega)⟩

/-- Where the blocks of the inputs and of the results lie. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) := by decide +kernel
theorem idxOut : ∀ t : Fin cfg0.N,
    (win0_3.index t (0 : Fin 2) = t.val ∧ win0_3.index t (1 : Fin 2) = 0)
    ∧ (win0_4.index t (0 : Fin 2) = t.val ∧ win0_4.index t (1 : Fin 2) = 0) := by decide +kernel

theorem w_at (q : Fin 3072) (k : Fin 1024) : (V m c main_v1 : FVec Ideal S3072x1024 .bf16) (ix2 q k) = aW m c (ix2 k q) := by
  simp only [V, hostOps0]
  entry_read
  pointwise
theorem gain_at (k : Fin 1024) : (V m c main_v2 : FVec Ideal S1x1024 .f32) (ix2 0 k) = aG m c (ix1 k) := by
  simp only [V, hostOps0]
  entry_read
  pointwise

variable (t : Fin cfg0.N)

/-! The blocks the point reads. -/
abbrev bX : Vec Ideal S512x1024 .f32 := iblk m c 0 t
abbrev bG : Vec Ideal S1x1024 .f32 := iblk m c 1 t
abbrev bW : Vec Ideal S3072x1024 .bf16 := iblk m c 2 t

variable (r : Fin 512) (k : Fin 1024) (q : Fin 3072)

theorem bX_at : bX m c t (ix2 r k) = aX m c (ix2 (rowOf t r) k) := by
  unfold rowOf
  blk_ext! [bX, iblk, V, idx t]
theorem bG_at : bG m c t (ix2 0 k) = aG m c (ix1 k) := by
  rw [← gain_at]
  blk_ext [bG, iblk, idx t]
theorem bW_at : bW m c t (ix2 q k) = aW m c (ix2 k q) := by
  rw [← w_at]
  blk_ext [bW, iblk, idx t]

/-- The normed row, as the reference has it. -/
abbrev hK (n : Fin 8192) (k : Fin 1024) : EReal := FfnBwd.Ref.hV (aX m c) (aG m c) (ix2 n k)

theorem h_row : k0_pay1 (F := Ideal) (bX m c t) (bG m c t) (ix2 r k) = hK m c (rowOf t r) k := by
  rw [pay1_at, show (fun k => bX m c t (ix2 r k)) = fun k => aX m c (ix2 (rowOf t r) k) from funext fun k => bX_at m c t r k,
    show (fun k => bG m c t (ix2 0 k)) = fun k => aG m c (ix1 k) from funext fun k => bG_at m c t k]
  exact (FfnBwd.Ref.h_at (aX m c) (aG m c) (rowOf t r) k).symm

/-! What the point leaves in its two outputs. -/
theorem h_point : (outsAt0 m c t).2 (ix2 r k) = hK m c (rowOf t r) k := by
  unfold outsAt0
  dsimp only
  frame_open
  frame_out
  exact h_row m c t r k
theorem o_point : (outsAt0 m c t).1 (ix2 r q) = ∑ k : Fin 1024, hK m c (rowOf t r) k * aW m c (ix2 k q) := by
  unfold outsAt0
  dsimp only
  frame_open
  simp (disch := decide) only [↓ View.readCov_skip, ↓ View.readCov_cons_toLoadRect, ↓ View.readCov_fill]
  frame_out
  refine (pay2_at r q _ _).trans (Finset.sum_congr rfl fun k _ => ?_)
  exact congrArg₂ (· * ·) (h_row m c t r k) (bW_at m c t k q)

/-! The result arrays at a block's row. -/
theorem arr3 : ((dats m 0 c).arrAt 3 cfg0.N : FVec Ideal S8192x3072 .bf16) (ix2 (rowOf t r) q)
    = ∑ k : Fin 1024, hK m c (rowOf t r) k * aW m c (ix2 k q) :=
  ((congrArg ((dats m 0 c).arrAt 3 cfg0.N : FVec Ideal S8192x3072 .bf16)
      (ix2_of (starts _ _ (idxOut t).1.1) (starts_zero _ (idxOut t).1.2))).trans
    (congrFun ((blocks3 m c t (flush0_3 t)).trans (flushed3 m c t)) (ix2 r q))).trans (o_point m c t r q)
theorem arr4 : ((dats m 0 c).arrAt 4 cfg0.N : FVec Ideal S8192x1024 .bf16) (ix2 (rowOf t r) k) = hK m c (rowOf t r) k :=
  ((congrArg ((dats m 0 c).arrAt 4 cfg0.N : FVec Ideal S8192x1024 .bf16)
      (ix2_of (starts _ _ (idxOut t).2.1) (starts_zero _ (idxOut t).2.2))).trans
    (congrFun ((blocks4 m c t (flush0_4 t)).trans (flushed4 m c t)) (ix2 r k))).trans (h_point m c t r k)
end

/-- The reference's product. -/
def prodV (x : FVec Ideal Cert.Reference9Ideal.S8192x1024 .f32) (w : FVec Ideal Cert.Reference9Ideal.S1024x3072 .f32)
    (g : FVec Ideal Cert.Reference9Ideal.S1024 .f32) : FVec Ideal Cert.Reference9Ideal.S8192x3072 .f32 :=
  Host.dotGeneral Cert.Reference9Ideal.dot_S8192x1024_S1024x3072_S8192x3072_1_0_0_1_n_n none (FfnBwd.Ref.hV x g) w
theorem prod_at (x : FVec Ideal Cert.Reference9Ideal.S8192x1024 .f32) (w : FVec Ideal Cert.Reference9Ideal.S1024x3072 .f32)
    (g : FVec Ideal Cert.Reference9Ideal.S1024 .f32) (n : Fin 8192) (q : Fin 3072) :
    prodV x w g (ix2 n q) = ∑ k : Fin 1024, FfnBwd.Ref.hV x g (ix2 n k) * w (ix2 k q) := by
  pointwise [prodV]

section
variable (m : (ℓ : Loc nD τ sig) → Buf (Elt Ideal) ℓ) (c : Dev nD)

/-! The two result arrays. -/
def out0 : FVec Ideal S8192x3072 .bf16 := (dats m 0 c).arrAt 3 cfg0.N
def out1 : FVec Ideal S8192x1024 .bf16 := (dats m 0 c).arrAt 4 cfg0.N

theorem whole0 : out0 m c = prodV (aX m c) (aW m c) (aG m c) := ext2 fun n q => by
  obtain ⟨t, r, rfl⟩ := row_split n
  exact (arr3 m c t r q).trans (prod_at (aX m c) (aW m c) (aG m c) (rowOf t r) q).symm
theorem whole1 : out1 m c = FfnBwd.Ref.hV (aX m c) (aG m c) := ext2 fun n k => by
  obtain ⟨t, r, rfl⟩ := row_split n
  exact arr4 m c t r k
end

/-- The two programs agree on both results. -/
theorem algebraic : Cert.algebraic_Kernel9Ideal_Reference9Ideal := by
  intro m g m' g' _ ha
  refine ⟨fun c => out0 m c, fun c => out1 m c, run_blocks m g, ?_⟩
  refine θ_run_mono (Cert.Reference9Ideal.Value.run m' g') fun r hr c => ?_
  obtain ⟨r0, r1, kept⟩ := hr c
  obtain ⟨h0, h1, h2⟩ := ha c
  rw [h0, h1, h2] at r0
  rw [h0, h2] at r1
  exact ⟨r0.trans (whole0 m c).symm, r1.trans (whole1 m c).symm, kept⟩

end ProjIn

end
-- ==== Proof.LossMath.lean ====
module

public import proofs.«01_k».proof.Proof.Gen.Reference10Ideal.Run
public import proofs.«01_k».proof.Proof.FfnFwd

/-!
The loss over the last norm, and its gradients.  First a row in the kernel's words: the predicted minus the target row, its squares, and what flows
back to the norm's weight and input.  Then the reference's arrays over the norm's input, at an index, and that the two agree.
-/

@[expose] public section

set_option maxRecDepth 16384

noncomputable section

namespace Loss

open Idealize.ShloMosaic MixRows
open FfnBwd (rmsBwd rmsBwdR rr D1024 lit1024)

/-- The reciprocal of a row's length, as the kernel has it. -/
def inv : EReal := Ideal.ofBits .f32 0x3A800000#32

theorem litInv : inv = ((1 / 1024 : ℝ) : EReal) := by
  simp [inv, Ideal.ofBits, Ideal.ieee, -EReal.coe_mul]; norm_num
theorem litTwo : Ideal.ofBits .f32 0x40000000#32 = ((2 : ℝ) : EReal) := by
  simp [Ideal.ofBits, Ideal.ieee, -EReal.coe_mul]; norm_num

/-- The half of a sum of terms that are not negative is the sum of the halves. -/
theorem half_sum {n : ℕ} (F : Fin n → EReal) (h : ∀ i, 0 ≤ F i) : FfnBwd.half * ∑ i, F i = ∑ i, FfnBwd.half * F i := by
  induction n with
  | zero => simp
  | succ n ih =>
    rw [Fin.sum_univ_succ, Fin.sum_univ_succ, EReal.left_distrib_of_nonneg (h 0) (Finset.sum_nonneg fun i _ => h _), ih _ fun i => h _]

section
variable (z g y : Fin 1024 → EReal)

/-- A row's error, its part of the loss, the gradient at the normed row, and from it the gradients at the norm's weight and input. -/
def errRow (k : Fin 1024) : EReal := z k * rr z * g k - y k
def lossRow : EReal := (∑ k, errRow z g y k * errRow z g y k) * inv
def dyRow (k : Fin 1024) : EReal := errRow z g y k * inv
def dgRow (k : Fin 1024) : EReal := dyRow z g y k * z k * rr z
def gxRow (k : Fin 1024) : EReal := rmsBwd z (fun j => dyRow z g y j * g j) k

theorem loss_nonneg : 0 ≤ lossRow z g y :=
  mul_nonneg (Finset.sum_nonneg fun k _ => FfnBwd.sq_nonneg _) (by rw [litInv]; exact_mod_cast (by norm_num : (0 : ℝ) ≤ 1 / 1024))

/-- The reference divides by the row's length. -/
theorem loss_div : Ideal.div (∑ k, errRow z g y k * errRow z g y k) D1024 = lossRow z g y := by
  rw [lossRow, lit1024, Ideal.div_coe (by norm_num : (1024 : ℝ) ≠ 0), litInv]

/-- The gradient at the input in its two forms. -/
theorem gx_eq (k : Fin 1024) : gxRow z g y k = rmsBwdR z (fun j => dyRow z g y j * g j) k := FfnBwd.rmsBwd_eq z _ k
end

/-- The factor that the derivative of the halved mean square gives. -/
theorem factor (e : EReal) : Ideal.div (Ideal.ofBits .f32 0x3F000000#32) D1024 * (Ideal.ofBits .f32 0x40000000#32 * e)
    = e * inv := by
  rw [← mul_assoc, litHalf, litTwo, litInv, lit1024, Ideal.div_coe (by norm_num : (1024 : ℝ) ≠ 0), ← EReal.coe_mul,
    ← EReal.coe_mul, mul_comm]
  norm_num

/-! The reference's arrays over the norm's input `z`, the norm's weight and the target. -/
section
open Cert.Reference10Ideal Cert.Reference10Ideal.Gen
open FfnBwd.Ref (Wide rowW vec zero nrmV gainV viaOf dgOf rrV)

variable (z : FVec Ideal S8192x1024 .f32) (g : FVec Ideal S1024 .f32) (y : FVec Ideal S8192x1024 .f32)

def errV : FVec Ideal S8192x1024 .f32 := subf (mulf (nrmV z) (gainV g)) y
def lossV : FVec Ideal S1x128 .f32 := broadcastInDim S1x128 ![] bcast_S_S1x128 (mulf (constant S_ .f32 0x3F000000#32)
  (Host.reduceAdd (Host.divf (Host.reduceAdd (mulf (errV z g y) (errV z g y)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))
def dyV : FVec Ideal S8192x1024 .f32 := mulf (broadcastInDim S8192x1024 ![0] bcast_S8192_S8192x1024_0 (Host.divf (broadcastInDim S8192 ![] bcast_S_S8192
    (mulf (constant S_ .f32 0x3F000000#32) (constant S_ .f32 0x3F800000#32))) (broadcastInDim S8192 ![] bcast_S_S8192 (constant S_ .f32 0x44800000#32))))
  (mulf (broadcastInDim S8192x1024 ![] bcast_S_S8192x1024 (constant S_ .f32 0x40000000#32)) (errV z g y))
def duV : FVec Ideal S8192x1024 .f32 := mulf (dyV z g y) (gainV g)
def gxV : FVec Ideal S8192x1024 .f32 := addf (addf (mulf (duV z g y) (broadcastInDim S8192x1024 ![0, 1] bcast_S8192x1_S8192x1024_0_1 (rrV z)))
  (mulf z (viaOf z (duV z g y)))) (mulf (viaOf z (duV z g y)) z)

/-! Each at an index. -/
variable (n : Fin 8192) (k : Fin 1024)

theorem err_at : errV z g y (ix2 n k) = errRow (rowW z n) (vec g) (rowW y n) k := by
  pointwise [errV, FfnBwd.Ref.nrm_at, FfnBwd.Ref.gain_at]
  try rfl
theorem loss_at (l : Fin 128) : lossV z g y (ix2 0 l)
    = FfnBwd.half * ∑ n : Fin 8192, Ideal.div (∑ k, errRow (rowW z n) (vec g) (rowW y n) k * errRow (rowW z n) (vec g) (rowW y n) k) D1024 := by
  pointwise [lossV, err_at]
  try rfl
theorem dy_at : dyV z g y (ix2 n k) = dyRow (rowW z n) (vec g) (rowW y n) k := by
  pointwise [dyV, err_at]
  exact factor _
theorem du_at : duV z g y (ix2 n k) = dyRow (rowW z n) (vec g) (rowW y n) k * g (ix1 k) := by
  pointwise [duV, dy_at, FfnBwd.Ref.gain_at]
theorem gx_at : gxV z g y (ix2 n k) = rmsBwdR (rowW z n) (fun j => dyRow (rowW z n) (vec g) (rowW y n) j * vec g j) k := by
  refine Eq.trans (b := rmsBwdR (rowW z n) (rowW (duV z g y) n) k) ?_ (congrArg (fun u => rmsBwdR (rowW z n) u k) (funext fun j => du_at z g y n j))
  pointwise [gxV, FfnBwd.Ref.via_of, FfnBwd.Ref.rr_at]
  try rfl
theorem dg_at : dgOf z (dyV z g y) (ix2 0 k) = ∑ n : Fin 8192, dgRow (rowW z n) (vec g) (rowW y n) k := by
  refine (FfnBwd.Ref.dg_of z k (dyV z g y)).trans (Finset.sum_congr rfl fun n _ => ?_)
  rw [dy_at, dgRow, mul_assoc (dyRow _ _ _ k)]
  exact mul_comm _ _
end

/-! The reference's values after the last layer, one from another. -/
section
open Idealize.SL.Sem Cert.Reference10Ideal Cert.Reference10Ideal.Gen Cert.Reference10Ideal.Value

variable (W : Valuation τ sig (Elt Ideal))

abbrev zR : FVec Ideal S8192x1024 .f32 := res_main_v23 W
abbrev fR : FVec Ideal S1024 .f32 := W (Proc.devRef .tc main_arg7)
abbrev yR : FVec Ideal S8192x1024 .f32 := W (Proc.devRef .tc main_arg8)

theorem ref_rr : res_main_v34 W = FfnBwd.Ref.rrV (zR W) := rfl
theorem ref_nrm : res_main_v39 W = FfnBwd.Ref.nrmV (zR W) := rfl
theorem ref_err : res_main_v43 W = errV (zR W) (fR W) (yR W) := by
  rw [res_main_v43, ref_nrm]
  rfl
theorem ref_dy : res_main_v57 W = dyV (zR W) (fR W) (yR W) := by
  rw [res_main_v57, ref_err]
  rfl
theorem ref_du : res_main_v62 W = duV (zR W) (fR W) (yR W) := by
  rw [res_main_v62, ref_dy]
  rfl
theorem ref_via : res_main_v73 W = FfnBwd.Ref.viaOf (zR W) (duV (zR W) (fR W) (yR W)) := by
  rw [res_main_v73, ref_du]
  rfl
theorem ref_gx : addf (addf (mulf (res_main_v62 W) (broadcastInDim S8192x1024 ![0, 1] bcast_S8192x1_S8192x1024_0_1 (res_main_v34 W)))
    (mulf (res_main_v23 W) (res_main_v73 W))) (mulf (res_main_v73 W) (res_main_v23 W)) = gxV (zR W) (fR W) (yR W) := by
  rw [ref_via, ref_du, ref_rr]
  rfl
theorem ref_loss : broadcastInDim S1x128 ![] bcast_S_S1x128 (mulf (constant S_ .f32 0x3F000000#32)
    (Host.reduceAdd (Host.divf (Host.reduceAdd (mulf (res_main_v43 W) (res_main_v43 W)) (constant S_ .f32 0x00000000#32) reducesTo_S8192x1024_S8192_d1 h_S_)
      (broadcastInDim S8192 ![] bcast_S_S8192 (constant S_ .f32 0x44800000#32))) (constant S_ .f32 0x00000000#32) reducesTo_S8192_S_d0 h_S_))
    = lossV (zR W) (fR W) (yR W) := by
  rw [ref_err]
  rfl
theorem ref_dg : (shapeCast S1x1024 (Host.reduceAdd (shapeCast S1x1024 (Host.reduceAdd (mulf (res_main_v39 W) (res_main_v57 W))
    (constant S_ .f32 0x00000000#32) reducesTo_S8192x1024_S1024_d0 h_S_) shapeCasts_S1024_S1x1024) (constant S_ .f32 0x00000000#32)
    reducesTo_S1x1024_S1024_d0 h_S_) shapeCasts_S1024_S1x1024 : FVec Ideal S1x1024 .f32)
    = FfnBwd.Ref.dgOf (zR W) (dyV (zR W) (fR W) (yR W)) := by
  rw [ref_nrm, ref_dy]
  rfl
end

end Loss

end
-- ==== Proof.ProjLoss.lean ====
module

public import proofs.«01_k».proof.Defs
public import proofs.«01_k».proof.Proof.Gen.Kernel10Ideal.Value
public import proofs.«01_k».proof.Proof.LossMath
public import proofs.«01_k».proof.Proof.ProjFfn
public import proofs.«01_k».proof.Proof.ProjBwd

/-!
The last forward call: the projection and the feed-forward layer of `ProjFfn`, then the last norm, the loss and the gradients at that norm's input and
weight. The loss and the gradient of the weight are summed over the points of the grid.
-/

@[expose] public section

set_option maxRecDepth 16384

noncomputable section

namespace ProjLoss

open Idealize.ShloMosaic Idealize.SL.Sem MixRows Cert.Kernel10Ideal Cert.Kernel10Ideal.Gen Cert.Kernel10Ideal.Value
open FfnBwd (hRow inRow sRow rmsBwd rr stack starts starts_zero ix2_of)
open FfnFwd (xoRow xoV)
open ProjFfn (sumRow sumV row)
open Loss (errRow lossRow dyRow dgRow gxRow)

section
variable (r : Fin 256) (k : Fin 1024) (f : Fin 2816) (x : Vec Ideal S256x1024 .f32) (a : Vec Ideal S256x1024 .bf16) (w : Vec Ideal S1024x1024 .bf16)
  (g : Vec Ideal S1x1024 .f32) (u : Vec Ideal S1x2816x1024 .bf16)

/-! The values a point computes from its blocks, at an index: those of the layer. -/
theorem pay4_at : k0_pay4 (F := Ideal) x a w (ix2 r k) = row r x a w k := ProjFfn.pay3_at r k x a w
theorem pay5_at : k0_pay5 (F := Ideal) x a w g (ix2 r k) = hRow (row r x a w) (fun k => g (ix2 0 k)) k := ProjFfn.pay4_at r k x a w g
theorem pay6_at : k0_pay6 (F := Ideal) x a w g u (ix2 r f) = inRow (row r x a w) (fun k => g (ix2 0 k)) (fun k f => u (ix3 0 f k)) f :=
  ProjFfn.pay5_at r f x a w g u
theorem pay8_at : k0_pay8 (F := Ideal) (k0_pay5 x a w g) (k0_pay7 u) (ix2 r f)
    = inRow (row r x a w) (fun k => g (ix2 0 k)) (fun k f => u (ix3 0 f k)) f := by
  pointwise [k0_pay8, k0_pay7, pay5_at]
  try rfl
theorem pay9_at (b : FVec Ideal S256x2816 .f32) : k0_pay9 (F := Ideal) b (ix2 r f) = b (ix2 r f) := by
  pointwise [k0_pay9]
theorem pay10_at (h : FVec Ideal S256x1024 .bf16) (v : FVec Ideal S2816x1024 .bf16) :
    k0_pay10 (F := Ideal) h v (ix2 r f) = k0_pay8 (F := Ideal) h v (ix2 r f) := by
  pointwise [k0_pay10]
theorem pay11_at (h : FVec Ideal S256x1024 .bf16) (p : FVec Ideal S256x2816 .f32) (v : FVec Ideal S2816x1024 .bf16) (y : Vec Ideal S256x1024 .f32) :
    k0_pay11 (F := Ideal) h p v y u (ix2 r k) = y (ix2 r k)
      + FfnBwd.half * ∑ f : Fin 2816, p (ix2 r f) * sigK (p (ix2 r f)) * k0_pay8 (F := Ideal) h v (ix2 r f) * u (ix3 0 f k) := by
  pointwise [k0_pay11]
  try rfl
end

section
variable (r : Fin 256) (k : Fin 1024) (z p y : FVec Ideal S256x1024 .f32) (g : Vec Ideal S1x1024 .f32)

/-- A row of a block. -/
abbrev rowB (y : FVec Ideal S256x1024 .f32) (r : Fin 256) (k : Fin 1024) : EReal := y (ix2 r k)
abbrev vecB (g : Vec Ideal S1x1024 .f32) (k : Fin 1024) : EReal := g (ix2 0 k)

/-! Those of the loss, from the norm's input `z` and the normed rows `p`. -/
theorem pay1_at : k0_pay1 (F := Ideal) z g (ix2 0 k) = g (ix2 0 k) + ∑ r : Fin 256, z (ix2 r k) := by
  pointwise [k0_pay1]
theorem pay2_at (l : Fin 128) : k0_pay2 (F := Ideal) (ix2 0 l) = 0 := by
  pointwise [k0_pay2]
theorem pay3_at : k0_pay3 (F := Ideal) (ix2 0 k) = 0 := by
  pointwise [k0_pay3]
theorem pay12_at : k0_pay12 (F := Ideal) g (ix2 0 k) = g (ix2 0 k) := by
  pointwise [k0_pay12]
theorem pay14_at : k0_pay14 (F := Ideal) p y (ix2 r k) = p (ix2 r k) - y (ix2 r k) := by
  pointwise [k0_pay14]
theorem pay15_at (l : Fin 128) (o : Vec Ideal S1x128 .f32) : k0_pay15 (F := Ideal) p y o (ix2 0 l) = o (ix2 0 l)
    + FfnBwd.half * ∑ r : Fin 256, (∑ k, (p (ix2 r k) - y (ix2 r k)) * (p (ix2 r k) - y (ix2 r k))) * Loss.inv := by
  pointwise [k0_pay15, pay14_at]
  try rfl
theorem pay16_at : k0_pay16 (F := Ideal) p y (ix2 r k) = (p (ix2 r k) - y (ix2 r k)) * Loss.inv := by
  pointwise [k0_pay16, pay14_at]
  try rfl
theorem pay17_at : k0_pay17 (F := Ideal) z (ix2 r 0) = rr (rowB z r) := by
  pointwise [k0_pay17]
  try rfl
theorem pay18_at : k0_pay18 (F := Ideal) z (k0_pay12 g) p y (ix2 r k)
    = rmsBwd (rowB z r) (fun j => (p (ix2 r j) - y (ix2 r j)) * Loss.inv * g (ix2 0 j)) k := by
  pointwise [k0_pay18, pay16_at, pay17_at, pay12_at]
  try rfl
theorem pay19_at : k0_pay19 (F := Ideal) z p y (ix2 r k) = (p (ix2 r k) - y (ix2 r k)) * Loss.inv * z (ix2 r k) * rr (rowB z r) := by
  pointwise [k0_pay19, pay16_at, pay17_at]
theorem pay13_at (h : FVec Ideal S256x1024 .bf16) (q : FVec Ideal S256x2816 .f32) (v : FVec Ideal S2816x1024 .bf16) (o : Vec Ideal S256x1024 .f32)
    (u : Vec Ideal S1x2816x1024 .bf16) : k0_pay13 (F := Ideal) h q v o u g (ix2 r k)
      = k0_pay11 (F := Ideal) h q v o u (ix2 r k) * rr (rowB (k0_pay11 (F := Ideal) h q v o u) r) * g (ix2 0 k) := by
  pointwise [k0_pay13, pay12_at]
  try rfl
end

section
variable (m : (ℓ : Loc nD τ sig) → Buf (Elt Ideal) ℓ) (c : Dev nD)

/-! The arguments: the outputs to project, the projection, the residual rows, the gain and the layer's weights; the last norm's weight and the target. -/
abbrev aA : FVec Ideal S8192x1024 .bf16 := m ((c.tc : Thread nD τ).loc main_arg0)
abbrev aW : FVec Ideal S1024x1024 .f32 := m ((c.tc : Thread nD τ).loc main_arg1)
abbrev aR : FVec Ideal S8192x1024 .f32 := m ((c.tc : Thread nD τ).loc main_arg2)
abbrev aG : FVec Ideal S1024 .f32 := m ((c.tc : Thread nD τ).loc main_arg3)
abbrev aWg : FVec Ideal S1024x2816 .f32 := m ((c.tc : Thread nD τ).loc main_arg4)
abbrev aWu : FVec Ideal S1024x2816 .f32 := m ((c.tc : Thread nD τ).loc main_arg5)
abbrev aWd : FVec Ideal S2816x1024 .f32 := m ((c.tc : Thread nD τ).loc main_arg6)
abbrev aF : FVec Ideal S1024 .f32 := m ((c.tc : Thread nD τ).loc main_arg7)
abbrev aY : FVec Ideal S8192x1024 .f32 := m ((c.tc : Thread nD τ).loc main_arg8)

/-- Row `r` of point `t`'s block is row `256 t + r` of the array, and every row is one. -/
def rowOf (t : Fin cfg0.N) (r : Fin 256) : Fin 8192 :=
  ⟨t.val * 256 + r, by have h := lt_of_lt_of_eq t.isLt N_0; omega⟩
theorem row_split (n : Fin 8192) : ∃ (t : Fin cfg0.N) (r : Fin 256), n = rowOf t r :=
  ⟨⟨n.val / 256, lt_of_lt_of_eq (by omega : n.val / 256 < 32) N_0.symm⟩, ⟨n.val % 256, Nat.mod_lt _ (by decide)⟩,
    Fin.ext (by show n.val = n.val / 256 * 256 + n.val % 256; omega)⟩

/-- Where the blocks of the inputs and of the results lie. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 3) = 1 ∧ win0_5.index t (1 : Fin 3) = 0 ∧ win0_5.index t (2 : Fin 3) = 0)
    ∧ (win0_6.index t (0 : Fin 3) = 2 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = t.val ∧ win0_8.index t (1 : Fin 2) = 0) := by decide +kernel
theorem idxOut : ∀ t : Fin cfg0.N,
    (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) := by decide +kernel

open StableHlo in
theorem stack_eq : (V m c main_v6 : FVec Ideal S3x2816x1024 .bf16) = stack (aWg m c) (aWu m c) (aWd m c) := by
  show after (hostOps0 (F := Ideal)) (fun b => m (c, b)) (Proc.devRef .tc main_v6) = _
  rw [after_last_write (i := 6) [main_v7, main_v8, main_v9] rfl rfl (by decide)]
  rw [unary_result, upto_last_write (i := 5) [] rfl rfl (by decide), nary_result]
  have e2 : upto (hostOps0 (F := Ideal)) (fun b => m (c, b)) 5 (Proc.devRef .tc main_v2)
      = broadcastInDim S1x2816x1024 ![1, 2] bcast_S2816x1024_S1x2816x1024_1_2
        (transpose S2816x1024 [1, 0] (aWg m c) transposes_S1024x2816_S2816x1024_1_0) := by
    rw [upto_last_write (i := 2) [main_v3, main_v4] rfl rfl (by decide), unary_result,
      upto_last_write (i := 0) [main_v1] rfl rfl (by decide), unary_result]
    rfl
  have e3 : upto (hostOps0 (F := Ideal)) (fun b => m (c, b)) 5 (Proc.devRef .tc main_v3)
      = broadcastInDim S1x2816x1024 ![1, 2] bcast_S2816x1024_S1x2816x1024_1_2
        (transpose S2816x1024 [1, 0] (aWu m c) transposes_S1024x2816_S2816x1024_1_0) := by
    rw [upto_last_write (i := 3) [main_v4] rfl rfl (by decide), unary_result,
      upto_last_write (i := 1) [main_v2] rfl rfl (by decide), unary_result, upto_unwritten [main_v0] rfl (by decide)]
  have e4 : upto (hostOps0 (F := Ideal)) (fun b => m (c, b)) 5 (Proc.devRef .tc main_v4)
      = broadcastInDim S1x2816x1024 ![1, 2] bcast_S2816x1024_S1x2816x1024_1_2 (aWd m c) := by
    rw [upto_last_write (i := 4) [] rfl rfl (by decide), unary_result, upto_unwritten [main_v0, main_v1, main_v2, main_v3] rfl (by decide)]
  unfold stack
  rw [← e2, ← e3, ← e4]
  rfl
theorem wg_at (f : Fin 2816) (k : Fin 1024) : (V m c main_v6 : FVec Ideal S3x2816x1024 .bf16) (ix3 0 f k) = aWg m c (ix2 k f) := by
  rw [stack_eq]
  pointwise [stack]
theorem wu_at (f : Fin 2816) (k : Fin 1024) : (V m c main_v6 : FVec Ideal S3x2816x1024 .bf16) (ix3 1 f k) = aWu m c (ix2 k f) := by
  rw [stack_eq]
  pointwise [stack]
theorem wd_at (f : Fin 2816) (k : Fin 1024) : (V m c main_v6 : FVec Ideal S3x2816x1024 .bf16) (ix3 2 f k) = aWd m c (ix2 f k) := by
  rw [stack_eq]
  pointwise [stack]
theorem gain_at (k : Fin 1024) : (V m c main_v8 : FVec Ideal S1x1024 .f32) (ix2 0 k) = aG m c (ix1 k) := by
  simp only [V, hostOps0]
  entry_read
  pointwise
theorem last_at (k : Fin 1024) : (V m c main_v9 : FVec Ideal S1x1024 .f32) (ix2 0 k) = aF m c (ix1 k) := by
  simp only [V, hostOps0]
  entry_read
  pointwise
theorem proj_at (j k : Fin 1024) : (V m c main_v7 : FVec Ideal S1024x1024 .bf16) (ix2 j k) = aW m c (ix2 j k) := by
  simp only [V, hostOps0]
  entry_read
  pointwise

variable (t : Fin cfg0.N)

/-! The blocks the point reads. -/
abbrev bA : Vec Ideal S256x1024 .bf16 := iblk m c 0 t
abbrev bW : Vec Ideal S1024x1024 .bf16 := iblk m c 1 t
abbrev bR : Vec Ideal S256x1024 .f32 := iblk m c 2 t
abbrev bG : Vec Ideal S1x1024 .f32 := iblk m c 3 t
abbrev bWg : Vec Ideal S1x2816x1024 .bf16 := iblk m c 4 t
abbrev bWu : Vec Ideal S1x2816x1024 .bf16 := iblk m c 5 t
abbrev bWd : Vec Ideal S1x2816x1024 .bf16 := iblk m c 6 t
abbrev bF : Vec Ideal S1x1024 .f32 := iblk m c 7 t
abbrev bY : Vec Ideal S256x1024 .f32 := iblk m c 8 t

variable (r : Fin 256) (j k : Fin 1024) (f : Fin 2816)

theorem bA_at : bA m c t (ix2 r k) = aA m c (ix2 (rowOf t r) k) := by
  unfold rowOf
  blk_ext! [bA, iblk, V, idx t]
theorem bR_at : bR m c t (ix2 r k) = aR m c (ix2 (rowOf t r) k) := by
  unfold rowOf
  blk_ext! [bR, iblk, V, idx t]
theorem bW_at : bW m c t (ix2 j k) = aW m c (ix2 j k) := by
  rw [← proj_at]
  blk_ext [bW, iblk, idx t]
theorem bG_at : bG m c t (ix2 0 k) = aG m c (ix1 k) := by
  rw [← gain_at]
  blk_ext [bG, iblk, idx t]
theorem bF_at : bF m c t (ix2 0 k) = aF m c (ix1 k) := by
  rw [← last_at]
  blk_ext [bF, iblk, idx t]
theorem bY_at : bY m c t (ix2 r k) = aY m c (ix2 (rowOf t r) k) := by
  unfold rowOf
  blk_ext! [bY, iblk, V, idx t]
theorem bWg_at : bWg m c t (ix3 0 f k) = aWg m c (ix2 k f) := by
  rw [← wg_at]
  blk_ext [bWg, iblk, idx t]
theorem bWu_at : bWu m c t (ix3 0 f k) = aWu m c (ix2 k f) := by
  rw [← wu_at]
  blk_ext [bWu, iblk, idx t]
theorem bWd_at : bWd m c t (ix3 0 f k) = aWd m c (ix2 f k) := by
  rw [← wd_at]
  blk_ext [bWd, iblk, idx t]

/-! A row of the layer's input, the gain and the weights as functions. -/
abbrev xK (n : Fin 8192) : Fin 1024 → EReal := sumRow (fun j => aA m c (ix2 n j)) (fun j => aR m c (ix2 n j)) (fun j k => aW m c (ix2 j k))
abbrev gK (k : Fin 1024) : EReal := aG m c (ix1 k)
abbrev wgK (k : Fin 1024) (f : Fin 2816) : EReal := aWg m c (ix2 k f)
abbrev wuK (k : Fin 1024) (f : Fin 2816) : EReal := aWu m c (ix2 k f)

theorem x_row : row r (bR m c t) (bA m c t) (bW m c t) = xK m c (rowOf t r) := by
  unfold row xK
  rw [show (fun j => bA m c t (ix2 r j)) = fun j => aA m c (ix2 (rowOf t r) j) from funext fun k => bA_at m c t r k,
    show (fun j => bR m c t (ix2 r j)) = fun j => aR m c (ix2 (rowOf t r) j) from funext fun k => bR_at m c t r k,
    show (fun j k => bW m c t (ix2 j k)) = fun j k => aW m c (ix2 j k) from funext fun j => funext fun k => bW_at m c t j k]
theorem g_row : (fun k => bG m c t (ix2 0 k)) = gK m c := funext fun k => bG_at m c t k
theorem wg_row : (fun k f => bWg m c t (ix3 0 f k)) = wgK m c := funext fun k => funext fun f => bWg_at m c t k f
theorem wu_row : (fun k f => bWu m c t (ix3 0 f k)) = wuK m c := funext fun k => funext fun f => bWu_at m c t k f

/-! The last norm's input and its normed rows, as a point computes them. -/
abbrev zB : FVec Ideal S256x1024 .f32 :=
  k0_pay11 (k0_pay5 (bR m c t) (bA m c t) (bW m c t) (bG m c t)) (k0_pay6 (bR m c t) (bA m c t) (bW m c t) (bG m c t) (bWg m c t)) (k0_pay7 (bWu m c t))
    (k0_pay4 (bR m c t) (bA m c t) (bW m c t)) (bWd m c t)
abbrev pB : FVec Ideal S256x1024 .f32 :=
  k0_pay13 (k0_pay5 (bR m c t) (bA m c t) (bW m c t) (bG m c t)) (k0_pay6 (bR m c t) (bA m c t) (bW m c t) (bG m c t) (bWg m c t)) (k0_pay7 (bWu m c t))
    (k0_pay4 (bR m c t) (bA m c t) (bW m c t)) (bWd m c t) (bF m c t)

/-! A row of the last norm's input, its weight and the target as functions. -/
abbrev zK (n : Fin 8192) : Fin 1024 → EReal := xoRow (xK m c n) (gK m c) (wgK m c) (wuK m c) (fun f k => aWd m c (ix2 f k))
abbrev fK (k : Fin 1024) : EReal := aF m c (ix1 k)
abbrev yK (n : Fin 8192) (k : Fin 1024) : EReal := aY m c (ix2 n k)

theorem z_row : rowB (zB m c t) r = zK m c (rowOf t r) := funext fun k => by
  unfold zK
  rw [← x_row, ← g_row m c t, ← wg_row m c t, ← wu_row m c t]
  refine (pay11_at r k _ _ _ _ _).trans ?_
  refine congrArg₂ (fun p q => p + FfnBwd.half * q) (pay4_at r k _ _ _) (Finset.sum_congr rfl fun f _ => ?_)
  rw [pay6_at, pay8_at]
  exact congrArg (sRow _ _ _ _ f * ·) (bWd_at m c t k f)
theorem err_row : pB m c t (ix2 r k) - bY m c t (ix2 r k) = errRow (zK m c (rowOf t r)) (fK m c) (yK m c (rowOf t r)) k := by
  rw [bY_at, pB, pay13_at, bF_at, z_row]
  exact congrArg (fun e => e * rr (zK m c (rowOf t r)) * fK m c k - yK m c (rowOf t r) k) (congrFun (z_row m c t r) k)

/-! What the point leaves in its outputs that are written at every point. -/
theorem h_row : k0_pay5 (F := Ideal) (bR m c t) (bA m c t) (bW m c t) (bG m c t) (ix2 r k) = hRow (xK m c (rowOf t r)) (gK m c) k := by
  rw [← x_row, ← g_row m c t]
  exact pay5_at r k _ _ _ _
theorem a_row : k0_pay9 (F := Ideal) (k0_pay6 (bR m c t) (bA m c t) (bW m c t) (bG m c t) (bWg m c t)) (ix2 r f)
    = inRow (xK m c (rowOf t r)) (gK m c) (wgK m c) f := by
  rw [← x_row, ← g_row m c t, ← wg_row m c t]
  exact (pay9_at r f _).trans (pay6_at r f _ _ _ _ _)
theorem b_row : k0_pay10 (F := Ideal) (k0_pay5 (bR m c t) (bA m c t) (bW m c t) (bG m c t)) (k0_pay7 (bWu m c t)) (ix2 r f)
    = inRow (xK m c (rowOf t r)) (gK m c) (wuK m c) f := by
  rw [← x_row, ← g_row m c t, ← wu_row m c t]
  exact (pay10_at r f _ _).trans (pay8_at r f _ _ _ _ _)
theorem s_row : k0_pay4 (F := Ideal) (bR m c t) (bA m c t) (bW m c t) (ix2 r k) = xK m c (rowOf t r) k :=
  (pay4_at r k _ _ _).trans (congrFun (x_row m c t r) k)
theorem gx_row : k0_pay18 (F := Ideal) (zB m c t) (k0_pay12 (bF m c t)) (pB m c t) (bY m c t) (ix2 r k)
    = gxRow (zK m c (rowOf t r)) (fK m c) (yK m c (rowOf t r)) k := by
  rw [pay18_at, z_row]
  exact congrArg (fun u => rmsBwd (zK m c (rowOf t r)) u k) (funext fun j => by rw [err_row, bF_at]; rfl)
theorem dg_row : k0_pay19 (F := Ideal) (zB m c t) (pB m c t) (bY m c t) (ix2 r k)
    = dgRow (zK m c (rowOf t r)) (fK m c) (yK m c (rowOf t r)) k := by
  rw [pay19_at, err_row, z_row]
  exact congrArg (fun e => errRow _ _ _ k * Loss.inv * e * rr _) (congrFun (z_row m c t r) k)

theorem s_point : (outsAt0 m c t.val t.isLt).1 (ix2 r k) = xK m c (rowOf t r) k := by
  by_cases h : t.val % 32 = 0
  · rw [outsAt0_A m c t h]
    dsimp only
    frame_open
    frame_out
    exact s_row m c t r k
  · rw [outsAt0_B m c t h]
    dsimp only
    frame_open
    frame_out
    exact s_row m c t r k
theorem a_point : (outsAt0 m c t.val t.isLt).2.1 (ix2 r f) = inRow (xK m c (rowOf t r)) (gK m c) (wgK m c) f := by
  by_cases h : t.val % 32 = 0
  · rw [outsAt0_A m c t h]
    dsimp only
    frame_open
    frame_out
    exact a_row m c t r f
  · rw [outsAt0_B m c t h]
    dsimp only
    frame_open
    frame_out
    exact a_row m c t r f
theorem b_point : (outsAt0 m c t.val t.isLt).2.2.1 (ix2 r f) = inRow (xK m c (rowOf t r)) (gK m c) (wuK m c) f := by
  by_cases h : t.val % 32 = 0
  · rw [outsAt0_A m c t h]
    dsimp only
    frame_open
    frame_out
    exact b_row m c t r f
  · rw [outsAt0_B m c t h]
    dsimp only
    frame_open
    frame_out
    exact b_row m c t r f
theorem h_point : (outsAt0 m c t.val t.isLt).2.2.2.1 (ix2 r k) = hRow (xK m c (rowOf t r)) (gK m c) k := by
  by_cases h : t.val % 32 = 0
  · rw [outsAt0_A m c t h]
    dsimp only
    frame_open
    frame_out
    exact h_row m c t r k
  · rw [outsAt0_B m c t h]
    dsimp only
    frame_open
    frame_out
    exact h_row m c t r k
theorem gx_point : (outsAt0 m c t.val t.isLt).2.2.2.2.1 (ix2 r k) = gxRow (zK m c (rowOf t r)) (fK m c) (yK m c (rowOf t r)) k := by
  by_cases h : t.val % 32 = 0
  · rw [outsAt0_A m c t h]
    dsimp only
    frame_open
    simp (disch := decide) only [↓ View.readCov_skip, ↓ View.readCov_cons_toLoadRect, ↓ View.readCov_fill]
    frame_out
    exact gx_row m c t r k
  · rw [outsAt0_B m c t h]
    dsimp only
    frame_open
    simp (disch := decide) only [↓ View.readCov_skip, ↓ View.readCov_cons_toLoadRect, ↓ View.readCov_fill]
    frame_out
    exact gx_row m c t r k

/-! A point's parts of the loss and of the norm's weight's gradient. -/
def lossB : EReal := FfnBwd.half * ∑ r : Fin 256, lossRow (zK m c (rowOf t r)) (fK m c) (yK m c (rowOf t r))
def dgB (k : Fin 1024) : EReal := ∑ r : Fin 256, dgRow (zK m c (rowOf t r)) (fK m c) (yK m c (rowOf t r)) k

theorem loss_pay (o : Vec Ideal S1x128 .f32) (l : Fin 128) :
    k0_pay15 (F := Ideal) (pB m c t) (bY m c t) o (ix2 0 l) = o (ix2 0 l) + lossB m c t := by
  refine (pay15_at _ _ l o).trans (congrArg (fun e => o (ix2 0 l) + FfnBwd.half * e) (Finset.sum_congr rfl fun r _ => ?_))
  exact congrArg (· * Loss.inv) (Finset.sum_congr rfl fun k _ => by rw [err_row])
theorem dg_pay (o : Vec Ideal S1x1024 .f32) (k : Fin 1024) :
    k0_pay1 (F := Ideal) (k0_pay19 (zB m c t) (pB m c t) (bY m c t)) o (ix2 0 k) = o (ix2 0 k) + dgB m c t k := by
  refine (pay1_at k _ o).trans (congrArg (o (ix2 0 k) + ·) (Finset.sum_congr rfl fun r _ => dg_row m c t r k))

/-! The first point starts both sums from zero; a later one adds to what the point before left. -/
theorem loss_first (h : t.val % 32 = 0) (l : Fin 128) : (outsAt0 m c t.val t.isLt).2.2.2.2.2.1 (ix2 0 l) = lossB m c t := by
  rw [outsAt0_A m c t h]
  dsimp only
  frame_open
  simp (disch := decide) only [↓ View.readCov_skip, ↓ View.readCov_cons_toLoadRect, ↓ View.readCov_fill]
  frame_out
  refine (loss_pay m c t _ l).trans ?_
  rw [pay2_at, zero_add]
theorem loss_next (h : ¬t.val % 32 = 0) (l : Fin 128) : (outsAt0 m c t.val t.isLt).2.2.2.2.2.1 (ix2 0 l)
    = (outsAt0 m c (t.val - 1) (Nat.lt_of_le_of_lt (Nat.sub_le _ _) t.isLt)).2.2.2.2.2.1 (ix2 0 l) + lossB m c t := by
  rw [outsAt0_B m c t h]
  dsimp only
  frame_open
  simp (disch := decide) only [↓ View.readCov_skip, ↓ View.readCov_cons_toLoadRect, ↓ View.readCov_fill]
  frame_out
  exact loss_pay m c t _ l
theorem dg_first (h : t.val % 32 = 0) (k : Fin 1024) : (outsAt0 m c t.val t.isLt).2.2.2.2.2.2 (ix2 0 k) = dgB m c t k := by
  rw [outsAt0_A m c t h]
  dsimp only
  frame_open
  simp (disch := decide) only [↓ View.readCov_skip, ↓ View.readCov_cons_toLoadRect, ↓ View.readCov_fill]
  frame_out
  refine (dg_pay m c t _ k).trans ?_
  rw [pay3_at, zero_add]
theorem dg_next (h : ¬t.val % 32 = 0) (k : Fin 1024) : (outsAt0 m c t.val t.isLt).2.2.2.2.2.2 (ix2 0 k)
    = (outsAt0 m c (t.val - 1) (Nat.lt_of_le_of_lt (Nat.sub_le _ _) t.isLt)).2.2.2.2.2.2 (ix2 0 k) + dgB m c t k := by
  rw [outsAt0_B m c t h]
  dsimp only
  frame_open
  simp (disch := decide) only [↓ View.readCov_skip, ↓ View.readCov_cons_toLoadRect, ↓ View.readCov_fill]
  frame_out
  exact dg_pay m c t _ k

/-- What starts at the first point's part and grows by each point's part is, after a point, the sum of the parts so far. -/
theorem sum_of (A : (n : ℕ) → n < cfg0.N → EReal) (B : Fin cfg0.N → EReal) (h0 : ∀ h, A 0 h = B ⟨0, h⟩)
    (hs : ∀ n (h : n + 1 < cfg0.N), A (n + 1) h = A n (Nat.lt_of_succ_lt h) + B ⟨n + 1, h⟩) :
    ∀ (n : ℕ) (hn : n < cfg0.N), A n hn = ∑ p : Fin (n + 1), B ⟨p.val, lt_of_le_of_lt (Nat.le_of_lt_succ p.isLt) hn⟩
  | 0, hn => by
    rw [Fin.sum_univ_one]
    exact h0 hn
  | n + 1, hn => by
    rw [hs, Fin.sum_univ_castSucc]
    exact congrArg (· + B ⟨n + 1, hn⟩) (sum_of A B h0 hs n (Nat.lt_of_succ_lt hn))
theorem not_first {n : ℕ} (h : n + 1 < cfg0.N) : ¬(n + 1) % 32 = 0 := by
  have := lt_of_lt_of_eq h N_0
  omega
theorem loss_sum (l : Fin 128) (n : ℕ) (hn : n < cfg0.N) : (outsAt0 m c n hn).2.2.2.2.2.1 (ix2 0 l)
    = ∑ p : Fin (n + 1), lossB m c ⟨p.val, lt_of_le_of_lt (Nat.le_of_lt_succ p.isLt) hn⟩ :=
  sum_of (fun n hn => (outsAt0 m c n hn).2.2.2.2.2.1 (ix2 0 l)) (lossB m c) (fun h => loss_first m c ⟨0, h⟩ rfl l)
    (fun n h => loss_next m c ⟨n + 1, h⟩ (not_first h) l) n hn
theorem dg_sum (k : Fin 1024) (n : ℕ) (hn : n < cfg0.N) : (outsAt0 m c n hn).2.2.2.2.2.2 (ix2 0 k)
    = ∑ p : Fin (n + 1), dgB m c ⟨p.val, lt_of_le_of_lt (Nat.le_of_lt_succ p.isLt) hn⟩ k :=
  sum_of (fun n hn => (outsAt0 m c n hn).2.2.2.2.2.2 (ix2 0 k)) (fun t => dgB m c t k) (fun h => dg_first m c ⟨0, h⟩ rfl k)
    (fun n h => dg_next m c ⟨n + 1, h⟩ (not_first h) k) n hn

/-- The rows of all the blocks are the rows of the array. -/
theorem rows_sum (F : Fin 8192 → EReal) :
    ∑ t : Fin 32, ∑ r : Fin 256, F (rowOf ⟨t.val, lt_of_lt_of_eq t.isLt N_0.symm⟩ r) = ∑ n : Fin 8192, F n := by
  refine (Fintype.sum_prod_type' fun (t : Fin 32) (r : Fin 256) => F (rowOf ⟨t.val, lt_of_lt_of_eq t.isLt N_0.symm⟩ r)).symm.trans ?_
  refine Fintype.sum_equiv (finProdFinEquiv (m := 32) (n := 256)) _ _ fun p => congrArg F (Fin.ext ?_)
  rw [rowOf, finProdFinEquiv_apply_val]
  ring

/-! The result arrays. -/
theorem arr9 : ((dats m 0 c).arrAt 9 cfg0.N : FVec Ideal S8192x1024 .f32) (ix2 (rowOf t r) k)
    = xK m c (rowOf t r) k :=
  ((congrArg ((dats m 0 c).arrAt 9 cfg0.N : FVec Ideal S8192x1024 .f32)
      (ix2_of (starts _ _ (idxOut t).1.1) (starts_zero _ (idxOut t).1.2))).trans
    (congrFun ((blocks9 m c t (flush0_9 t)).trans (flushed9 m c t)) (ix2 r k))).trans (s_point m c t r k)
theorem arr10 : ((dats m 0 c).arrAt 10 cfg0.N : FVec Ideal S8192x2816 .bf16) (ix2 (rowOf t r) f)
    = inRow (xK m c (rowOf t r)) (gK m c) (wgK m c) f :=
  ((congrArg ((dats m 0 c).arrAt 10 cfg0.N : FVec Ideal S8192x2816 .bf16)
      (ix2_of (starts _ _ (idxOut t).2.1.1) (starts_zero _ (idxOut t).2.1.2))).trans
    (congrFun ((blocks10 m c t (flush0_10 t)).trans (flushed10 m c t)) (ix2 r f))).trans (a_point m c t r f)
theorem arr11 : ((dats m 0 c).arrAt 11 cfg0.N : FVec Ideal S8192x2816 .bf16) (ix2 (rowOf t r) f)
    = inRow (xK m c (rowOf t r)) (gK m c) (wuK m c) f :=
  ((congrArg ((dats m 0 c).arrAt 11 cfg0.N : FVec Ideal S8192x2816 .bf16)
      (ix2_of (starts _ _ (idxOut t).2.2.1.1) (starts_zero _ (idxOut t).2.2.1.2))).trans
    (congrFun ((blocks11 m c t (flush0_11 t)).trans (flushed11 m c t)) (ix2 r f))).trans (b_point m c t r f)
theorem arr12 : ((dats m 0 c).arrAt 12 cfg0.N : FVec Ideal S8192x1024 .bf16) (ix2 (rowOf t r) k)
    = hRow (xK m c (rowOf t r)) (gK m c) k :=
  ((congrArg ((dats m 0 c).arrAt 12 cfg0.N : FVec Ideal S8192x1024 .bf16)
      (ix2_of (starts _ _ (idxOut t).2.2.2.1.1) (starts_zero _ (idxOut t).2.2.2.1.2))).trans
    (congrFun ((blocks12 m c t (flush0_12 t)).trans (flushed12 m c t)) (ix2 r k))).trans (h_point m c t r k)
theorem arr13 : ((dats m 0 c).arrAt 13 cfg0.N : FVec Ideal S8192x1024 .f32) (ix2 (rowOf t r) k)
    = gxRow (zK m c (rowOf t r)) (fK m c) (yK m c (rowOf t r)) k :=
  ((congrArg ((dats m 0 c).arrAt 13 cfg0.N : FVec Ideal S8192x1024 .f32)
      (ix2_of (starts _ _ (idxOut t).2.2.2.2.1.1) (starts_zero _ (idxOut t).2.2.2.2.1.2))).trans
    (congrFun ((blocks13 m c t (flush0_13 t)).trans (flushed13 m c t)) (ix2 r k))).trans (gx_point m c t r k)

/-! The two sums are written back once, after the last point. -/
theorem lt32 : 31 < cfg0.N := lt_of_lt_of_eq (by decide) N_0.symm
theorem last_flush14 {t : Fin cfg0.N} (h : (cfg0.win 14).flush t = true) : t.val = 31 := by
  have h1 := (flush0_14 t).mp h
  have h2 := lt_of_lt_of_eq t.isLt N_0
  omega
theorem block14 (t : Fin cfg0.N) (h : (cfg0.win 14).flush t = true) :
    ((cfg0.win 14).blk t).view.read (Elt Ideal) ((dats m 0 c).arrAt 14 cfg0.N) = (cfg0.win 14).cut (grid0.coords t) (outsAt0 m c t.val t.isLt).2.2.2.2.2.1 :=
  ((dats m 0 c).read_blk_arrAt_eq_flushed 14
    (fun _ _ h h' hne => absurd (Fin.ext ((last_flush14 h).trans (last_flush14 h').symm)) hne) cfg0.N t t.isLt h).trans (flushed14 m c t)
theorem cut14 (t : Fin cfg0.N) (l : Fin 128) : ((cfg0.win 14).cut (grid0.coords t) (outsAt0 m c t.val t.isLt).2.2.2.2.2.1 : Vec Ideal S1x128 .f32) (ix2 0 l)
    = ∑ p : Fin (t.val + 1), lossB m c ⟨p.val, lt_of_lt_of_le p.isLt t.isLt⟩ := loss_sum m c l t.val t.isLt
theorem arr14 (l : Fin 128) : ((dats m 0 c).arrAt 14 cfg0.N : FVec Ideal S1x128 .f32) (ix2 0 l)
    = ∑ p : Fin 32, lossB m c ⟨p.val, lt_of_lt_of_eq p.isLt N_0.symm⟩ := by
  refine ((congrArg ((dats m 0 c).arrAt 14 cfg0.N : FVec Ideal S1x128 .f32)
      (ix2_of (starts_zero (s := 1) _ (idxOut ⟨31, lt32⟩).2.2.2.2.2.1.1) (starts_zero (s := 128) _ (idxOut ⟨31, lt32⟩).2.2.2.2.2.1.2))).trans
    (congrFun (block14 m c ⟨31, lt32⟩ ((flush0_14 ⟨31, lt32⟩).mpr rfl)) (ix2 0 l))).trans ?_
  exact cut14 m c ⟨31, lt32⟩ l
theorem last_flush15 {t : Fin cfg0.N} (h : (cfg0.win 15).flush t = true) : t.val = 31 := by
  have h1 := (flush0_15 t).mp h
  have h2 := lt_of_lt_of_eq t.isLt N_0
  omega
theorem block15 (t : Fin cfg0.N) (h : (cfg0.win 15).flush t = true) :
    ((cfg0.win 15).blk t).view.read (Elt Ideal) ((dats m 0 c).arrAt 15 cfg0.N) = (cfg0.win 15).cut (grid0.coords t) (outsAt0 m c t.val t.isLt).2.2.2.2.2.2 :=
  ((dats m 0 c).read_blk_arrAt_eq_flushed 15
    (fun _ _ h h' hne => absurd (Fin.ext ((last_flush15 h).trans (last_flush15 h').symm)) hne) cfg0.N t t.isLt h).trans (flushed15 m c t)
theorem cut15 (t : Fin cfg0.N) (k : Fin 1024) : ((cfg0.win 15).cut (grid0.coords t) (outsAt0 m c t.val t.isLt).2.2.2.2.2.2 : Vec Ideal S1x1024 .f32) (ix2 0 k)
    = ∑ p : Fin (t.val + 1), dgB m c ⟨p.val, lt_of_lt_of_le p.isLt t.isLt⟩ k := dg_sum m c k t.val t.isLt
theorem arr15 (k : Fin 1024) : ((dats m 0 c).arrAt 15 cfg0.N : FVec Ideal S1x1024 .f32) (ix2 0 k)
    = ∑ p : Fin 32, dgB m c ⟨p.val, lt_of_lt_of_eq p.isLt N_0.symm⟩ k := by
  refine ((congrArg ((dats m 0 c).arrAt 15 cfg0.N : FVec Ideal S1x1024 .f32)
      (ix2_of (starts_zero (s := 1) _ (idxOut ⟨31, lt32⟩).2.2.2.2.2.2.1) (starts_zero (s := 1024) _ (idxOut ⟨31, lt32⟩).2.2.2.2.2.2.2))).trans
    (congrFun (block15 m c ⟨31, lt32⟩ ((flush0_15 ⟨31, lt32⟩).mpr rfl)) (ix2 0 k))).trans ?_
  exact cut15 m c ⟨31, lt32⟩ k
end

section
variable (m : (ℓ : Loc nD τ sig) → Buf (Elt Ideal) ℓ) (c : Dev nD)

/-! The seven result arrays. -/
def out0 : FVec Ideal S8192x1024 .f32 := (dats m 0 c).arrAt 9 cfg0.N
def out1 : FVec Ideal S8192x2816 .bf16 := (dats m 0 c).arrAt 10 cfg0.N
def out2 : FVec Ideal S8192x2816 .bf16 := (dats m 0 c).arrAt 11 cfg0.N
def out3 : FVec Ideal S8192x1024 .bf16 := (dats m 0 c).arrAt 12 cfg0.N
def out4 : FVec Ideal S8192x1024 .f32 := (dats m 0 c).arrAt 13 cfg0.N
def out5 : FVec Ideal S1x128 .f32 := (dats m 0 c).arrAt 14 cfg0.N
def out6 : FVec Ideal S1x1024 .f32 := (dats m 0 c).arrAt 15 cfg0.N

/-- The reference's input of the layer and of the last norm, at the kernel's arguments. -/
abbrev xV : FVec Ideal S8192x1024 .f32 := sumV (aA m c) (aW m c) (aR m c)
abbrev zV : FVec Ideal S8192x1024 .f32 := xoV (xV m c) (aG m c) (aWg m c) (aWu m c) (aWd m c)
theorem xV_row (n : Fin 8192) : (fun k => xV m c (ix2 n k)) = xK m c n := funext fun k => ProjFfn.sum_at (aA m c) (aW m c) (aR m c) n k
theorem zV_row (n : Fin 8192) : FfnBwd.Ref.rowW (zV m c) n = zK m c n := funext fun k => by
  unfold zK
  rw [← xV_row]
  exact FfnFwd.xo_at (xV m c) (aG m c) (aWg m c) (aWu m c) (aWd m c) n k

theorem whole0 : out0 m c = xV m c := ext2 fun n k => by
  obtain ⟨t, r, rfl⟩ := row_split n
  exact (arr9 m c t r k).trans (ProjFfn.sum_at (aA m c) (aW m c) (aR m c) (rowOf t r) k).symm
theorem whole1 : out1 m c = FfnBwd.Ref.inV (xV m c) (aG m c) (aWg m c) := ext2 fun n f => by
  obtain ⟨t, r, rfl⟩ := row_split n
  refine (arr10 m c t r f).trans ?_
  rw [← xV_row]
  exact (FfnBwd.Ref.in_at (xV m c) (aG m c) (rowOf t r) f (aWg m c)).symm
theorem whole2 : out2 m c = FfnBwd.Ref.inV (xV m c) (aG m c) (aWu m c) := ext2 fun n f => by
  obtain ⟨t, r, rfl⟩ := row_split n
  refine (arr11 m c t r f).trans ?_
  rw [← xV_row]
  exact (FfnBwd.Ref.in_at (xV m c) (aG m c) (rowOf t r) f (aWu m c)).symm
theorem whole3 : out3 m c = FfnBwd.Ref.hV (xV m c) (aG m c) := ext2 fun n k => by
  obtain ⟨t, r, rfl⟩ := row_split n
  refine (arr12 m c t r k).trans ?_
  rw [← xV_row]
  exact (FfnBwd.Ref.h_at (xV m c) (aG m c) (rowOf t r) k).symm
theorem whole6 : out6 m c = FfnBwd.Ref.dgOf (zV m c) (Loss.dyV (zV m c) (aF m c) (aY m c)) := ext2 fun e k => by
  obtain rfl : e = 0 := Subsingleton.elim _ _
  refine (arr15 m c k).trans ((rows_sum fun n => dgRow (zK m c n) (fK m c) (yK m c n) k).trans ?_)
  refine Eq.trans ?_ (Loss.dg_at (zV m c) (aF m c) (aY m c) k).symm
  exact Finset.sum_congr rfl fun n _ => by rw [zV_row]

theorem whole4 : out4 m c = Loss.gxV (zV m c) (aF m c) (aY m c) := ext2 fun n k => by
  obtain ⟨t, r, rfl⟩ := row_split n
  refine (arr13 m c t r k).trans (Eq.trans ?_ (Loss.gx_at (zV m c) (aF m c) (aY m c) (rowOf t r) k).symm)
  rw [zV_row]
  exact Loss.gx_eq _ _ _ k
theorem whole5 : out5 m c = Loss.lossV (zV m c) (aF m c) (aY m c) := ext2 fun e l => by
  obtain rfl : e = 0 := Subsingleton.elim _ _
  have hl : ∀ n, 0 ≤ lossRow (zK m c n) (fK m c) (yK m c n) := fun n => Loss.loss_nonneg _ _ _
  refine (arr14 m c l).trans (Eq.trans ?_ (Loss.loss_at (zV m c) (aF m c) (aY m c) l).symm)
  refine ((Finset.sum_congr rfl fun p _ => Loss.half_sum _ fun r => hl _).trans
    (rows_sum fun n => FfnBwd.half * lossRow (zK m c n) (fK m c) (yK m c n))).trans ?_
  rw [← Loss.half_sum _ hl]
  refine congrArg (FfnBwd.half * ·) (Finset.sum_congr rfl fun n _ => ?_)
  rw [zV_row]
  exact (Loss.loss_div _ _ _).symm
end

end ProjLoss

end
-- ==== Proof.WholeLoss.lean ====
module

public import proofs.«01_k».proof.Defs
public import proofs.«01_k».proof.Proof.ProjLoss

/-!
The claim about the last feed-forward layer with the loss.
-/

@[expose] public section

set_option maxRecDepth 16384

noncomputable section

namespace ProjLoss

open Idealize.ShloMosaic Idealize.SL.Sem MixRows Cert.Kernel10Ideal Cert.Kernel10Ideal.Gen Cert.Kernel10Ideal.Value
open FfnBwd (hRow inRow sRow rmsBwd rr stack starts starts_zero ix2_of)
open FfnFwd (xoRow xoV)
open ProjFfn (sumRow sumV row)
open Loss (errRow lossRow dyRow dgRow gxRow)

/-- The two programs agree on every result. -/
theorem algebraic : Cert.algebraic_Kernel10Ideal_Reference10Ideal := by
  intro m g m' g' _ ha
  refine ⟨fun c => out0 m c, fun c => out1 m c, fun c => out2 m c, fun c => out3 m c, fun c => out4 m c, fun c => out5 m c, fun c => out6 m c,
    run_blocks m g, ?_⟩
  refine θ_run_mono (Cert.Reference10Ideal.Value.run m' g') fun r hr c => ?_
  obtain ⟨r0, r1, r2, r3, r4, r5, r6, kept⟩ := hr c
  obtain ⟨h0, h1, h2, h3, h4, h5, h6, h7, h8⟩ := ha c
  have ex : Cert.Reference10Ideal.Value.res_main_v2 (StableHlo.launchContents m' c) = xV m c := congr (congr (congrArg sumV h0) h1) h2
  have ez : Cert.Reference10Ideal.Value.res_main_v23 (StableHlo.launchContents m' c) = zV m c :=
    congr (congr (congr (congr (congrArg xoV ex) h3) h4) h5) h6
  have ef : Loss.fR (StableHlo.launchContents m' c) = aF m c := h7
  have ey : Loss.yR (StableHlo.launchContents m' c) = aY m c := h8
  have e4 := (r4.trans (Loss.ref_gx _)).trans (congr (congr (congrArg Loss.gxV ez) ef) ey)
  have e5 := (r5.trans (Loss.ref_loss _)).trans (congr (congr (congrArg Loss.lossV ez) ef) ey)
  have e6 := (r6.trans (Loss.ref_dg _)).trans (congr (congrArg FfnBwd.Ref.dgOf ez) (congr (congr (congrArg Loss.dyV ez) ef) ey))
  refine ⟨r0.trans (ex.trans (whole0 m c).symm), r1.trans (Eq.trans ?_ (whole1 m c).symm), r2.trans (Eq.trans ?_ (whole2 m c).symm),
    r3.trans (Eq.trans ?_ (whole3 m c).symm), e4.trans (whole4 m c).symm, e5.trans (whole5 m c).symm, e6.trans (whole6 m c).symm, kept⟩
  · exact congr (congr (congrArg FfnBwd.Ref.inV ex) h3) h4
  · exact congr (congr (congrArg FfnBwd.Ref.inV ex) h3) h5
  · exact congr (congrArg FfnBwd.Ref.hV ex) h3

end ProjLoss

end
-- ==== Proof.ProjInMix.lean ====
module

public import proofs.«01_k».proof.Proof.Gen.Kernel11Ideal.Value
public import proofs.«01_k».proof.Proof.Gen.Reference11Ideal.Run
public import proofs.«01_k».proof.Proof.ProjIn

/-!
The input projection of the gated mixers: the same call as in `ProjIn`, on a weight of 2048 columns and with the product kept in float32.
-/

@[expose] public section

set_option maxRecDepth 16384

noncomputable section

namespace ProjInMix

open Idealize.ShloMosaic Idealize.SL.Sem MixRows Cert.Kernel11Ideal Cert.Kernel11Ideal.Gen Cert.Kernel11Ideal.Value
open FfnBwd (hRow starts starts_zero ix2_of)

section
variable (r : Fin 512) (k : Fin 1024) (q : Fin 2048)

/-! The values a point computes from its blocks, at an index. -/
theorem pay1_at (x : Vec Ideal S512x1024 .f32) (g : Vec Ideal S1x1024 .f32) :
    k0_pay1 (F := Ideal) x g (ix2 r k) = hRow (fun k => x (ix2 r k)) (fun k => g (ix2 0 k)) k := by
  exact ProjIn.pay1_at r k x g
theorem pay2_at (h : Vec Ideal S512x1024 .bf16) (w : Vec Ideal S2048x1024 .bf16) :
    k0_pay2 (F := Ideal) h w (ix2 r q) = ∑ k : Fin 1024, h (ix2 r k) * w (ix2 q k) := by
  pointwise [k0_pay2]
end

section
variable (m : (ℓ : Loc nD τ sig) → Buf (Elt Ideal) ℓ) (c : Dev nD)

/-! The arguments: the rows, the weight and the norm's gain. -/
abbrev aX : FVec Ideal S8192x1024 .f32 := m ((c.tc : Thread nD τ).loc main_arg0)
abbrev aW : FVec Ideal S1024x2048 .f32 := m ((c.tc : Thread nD τ).loc main_arg1)
abbrev aG : FVec Ideal S1024 .f32 := m ((c.tc : Thread nD τ).loc main_arg2)

/-- Row `r` of point `t`'s block is row `512 t + r` of the array, and every row is one. -/
def rowOf (t : Fin cfg0.N) (r : Fin 512) : Fin 8192 :=
  ⟨t.val * 512 + r, by have h := lt_of_lt_of_eq t.isLt N_0; omega⟩
theorem row_split (n : Fin 8192) : ∃ (t : Fin cfg0.N) (r : Fin 512), n = rowOf t r :=
  ⟨⟨n.val / 512, lt_of_lt_of_eq (by omega : n.val / 512 < 16) N_0.symm⟩, ⟨n.val % 512, Nat.mod_lt _ (by decide)⟩,
    Fin.ext (by show n.val = n.val / 512 * 512 + n.val % 512; omega)⟩

/-- Where the blocks of the inputs and of the results lie. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) := by decide +kernel
theorem idxOut : ∀ t : Fin cfg0.N,
    (win0_3.index t (0 : Fin 2) = t.val ∧ win0_3.index t (1 : Fin 2) = 0)
    ∧ (win0_4.index t (0 : Fin 2) = t.val ∧ win0_4.index t (1 : Fin 2) = 0) := by decide +kernel

theorem w_at (q : Fin 2048) (k : Fin 1024) : (V m c main_v1 : FVec Ideal S2048x1024 .bf16) (ix2 q k) = aW m c (ix2 k q) := by
  simp only [V, hostOps0]
  entry_read
  pointwise
theorem gain_at (k : Fin 1024) : (V m c main_v2 : FVec Ideal S1x1024 .f32) (ix2 0 k) = aG m c (ix1 k) := by
  simp only [V, hostOps0]
  entry_read
  pointwise

variable (t : Fin cfg0.N)

/-! The blocks the point reads. -/
abbrev bX : Vec Ideal S512x1024 .f32 := iblk m c 0 t
abbrev bG : Vec Ideal S1x1024 .f32 := iblk m c 1 t
abbrev bW : Vec Ideal S2048x1024 .bf16 := iblk m c 2 t

variable (r : Fin 512) (k : Fin 1024) (q : Fin 2048)

theorem bX_at : bX m c t (ix2 r k) = aX m c (ix2 (rowOf t r) k) := by
  unfold rowOf
  blk_ext! [bX, iblk, V, idx t]
theorem bG_at : bG m c t (ix2 0 k) = aG m c (ix1 k) := by
  rw [← gain_at]
  blk_ext [bG, iblk, idx t]
theorem bW_at : bW m c t (ix2 q k) = aW m c (ix2 k q) := by
  rw [← w_at]
  blk_ext [bW, iblk, idx t]

/-- The normed row, as the reference has it. -/
abbrev hK (n : Fin 8192) (k : Fin 1024) : EReal := FfnBwd.Ref.hV (aX m c) (aG m c) (ix2 n k)

theorem h_row : k0_pay1 (F := Ideal) (bX m c t) (bG m c t) (ix2 r k) = hK m c (rowOf t r) k := by
  rw [pay1_at, show (fun k => bX m c t (ix2 r k)) = fun k => aX m c (ix2 (rowOf t r) k) from funext fun k => bX_at m c t r k,
    show (fun k => bG m c t (ix2 0 k)) = fun k => aG m c (ix1 k) from funext fun k => bG_at m c t k]
  exact (FfnBwd.Ref.h_at (aX m c) (aG m c) (rowOf t r) k).symm

/-! What the point leaves in its two outputs. -/
theorem h_point : (outsAt0 m c t).2 (ix2 r k) = hK m c (rowOf t r) k := by
  unfold outsAt0
  dsimp only
  frame_open
  frame_out
  exact h_row m c t r k
theorem o_point : (outsAt0 m c t).1 (ix2 r q) = ∑ k : Fin 1024, hK m c (rowOf t r) k * aW m c (ix2 k q) := by
  unfold outsAt0
  dsimp only
  frame_open
  simp (disch := decide) only [↓ View.readCov_skip, ↓ View.readCov_cons_toLoadRect, ↓ View.readCov_fill]
  frame_out
  refine (pay2_at r q _ _).trans (Finset.sum_congr rfl fun k _ => ?_)
  exact congrArg₂ (· * ·) (h_row m c t r k) (bW_at m c t k q)

/-! The result arrays at a block's row. -/
theorem arr3 : ((dats m 0 c).arrAt 3 cfg0.N : FVec Ideal S8192x2048 .f32) (ix2 (rowOf t r) q)
    = ∑ k : Fin 1024, hK m c (rowOf t r) k * aW m c (ix2 k q) :=
  ((congrArg ((dats m 0 c).arrAt 3 cfg0.N : FVec Ideal S8192x2048 .f32)
      (ix2_of (starts _ _ (idxOut t).1.1) (starts_zero _ (idxOut t).1.2))).trans
    (congrFun ((blocks3 m c t (flush0_3 t)).trans (flushed3 m c t)) (ix2 r q))).trans (o_point m c t r q)
theorem arr4 : ((dats m 0 c).arrAt 4 cfg0.N : FVec Ideal S8192x1024 .bf16) (ix2 (rowOf t r) k) = hK m c (rowOf t r) k :=
  ((congrArg ((dats m 0 c).arrAt 4 cfg0.N : FVec Ideal S8192x1024 .bf16)
      (ix2_of (starts _ _ (idxOut t).2.1) (starts_zero _ (idxOut t).2.2))).trans
    (congrFun ((blocks4 m c t (flush0_4 t)).trans (flushed4 m c t)) (ix2 r k))).trans (h_point m c t r k)
end

/-- The reference's product. -/
def prodV (x : FVec Ideal Cert.Reference11Ideal.S8192x1024 .f32) (w : FVec Ideal Cert.Reference11Ideal.S1024x2048 .f32)
    (g : FVec Ideal Cert.Reference11Ideal.S1024 .f32) : FVec Ideal Cert.Reference11Ideal.S8192x2048 .f32 :=
  Host.dotGeneral Cert.Reference11Ideal.dot_S8192x1024_S1024x2048_S8192x2048_1_0_0_1_n_n none (FfnBwd.Ref.hV x g) w
theorem prod_at (x : FVec Ideal Cert.Reference11Ideal.S8192x1024 .f32) (w : FVec Ideal Cert.Reference11Ideal.S1024x2048 .f32)
    (g : FVec Ideal Cert.Reference11Ideal.S1024 .f32) (n : Fin 8192) (q : Fin 2048) :
    prodV x w g (ix2 n q) = ∑ k : Fin 1024, FfnBwd.Ref.hV x g (ix2 n k) * w (ix2 k q) := by
  pointwise [prodV]

section
variable (m : (ℓ : Loc nD τ sig) → Buf (Elt Ideal) ℓ) (c : Dev nD)

/-! The two result arrays. -/
def out0 : FVec Ideal S8192x2048 .f32 := (dats m 0 c).arrAt 3 cfg0.N
def out1 : FVec Ideal S8192x1024 .bf16 := (dats m 0 c).arrAt 4 cfg0.N

theorem whole0 : out0 m c = prodV (aX m c) (aW m c) (aG m c) := ext2 fun n q => by
  obtain ⟨t, r, rfl⟩ := row_split n
  exact (arr3 m c t r q).trans (prod_at (aX m c) (aW m c) (aG m c) (rowOf t r) q).symm
theorem whole1 : out1 m c = FfnBwd.Ref.hV (aX m c) (aG m c) := ext2 fun n k => by
  obtain ⟨t, r, rfl⟩ := row_split n
  exact arr4 m c t r k
end

/-- The two programs agree on both results. -/
theorem algebraic : Cert.algebraic_Kernel11Ideal_Reference11Ideal := by
  intro m g m' g' _ ha
  refine ⟨fun c => out0 m c, fun c => out1 m c, run_blocks m g, ?_⟩
  refine θ_run_mono (Cert.Reference11Ideal.Value.run m' g') fun r hr c => ?_
  obtain ⟨r0, r1, kept⟩ := hr c
  obtain ⟨h0, h1, h2⟩ := ha c
  rw [h0, h1, h2] at r0
  rw [h0, h2] at r1
  exact ⟨r0.trans (whole0 m c).symm, r1.trans (whole1 m c).symm, kept⟩

end ProjInMix

end
-- ==== Proof.WeightOut.lean ====
module

public import proofs.«01_k».proof.Proof.Gen.Kernel12Ideal.Value
public import proofs.«01_k».proof.Proof.Gen.Reference12Ideal.Run
public import proofs.«01_k».proof.Proof.WeightSquare

/-!
The gradient of an output projection's weight: the same call as in `WeightSquare`, where the second array is in float32, so that the kernel rounds a
block of it.
-/

@[expose] public section

set_option maxRecDepth 16384

noncomputable section

namespace WeightOut

open Idealize.ShloMosaic Idealize.SL.Sem Cert.Kernel12Ideal Cert.Kernel12Ideal.Gen Cert.Kernel12Ideal.Value
open WeightGrad (rowAt)
open WeightSquare (part parts)

section
variable (m : (ℓ : Loc nD τ sig) → Buf (Elt Ideal) ℓ) (c : Dev nD)

/-! The two arguments: the layer's input, and the gradient at its output. -/
abbrev dA : FVec Ideal S8192x1024 .bf16 := m ((c.tc : Thread nD τ).loc main_arg0)
abbrev hA : FVec Ideal S8192x1024 .f32 := m ((c.tc : Thread nD τ).loc main_arg1)

/-- Where a point's blocks lie. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0) := by decide +kernel

theorem lt4 (t : Fin cfg0.N) : t.val < 4 := lt_of_lt_of_eq t.isLt N_0

abbrev bD (t : Fin cfg0.N) : Vec Ideal S2048x1024 .bf16 := iblk m c 0 t
abbrev bH (t : Fin cfg0.N) : Vec Ideal S2048x1024 .f32 := iblk m c 1 t

variable (i l : Fin 1024)

theorem bD_at (t : Fin cfg0.N) (r : Fin 2048) : bD m c t (ix2 r i) = dA m c (ix2 (rowAt ⟨t.val, lt4 t⟩ r) i) := by
  unfold rowAt
  blk_ext! [bD, iblk, V, idx t]
theorem bH_at (t : Fin cfg0.N) (r : Fin 2048) : bH m c t (ix2 r l) = hA m c (ix2 (rowAt ⟨t.val, lt4 t⟩ r) l) := by
  unfold rowAt
  blk_ext! [bH, iblk, V, idx t]

theorem pay_at (acc : Vec Ideal S1024x1024 .f32) (x : Vec Ideal S2048x1024 .bf16) (y : Vec Ideal S2048x1024 .f32) :
    k0_pay2 (F := Ideal) acc x y (ix2 i l) = acc (ix2 i l) + ∑ r : Fin 2048, x (ix2 r i) * y (ix2 r l) := by
  pointwise [k0_pay2]
theorem zero_at : k0_pay1 (F := Ideal) (ix2 i l) = 0 := by
  pointwise [k0_pay1]

/-- A step adds its point's part; the first starts from zero. -/
theorem step_at (t : Fin cfg0.N) (acc : Vec Ideal S1024x1024 .f32) :
    step2 m c t.val t.isLt acc (ix2 i l) = acc (ix2 i l) + part (dA m c) (hA m c) ⟨t.val, lt4 t⟩ i l := by
  unfold step2
  rw [pay_at]
  exact congrArg (acc (ix2 i l) + ·) (Finset.sum_congr rfl fun r _ => congrArg₂ (· * ·) (bD_at m c i t r) (bH_at m c l t r))
theorem reset_at (h : 0 < cfg0.N) : reset2 m c 0 h (ix2 i l) = part (dA m c) (hA m c) 0 i l :=
  (step_at m c i l ⟨0, h⟩ (k0_pay1 (F := Ideal))).trans (by rw [zero_at, zero_add]; rfl)

/-- The result at an index: its four parts. -/
theorem g2_at : G2 m c (ix2 i l) = ∑ k : Fin 4, part (dA m c) (hA m c) k i l := by
  have hr : run2Of (ix2 i l) = 0 := by
    show 1 * (i.val / 1024 - 0) + 1 * (l.val / 1024 - 0) = 0
    omega
  have hl : loc2Of (ix2 i l) = ix2 i l := funext fun a => Fin.ext (match a with
    | ⟨0, _⟩ => (by show i.val % 1024 = i.val; omega)
    | ⟨1, _⟩ => (by show l.val % 1024 = l.val; omega))
  have hN : 4 * 0 + 3 < cfg0.N := by rw [show cfg0.N = 4 from N_0]; omega
  unfold G2
  rw [dif_pos (by rw [hr]; exact hN), hl]
  have e : ∀ (n : ℕ) (h : 4 * n + 3 < cfg0.N), n = 0 →
      Pipeline.accAt (reset2 m c) (step2 m c) (4 * n) 3 h = Pipeline.accAt (reset2 m c) (step2 m c) (4 * 0) 3 hN := by
    intro n h hn; subst hn; rfl
  rw [e _ _ hr]
  have s0 := reset_at m c i l (by omega)
  have s1 := (step_at m c i l ⟨1, by omega⟩ (reset2 m c 0 (by omega))).trans (congrArg (· + _) s0)
  have s2 := (step_at m c i l ⟨2, by omega⟩ _).trans (congrArg (· + _) s1)
  have s3 := (step_at m c i l ⟨3, by omega⟩ _).trans (congrArg (· + _) s2)
  change @Eq EReal _ _
  exact s3.trans (Fin.sum_univ_four fun k => part (dA m c) (hA m c) k i l).symm

end

/-- The reference's result, over its two arguments. -/
abbrev ref (d : FVec Ideal Cert.Reference12Ideal.S8192x1024 .bf16) (h : FVec Ideal Cert.Reference12Ideal.S8192x1024 .f32) :
    FVec Ideal Cert.Reference12Ideal.S1024x1024 .f32 :=
  transpose Cert.Reference12Ideal.S1024x1024 [1, 0]
    (Host.dotGeneral Cert.Reference12Ideal.dot_S8192x1024_S8192x1024_S1024x1024_0_0_1_1_n_n none h
      (extf .f32 d Cert.Reference12Ideal.Gen.bitsLt_bf16_f32)) Cert.Reference12Ideal.Gen.transposes_S1024x1024_S1024x1024_1_0

theorem ref_at (d : FVec Ideal Cert.Reference12Ideal.S8192x1024 .bf16) (h : FVec Ideal Cert.Reference12Ideal.S8192x1024 .f32) (i l : Fin 1024) :
    ref d h (ix2 i l) = ∑ n : Fin 8192, d (ix2 n i) * h (ix2 n l) := by
  pointwise [ref]
  exact Finset.sum_congr rfl fun n _ => mul_comm (h (ix2 n l)) (d (ix2 n i))

/-- The two programs compute the same product. -/
theorem algebraic : Cert.algebraic_Kernel12Ideal_Reference12Ideal := by
  intro m g m' g' _ ha
  refine ⟨fun c => G2 m c, Cert.Kernel12Ideal.Value.run m g, ?_⟩
  refine θ_run_mono (Cert.Reference12Ideal.Value.run m' g') fun r hr c => ?_
  obtain ⟨r0, kept⟩ := hr c
  refine ⟨r0.trans ?_, kept⟩
  rw [(ha c).1, (ha c).2]
  funext i
  rw [eq_ix2 i]
  exact (ref_at _ _ _ _).trans ((g2_at m c _ _).trans (parts _ _ _ _)).symm

end WeightOut

end
-- ==== Proof.ProjBack.lean ====
module

public import proofs.«01_k».proof.Proof.Gen.Kernel13Ideal.Value
public import proofs.«01_k».proof.Proof.Gen.Reference13Ideal.Run
public import proofs.«01_k».proof.Proof.FfnFwd

/-!
The gradient at the attention's output: a gradient times the transposed weight of the output projection, rounded at a block of rows and read back.
-/

@[expose] public section

set_option maxRecDepth 16384

noncomputable section

namespace ProjBack

open Idealize.ShloMosaic Idealize.SL.Sem MixRows Cert.Kernel13Ideal Cert.Kernel13Ideal.Gen Cert.Kernel13Ideal.Value
open FfnBwd (starts starts_zero ix2_of)

section
variable (r : Fin 512) (k q : Fin 1024)

/-! The values a point computes from its blocks, at an index: the rounded block, and its product with the weight's rows. -/
theorem pay1_at (x : Vec Ideal S512x1024 .f32) : k0_pay1 (F := Ideal) x (ix2 r k) = x (ix2 r k) := by
  pointwise [k0_pay1]
theorem pay2_at (h : Vec Ideal S512x1024 .bf16) (w : Vec Ideal S1024x1024 .bf16) :
    k0_pay2 (F := Ideal) h w (ix2 r q) = ∑ k : Fin 1024, h (ix2 r k) * w (ix2 q k) := by
  pointwise [k0_pay2]
end

section
variable (m : (ℓ : Loc nD τ sig) → Buf (Elt Ideal) ℓ) (c : Dev nD)

/-! The arguments: the gradient at the projection's output, and the weight. -/
abbrev aX : FVec Ideal S8192x1024 .f32 := m ((c.tc : Thread nD τ).loc main_arg0)
abbrev aW : FVec Ideal S1024x1024 .f32 := m ((c.tc : Thread nD τ).loc main_arg1)

/-- Row `r` of point `t`'s block is row `512 t + r` of the array, and every row is one. -/
def rowOf (t : Fin cfg0.N) (r : Fin 512) : Fin 8192 :=
  ⟨t.val * 512 + r, by have h := lt_of_lt_of_eq t.isLt N_0; omega⟩
theorem row_split (n : Fin 8192) : ∃ (t : Fin cfg0.N) (r : Fin 512), n = rowOf t r :=
  ⟨⟨n.val / 512, lt_of_lt_of_eq (by omega : n.val / 512 < 16) N_0.symm⟩, ⟨n.val % 512, Nat.mod_lt _ (by decide)⟩,
    Fin.ext (by show n.val = n.val / 512 * 512 + n.val % 512; omega)⟩

/-- Where the blocks of the inputs and of the result lie. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) := by decide +kernel

theorem w_at (q k : Fin 1024) : (V m c main_v0 : FVec Ideal S1024x1024 .bf16) (ix2 q k) = aW m c (ix2 q k) := by
  simp only [V, hostOps0]
  entry_read
  pointwise

variable (t : Fin cfg0.N) (r : Fin 512) (k q : Fin 1024)

/-! The blocks the point reads. -/
abbrev bX : Vec Ideal S512x1024 .f32 := iblk m c 0 t
abbrev bW : Vec Ideal S1024x1024 .bf16 := iblk m c 1 t

theorem bX_at : bX m c t (ix2 r k) = aX m c (ix2 (rowOf t r) k) := by
  unfold rowOf
  blk_ext! [bX, iblk, V, idx t]
theorem bW_at : bW m c t (ix2 q k) = aW m c (ix2 q k) := by
  rw [← w_at]
  blk_ext [bW, iblk, idx t]

/-- What the point leaves in its output. -/
theorem o_point : outsAt0 m c t (ix2 r q) = ∑ k : Fin 1024, aX m c (ix2 (rowOf t r) k) * aW m c (ix2 q k) := by
  unfold outsAt0
  frame_open
  simp (disch := decide) only [↓ View.readCov_skip, ↓ View.readCov_cons_toLoadRect, ↓ View.readCov_fill]
  frame_out
  refine (pay2_at r q _ _).trans (Finset.sum_congr rfl fun k _ => ?_)
  exact congrArg₂ (· * ·) ((pay1_at r k (bX m c t)).trans (bX_at m c t r k)) (bW_at m c t k q)

/-- The result array at a block's row. -/
theorem arr2 : ((dats m 0 c).arrAt 2 cfg0.N : FVec Ideal S8192x1024 .bf16) (ix2 (rowOf t r) q)
    = ∑ k : Fin 1024, aX m c (ix2 (rowOf t r) k) * aW m c (ix2 q k) :=
  ((congrArg ((dats m 0 c).arrAt 2 cfg0.N : FVec Ideal S8192x1024 .bf16)
      (ix2_of (starts _ _ (idx t).2.2.1) (starts_zero _ (idx t).2.2.2))).trans
    (congrFun ((blocks2 m c t (flush0_2 t)).trans (flushed2 m c t)) (ix2 r q))).trans (o_point m c t r q)

/-- The result array. -/
def out0 : FVec Ideal S8192x1024 .bf16 := (dats m 0 c).arrAt 2 cfg0.N
end

/-- The reference's product. -/
def prodV (x : FVec Ideal Cert.Reference13Ideal.S8192x1024 .f32) (w : FVec Ideal Cert.Reference13Ideal.S1024x1024 .f32) :
    FVec Ideal Cert.Reference13Ideal.S8192x1024 .f32 :=
  Host.dotGeneral Cert.Reference13Ideal.dot_S8192x1024_S1024x1024_S8192x1024_1_1_0_0_n_n none x w
theorem prod_at (x : FVec Ideal Cert.Reference13Ideal.S8192x1024 .f32) (w : FVec Ideal Cert.Reference13Ideal.S1024x1024 .f32)
    (n : Fin 8192) (q : Fin 1024) : prodV x w (ix2 n q) = ∑ k : Fin 1024, x (ix2 n k) * w (ix2 q k) := by
  pointwise [prodV]

theorem whole0 (m : (ℓ : Loc nD τ sig) → Buf (Elt Ideal) ℓ) (c : Dev nD) : out0 m c = prodV (aX m c) (aW m c) := ext2 fun n q => by
  obtain ⟨t, r, rfl⟩ := row_split n
  exact (arr2 m c t r q).trans (prod_at (aX m c) (aW m c) (rowOf t r) q).symm

/-- The two programs agree. -/
theorem algebraic : Cert.algebraic_Kernel13Ideal_Reference13Ideal := by
  intro m g m' g' _ ha
  refine ⟨fun c => out0 m c, run_blocks m g, ?_⟩
  refine θ_run_mono (Cert.Reference13Ideal.Value.run m' g') fun r hr c => ?_
  obtain ⟨r0, kept⟩ := hr c
  rw [(ha c).1, (ha c).2] at r0
  exact ⟨r0.trans (whole0 m c).symm, kept⟩

end ProjBack

end
-- ==== Proof.ProjBack32.lean ====
module

public import proofs.«01_k».proof.Proof.Gen.Kernel14Ideal.Value
public import proofs.«01_k».proof.Proof.Gen.Reference14Ideal.Run
public import proofs.«01_k».proof.Proof.ProjBack

/-!
The gradient at a gated mixer's output: the same call as in `ProjBack`, with the product kept in float32.
-/

@[expose] public section

set_option maxRecDepth 16384

noncomputable section

namespace ProjBack32

open Idealize.ShloMosaic Idealize.SL.Sem MixRows Cert.Kernel14Ideal Cert.Kernel14Ideal.Gen Cert.Kernel14Ideal.Value
open FfnBwd (starts starts_zero ix2_of)

section
variable (r : Fin 512) (k q : Fin 1024)

/-! The values a point computes from its blocks, at an index. -/
theorem pay1_at (x : Vec Ideal S512x1024 .f32) : k0_pay1 (F := Ideal) x (ix2 r k) = x (ix2 r k) := ProjBack.pay1_at r k x
theorem pay2_at (h : Vec Ideal S512x1024 .bf16) (w : Vec Ideal S1024x1024 .bf16) :
    k0_pay2 (F := Ideal) h w (ix2 r q) = ∑ k : Fin 1024, h (ix2 r k) * w (ix2 q k) := ProjBack.pay2_at r q h w
end

section
variable (m : (ℓ : Loc nD τ sig) → Buf (Elt Ideal) ℓ) (c : Dev nD)

/-! The arguments: the gradient at the projection's output, and the weight. -/
abbrev aX : FVec Ideal S8192x1024 .f32 := m ((c.tc : Thread nD τ).loc main_arg0)
abbrev aW : FVec Ideal S1024x1024 .f32 := m ((c.tc : Thread nD τ).loc main_arg1)

/-- Row `r` of point `t`'s block is row `512 t + r` of the array, and every row is one. -/
def rowOf (t : Fin cfg0.N) (r : Fin 512) : Fin 8192 :=
  ⟨t.val * 512 + r, by have h := lt_of_lt_of_eq t.isLt N_0; omega⟩
theorem row_split (n : Fin 8192) : ∃ (t : Fin cfg0.N) (r : Fin 512), n = rowOf t r :=
  ⟨⟨n.val / 512, lt_of_lt_of_eq (by omega : n.val / 512 < 16) N_0.symm⟩, ⟨n.val % 512, Nat.mod_lt _ (by decide)⟩,
    Fin.ext (by show n.val = n.val / 512 * 512 + n.val % 512; omega)⟩

/-- Where the blocks of the inputs and of the result lie. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) := by decide +kernel

theorem w_at (q k : Fin 1024) : (V m c main_v0 : FVec Ideal S1024x1024 .bf16) (ix2 q k) = aW m c (ix2 q k) := by
  simp only [V, hostOps0]
  entry_read
  pointwise

variable (t : Fin cfg0.N) (r : Fin 512) (k q : Fin 1024)

/-! The blocks the point reads. -/
abbrev bX : Vec Ideal S512x1024 .f32 := iblk m c 0 t
abbrev bW : Vec Ideal S1024x1024 .bf16 := iblk m c 1 t

theorem bX_at : bX m c t (ix2 r k) = aX m c (ix2 (rowOf t r) k) := by
  unfold rowOf
  blk_ext! [bX, iblk, V, idx t]
theorem bW_at : bW m c t (ix2 q k) = aW m c (ix2 q k) := by
  rw [← w_at]
  blk_ext [bW, iblk, idx t]

/-- What the point leaves in its output. -/
theorem o_point : outsAt0 m c t (ix2 r q) = ∑ k : Fin 1024, aX m c (ix2 (rowOf t r) k) * aW m c (ix2 q k) := by
  unfold outsAt0
  frame_open
  simp (disch := decide) only [↓ View.readCov_skip, ↓ View.readCov_cons_toLoadRect, ↓ View.readCov_fill]
  frame_out
  refine (pay2_at r q _ _).trans (Finset.sum_congr rfl fun k _ => ?_)
  exact congrArg₂ (· * ·) ((pay1_at r k (bX m c t)).trans (bX_at m c t r k)) (bW_at m c t k q)

/-- The result array at a block's row. -/
theorem arr2 : ((dats m 0 c).arrAt 2 cfg0.N : FVec Ideal S8192x1024 .f32) (ix2 (rowOf t r) q)
    = ∑ k : Fin 1024, aX m c (ix2 (rowOf t r) k) * aW m c (ix2 q k) :=
  ((congrArg ((dats m 0 c).arrAt 2 cfg0.N : FVec Ideal S8192x1024 .f32)
      (ix2_of (starts _ _ (idx t).2.2.1) (starts_zero _ (idx t).2.2.2))).trans
    (congrFun ((blocks2 m c t (flush0_2 t)).trans (flushed2 m c t)) (ix2 r q))).trans (o_point m c t r q)

/-- The result array. -/
def out0 : FVec Ideal S8192x1024 .f32 := (dats m 0 c).arrAt 2 cfg0.N
end

theorem whole0 (m : (ℓ : Loc nD τ sig) → Buf (Elt Ideal) ℓ) (c : Dev nD) : out0 m c = ProjBack.prodV (aX m c) (aW m c) := ext2 fun n q => by
  obtain ⟨t, r, rfl⟩ := row_split n
  exact (arr2 m c t r q).trans (ProjBack.prod_at (aX m c) (aW m c) (rowOf t r) q).symm

/-- The two programs agree. -/
theorem algebraic : Cert.algebraic_Kernel14Ideal_Reference14Ideal := by
  intro m g m' g' _ ha
  refine ⟨fun c => out0 m c, run_blocks m g, ?_⟩
  refine θ_run_mono (Cert.Reference14Ideal.Value.run m' g') fun r hr c => ?_
  obtain ⟨r0, kept⟩ := hr c
  rw [(ha c).1, (ha c).2] at r0
  exact ⟨r0.trans (whole0 m c).symm, kept⟩

end ProjBack32

end
-- ==== Proof.ProjBwdMix.lean ====
module

public import proofs.«01_k».proof.Defs
public import proofs.«01_k».proof.Proof.Gen.Kernel15Ideal.Value
public import proofs.«01_k».proof.Proof.Gen.Reference15Ideal.Run
public import proofs.«01_k».proof.Proof.ProjBwd

/-!
The backward call of the projection that feeds the gated mixers: the same call as in `ProjBwd`, with two parts of the projection instead of three.
-/

@[expose] public section

set_option maxRecDepth 16384

noncomputable section

namespace ProjBwdMix

open Idealize.ShloMosaic Idealize.SL.Sem MixRows Cert.Kernel15Ideal Cert.Kernel15Ideal.Gen Cert.Kernel15Ideal.Value
open FfnBwd (rmsBwd rr starts starts_zero ix2_of)
open ProjBwd (row rowA)

section
variable (r : Fin 512) (k : Fin 1024)

/-! The values a point computes from its blocks, at an index. -/
theorem pay3_at : k0_pay3 (F := Ideal) (ix2 0 k) = 0 := by
  pointwise [k0_pay3]
theorem pay4_at (p q : Vec Ideal S512x1024 .bf16) (u v : Vec Ideal S1024x1024 .bf16) :
    k0_pay4 (F := Ideal) p u q v (ix2 r k) = ∑ j : Fin 1024, p (ix2 r j) * u (ix2 j k) + ∑ j : Fin 1024, q (ix2 r j) * v (ix2 j k) := by
  pointwise [k0_pay4]
theorem pay5_at (x : Vec Ideal S512x1024 .f32) : k0_pay5 (F := Ideal) x (ix2 r 0) = rr (row x r) := ProjBwd.pay5_at r x
theorem gx_pay (p q : Vec Ideal S512x1024 .bf16) (u v : Vec Ideal S1024x1024 .bf16) (x o : Vec Ideal S512x1024 .f32) (g : Vec Ideal S1x1024 .f32) :
    k0_pay1 (F := Ideal) (k0_pay6 p u q v x g) (k0_pay7 x) o (ix2 r k)
      = o (ix2 r k) + rmsBwd (row x r) (fun j => k0_pay4 (F := Ideal) p u q v (ix2 r j) * g (ix2 0 j)) k := by
  pointwise [k0_pay1, k0_pay6, k0_pay7, pay5_at]
  try rfl
theorem dg_pay (d : FVec Ideal S512x1024 .f32) (x : Vec Ideal S512x1024 .f32) (z : Vec Ideal S1x1024 .f32) :
    k0_pay2 (F := Ideal) d x (k0_pay5 x) z (ix2 0 k) = z (ix2 0 k) + ∑ r : Fin 512, d (ix2 r k) * x (ix2 r k) * rr (row x r) :=
  ProjBwd.dg_pay k d x z
end

/-- Column `o + j` of the weight: where a part of the projection starts, and how far into it. -/
def col (o : ℕ) (ho : o + 1024 ≤ 2048) (j : Fin 1024) : Fin 2048 := ⟨o + j.val, by omega⟩

/-- The gradient at a normed row, from the gradients at the two parts of the projection. -/
def dhRow (p q : Fin 1024 → EReal) (w : Fin 1024 → Fin 2048 → EReal) (k : Fin 1024) : EReal :=
  ∑ j, p j * w k (col 0 (by decide) j) + ∑ j, q j * w k (col 1024 (by decide) j)

section
variable (m : (ℓ : Loc nD τ sig) → Buf (Elt Ideal) ℓ) (c : Dev nD)

/-! The arguments: the gradients at the two parts, the weight, the layer's input, the gain, and the gradient that the rest of the layer gives. -/
abbrev aP : FVec Ideal S8192x1024 .bf16 := m ((c.tc : Thread nD τ).loc main_arg0)
abbrev aQ : FVec Ideal S8192x1024 .bf16 := m ((c.tc : Thread nD τ).loc main_arg1)
abbrev aW : FVec Ideal S1024x2048 .f32 := m ((c.tc : Thread nD τ).loc main_arg2)
abbrev aX : FVec Ideal S8192x1024 .f32 := m ((c.tc : Thread nD τ).loc main_arg3)
abbrev aG : FVec Ideal S1024 .f32 := m ((c.tc : Thread nD τ).loc main_arg4)
abbrev aR : FVec Ideal S8192x1024 .f32 := m ((c.tc : Thread nD τ).loc main_arg5)

/-- Row `r` of point `t`'s block is row `512 t + r` of the array. -/
def rowOf (t : Fin cfg0.N) (r : Fin 512) : Fin 8192 :=
  ⟨t.val * 512 + r, by have h := lt_of_lt_of_eq t.isLt N_0; omega⟩

/-- Where the blocks of the inputs and of the results lie. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) := by decide +kernel
theorem idxOut : ∀ t : Fin cfg0.N,
    (win0_6.index t (0 : Fin 2) = t.val ∧ win0_6.index t (1 : Fin 2) = 0)
    ∧ (win0_7.index t (0 : Fin 2) = 0 ∧ win0_7.index t (1 : Fin 2) = 0) := by decide +kernel

theorem w_at (j : Fin 2048) (k : Fin 1024) : (V m c main_v1 : FVec Ideal S2048x1024 .bf16) (ix2 j k) = aW m c (ix2 k j) := by
  simp only [V, hostOps0]
  entry_read
  pointwise
theorem gain_at (k : Fin 1024) : (V m c main_v2 : FVec Ideal S1x1024 .f32) (ix2 0 k) = aG m c (ix1 k) := by
  simp only [V, hostOps0]
  entry_read
  pointwise

variable (t : Fin cfg0.N)

/-! The blocks the point reads. -/
abbrev bP : Vec Ideal S512x1024 .bf16 := iblk m c 0 t
abbrev bQ : Vec Ideal S512x1024 .bf16 := iblk m c 1 t
abbrev bW : Vec Ideal S2048x1024 .bf16 := iblk m c 2 t
abbrev bX : Vec Ideal S512x1024 .f32 := iblk m c 3 t
abbrev bG : Vec Ideal S1x1024 .f32 := iblk m c 4 t
abbrev bR : Vec Ideal S512x1024 .f32 := iblk m c 5 t

variable (r : Fin 512) (k : Fin 1024)

theorem bP_at : bP m c t (ix2 r k) = aP m c (ix2 (rowOf t r) k) := by
  unfold rowOf
  blk_ext! [bP, iblk, V, idx t]
theorem bQ_at : bQ m c t (ix2 r k) = aQ m c (ix2 (rowOf t r) k) := by
  unfold rowOf
  blk_ext! [bQ, iblk, V, idx t]
theorem bX_at : bX m c t (ix2 r k) = aX m c (ix2 (rowOf t r) k) := by
  unfold rowOf
  blk_ext! [bX, iblk, V, idx t]
theorem bR_at : bR m c t (ix2 r k) = aR m c (ix2 (rowOf t r) k) := by
  unfold rowOf
  blk_ext! [bR, iblk, V, idx t]
theorem bG_at : bG m c t (ix2 0 k) = aG m c (ix1 k) := by
  rw [← gain_at]
  blk_ext [bG, iblk, idx t]
theorem bW_at (j : Fin 2048) : bW m c t (ix2 j k) = aW m c (ix2 k j) := by
  rw [← w_at]
  blk_ext [bW, iblk, idx t]

/-- The rows of the weight that a part reads. -/
abbrev wPart (o : ℕ) (inb : ∀ a, (![o, 0] : Fin 2 → ℕ) a + (![1024, 1024] : Fin 2 → ℕ) a ≤ S2048x1024.size a) : Vec Ideal S1024x1024 .bf16 := View.ld (bW m c t) (Rect.unit (s := S2048x1024) ![o, 0] ![1024, 1024] inb)
theorem wPart_at (o : ℕ) (inb) (ho : o + 1024 ≤ 2048) (j : Fin 1024) : wPart m c t o inb (ix2 j k) = aW m c (ix2 k (col o ho j)) := by
  refine (ld2_at (bW m c t) o 0 1024 1024 inb j k (by omega) (by omega)).trans ?_
  refine (congrArg (fun i => bW m c t (ix2 _ i)) (Fin.ext (Nat.zero_add _))).trans ?_
  exact bW_at m c t k (col o ho j)

/-- The gradient at the normed rows, as a point computes it. -/
abbrev dhB : FVec Ideal S512x1024 .f32 :=
  k0_pay4 (bP m c t) (wPart m c t 0 inb_S2048x1024_S1024x1024_0_0) (bQ m c t) (wPart m c t 1024 inb_S2048x1024_S1024x1024_1024_0)

abbrev wA (k : Fin 1024) (j : Fin 2048) : EReal := aW m c (ix2 k j)
abbrev gA (k : Fin 1024) : EReal := aG m c (ix1 k)
abbrev dhA (n : Fin 8192) : Fin 1024 → EReal := dhRow (rowA (aP m c) n) (rowA (aQ m c) n) (wA m c)

theorem dhB_at : dhB m c t (ix2 r k) = dhA m c (rowOf t r) k := by
  refine (pay4_at r k _ _ _ _).trans ?_
  exact congrArg₂ (· + ·)
    (Finset.sum_congr rfl fun j _ => congrArg₂ (· * ·) (bP_at m c t r j) (wPart_at m c t k 0 _ _ j))
    (Finset.sum_congr rfl fun j _ => congrArg₂ (· * ·) (bQ_at m c t r j) (wPart_at m c t k 1024 _ _ j))
theorem x_row : row (bX m c t) r = rowA (aX m c) (rowOf t r) := funext fun k => bX_at m c t r k

/-! What a point leaves in the results' blocks. -/
theorem gx_point : (outsAt0 m c t.val t.isLt).1 (ix2 r k)
    = bR m c t (ix2 r k) + rmsBwd (row (bX m c t) r) (fun j => dhB m c t (ix2 r j) * bG m c t (ix2 0 j)) k := by
  by_cases h : t.val % 16 = 0
  · rw [outsAt0_A m c t h]
    dsimp only
    frame_open
    simp (disch := decide) only [↓ View.readCov_skip, ↓ View.readCov_cons_toLoadRect, ↓ View.readCov_fill]
    frame_out
    exact gx_pay r k _ _ _ _ _ _ _
  · rw [outsAt0_B m c t h]
    dsimp only
    frame_open
    simp (disch := decide) only [↓ View.readCov_skip, ↓ View.readCov_cons_toLoadRect, ↓ View.readCov_fill]
    frame_out
    exact gx_pay r k _ _ _ _ _ _ _

/-- A point's part of the gain's gradient. -/
def dgB : EReal := ∑ r : Fin 512, dhB m c t (ix2 r k) * bX m c t (ix2 r k) * rr (row (bX m c t) r)

/-- The first point starts the gain's gradient from zero; a later one adds to what the point before left. -/
theorem dg_first (h : t.val % 16 = 0) : (outsAt0 m c t.val t.isLt).2 (ix2 0 k) = dgB m c t k := by
  rw [outsAt0_A m c t h]
  dsimp only
  frame_open
  simp (disch := decide) only [↓ View.readCov_skip, ↓ View.readCov_cons_toLoadRect, ↓ View.readCov_fill]
  frame_out
  refine (dg_pay k (dhB m c t) (bX m c t) _).trans ?_
  rw [pay3_at, zero_add]
  rfl
theorem dg_next (h : ¬t.val % 16 = 0) : (outsAt0 m c t.val t.isLt).2 (ix2 0 k)
    = (outsAt0 m c (t.val - 1) (Nat.lt_of_le_of_lt (Nat.sub_le _ _) t.isLt)).2 (ix2 0 k) + dgB m c t k := by
  rw [outsAt0_B m c t h]
  dsimp only
  frame_open
  simp (disch := decide) only [↓ View.readCov_skip, ↓ View.readCov_cons_toLoadRect, ↓ View.readCov_fill]
  frame_out
  exact dg_pay k (dhB m c t) (bX m c t) _

/-- After a point, the gain's gradient is the sum of the parts so far. -/
theorem dg_sum : ∀ (n : ℕ) (hn : n < cfg0.N), (outsAt0 m c n hn).2 (ix2 0 k)
    = ∑ p : Fin (n + 1), dgB m c ⟨p.val, lt_of_le_of_lt (Nat.le_of_lt_succ p.isLt) hn⟩ k
  | 0, hn => by
    rw [Fin.sum_univ_one]
    exact dg_first m c ⟨0, hn⟩ k rfl
  | n + 1, hn => by
    have hN : n + 1 < 16 := lt_of_lt_of_eq hn N_0
    refine (dg_next m c ⟨n + 1, hn⟩ k (by show ¬(n + 1) % 16 = 0; omega)).trans ?_
    rw [Fin.sum_univ_castSucc]
    exact congrArg (· + dgB m c ⟨n + 1, hn⟩ k) (dg_sum n (Nat.lt_of_succ_lt hn))

/-- The gradient at the layer's input, and a row's part of the gain's gradient, over the arguments. -/
abbrev gxA (n : Fin 8192) (k : Fin 1024) : EReal := aR m c (ix2 n k) + rmsBwd (rowA (aX m c) n) (fun j => dhA m c n j * gA m c j) k
abbrev dgA (n : Fin 8192) (k : Fin 1024) : EReal := dhA m c n k * aX m c (ix2 n k) * rr (rowA (aX m c) n)

theorem gx_row : (outsAt0 m c t.val t.isLt).1 (ix2 r k) = gxA m c (rowOf t r) k := by
  rw [gx_point, x_row, bR_at]
  exact congrArg (fun u => aR m c (ix2 (rowOf t r) k) + rmsBwd (rowA (aX m c) (rowOf t r)) u k) (funext fun j => by rw [dhB_at, bG_at])
theorem dg_part : dgB m c t k = ∑ r : Fin 512, dgA m c (rowOf t r) k :=
  Finset.sum_congr rfl fun r _ => by rw [dhB_at, x_row, bX_at]

/-! The result arrays. -/
theorem arr6 : ((dats m 0 c).arrAt 6 cfg0.N : FVec Ideal S8192x1024 .f32) (ix2 (rowOf t r) k) = gxA m c (rowOf t r) k :=
  ((congrArg ((dats m 0 c).arrAt 6 cfg0.N : FVec Ideal S8192x1024 .f32)
      (ix2_of (starts _ _ (idxOut t).1.1) (starts_zero _ (idxOut t).1.2))).trans
    (congrFun ((blocks6 m c t (flush0_6 t)).trans (flushed6 m c t)) (ix2 r k))).trans (gx_row m c t r k)

/-- The rows of all the blocks are the rows of the array. -/
theorem rows_sum (F : Fin 8192 → EReal) :
    ∑ t : Fin 16, ∑ r : Fin 512, F (rowOf ⟨t.val, lt_of_lt_of_eq t.isLt N_0.symm⟩ r) = ∑ n : Fin 8192, F n := by
  refine (Fintype.sum_prod_type' fun (t : Fin 16) (r : Fin 512) => F (rowOf ⟨t.val, lt_of_lt_of_eq t.isLt N_0.symm⟩ r)).symm.trans ?_
  refine Fintype.sum_equiv (finProdFinEquiv (m := 16) (n := 512)) _ _ fun p => congrArg F (Fin.ext ?_)
  rw [rowOf, finProdFinEquiv_apply_val]
  ring

/-- The gain's gradient is written back once, after the last point. -/
theorem last_flush {t : Fin cfg0.N} (h : (cfg0.win 7).flush t = true) : t.val = 15 := by
  have h1 := (flush0_7 t).mp h
  have h2 := lt_of_lt_of_eq t.isLt N_0
  omega
theorem block7 (t : Fin cfg0.N) (h : (cfg0.win 7).flush t = true) :
    ((cfg0.win 7).blk t).view.read (Elt Ideal) ((dats m 0 c).arrAt 7 cfg0.N) = (cfg0.win 7).cut (grid0.coords t) (outsAt0 m c t.val t.isLt).2 :=
  ((dats m 0 c).read_blk_arrAt_eq_flushed 7
    (fun _ _ h h' hne => absurd (Fin.ext ((last_flush h).trans (last_flush h').symm)) hne) cfg0.N t t.isLt h).trans (flushed7 m c t)

/-- So it is the sum over all the rows. -/
theorem arr7 (k : Fin 1024) : ((dats m 0 c).arrAt 7 cfg0.N : FVec Ideal S1x1024 .f32) (ix2 0 k) = ∑ n : Fin 8192, dgA m c n k := by
  have hl : 15 < cfg0.N := lt_of_lt_of_eq (by decide) N_0.symm
  refine ((congrArg ((dats m 0 c).arrAt 7 cfg0.N : FVec Ideal S1x1024 .f32)
      (ix2_of (starts_zero (s := 1) _ (idxOut ⟨15, hl⟩).2.1) (starts_zero (s := 1024) _ (idxOut ⟨15, hl⟩).2.2))).trans
    (congrFun (block7 m c ⟨15, hl⟩ ((flush0_7 ⟨15, hl⟩).mpr rfl)) (ix2 0 k))).trans ?_
  refine (dg_sum m c k 15 hl).trans ?_
  exact (Finset.sum_congr rfl fun p _ => dg_part m c ⟨p.val, _⟩ k).trans (rows_sum fun n => dgA m c n k)

/-- Every row is a row of a block. -/
theorem row_split (n : Fin 8192) : ∃ t r, n = rowOf t r :=
  ⟨⟨n / 512, lt_of_lt_of_eq (by omega) N_0.symm⟩, ⟨n % 512, by omega⟩, Fin.ext (by simp only [rowOf]; omega)⟩
end

/-! The reference's gradient at the normed rows: one product with the two gradients side by side. -/
section
variable (p q : FVec Ideal Cert.Reference15Ideal.S8192x1024 .bf16) (w : FVec Ideal Cert.Reference15Ideal.S1024x2048 .f32)

def dhV : FVec Ideal Cert.Reference15Ideal.S8192x1024 .f32 :=
  Host.dotGeneral Cert.Reference15Ideal.dot_S8192x2048_S1024x2048_S8192x1024_1_1_0_0_n_n none
    (concatenate Cert.Reference15Ideal.S8192x2048 1
      [⟨Cert.Reference15Ideal.S8192x1024, extf .f32 p Cert.Reference15Ideal.Gen.bitsLt_bf16_f32⟩,
        ⟨Cert.Reference15Ideal.S8192x1024, extf .f32 q Cert.Reference15Ideal.Gen.bitsLt_bf16_f32⟩]
      Cert.Reference15Ideal.Gen.concatenates_S8192x1024_S8192x1024_S8192x2048_d1) w
theorem dhV_at (n : Fin 8192) (k : Fin 1024) :
    dhV p q w (ix2 n k) = dhRow (rowA p n) (rowA q n) (fun k j => w (ix2 k j)) k := by
  pointwise [dhV]
  refine congrArg (fun a : EReal => a + _) (Finset.sum_congr rfl fun j _ => ?_)
  exact congrArg (fun i => p (ix2 n j) * w (ix2 k i)) (Fin.ext (Nat.zero_add _).symm)
end

section
variable (m : (ℓ : Loc nD τ sig) → Buf (Elt Ideal) ℓ) (c : Dev nD)
/-! The two result arrays, and the reference's gradient over the same arguments. -/
def out0 : FVec Ideal S8192x1024 .f32 := (dats m 0 c).arrAt 6 cfg0.N
def out1 : FVec Ideal S1x1024 .f32 := (dats m 0 c).arrAt 7 cfg0.N
abbrev dhW : FfnBwd.Ref.Wide := dhV (aP m c) (aQ m c) (aW m c)

theorem dhW_at (n : Fin 8192) (k : Fin 1024) : dhW m c (ix2 n k) = dhA m c n k := dhV_at _ _ _ n k

theorem whole1 : out1 m c = FfnBwd.Ref.dgOf (aX m c) (dhW m c) := ext2 fun z k => by
  obtain rfl : z = 0 := Subsingleton.elim _ _
  refine (arr7 m c k).trans (Eq.trans ?_ (FfnBwd.Ref.dg_of (aX m c) k (dhW m c)).symm)
  change @Eq EReal _ _
  exact Finset.sum_congr rfl fun n _ => by
    rw [dhW_at]
    exact (mul_assoc _ _ _).trans (mul_comm _ _)

theorem whole0 : out0 m c = FfnBwd.Ref.gxOf (aX m c) (aR m c) (mulf (dhW m c) (FfnBwd.Ref.gainV (aG m c))) := ext2 fun n k => by
  obtain ⟨t, r, rfl⟩ := row_split n
  refine (arr6 m c t r k).trans (Eq.trans ?_
    (FfnBwd.Ref.gx_of (aX m c) (rowOf t r) k (aR m c) (mulf (dhW m c) (FfnBwd.Ref.gainV (aG m c)))).symm)
  have hu : (FfnBwd.Ref.rowW (mulf (dhW m c) (FfnBwd.Ref.gainV (aG m c))) (rowOf t r)) = fun j => dhA m c (rowOf t r) j * gA m c j :=
    funext fun j => congrArg₂ (· * ·) (dhW_at m c (rowOf t r) j) (FfnBwd.Ref.gain_at (aG m c) (rowOf t r) j)
  rw [hu]
  exact congrArg (aR m c (ix2 (rowOf t r) k) + ·) (FfnBwd.rmsBwd_eq _ _ k)
end

/-- The two programs agree on both results. -/
theorem algebraic : Cert.algebraic_Kernel15Ideal_Reference15Ideal := by
  intro m g m' g' _ ha
  refine ⟨fun c => out0 m c, fun c => out1 m c, run_blocks m g, ?_⟩
  refine θ_run_mono (Cert.Reference15Ideal.Value.run m' g') fun r hr c => ?_
  obtain ⟨r0, r1, kept⟩ := hr c
  obtain ⟨h0, h1, h2, h3, h4, h5⟩ := ha c
  unfold Cert.Reference15Ideal.Value.res_main_v43 at r0
  rw [h0, h1, h2, h3, h4, h5] at r0
  rw [h0, h1, h2, h3] at r1
  exact ⟨r0.trans (whole0 m c).symm, r1.trans (whole1 m c).symm, kept⟩

end ProjBwdMix

end
-- ==== Proof.Adam.lean ====
module

public import proofs.«01_k».proof.Proof.Gen.Kernel16Ideal.Value
public import proofs.«01_k».proof.Proof.Gen.Reference16Ideal.Run
public import proofs.«01_k».proof.Defs

/-!
The optimiser's step on the packed array of the small weights.  The call's blocks are pieces of the whole arrays, and each entry of a result is
one expression of the four arguments' entries at the same place, as in the reference.
-/

@[expose] public section

noncomputable section

namespace Adam

open Idealize.ShloMosaic Idealize.SL.Sem Cert.Kernel16Ideal Cert.Kernel16Ideal.Gen Cert.Kernel16Ideal.Value

section
variable (m : (ℓ : Loc nD τ sig) → Buf (Elt Ideal) ℓ) (c : Dev nD)

/-! The arguments: the weights, their gradients and the two moments. -/
abbrev aW : FVec Ideal S608x128 .f32 := m ((c.tc : Thread nD τ).loc main_arg0)
abbrev aG : FVec Ideal S608x128 .f32 := m ((c.tc : Thread nD τ).loc main_arg1)
abbrev aM : FVec Ideal S608x128 .f32 := m ((c.tc : Thread nD τ).loc main_arg2)
abbrev aV : FVec Ideal S608x128 .f32 := m ((c.tc : Thread nD τ).loc main_arg3)
end

/-- The two programs agree on the step and on both moments. -/
theorem algebraic : Cert.algebraic_Kernel16Ideal_Reference16Ideal := by
  intro m g m' g' _ ha
  refine ⟨fun c => G4 (aW m c) (aG m c) (aM m c) (aV m c), fun c => G5 (aG m c) (aM m c), fun c => G6 (aG m c) (aV m c),
    Cert.Kernel16Ideal.Value.run m g, ?_⟩
  refine θ_run_mono (Cert.Reference16Ideal.Value.run m' g') fun r hr c => ?_
  obtain ⟨r0, r1, r2, kept⟩ := hr c
  obtain ⟨h0, h1, h2, h3⟩ := ha c
  rw [h0, h1, h2, h3] at r0
  rw [h1, h2] at r1
  rw [h1, h3] at r2
  exact ⟨r0.trans (funext fun _ => rfl), r1.trans (funext fun _ => rfl), r2.trans (funext fun _ => rfl), kept⟩

end Adam

end
-- ==== Proof.AdamParts.lean ====
module

public import proofs.«01_k».proof.Proof.Gen.Kernel17Ideal.Value
public import proofs.«01_k».proof.Proof.Gen.Reference17Ideal.Run
public import proofs.«01_k».proof.Proof.OutFfn
public import proofs.«01_k».proof.Proof.Whole
public import proofs.«01_k».proof.Proof.KerB

/-!
The optimiser's step on a feed-forward layer's weight.  A point of the grid adds up the eight devices' parts of its rows of one layer's gradient,
writes the sum, reads it back and makes the step with it; the reference stacks the two layers' sums.
-/

@[expose] public section

set_option maxRecDepth 16384

noncomputable section

namespace AdamParts

open Idealize.ShloMosaic MixRows Cert.Reference17Ideal Cert.Reference17Ideal.Gen

/-! The two moments and the step, of a weight `w`, its gradient `g` and the moments `m` and `v`. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-! The reference's arrays. -/
section
variable (p q : FVec Ideal S8x352x1024 .f32) (w g x : FVec Ideal S2x352x1024 .f32)

/-- The two layers' sums, stacked. -/
def gV : FVec Ideal S2x352x1024 .f32 :=
  concatenate S2x352x1024 0
    [⟨S1x352x1024, (broadcastInDim S1x352x1024 ![1, 2] bcast_S352x1024_S1x352x1024_1_2
        (Host.reduceAdd p (constant S_ .f32 0x00000000#32) reducesTo_S8x352x1024_S352x1024_d0 h_S_))⟩,
     ⟨S1x352x1024, (broadcastInDim S1x352x1024 ![1, 2] bcast_S352x1024_S1x352x1024_1_2
        (Host.reduceAdd q (constant S_ .f32 0x00000000#32) reducesTo_S8x352x1024_S352x1024_d0 h_S_))⟩]
    concatenates_S1x352x1024_S1x352x1024_S2x352x1024_d0
/-- The first moment after the step, from the sum `g` and the moment `x` before it; the second; and the step. -/
def mV : FVec Ideal S2x352x1024 .f32 :=
  addf (mulf (broadcastInDim S2x352x1024 ![] bcast_S_S2x352x1024 (constant S_ .f32 0x3F666666#32)) x)
    (mulf (broadcastInDim S2x352x1024 ![] bcast_S_S2x352x1024 (constant S_ .f32 0x3DCCCCCD#32)) g)
def vV : FVec Ideal S2x352x1024 .f32 :=
  addf (mulf (broadcastInDim S2x352x1024 ![] bcast_S_S2x352x1024 (constant S_ .f32 0x3F7FBE77#32)) x)
    (mulf (broadcastInDim S2x352x1024 ![] bcast_S_S2x352x1024 (constant S_ .f32 0x3A83126F#32)) (mulf g g))
def dV (y : FVec Ideal S2x352x1024 .f32) : FVec Ideal S2x352x1024 .f32 :=
  mulf (broadcastInDim S2x352x1024 ![] bcast_S_S2x352x1024 (constant S_ .f32 0xBA83126F#32))
    (addf (Host.divf (Host.divf (mV g x) (broadcastInDim S2x352x1024 ![] bcast_S_S2x352x1024 (constant S_ .f32 0x3F26BD02#32)))
        (addf (Host.sqrt (Host.divf (vV g y) (broadcastInDim S2x352x1024 ![] bcast_S_S2x352x1024 (constant S_ .f32 0x3C231ACC#32))))
          (broadcastInDim S2x352x1024 ![] bcast_S_S2x352x1024 (constant S_ .f32 0x322BCC77#32))))
      (mulf (broadcastInDim S2x352x1024 ![] bcast_S_S2x352x1024 (constant S_ .f32 0x3C23D70A#32)) w))

theorem gV_0 (n : Fin 352) (k : Fin 1024) : gV p q (ix3 0 n k) = ∑ s : Fin 8, p (ix3 s n k) := by
  pointwise [gV]
theorem gV_1 (n : Fin 352) (k : Fin 1024) : gV p q (ix3 1 n k) = ∑ s : Fin 8, q (ix3 s n k) := by
  pointwise [gV]
variable (l : Fin 2) (n : Fin 352) (k : Fin 1024)
theorem mV_at : mV g x (ix3 l n k) = newM (g (ix3 l n k)) (x (ix3 l n k)) := rfl
theorem vV_at : vV g x (ix3 l n k) = newV (g (ix3 l n k)) (x (ix3 l n k)) := rfl
theorem dV_at (y : FVec Ideal S2x352x1024 .f32) :
    dV w g x y (ix3 l n k) = delta (w (ix3 l n k)) (g (ix3 l n k)) (x (ix3 l n k)) (y (ix3 l n k)) := rfl
end

end AdamParts

namespace AdamParts

open Idealize.ShloMosaic Idealize.SL.Sem MixRows Cert.Kernel17Ideal Cert.Kernel17Ideal.Gen Cert.Kernel17Ideal.Value
open FfnBwd (starts starts_zero)

section
variable (r : Fin 176) (k : Fin 1024)

/-! The values a point computes from what it reads, at an index. -/
theorem sum_at (x0 x1 x2 x3 x4 x5 x6 x7 : Vec Ideal S1x176x1024 .f32) :
    k0_pay4 (F := Ideal) x0 x1 x2 x3 x4 x5 x6 x7 (ix3 0 r k) = x0 (ix3 0 r k) + x1 (ix3 0 r k) + x2 (ix3 0 r k) + x3 (ix3 0 r k)
      + x4 (ix3 0 r k) + x5 (ix3 0 r k) + x6 (ix3 0 r k) + x7 (ix3 0 r k) := by
  pointwise [k0_pay4]
theorem sum_at' (x0 x1 x2 x3 x4 x5 x6 x7 : Vec Ideal S1x176x1024 .f32) :
    k0_pay5 (F := Ideal) x0 x1 x2 x3 x4 x5 x6 x7 (ix3 0 r k) = x0 (ix3 0 r k) + x1 (ix3 0 r k) + x2 (ix3 0 r k) + x3 (ix3 0 r k)
      + x4 (ix3 0 r k) + x5 (ix3 0 r k) + x6 (ix3 0 r k) + x7 (ix3 0 r k) := by
  pointwise [k0_pay5]
theorem newM_at (g m : Vec Ideal S1x176x1024 .f32) :
    k0_pay2 (k0_pay8 (F := Ideal) g m) (ix3 0 r k) = newM (g (ix3 0 r k)) (m (ix3 0 r k)) := by
  pointwise [k0_pay2, k0_pay8, k0_pay7]
  rfl
theorem newV_at (g v : Vec Ideal S1x176x1024 .f32) :
    k0_pay3 (k0_pay9 (F := Ideal) g v) (ix3 0 r k) = newV (g (ix3 0 r k)) (v (ix3 0 r k)) := by
  pointwise [k0_pay3, k0_pay9, k0_pay7]
  rfl
theorem delta_at (w g m v : Vec Ideal S1x176x1024 .f32) :
    k0_pay1 (k0_pay6 (F := Ideal) w) (k0_pay10 g m v) (ix3 0 r k)
      = delta (w (ix3 0 r k)) (g (ix3 0 r k)) (m (ix3 0 r k)) (v (ix3 0 r k)) := by
  pointwise [k0_pay1, k0_pay6, k0_pay10, k0_pay8, k0_pay9, k0_pay7]
  rfl

/-- The sum of a point's rows over the devices, as the body takes it: eight slices added up one after the other. -/
theorem slices (X : Vec Ideal S8x176x1024 .f32) :
    k0_pay4 (F := Ideal)
      (View.ld X (Rect.unit ![0, 0, 0] ![1, 176, 1024] inb_S8x176x1024_S1x176x1024_0_0_0))
      (View.ld X (Rect.unit ![1, 0, 0] ![1, 176, 1024] inb_S8x176x1024_S1x176x1024_1_0_0))
      (View.ld X (Rect.unit ![2, 0, 0] ![1, 176, 1024] inb_S8x176x1024_S1x176x1024_2_0_0))
      (View.ld X (Rect.unit ![3, 0, 0] ![1, 176, 1024] inb_S8x176x1024_S1x176x1024_3_0_0))
      (View.ld X (Rect.unit ![4, 0, 0] ![1, 176, 1024] inb_S8x176x1024_S1x176x1024_4_0_0))
      (View.ld X (Rect.unit ![5, 0, 0] ![1, 176, 1024] inb_S8x176x1024_S1x176x1024_5_0_0))
      (View.ld X (Rect.unit ![6, 0, 0] ![1, 176, 1024] inb_S8x176x1024_S1x176x1024_6_0_0))
      (View.ld X (Rect.unit ![7, 0, 0] ![1, 176, 1024] inb_S8x176x1024_S1x176x1024_7_0_0)) (ix3 0 r k) = ∑ s : Fin 8, X (ix3 s r k) := by
  have e (j : ℕ) (hj : j < 8) (inb) :
      View.ld X (Rect.unit (s := S8x176x1024) ![j, 0, 0] ![1, 176, 1024] inb) (ix3 0 r k) = X (ix3 ⟨j, hj⟩ r k) :=
    (ld3_at X j 0 0 1 176 1024 inb 0 r k hj (by omega) (by omega)).trans
      (congrArg X (by simp only [Nat.zero_add, Fin.val_zero, Nat.add_zero, Fin.eta]))
  rw [sum_at, Fin.sum_univ_eight, e 0 (by decide), e 1 (by decide), e 2 (by decide), e 3 (by decide), e 4 (by decide), e 5 (by decide),
    e 6 (by decide), e 7 (by decide)]
  rfl
theorem slices' (X : Vec Ideal S8x176x1024 .f32) :
    k0_pay5 (F := Ideal)
      (View.ld X (Rect.unit ![0, 0, 0] ![1, 176, 1024] inb_S8x176x1024_S1x176x1024_0_0_0))
      (View.ld X (Rect.unit ![1, 0, 0] ![1, 176, 1024] inb_S8x176x1024_S1x176x1024_1_0_0))
      (View.ld X (Rect.unit ![2, 0, 0] ![1, 176, 1024] inb_S8x176x1024_S1x176x1024_2_0_0))
      (View.ld X (Rect.unit ![3, 0, 0] ![1, 176, 1024] inb_S8x176x1024_S1x176x1024_3_0_0))
      (View.ld X (Rect.unit ![4, 0, 0] ![1, 176, 1024] inb_S8x176x1024_S1x176x1024_4_0_0))
      (View.ld X (Rect.unit ![5, 0, 0] ![1, 176, 1024] inb_S8x176x1024_S1x176x1024_5_0_0))
      (View.ld X (Rect.unit ![6, 0, 0] ![1, 176, 1024] inb_S8x176x1024_S1x176x1024_6_0_0))
      (View.ld X (Rect.unit ![7, 0, 0] ![1, 176, 1024] inb_S8x176x1024_S1x176x1024_7_0_0)) (ix3 0 r k) = ∑ s : Fin 8, X (ix3 s r k) :=
  ((sum_at' r k _ _ _ _ _ _ _ _).trans (sum_at r k _ _ _ _ _ _ _ _).symm).trans (slices r k X)
end

section
variable (m : (ℓ : Loc nD τ sig) → Buf (Elt Ideal) ℓ) (c : Dev nD)

/-! The arguments: the parts of both layers' gradients, the weight and the two moments. -/
abbrev aP : FVec Ideal S8x352x1024 .f32 := m ((c.tc : Thread nD τ).loc main_arg0)
abbrev aQ : FVec Ideal S8x352x1024 .f32 := m ((c.tc : Thread nD τ).loc main_arg1)
abbrev aW : FVec Ideal S2x352x1024 .f32 := m ((c.tc : Thread nD τ).loc main_arg2)
abbrev aM : FVec Ideal S2x352x1024 .f32 := m ((c.tc : Thread nD τ).loc main_arg3)
abbrev aV : FVec Ideal S2x352x1024 .f32 := m ((c.tc : Thread nD τ).loc main_arg4)

/-- The layer of a point, and the row of the array that row `r` of its block is. -/
def layerOf (t : Fin cfg0.N) : Fin 2 := ⟨t.val / 2, by have h := lt_of_lt_of_eq t.isLt N_0; omega⟩
def rowOf (t : Fin cfg0.N) (r : Fin 176) : Fin 352 := ⟨t.val % 2 * 176 + r, by omega⟩
theorem row_split (l : Fin 2) (n : Fin 352) : ∃ (t : Fin cfg0.N) (r : Fin 176), l = layerOf t ∧ n = rowOf t r :=
  ⟨⟨l.val * 2 + n.val / 176, lt_of_lt_of_eq (by omega : l.val * 2 + n.val / 176 < 4) N_0.symm⟩, ⟨n.val % 176, Nat.mod_lt _ (by decide)⟩,
    Fin.ext (by show l.val = (l.val * 2 + n.val / 176) / 2; omega),
    Fin.ext (by show n.val = (l.val * 2 + n.val / 176) % 2 * 176 + n.val % 176; omega)⟩

/-- Where the blocks of the inputs and of the results lie. -/
theorem idx : ∀ t : Fin cfg0.N,
    (win0_2.index t (0 : Fin 3) = t.val / 2 ∧ win0_2.index t (1 : Fin 3) = t.val % 2 ∧ win0_2.index t (2 : Fin 3) = 0)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = t.val % 2 ∧ win0_4.index t (2 : Fin 3) = 0) := by decide +kernel
theorem idxP : ∀ t : Fin cfg0.N, t.val < 2 →
    (win0_0.index t (0 : Fin 3) = 0 ∧ win0_0.index t (1 : Fin 3) = t.val % 2 ∧ win0_0.index t (2 : Fin 3) = 0) := by decide +kernel
theorem idxQ : ∀ t : Fin cfg0.N, 2 ≤ t.val →
    (win0_1.index t (0 : Fin 3) = 0 ∧ win0_1.index t (1 : Fin 3) = t.val % 2 ∧ win0_1.index t (2 : Fin 3) = 0) := by decide +kernel
theorem idxOut : ∀ t : Fin cfg0.N,
    (win0_5.index t (0 : Fin 3) = t.val / 2 ∧ win0_5.index t (1 : Fin 3) = t.val % 2 ∧ win0_5.index t (2 : Fin 3) = 0)
    ∧ (win0_6.index t (0 : Fin 3) = t.val / 2 ∧ win0_6.index t (1 : Fin 3) = t.val % 2 ∧ win0_6.index t (2 : Fin 3) = 0)
    ∧ (win0_7.index t (0 : Fin 3) = t.val / 2 ∧ win0_7.index t (1 : Fin 3) = t.val % 2 ∧ win0_7.index t (2 : Fin 3) = 0)
    ∧ (win0_8.index t (0 : Fin 3) = t.val / 2 ∧ win0_8.index t (1 : Fin 3) = t.val % 2 ∧ win0_8.index t (2 : Fin 3) = 0) := by decide +kernel

variable (t : Fin cfg0.N)

/-! The blocks the point reads. -/
abbrev bP : Vec Ideal S8x176x1024 .f32 := iblk m c 0 t
abbrev bQ : Vec Ideal S8x176x1024 .f32 := iblk m c 1 t
abbrev bW : Vec Ideal S1x176x1024 .f32 := iblk m c 2 t
abbrev bM : Vec Ideal S1x176x1024 .f32 := iblk m c 3 t
abbrev bV : Vec Ideal S1x176x1024 .f32 := iblk m c 4 t

variable (r : Fin 176) (k : Fin 1024) (s : Fin 8)

theorem bW_at : bW m c t (ix3 0 r k) = aW m c (ix3 (layerOf t) (rowOf t r) k) := by
  unfold rowOf layerOf
  blk_ext! [bW, iblk, V, idx t]
theorem bM_at : bM m c t (ix3 0 r k) = aM m c (ix3 (layerOf t) (rowOf t r) k) := by
  unfold rowOf layerOf
  blk_ext! [bM, iblk, V, idx t]
theorem bV_at : bV m c t (ix3 0 r k) = aV m c (ix3 (layerOf t) (rowOf t r) k) := by
  unfold rowOf layerOf
  blk_ext! [bV, iblk, V, idx t]
theorem bP_at (h : t.val < 2) : bP m c t (ix3 s r k) = aP m c (ix3 s (rowOf t r) k) := by
  unfold rowOf
  blk_ext! [bP, iblk, V, idxP t h]
theorem bQ_at (h : 2 ≤ t.val) : bQ m c t (ix3 s r k) = aQ m c (ix3 s (rowOf t r) k) := by
  unfold rowOf
  blk_ext! [bQ, iblk, V, idxQ t h]

/-- The sum of the devices' parts. -/
def gK (l : Fin 2) (n : Fin 352) (k : Fin 1024) : EReal :=
  if l.val = 0 then ∑ s : Fin 8, aP m c (ix3 s n k) else ∑ s : Fin 8, aQ m c (ix3 s n k)

theorem gK_A (h : t.val < 2) : gK m c (layerOf t) (rowOf t r) k = ∑ s : Fin 8, aP m c (ix3 s (rowOf t r) k) :=
  if_pos (Nat.div_eq_of_lt h)
theorem gK_B (h : ¬t.val < 2) : gK m c (layerOf t) (rowOf t r) k = ∑ s : Fin 8, aQ m c (ix3 s (rowOf t r) k) :=
  if_neg (by show ¬t.val / 2 = 0; omega)

/-! What the body computes from the blocks, in each of the two layers. -/
theorem sumA (h : t.val < 2) : ∑ s : Fin 8, bP m c t (ix3 s r k) = gK m c (layerOf t) (rowOf t r) k :=
  (Finset.sum_congr rfl fun s _ => bP_at m c t r k s h).trans (gK_A m c t r k h).symm
theorem sumB (h : ¬t.val < 2) : ∑ s : Fin 8, bQ m c t (ix3 s r k) = gK m c (layerOf t) (rowOf t r) k :=
  (Finset.sum_congr rfl fun s _ => bQ_at m c t r k s (not_lt.mp h)).trans (gK_B m c t r k h).symm

/-! What the point leaves in its four outputs. -/
theorem g_point : (outsAt0 m c t.val t.isLt).1 (ix3 0 r k) = gK m c (layerOf t) (rowOf t r) k := by
  by_cases h0 : t.val < 2
  · rw [outsAt0_A m c t h0 (not_le.mpr h0)]
    dsimp only
    frame_open
    frame_out
    exact (slices r k _).trans (sumA m c t r k h0)
  · rw [outsAt0_B m c t h0 (not_lt.mp h0)]
    dsimp only
    frame_open
    frame_out
    exact (slices' r k _).trans (sumB m c t r k h0)
theorem d_point : (outsAt0 m c t.val t.isLt).2.1 (ix3 0 r k)
    = delta (aW m c (ix3 (layerOf t) (rowOf t r) k)) (gK m c (layerOf t) (rowOf t r) k) (aM m c (ix3 (layerOf t) (rowOf t r) k))
      (aV m c (ix3 (layerOf t) (rowOf t r) k)) := by
  rw [← bW_at, ← bM_at, ← bV_at]
  by_cases h0 : t.val < 2
  · rw [outsAt0_A m c t h0 (not_le.mpr h0)]
    dsimp only
    frame_open
    simp (disch := decide) only [↓ View.readCov_skip, ↓ View.readCov_cons_toLoadRect, ↓ View.readCov_fill]
    frame_out
    exact (delta_at r k _ _ _ _).trans
      (congrArg (fun g => delta (bW m c t (ix3 0 r k)) g (bM m c t (ix3 0 r k)) (bV m c t (ix3 0 r k))) ((slices r k _).trans (sumA m c t r k h0)))
  · rw [outsAt0_B m c t h0 (not_lt.mp h0)]
    dsimp only
    frame_open
    simp (disch := decide) only [↓ View.readCov_skip, ↓ View.readCov_cons_toLoadRect, ↓ View.readCov_fill]
    frame_out
    exact (delta_at r k _ _ _ _).trans
      (congrArg (fun g => delta (bW m c t (ix3 0 r k)) g (bM m c t (ix3 0 r k)) (bV m c t (ix3 0 r k))) ((slices' r k _).trans (sumB m c t r k h0)))
theorem m_point : (outsAt0 m c t.val t.isLt).2.2.1 (ix3 0 r k)
    = newM (gK m c (layerOf t) (rowOf t r) k) (aM m c (ix3 (layerOf t) (rowOf t r) k)) := by
  rw [← bM_at]
  by_cases h0 : t.val < 2
  · rw [outsAt0_A m c t h0 (not_le.mpr h0)]
    dsimp only
    frame_open
    simp (disch := decide) only [↓ View.readCov_skip, ↓ View.readCov_cons_toLoadRect, ↓ View.readCov_fill]
    frame_out
    exact (newM_at r k _ _).trans (congrArg (fun g => newM g (bM m c t (ix3 0 r k))) ((slices r k _).trans (sumA m c t r k h0)))
  · rw [outsAt0_B m c t h0 (not_lt.mp h0)]
    dsimp only
    frame_open
    simp (disch := decide) only [↓ View.readCov_skip, ↓ View.readCov_cons_toLoadRect, ↓ View.readCov_fill]
    frame_out
    exact (newM_at r k _ _).trans (congrArg (fun g => newM g (bM m c t (ix3 0 r k))) ((slices' r k _).trans (sumB m c t r k h0)))
theorem v_point : (outsAt0 m c t.val t.isLt).2.2.2 (ix3 0 r k)
    = newV (gK m c (layerOf t) (rowOf t r) k) (aV m c (ix3 (layerOf t) (rowOf t r) k)) := by
  rw [← bV_at]
  by_cases h0 : t.val < 2
  · rw [outsAt0_A m c t h0 (not_le.mpr h0)]
    dsimp only
    frame_open
    simp (disch := decide) only [↓ View.readCov_skip, ↓ View.readCov_cons_toLoadRect, ↓ View.readCov_fill]
    frame_out
    exact (newV_at r k _ _).trans (congrArg (fun g => newV g (bV m c t (ix3 0 r k))) ((slices r k _).trans (sumA m c t r k h0)))
  · rw [outsAt0_B m c t h0 (not_lt.mp h0)]
    dsimp only
    frame_open
    simp (disch := decide) only [↓ View.readCov_skip, ↓ View.readCov_cons_toLoadRect, ↓ View.readCov_fill]
    frame_out
    exact (newV_at r k _ _).trans (congrArg (fun g => newV g (bV m c t (ix3 0 r k))) ((slices' r k _).trans (sumB m c t r k h0)))

/-- An index of an array of three axes, by its three numbers. -/
theorem ix3_of {A B C : ℕ} {i : Shape.Idx ⟨3, ![A, B, C]⟩} {a : Fin A} {b : Fin B} {d : Fin C} (h0 : (i 0).val = a.val)
    (h1 : (i 1).val = b.val) (h2 : (i 2).val = d.val) : ix3 a b d = i := by
  rw [eq_ix3 i, Fin.ext h0, Fin.ext h1, Fin.ext h2]
/-- The start of a block of one entry. -/
theorem starts_one {i v : ℕ} (h : i = v) : i * 1 + 1 * 0 = v := by rw [h]; omega

/-! The result arrays at a block's row. -/
theorem arr5 : ((dats m 0 c).arrAt 5 cfg0.N : FVec Ideal S2x352x1024 .f32) (ix3 (layerOf t) (rowOf t r) k)
    = gK m c (layerOf t) (rowOf t r) k :=
  ((congrArg ((dats m 0 c).arrAt 5 cfg0.N : FVec Ideal S2x352x1024 .f32)
      (ix3_of (starts_one (idxOut t).1.1) (starts _ _ (idxOut t).1.2.1) (starts_zero _ (idxOut t).1.2.2))).trans
    (congrFun ((blocks5 m c t (flush0_5 t)).trans (flushed5 m c t)) (ix3 0 r k))).trans (g_point m c t r k)
theorem arr6 : ((dats m 0 c).arrAt 6 cfg0.N : FVec Ideal S2x352x1024 .f32) (ix3 (layerOf t) (rowOf t r) k)
    = delta (aW m c (ix3 (layerOf t) (rowOf t r) k)) (gK m c (layerOf t) (rowOf t r) k)
      (aM m c (ix3 (layerOf t) (rowOf t r) k)) (aV m c (ix3 (layerOf t) (rowOf t r) k)) :=
  ((congrArg ((dats m 0 c).arrAt 6 cfg0.N : FVec Ideal S2x352x1024 .f32)
      (ix3_of (starts_one (idxOut t).2.1.1) (starts _ _ (idxOut t).2.1.2.1) (starts_zero _ (idxOut t).2.1.2.2))).trans
    (congrFun ((blocks6 m c t (flush0_6 t)).trans (flushed6 m c t)) (ix3 0 r k))).trans (d_point m c t r k)
theorem arr7 : ((dats m 0 c).arrAt 7 cfg0.N : FVec Ideal S2x352x1024 .f32) (ix3 (layerOf t) (rowOf t r) k)
    = newM (gK m c (layerOf t) (rowOf t r) k) (aM m c (ix3 (layerOf t) (rowOf t r) k)) :=
  ((congrArg ((dats m 0 c).arrAt 7 cfg0.N : FVec Ideal S2x352x1024 .f32)
      (ix3_of (starts_one (idxOut t).2.2.1.1) (starts _ _ (idxOut t).2.2.1.2.1) (starts_zero _ (idxOut t).2.2.1.2.2))).trans
    (congrFun ((blocks7 m c t (flush0_7 t)).trans (flushed7 m c t)) (ix3 0 r k))).trans (m_point m c t r k)
theorem arr8 : ((dats m 0 c).arrAt 8 cfg0.N : FVec Ideal S2x352x1024 .f32) (ix3 (layerOf t) (rowOf t r) k)
    = newV (gK m c (layerOf t) (rowOf t r) k) (aV m c (ix3 (layerOf t) (rowOf t r) k)) :=
  ((congrArg ((dats m 0 c).arrAt 8 cfg0.N : FVec Ideal S2x352x1024 .f32)
      (ix3_of (starts_one (idxOut t).2.2.2.1) (starts _ _ (idxOut t).2.2.2.2.1) (starts_zero _ (idxOut t).2.2.2.2.2))).trans
    (congrFun ((blocks8 m c t (flush0_8 t)).trans (flushed8 m c t)) (ix3 0 r k))).trans (v_point m c t r k)
end

section
variable (m : (ℓ : Loc nD τ sig) → Buf (Elt Ideal) ℓ) (c : Dev nD)

/-! The four result arrays. -/
def out0 : FVec Ideal S2x352x1024 .f32 := (dats m 0 c).arrAt 5 cfg0.N
def out1 : FVec Ideal S2x352x1024 .f32 := (dats m 0 c).arrAt 6 cfg0.N
def out2 : FVec Ideal S2x352x1024 .f32 := (dats m 0 c).arrAt 7 cfg0.N
def out3 : FVec Ideal S2x352x1024 .f32 := (dats m 0 c).arrAt 8 cfg0.N

theorem gV_at (l : Fin 2) (n : Fin 352) (k : Fin 1024) : gK m c l n k = gV (aP m c) (aQ m c) (ix3 l n k) := by
  match l with
  | 0 => exact (gV_0 (aP m c) (aQ m c) n k).symm
  | 1 => exact (gV_1 (aP m c) (aQ m c) n k).symm

theorem whole0 : out0 m c = gV (aP m c) (aQ m c) := ext3 fun l n k => by
  obtain ⟨t, r, rfl, rfl⟩ := row_split l n
  exact (arr5 m c t r k).trans (gV_at m c _ _ k)
theorem whole1 : out1 m c = dV (aW m c) (gV (aP m c) (aQ m c)) (aM m c) (aV m c) := ext3 fun l n k => by
  obtain ⟨t, r, rfl, rfl⟩ := row_split l n
  rw [dV_at, ← gV_at]
  exact arr6 m c t r k
theorem whole2 : out2 m c = mV (gV (aP m c) (aQ m c)) (aM m c) := ext3 fun l n k => by
  obtain ⟨t, r, rfl, rfl⟩ := row_split l n
  rw [mV_at, ← gV_at]
  exact arr7 m c t r k
theorem whole3 : out3 m c = vV (gV (aP m c) (aQ m c)) (aV m c) := ext3 fun l n k => by
  obtain ⟨t, r, rfl, rfl⟩ := row_split l n
  rw [vV_at, ← gV_at]
  exact arr8 m c t r k
end

/-- The two programs agree on all four results. -/
theorem algebraic : Cert.algebraic_Kernel17Ideal_Reference17Ideal := by
  intro m g m' g' _ ha
  refine ⟨fun c => out0 m c, fun c => out1 m c, fun c => out2 m c, fun c => out3 m c, run_blocks m g, ?_⟩
  refine θ_run_mono (Cert.Reference17Ideal.Value.run m' g') fun r hr c => ?_
  obtain ⟨r0, r1, r2, r3, kept⟩ := hr c
  obtain ⟨h0, h1, h2, h3, h4⟩ := ha c
  rw [h0, h1] at r0
  rw [h0, h1, h2, h3, h4] at r1
  rw [h0, h1, h3] at r2
  rw [h0, h1, h4] at r3
  exact ⟨r0.trans (whole0 m c).symm, r1.trans (whole1 m c).symm, r2.trans (whole2 m c).symm, r3.trans (whole3 m c).symm, kept⟩

end AdamParts

end
-- ==== Proof.AdamParts16.lean ====
module

public import proofs.«01_k».proof.Proof.Gen.Kernel18Ideal.Value
public import proofs.«01_k».proof.Proof.Gen.Reference18Ideal.Run
public import proofs.«01_k».proof.Proof.AdamParts

/-!
The optimiser's step on a feed-forward layer's weight, as in `AdamParts`, with the first layer's parts in bf16.
-/

@[expose] public section

set_option maxRecDepth 16384

noncomputable section

namespace AdamParts16

open Idealize.ShloMosaic MixRows Cert.Reference18Ideal Cert.Reference18Ideal.Gen

/-! The reference's arrays. -/
section
variable (p : FVec Ideal S8x352x1024 .bf16) (q : FVec Ideal S8x352x1024 .f32)

/-- The two layers' sums, stacked. -/
def gV : FVec Ideal S2x352x1024 .f32 :=
  concatenate S2x352x1024 0
    [⟨S1x352x1024, (broadcastInDim S1x352x1024 ![1, 2] bcast_S352x1024_S1x352x1024_1_2
        (Host.reduceAdd (extf .f32 p bitsLt_bf16_f32) (constant S_ .f32 0x00000000#32) reducesTo_S8x352x1024_S352x1024_d0 h_S_))⟩,
     ⟨S1x352x1024, (broadcastInDim S1x352x1024 ![1, 2] bcast_S352x1024_S1x352x1024_1_2
        (Host.reduceAdd q (constant S_ .f32 0x00000000#32) reducesTo_S8x352x1024_S352x1024_d0 h_S_))⟩]
    concatenates_S1x352x1024_S1x352x1024_S2x352x1024_d0
theorem gV_0 (n : Fin 352) (k : Fin 1024) : gV p q (ix3 0 n k) = ∑ s : Fin 8, p (ix3 s n k) := by
  pointwise [gV]
theorem gV_1 (n : Fin 352) (k : Fin 1024) : gV p q (ix3 1 n k) = ∑ s : Fin 8, q (ix3 s n k) := by
  pointwise [gV]
end

end AdamParts16

namespace AdamParts16

open Idealize.ShloMosaic Idealize.SL.Sem MixRows Cert.Kernel18Ideal Cert.Kernel18Ideal.Gen Cert.Kernel18Ideal.Value
open FfnBwd (starts starts_zero)
open AdamParts (newM newV delta mV vV dV mV_at vV_at dV_at ix3_of starts_one)

section
variable (r : Fin 176) (k : Fin 1024)

/-! The values a point computes from what it reads, at an index. -/
theorem sum_at (x0 x1 x2 x3 x4 x5 x6 x7 : Vec Ideal S1x176x1024 .bf16) :
    k0_pay5 (k0_pay4 (F := Ideal) x0 x1 x2 x3 x4 x5 x6 x7) (ix3 0 r k) = x0 (ix3 0 r k) + x1 (ix3 0 r k) + x2 (ix3 0 r k)
      + x3 (ix3 0 r k) + x4 (ix3 0 r k) + x5 (ix3 0 r k) + x6 (ix3 0 r k) + x7 (ix3 0 r k) := by
  pointwise [k0_pay5, k0_pay4]
theorem sum_at' (x0 x1 x2 x3 x4 x5 x6 x7 : Vec Ideal S1x176x1024 .f32) :
    k0_pay6 (F := Ideal) x0 x1 x2 x3 x4 x5 x6 x7 (ix3 0 r k) = x0 (ix3 0 r k) + x1 (ix3 0 r k) + x2 (ix3 0 r k) + x3 (ix3 0 r k)
      + x4 (ix3 0 r k) + x5 (ix3 0 r k) + x6 (ix3 0 r k) + x7 (ix3 0 r k) := by
  pointwise [k0_pay6]
theorem newM_at (g m : Vec Ideal S1x176x1024 .f32) :
    k0_pay2 (k0_pay9 (F := Ideal) g m) (ix3 0 r k) = newM (g (ix3 0 r k)) (m (ix3 0 r k)) := by
  pointwise [k0_pay2, k0_pay9, k0_pay8]
  rfl
theorem newV_at (g v : Vec Ideal S1x176x1024 .f32) :
    k0_pay3 (k0_pay10 (F := Ideal) g v) (ix3 0 r k) = newV (g (ix3 0 r k)) (v (ix3 0 r k)) := by
  pointwise [k0_pay3, k0_pay10, k0_pay8]
  rfl
theorem delta_at (w g m v : Vec Ideal S1x176x1024 .f32) :
    k0_pay1 (k0_pay7 (F := Ideal) w) (k0_pay11 g m v) (ix3 0 r k)
      = delta (w (ix3 0 r k)) (g (ix3 0 r k)) (m (ix3 0 r k)) (v (ix3 0 r k)) := by
  pointwise [k0_pay1, k0_pay7, k0_pay11, k0_pay9, k0_pay10, k0_pay8]
  rfl

/-- The sum of a point's rows over the devices, as the body takes it: eight slices added up one after the other. -/
theorem slices (X : Vec Ideal S8x176x1024 .bf16) :
    k0_pay5 (k0_pay4 (F := Ideal)
      (View.ld X (Rect.unit ![0, 0, 0] ![1, 176, 1024] inb_S8x176x1024_S1x176x1024_0_0_0))
      (View.ld X (Rect.unit ![1, 0, 0] ![1, 176, 1024] inb_S8x176x1024_S1x176x1024_1_0_0))
      (View.ld X (Rect.unit ![2, 0, 0] ![1, 176, 1024] inb_S8x176x1024_S1x176x1024_2_0_0))
      (View.ld X (Rect.unit ![3, 0, 0] ![1, 176, 1024] inb_S8x176x1024_S1x176x1024_3_0_0))
      (View.ld X (Rect.unit ![4, 0, 0] ![1, 176, 1024] inb_S8x176x1024_S1x176x1024_4_0_0))
      (View.ld X (Rect.unit ![5, 0, 0] ![1, 176, 1024] inb_S8x176x1024_S1x176x1024_5_0_0))
      (View.ld X (Rect.unit ![6, 0, 0] ![1, 176, 1024] inb_S8x176x1024_S1x176x1024_6_0_0))
      (View.ld X (Rect.unit ![7, 0, 0] ![1, 176, 1024] inb_S8x176x1024_S1x176x1024_7_0_0))) (ix3 0 r k) = ∑ s : Fin 8, X (ix3 s r k) := by
  have e (j : ℕ) (hj : j < 8) (inb) :
      View.ld X (Rect.unit (s := S8x176x1024) ![j, 0, 0] ![1, 176, 1024] inb) (ix3 0 r k) = X (ix3 ⟨j, hj⟩ r k) :=
    (ld3_at X j 0 0 1 176 1024 inb 0 r k hj (by omega) (by omega)).trans
      (congrArg X (by simp only [Nat.zero_add, Fin.val_zero, Nat.add_zero, Fin.eta]))
  rw [sum_at, Fin.sum_univ_eight, e 0 (by decide), e 1 (by decide), e 2 (by decide), e 3 (by decide), e 4 (by decide), e 5 (by decide),
    e 6 (by decide), e 7 (by decide)]
  rfl
theorem slices' (X : Vec Ideal S8x176x1024 .f32) :
    k0_pay6 (F := Ideal)
      (View.ld X (Rect.unit ![0, 0, 0] ![1, 176, 1024] inb_S8x176x1024_S1x176x1024_0_0_0))
      (View.ld X (Rect.unit ![1, 0, 0] ![1, 176, 1024] inb_S8x176x1024_S1x176x1024_1_0_0))
      (View.ld X (Rect.unit ![2, 0, 0] ![1, 176, 1024] inb_S8x176x1024_S1x176x1024_2_0_0))
      (View.ld X (Rect.unit ![3, 0, 0] ![1, 176, 1024] inb_S8x176x1024_S1x176x1024_3_0_0))
      (View.ld X (Rect.unit ![4, 0, 0] ![1, 176, 1024] inb_S8x176x1024_S1x176x1024_4_0_0))
      (View.ld X (Rect.unit ![5, 0, 0] ![1, 176, 1024] inb_S8x176x1024_S1x176x1024_5_0_0))
      (View.ld X (Rect.unit ![6, 0, 0] ![1, 176, 1024] inb_S8x176x1024_S1x176x1024_6_0_0))
      (View.ld X (Rect.unit ![7, 0, 0] ![1, 176, 1024] inb_S8x176x1024_S1x176x1024_7_0_0)) (ix3 0 r k) = ∑ s : Fin 8, X (ix3 s r k) := by
  have e (j : ℕ) (hj : j < 8) (inb) :
      View.ld X (Rect.unit (s := S8x176x1024) ![j, 0, 0] ![1, 176, 1024] inb) (ix3 0 r k) = X (ix3 ⟨j, hj⟩ r k) :=
    (ld3_at X j 0 0 1 176 1024 inb 0 r k hj (by omega) (by omega)).trans
      (congrArg X (by simp only [Nat.zero_add, Fin.val_zero, Nat.add_zero, Fin.eta]))
  rw [sum_at', Fin.sum_univ_eight, e 0 (by decide), e 1 (by decide), e 2 (by decide), e 3 (by decide), e 4 (by decide), e 5 (by decide),
    e 6 (by decide), e 7 (by decide)]
  rfl
end

section
variable (m : (ℓ : Loc nD τ sig) → Buf (Elt Ideal) ℓ) (c : Dev nD)

/-! The arguments: the parts of both layers' gradients, the weight and the two moments. -/
abbrev aP : FVec Ideal S8x352x1024 .bf16 := m ((c.tc : Thread nD τ).loc main_arg0)
abbrev aQ : FVec Ideal S8x352x1024 .f32 := m ((c.tc : Thread nD τ).loc main_arg1)
abbrev aW : FVec Ideal S2x352x1024 .f32 := m ((c.tc : Thread nD τ).loc main_arg2)
abbrev aM : FVec Ideal S2x352x1024 .f32 := m ((c.tc : Thread nD τ).loc main_arg3)
abbrev aV : FVec Ideal S2x352x1024 .f32 := m ((c.tc : Thread nD τ).loc main_arg4)

/-- The layer of a point, and the row of the array that row `r` of its block is. -/
def layerOf (t : Fin cfg0.N) : Fin 2 := ⟨t.val / 2, by have h := lt_of_lt_of_eq t.isLt N_0; omega⟩
def rowOf (t : Fin cfg0.N) (r : Fin 176) : Fin 352 := ⟨t.val % 2 * 176 + r, by omega⟩
theorem row_split (l : Fin 2) (n : Fin 352) : ∃ (t : Fin cfg0.N) (r : Fin 176), l = layerOf t ∧ n = rowOf t r :=
  ⟨⟨l.val * 2 + n.val / 176, lt_of_lt_of_eq (by omega : l.val * 2 + n.val / 176 < 4) N_0.symm⟩, ⟨n.val % 176, Nat.mod_lt _ (by decide)⟩,
    Fin.ext (by show l.val = (l.val * 2 + n.val / 176) / 2; omega),
    Fin.ext (by show n.val = (l.val * 2 + n.val / 176) % 2 * 176 + n.val % 176; omega)⟩

/-- Where the blocks of the inputs and of the results lie. -/
theorem idx : ∀ t : Fin cfg0.N,
    (win0_2.index t (0 : Fin 3) = t.val / 2 ∧ win0_2.index t (1 : Fin 3) = t.val % 2 ∧ win0_2.index t (2 : Fin 3) = 0)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = t.val % 2 ∧ win0_4.index t (2 : Fin 3) = 0) := by decide +kernel
theorem idxP : ∀ t : Fin cfg0.N, t.val < 2 →
    (win0_0.index t (0 : Fin 3) = 0 ∧ win0_0.index t (1 : Fin 3) = t.val % 2 ∧ win0_0.index t (2 : Fin 3) = 0) := by decide +kernel
theorem idxQ : ∀ t : Fin cfg0.N, 2 ≤ t.val →
    (win0_1.index t (0 : Fin 3) = 0 ∧ win0_1.index t (1 : Fin 3) = t.val % 2 ∧ win0_1.index t (2 : Fin 3) = 0) := by decide +kernel
theorem idxOut : ∀ t : Fin cfg0.N,
    (win0_5.index t (0 : Fin 3) = t.val / 2 ∧ win0_5.index t (1 : Fin 3) = t.val % 2 ∧ win0_5.index t (2 : Fin 3) = 0)
    ∧ (win0_6.index t (0 : Fin 3) = t.val / 2 ∧ win0_6.index t (1 : Fin 3) = t.val % 2 ∧ win0_6.index t (2 : Fin 3) = 0)
    ∧ (win0_7.index t (0 : Fin 3) = t.val / 2 ∧ win0_7.index t (1 : Fin 3) = t.val % 2 ∧ win0_7.index t (2 : Fin 3) = 0)
    ∧ (win0_8.index t (0 : Fin 3) = t.val / 2 ∧ win0_8.index t (1 : Fin 3) = t.val % 2 ∧ win0_8.index t (2 : Fin 3) = 0) := by decide +kernel

variable (t : Fin cfg0.N)

/-! The blocks the point reads. -/
abbrev bP : Vec Ideal S8x176x1024 .bf16 := iblk m c 0 t
abbrev bQ : Vec Ideal S8x176x1024 .f32 := iblk m c 1 t
abbrev bW : Vec Ideal S1x176x1024 .f32 := iblk m c 2 t
abbrev bM : Vec Ideal S1x176x1024 .f32 := iblk m c 3 t
abbrev bV : Vec Ideal S1x176x1024 .f32 := iblk m c 4 t

variable (r : Fin 176) (k : Fin 1024) (s : Fin 8)

theorem bW_at : bW m c t (ix3 0 r k) = aW m c (ix3 (layerOf t) (rowOf t r) k) := by
  unfold rowOf layerOf
  blk_ext! [bW, iblk, V, idx t]
theorem bM_at : bM m c t (ix3 0 r k) = aM m c (ix3 (layerOf t) (rowOf t r) k) := by
  unfold rowOf layerOf
  blk_ext! [bM, iblk, V, idx t]
theorem bV_at : bV m c t (ix3 0 r k) = aV m c (ix3 (layerOf t) (rowOf t r) k) := by
  unfold rowOf layerOf
  blk_ext! [bV, iblk, V, idx t]
theorem bP_at (h : t.val < 2) : bP m c t (ix3 s r k) = aP m c (ix3 s (rowOf t r) k) := by
  unfold rowOf
  blk_ext! [bP, iblk, V, idxP t h]
theorem bQ_at (h : 2 ≤ t.val) : bQ m c t (ix3 s r k) = aQ m c (ix3 s (rowOf t r) k) := by
  unfold rowOf
  blk_ext! [bQ, iblk, V, idxQ t h]

/-- The sum of the devices' parts. -/
def gK (l : Fin 2) (n : Fin 352) (k : Fin 1024) : EReal :=
  if l.val = 0 then ∑ s : Fin 8, aP m c (ix3 s n k) else ∑ s : Fin 8, aQ m c (ix3 s n k)

theorem gK_A (h : t.val < 2) : gK m c (layerOf t) (rowOf t r) k = ∑ s : Fin 8, aP m c (ix3 s (rowOf t r) k) :=
  if_pos (Nat.div_eq_of_lt h)
theorem gK_B (h : ¬t.val < 2) : gK m c (layerOf t) (rowOf t r) k = ∑ s : Fin 8, aQ m c (ix3 s (rowOf t r) k) :=
  if_neg (by show ¬t.val / 2 = 0; omega)

/-! What the body computes from the blocks, in each of the two layers. -/
theorem sumA (h : t.val < 2) : ∑ s : Fin 8, bP m c t (ix3 s r k) = gK m c (layerOf t) (rowOf t r) k :=
  (Finset.sum_congr rfl fun s _ => bP_at m c t r k s h).trans (gK_A m c t r k h).symm
theorem sumB (h : ¬t.val < 2) : ∑ s : Fin 8, bQ m c t (ix3 s r k) = gK m c (layerOf t) (rowOf t r) k :=
  (Finset.sum_congr rfl fun s _ => bQ_at m c t r k s (not_lt.mp h)).trans (gK_B m c t r k h).symm

/-! What the point leaves in its four outputs. -/
theorem g_point : (outsAt0 m c t.val t.isLt).1 (ix3 0 r k) = gK m c (layerOf t) (rowOf t r) k := by
  by_cases h0 : t.val < 2
  · rw [outsAt0_A m c t h0 (not_le.mpr h0)]
    dsimp only
    frame_open
    frame_out
    exact (slices r k _).trans (sumA m c t r k h0)
  · rw [outsAt0_B m c t h0 (not_lt.mp h0)]
    dsimp only
    frame_open
    frame_out
    exact (slices' r k _).trans (sumB m c t r k h0)
theorem d_point : (outsAt0 m c t.val t.isLt).2.1 (ix3 0 r k)
    = delta (aW m c (ix3 (layerOf t) (rowOf t r) k)) (gK m c (layerOf t) (rowOf t r) k) (aM m c (ix3 (layerOf t) (rowOf t r) k))
      (aV m c (ix3 (layerOf t) (rowOf t r) k)) := by
  rw [← bW_at, ← bM_at, ← bV_at]
  by_cases h0 : t.val < 2
  · rw [outsAt0_A m c t h0 (not_le.mpr h0)]
    dsimp only
    frame_open
    simp (disch := decide) only [↓ View.readCov_skip, ↓ View.readCov_cons_toLoadRect, ↓ View.readCov_fill]
    frame_out
    exact (delta_at r k _ _ _ _).trans
      (congrArg (fun g => delta (bW m c t (ix3 0 r k)) g (bM m c t (ix3 0 r k)) (bV m c t (ix3 0 r k))) ((slices r k _).trans (sumA m c t r k h0)))
  · rw [outsAt0_B m c t h0 (not_lt.mp h0)]
    dsimp only
    frame_open
    simp (disch := decide) only [↓ View.readCov_skip, ↓ View.readCov_cons_toLoadRect, ↓ View.readCov_fill]
    frame_out
    exact (delta_at r k _ _ _ _).trans
      (congrArg (fun g => delta (bW m c t (ix3 0 r k)) g (bM m c t (ix3 0 r k)) (bV m c t (ix3 0 r k))) ((slices' r k _).trans (sumB m c t r k h0)))
theorem m_point : (outsAt0 m c t.val t.isLt).2.2.1 (ix3 0 r k)
    = newM (gK m c (layerOf t) (rowOf t r) k) (aM m c (ix3 (layerOf t) (rowOf t r) k)) := by
  rw [← bM_at]
  by_cases h0 : t.val < 2
  · rw [outsAt0_A m c t h0 (not_le.mpr h0)]
    dsimp only
    frame_open
    simp (disch := decide) only [↓ View.readCov_skip, ↓ View.readCov_cons_toLoadRect, ↓ View.readCov_fill]
    frame_out
    exact (newM_at r k _ _).trans (congrArg (fun g => newM g (bM m c t (ix3 0 r k))) ((slices r k _).trans (sumA m c t r k h0)))
  · rw [outsAt0_B m c t h0 (not_lt.mp h0)]
    dsimp only
    frame_open
    simp (disch := decide) only [↓ View.readCov_skip, ↓ View.readCov_cons_toLoadRect, ↓ View.readCov_fill]
    frame_out
    exact (newM_at r k _ _).trans (congrArg (fun g => newM g (bM m c t (ix3 0 r k))) ((slices' r k _).trans (sumB m c t r k h0)))
theorem v_point : (outsAt0 m c t.val t.isLt).2.2.2 (ix3 0 r k)
    = newV (gK m c (layerOf t) (rowOf t r) k) (aV m c (ix3 (layerOf t) (rowOf t r) k)) := by
  rw [← bV_at]
  by_cases h0 : t.val < 2
  · rw [outsAt0_A m c t h0 (not_le.mpr h0)]
    dsimp only
    frame_open
    simp (disch := decide) only [↓ View.readCov_skip, ↓ View.readCov_cons_toLoadRect, ↓ View.readCov_fill]
    frame_out
    exact (newV_at r k _ _).trans (congrArg (fun g => newV g (bV m c t (ix3 0 r k))) ((slices r k _).trans (sumA m c t r k h0)))
  · rw [outsAt0_B m c t h0 (not_lt.mp h0)]
    dsimp only
    frame_open
    simp (disch := decide) only [↓ View.readCov_skip, ↓ View.readCov_cons_toLoadRect, ↓ View.readCov_fill]
    frame_out
    exact (newV_at r k _ _).trans (congrArg (fun g => newV g (bV m c t (ix3 0 r k))) ((slices' r k _).trans (sumB m c t r k h0)))

/-! The result arrays at a block's row. -/
theorem arr5 : ((dats m 0 c).arrAt 5 cfg0.N : FVec Ideal S2x352x1024 .f32) (ix3 (layerOf t) (rowOf t r) k)
    = gK m c (layerOf t) (rowOf t r) k :=
  ((congrArg ((dats m 0 c).arrAt 5 cfg0.N : FVec Ideal S2x352x1024 .f32)
      (ix3_of (starts_one (idxOut t).1.1) (starts _ _ (idxOut t).1.2.1) (starts_zero _ (idxOut t).1.2.2))).trans
    (congrFun ((blocks5 m c t (flush0_5 t)).trans (flushed5 m c t)) (ix3 0 r k))).trans (g_point m c t r k)
theorem arr6 : ((dats m 0 c).arrAt 6 cfg0.N : FVec Ideal S2x352x1024 .f32) (ix3 (layerOf t) (rowOf t r) k)
    = delta (aW m c (ix3 (layerOf t) (rowOf t r) k)) (gK m c (layerOf t) (rowOf t r) k)
      (aM m c (ix3 (layerOf t) (rowOf t r) k)) (aV m c (ix3 (layerOf t) (rowOf t r) k)) :=
  ((congrArg ((dats m 0 c).arrAt 6 cfg0.N : FVec Ideal S2x352x1024 .f32)
      (ix3_of (starts_one (idxOut t).2.1.1) (starts _ _ (idxOut t).2.1.2.1) (starts_zero _ (idxOut t).2.1.2.2))).trans
    (congrFun ((blocks6 m c t (flush0_6 t)).trans (flushed6 m c t)) (ix3 0 r k))).trans (d_point m c t r k)
theorem arr7 : ((dats m 0 c).arrAt 7 cfg0.N : FVec Ideal S2x352x1024 .f32) (ix3 (layerOf t) (rowOf t r) k)
    = newM (gK m c (layerOf t) (rowOf t r) k) (aM m c (ix3 (layerOf t) (rowOf t r) k)) :=
  ((congrArg ((dats m 0 c).arrAt 7 cfg0.N : FVec Ideal S2x352x1024 .f32)
      (ix3_of (starts_one (idxOut t).2.2.1.1) (starts _ _ (idxOut t).2.2.1.2.1) (starts_zero _ (idxOut t).2.2.1.2.2))).trans
    (congrFun ((blocks7 m c t (flush0_7 t)).trans (flushed7 m c t)) (ix3 0 r k))).trans (m_point m c t r k)
theorem arr8 : ((dats m 0 c).arrAt 8 cfg0.N : FVec Ideal S2x352x1024 .f32) (ix3 (layerOf t) (rowOf t r) k)
    = newV (gK m c (layerOf t) (rowOf t r) k) (aV m c (ix3 (layerOf t) (rowOf t r) k)) :=
  ((congrArg ((dats m 0 c).arrAt 8 cfg0.N : FVec Ideal S2x352x1024 .f32)
      (ix3_of (starts_one (idxOut t).2.2.2.1) (starts _ _ (idxOut t).2.2.2.2.1) (starts_zero _ (idxOut t).2.2.2.2.2))).trans
    (congrFun ((blocks8 m c t (flush0_8 t)).trans (flushed8 m c t)) (ix3 0 r k))).trans (v_point m c t r k)
end

section
variable (m : (ℓ : Loc nD τ sig) → Buf (Elt Ideal) ℓ) (c : Dev nD)

/-! The four result arrays. -/
def out0 : FVec Ideal S2x352x1024 .f32 := (dats m 0 c).arrAt 5 cfg0.N
def out1 : FVec Ideal S2x352x1024 .f32 := (dats m 0 c).arrAt 6 cfg0.N
def out2 : FVec Ideal S2x352x1024 .f32 := (dats m 0 c).arrAt 7 cfg0.N
def out3 : FVec Ideal S2x352x1024 .f32 := (dats m 0 c).arrAt 8 cfg0.N

theorem gV_at (l : Fin 2) (n : Fin 352) (k : Fin 1024) : gK m c l n k = gV (aP m c) (aQ m c) (ix3 l n k) := by
  match l with
  | 0 => exact (gV_0 (aP m c) (aQ m c) n k).symm
  | 1 => exact (gV_1 (aP m c) (aQ m c) n k).symm

theorem whole0 : out0 m c = gV (aP m c) (aQ m c) := ext3 fun l n k => by
  obtain ⟨t, r, rfl, rfl⟩ := row_split l n
  exact (arr5 m c t r k).trans (gV_at m c _ _ k)
theorem whole1 : out1 m c = dV (aW m c) (gV (aP m c) (aQ m c)) (aM m c) (aV m c) := ext3 fun l n k => by
  obtain ⟨t, r, rfl, rfl⟩ := row_split l n
  rw [dV_at, ← gV_at]
  exact arr6 m c t r k
theorem whole2 : out2 m c = mV (gV (aP m c) (aQ m c)) (aM m c) := ext3 fun l n k => by
  obtain ⟨t, r, rfl, rfl⟩ := row_split l n
  rw [mV_at, ← gV_at]
  exact arr7 m c t r k
theorem whole3 : out3 m c = vV (gV (aP m c) (aQ m c)) (aV m c) := ext3 fun l n k => by
  obtain ⟨t, r, rfl, rfl⟩ := row_split l n
  rw [vV_at, ← gV_at]
  exact arr8 m c t r k
end

/-- The two programs agree on all four results. -/
theorem algebraic : Cert.algebraic_Kernel18Ideal_Reference18Ideal := by
  intro m g m' g' _ ha
  refine ⟨fun c => out0 m c, fun c => out1 m c, fun c => out2 m c, fun c => out3 m c, run_blocks m g, ?_⟩
  refine θ_run_mono (Cert.Reference18Ideal.Value.run m' g') fun r hr c => ?_
  obtain ⟨r0, r1, r2, r3, kept⟩ := hr c
  obtain ⟨h0, h1, h2, h3, h4⟩ := ha c
  rw [h0, h1] at r0
  rw [h0, h1, h2, h3, h4] at r1
  rw [h0, h1, h3] at r2
  rw [h0, h1, h4] at r3
  exact ⟨r0.trans (whole0 m c).symm, r1.trans (whole1 m c).symm, r2.trans (whole2 m c).symm, r3.trans (whole3 m c).symm, kept⟩

end AdamParts16

end
-- ==== Proof.AdamOut.lean ====
module

public import proofs.«01_k».proof.Proof.Gen.Kernel19Ideal.Value
public import proofs.«01_k».proof.Proof.Gen.Reference19Ideal.Run
public import proofs.«01_k».proof.Proof.AdamParts

/-!
The optimiser's step on an output projection, as in `AdamParts`, of one layer.
-/

@[expose] public section

set_option maxRecDepth 16384

noncomputable section

namespace AdamOut

open Idealize.ShloMosaic MixRows Cert.Reference19Ideal Cert.Reference19Ideal.Gen
open AdamParts (newM newV delta)

/-! The reference's arrays. -/
section
variable (p : FVec Ideal S8x128x1024 .f32) (w g x y : FVec Ideal S1x128x1024 .f32)

/-- The sum over the devices. -/
def gV : FVec Ideal S1x128x1024 .f32 :=
  broadcastInDim S1x128x1024 ![1, 2] bcast_S128x1024_S1x128x1024_1_2
    (Host.reduceAdd p (constant S_ .f32 0x00000000#32) reducesTo_S8x128x1024_S128x1024_d0 h_S_)
/-- The first moment after the step, from the sum `g` and the moment `x` before it; the second; and the step. -/
def mV : FVec Ideal S1x128x1024 .f32 :=
  addf (mulf (broadcastInDim S1x128x1024 ![] bcast_S_S1x128x1024 (constant S_ .f32 0x3F666666#32)) x)
    (mulf (broadcastInDim S1x128x1024 ![] bcast_S_S1x128x1024 (constant S_ .f32 0x3DCCCCCD#32)) g)
def vV : FVec Ideal S1x128x1024 .f32 :=
  addf (mulf (broadcastInDim S1x128x1024 ![] bcast_S_S1x128x1024 (constant S_ .f32 0x3F7FBE77#32)) x)
    (mulf (broadcastInDim S1x128x1024 ![] bcast_S_S1x128x1024 (constant S_ .f32 0x3A83126F#32)) (mulf g g))
def dV : FVec Ideal S1x128x1024 .f32 :=
  mulf (broadcastInDim S1x128x1024 ![] bcast_S_S1x128x1024 (constant S_ .f32 0xBA83126F#32))
    (addf (Host.divf (Host.divf (mV g x) (broadcastInDim S1x128x1024 ![] bcast_S_S1x128x1024 (constant S_ .f32 0x3F26BD02#32)))
        (addf (Host.sqrt (Host.divf (vV g y) (broadcastInDim S1x128x1024 ![] bcast_S_S1x128x1024 (constant S_ .f32 0x3C231ACC#32))))
          (broadcastInDim S1x128x1024 ![] bcast_S_S1x128x1024 (constant S_ .f32 0x322BCC77#32))))
      (mulf (broadcastInDim S1x128x1024 ![] bcast_S_S1x128x1024 (constant S_ .f32 0x3C23D70A#32)) w))

variable (n : Fin 128) (k : Fin 1024)
theorem gV_at : gV p (ix3 0 n k) = ∑ s : Fin 8, p (ix3 s n k) := by
  pointwise [gV]
theorem mV_at : mV g x (ix3 0 n k) = newM (g (ix3 0 n k)) (x (ix3 0 n k)) := rfl
theorem vV_at : vV g x (ix3 0 n k) = newV (g (ix3 0 n k)) (x (ix3 0 n k)) := rfl
theorem dV_at : dV w g x y (ix3 0 n k) = delta (w (ix3 0 n k)) (g (ix3 0 n k)) (x (ix3 0 n k)) (y (ix3 0 n k)) := rfl
end

end AdamOut

namespace AdamOut

open Idealize.ShloMosaic Idealize.SL.Sem MixRows Cert.Kernel19Ideal Cert.Kernel19Ideal.Gen Cert.Kernel19Ideal.Value
open FfnBwd (starts starts_zero)
open AdamParts (newM newV delta ix3_of starts_one)

section
variable (r : Fin 128) (k : Fin 1024)

/-! The values a point computes from what it reads, at an index. -/
theorem sum_at (x0 x1 x2 x3 x4 x5 x6 x7 : Vec Ideal S1x128x1024 .f32) :
    k0_pay4 (F := Ideal) x0 x1 x2 x3 x4 x5 x6 x7 (ix3 0 r k) = x0 (ix3 0 r k) + x1 (ix3 0 r k) + x2 (ix3 0 r k) + x3 (ix3 0 r k)
      + x4 (ix3 0 r k) + x5 (ix3 0 r k) + x6 (ix3 0 r k) + x7 (ix3 0 r k) := by
  pointwise [k0_pay4]
theorem newM_at (g m : Vec Ideal S1x128x1024 .f32) :
    k0_pay2 (k0_pay6 (F := Ideal) g m) (ix3 0 r k) = newM (g (ix3 0 r k)) (m (ix3 0 r k)) := by
  pointwise [k0_pay2, k0_pay6, k0_pay5]
  rfl
theorem newV_at (g v : Vec Ideal S1x128x1024 .f32) :
    k0_pay3 (k0_pay7 (F := Ideal) g v) (ix3 0 r k) = newV (g (ix3 0 r k)) (v (ix3 0 r k)) := by
  pointwise [k0_pay3, k0_pay7, k0_pay5]
  rfl
theorem delta_at (w g m v : Vec Ideal S1x128x1024 .f32) :
    k0_pay1 (k0_pay8 (F := Ideal) w g m v) k0_pay9 (ix3 0 r k)
      = delta (w (ix3 0 r k)) (g (ix3 0 r k)) (m (ix3 0 r k)) (v (ix3 0 r k)) := by
  pointwise [k0_pay1, k0_pay9, k0_pay8, k0_pay6, k0_pay7, k0_pay5]
  rfl

/-- The sum of a point's rows over the devices, as the body takes it: eight slices added up one after the other. -/
theorem slices (X : Vec Ideal S8x128x1024 .f32) :
    k0_pay4 (F := Ideal)
      (View.ld X (Rect.unit ![0, 0, 0] ![1, 128, 1024] inb_S8x128x1024_S1x128x1024_0_0_0))
      (View.ld X (Rect.unit ![1, 0, 0] ![1, 128, 1024] inb_S8x128x1024_S1x128x1024_1_0_0))
      (View.ld X (Rect.unit ![2, 0, 0] ![1, 128, 1024] inb_S8x128x1024_S1x128x1024_2_0_0))
      (View.ld X (Rect.unit ![3, 0, 0] ![1, 128, 1024] inb_S8x128x1024_S1x128x1024_3_0_0))
      (View.ld X (Rect.unit ![4, 0, 0] ![1, 128, 1024] inb_S8x128x1024_S1x128x1024_4_0_0))
      (View.ld X (Rect.unit ![5, 0, 0] ![1, 128, 1024] inb_S8x128x1024_S1x128x1024_5_0_0))
      (View.ld X (Rect.unit ![6, 0, 0] ![1, 128, 1024] inb_S8x128x1024_S1x128x1024_6_0_0))
      (View.ld X (Rect.unit ![7, 0, 0] ![1, 128, 1024] inb_S8x128x1024_S1x128x1024_7_0_0)) (ix3 0 r k) = ∑ s : Fin 8, X (ix3 s r k) := by
  have e (j : ℕ) (hj : j < 8) (inb) :
      View.ld X (Rect.unit (s := S8x128x1024) ![j, 0, 0] ![1, 128, 1024] inb) (ix3 0 r k) = X (ix3 ⟨j, hj⟩ r k) :=
    (ld3_at X j 0 0 1 128 1024 inb 0 r k hj (by omega) (by omega)).trans
      (congrArg X (by simp only [Nat.zero_add, Fin.val_zero, Nat.add_zero, Fin.eta]))
  rw [sum_at, Fin.sum_univ_eight, e 0 (by decide), e 1 (by decide), e 2 (by decide), e 3 (by decide), e 4 (by decide), e 5 (by decide),
    e 6 (by decide), e 7 (by decide)]
  rfl
end

section
variable (m : (ℓ : Loc nD τ sig) → Buf (Elt Ideal) ℓ) (c : Dev nD)

/-! The arguments: the parts of the gradient, the weight and the two moments. -/
abbrev aP : FVec Ideal S8x128x1024 .f32 := m ((c.tc : Thread nD τ).loc main_arg0)
abbrev aW : FVec Ideal S1x128x1024 .f32 := m ((c.tc : Thread nD τ).loc main_arg1)
abbrev aM : FVec Ideal S1x128x1024 .f32 := m ((c.tc : Thread nD τ).loc main_arg2)
abbrev aV : FVec Ideal S1x128x1024 .f32 := m ((c.tc : Thread nD τ).loc main_arg3)

/-- The row of the array that row `r` of a point's block is. -/
def rowOf (t : Fin cfg0.N) (r : Fin 128) : Fin 128 := ⟨t.val * 128 + r, by have h := lt_of_lt_of_eq t.isLt N_0; omega⟩
theorem row_split (n : Fin 128) : ∃ (t : Fin cfg0.N) (r : Fin 128), n = rowOf t r :=
  ⟨⟨n.val / 128, lt_of_lt_of_eq (by omega : n.val / 128 < 1) N_0.symm⟩, ⟨n.val % 128, Nat.mod_lt _ (by decide)⟩,
    Fin.ext (by show n.val = n.val / 128 * 128 + n.val % 128; omega)⟩

/-- Where the blocks of the inputs and of the results lie. -/
theorem idx : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0) := by decide +kernel
theorem idxOut : ∀ t : Fin cfg0.N,
    (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0) := by decide +kernel

variable (t : Fin cfg0.N)

/-! The blocks the point reads. -/
abbrev bP : Vec Ideal S8x128x1024 .f32 := iblk m c 0 t
abbrev bW : Vec Ideal S1x128x1024 .f32 := iblk m c 1 t
abbrev bM : Vec Ideal S1x128x1024 .f32 := iblk m c 2 t
abbrev bV : Vec Ideal S1x128x1024 .f32 := iblk m c 3 t

variable (r : Fin 128) (k : Fin 1024) (s : Fin 8)

theorem bP_at : bP m c t (ix3 s r k) = aP m c (ix3 s (rowOf t r) k) := by
  unfold rowOf
  blk_ext! [bP, iblk, V, idx t]
theorem bW_at : bW m c t (ix3 0 r k) = aW m c (ix3 0 (rowOf t r) k) := by
  unfold rowOf
  blk_ext! [bW, iblk, V, idx t]
theorem bM_at : bM m c t (ix3 0 r k) = aM m c (ix3 0 (rowOf t r) k) := by
  unfold rowOf
  blk_ext! [bM, iblk, V, idx t]
theorem bV_at : bV m c t (ix3 0 r k) = aV m c (ix3 0 (rowOf t r) k) := by
  unfold rowOf
  blk_ext! [bV, iblk, V, idx t]

/-- What the body sums is the reference's sum. -/
theorem sum_eq : ∑ s : Fin 8, bP m c t (ix3 s r k) = gV (aP m c) (ix3 0 (rowOf t r) k) :=
  (Finset.sum_congr rfl fun s _ => bP_at m c t r k s).trans (gV_at (aP m c) (rowOf t r) k).symm

/-! What the point leaves in its four outputs. -/
theorem g_point : (outsAt0 m c t).1 (ix3 0 r k) = gV (aP m c) (ix3 0 (rowOf t r) k) := by
  unfold outsAt0
  dsimp only
  frame_open
  frame_out
  exact (slices r k _).trans (sum_eq m c t r k)
theorem d_point : (outsAt0 m c t).2.1 (ix3 0 r k) = dV (aW m c) (gV (aP m c)) (aM m c) (aV m c) (ix3 0 (rowOf t r) k) := by
  rw [dV_at, ← bW_at, ← bM_at, ← bV_at]
  unfold outsAt0
  dsimp only
  frame_open
  simp (disch := decide) only [↓ View.readCov_skip, ↓ View.readCov_cons_toLoadRect, ↓ View.readCov_fill]
  frame_out
  exact (delta_at r k _ _ _ _).trans (congrArg (fun g => delta (bW m c t (ix3 0 r k)) g (bM m c t (ix3 0 r k)) (bV m c t (ix3 0 r k))) ((slices r k _).trans (sum_eq m c t r k)))
theorem m_point : (outsAt0 m c t).2.2.1 (ix3 0 r k) = mV (gV (aP m c)) (aM m c) (ix3 0 (rowOf t r) k) := by
  rw [mV_at, ← bM_at]
  unfold outsAt0
  dsimp only
  frame_open
  simp (disch := decide) only [↓ View.readCov_skip, ↓ View.readCov_cons_toLoadRect, ↓ View.readCov_fill]
  frame_out
  exact (newM_at r k _ _).trans (congrArg (fun g => newM g (bM m c t (ix3 0 r k))) ((slices r k _).trans (sum_eq m c t r k)))
theorem v_point : (outsAt0 m c t).2.2.2 (ix3 0 r k) = vV (gV (aP m c)) (aV m c) (ix3 0 (rowOf t r) k) := by
  rw [vV_at, ← bV_at]
  unfold outsAt0
  dsimp only
  frame_open
  simp (disch := decide) only [↓ View.readCov_skip, ↓ View.readCov_cons_toLoadRect, ↓ View.readCov_fill]
  frame_out
  exact (newV_at r k _ _).trans (congrArg (fun g => newV g (bV m c t (ix3 0 r k))) ((slices r k _).trans (sum_eq m c t r k)))
end

section
variable (m : (ℓ : Loc nD τ sig) → Buf (Elt Ideal) ℓ) (c : Dev nD)

/-! The four result arrays, from the blocks that the points leave. -/
def out0 : FVec Ideal S1x128x1024 .f32 := (dats m 0 c).arrAt 4 cfg0.N
theorem whole0 : out0 m c = gV (aP m c) := ext3 fun l n k => by
  obtain rfl : l = 0 := Subsingleton.elim _ _
  obtain ⟨t, r, rfl⟩ := row_split n
  exact ((congrArg (out0 m c) (ix3_of (starts_one (idxOut t).1.1) (starts _ _ (idxOut t).1.2.1) (starts_zero _ (idxOut t).1.2.2))).trans
    (congrFun ((blocks4 m c t (flush0_4 t)).trans (flushed4 m c t)) (ix3 0 r k))).trans (g_point m c t r k)
def out1 : FVec Ideal S1x128x1024 .f32 := (dats m 0 c).arrAt 5 cfg0.N
theorem whole1 : out1 m c = dV (aW m c) (gV (aP m c)) (aM m c) (aV m c) := ext3 fun l n k => by
  obtain rfl : l = 0 := Subsingleton.elim _ _
  obtain ⟨t, r, rfl⟩ := row_split n
  exact ((congrArg (out1 m c) (ix3_of (starts_one (idxOut t).2.1.1) (starts _ _ (idxOut t).2.1.2.1) (starts_zero _ (idxOut t).2.1.2.2))).trans
    (congrFun ((blocks5 m c t (flush0_5 t)).trans (flushed5 m c t)) (ix3 0 r k))).trans (d_point m c t r k)
def out2 : FVec Ideal S1x128x1024 .f32 := (dats m 0 c).arrAt 6 cfg0.N
theorem whole2 : out2 m c = mV (gV (aP m c)) (aM m c) := ext3 fun l n k => by
  obtain rfl : l = 0 := Subsingleton.elim _ _
  obtain ⟨t, r, rfl⟩ := row_split n
  exact ((congrArg (out2 m c) (ix3_of (starts_one (idxOut t).2.2.1.1) (starts _ _ (idxOut t).2.2.1.2.1) (starts_zero _ (idxOut t).2.2.1.2.2))).trans
    (congrFun ((blocks6 m c t (flush0_6 t)).trans (flushed6 m c t)) (ix3 0 r k))).trans (m_point m c t r k)
def out3 : FVec Ideal S1x128x1024 .f32 := (dats m 0 c).arrAt 7 cfg0.N
theorem whole3 : out3 m c = vV (gV (aP m c)) (aV m c) := ext3 fun l n k => by
  obtain rfl : l = 0 := Subsingleton.elim _ _
  obtain ⟨t, r, rfl⟩ := row_split n
  exact ((congrArg (out3 m c) (ix3_of (starts_one (idxOut t).2.2.2.1) (starts _ _ (idxOut t).2.2.2.2.1) (starts_zero _ (idxOut t).2.2.2.2.2))).trans
    (congrFun ((blocks7 m c t (flush0_7 t)).trans (flushed7 m c t)) (ix3 0 r k))).trans (v_point m c t r k)
end

/-- The two programs agree on all four results. -/
theorem algebraic : Cert.algebraic_Kernel19Ideal_Reference19Ideal := by
  intro m g m' g' _ ha
  refine ⟨fun c => out0 m c, fun c => out1 m c, fun c => out2 m c, fun c => out3 m c, run_blocks m g, ?_⟩
  refine θ_run_mono (Cert.Reference19Ideal.Value.run m' g') fun r hr c => ?_
  obtain ⟨r0, r1, r2, r3, kept⟩ := hr c
  obtain ⟨h0, h1, h2, h3⟩ := ha c
  rw [h0] at r0
  rw [h0, h1, h2, h3] at r1
  rw [h0, h2] at r2
  rw [h0, h3] at r3
  exact ⟨r0.trans (whole0 m c).symm, r1.trans (whole1 m c).symm, r2.trans (whole2 m c).symm, r3.trans (whole3 m c).symm, kept⟩

end AdamOut

end
-- ==== Proof.AdamQkv.lean ====
module

public import proofs.«01_k».proof.Proof.Gen.Kernel20Ideal.Value
public import proofs.«01_k».proof.Proof.Gen.Reference20Ideal.Run
public import proofs.«01_k».proof.Proof.AdamParts

/-!
The optimiser's step on the attention's input projection, as in `AdamParts`, of one layer.
-/

@[expose] public section

set_option maxRecDepth 16384

noncomputable section

namespace AdamQkv

open Idealize.ShloMosaic MixRows Cert.Reference20Ideal Cert.Reference20Ideal.Gen
open AdamParts (newM newV delta)

/-! The reference's arrays. -/
section
variable (p : FVec Ideal S8x384x1024 .f32) (w g x y : FVec Ideal S1x384x1024 .f32)

/-- The sum over the devices. -/
def gV : FVec Ideal S1x384x1024 .f32 :=
  broadcastInDim S1x384x1024 ![1, 2] bcast_S384x1024_S1x384x1024_1_2
    (Host.reduceAdd p (constant S_ .f32 0x00000000#32) reducesTo_S8x384x1024_S384x1024_d0 h_S_)
/-- The first moment after the step, from the sum `g` and the moment `x` before it; the second; and the step. -/
def mV : FVec Ideal S1x384x1024 .f32 :=
  addf (mulf (broadcastInDim S1x384x1024 ![] bcast_S_S1x384x1024 (constant S_ .f32 0x3F666666#32)) x)
    (mulf (broadcastInDim S1x384x1024 ![] bcast_S_S1x384x1024 (constant S_ .f32 0x3DCCCCCD#32)) g)
def vV : FVec Ideal S1x384x1024 .f32 :=
  addf (mulf (broadcastInDim S1x384x1024 ![] bcast_S_S1x384x1024 (constant S_ .f32 0x3F7FBE77#32)) x)
    (mulf (broadcastInDim S1x384x1024 ![] bcast_S_S1x384x1024 (constant S_ .f32 0x3A83126F#32)) (mulf g g))
def dV : FVec Ideal S1x384x1024 .f32 :=
  mulf (broadcastInDim S1x384x1024 ![] bcast_S_S1x384x1024 (constant S_ .f32 0xBA83126F#32))
    (addf (Host.divf (Host.divf (mV g x) (broadcastInDim S1x384x1024 ![] bcast_S_S1x384x1024 (constant S_ .f32 0x3F26BD02#32)))
        (addf (Host.sqrt (Host.divf (vV g y) (broadcastInDim S1x384x1024 ![] bcast_S_S1x384x1024 (constant S_ .f32 0x3C231ACC#32))))
          (broadcastInDim S1x384x1024 ![] bcast_S_S1x384x1024 (constant S_ .f32 0x322BCC77#32))))
      (mulf (broadcastInDim S1x384x1024 ![] bcast_S_S1x384x1024 (constant S_ .f32 0x3C23D70A#32)) w))

variable (n : Fin 384) (k : Fin 1024)
theorem gV_at : gV p (ix3 0 n k) = ∑ s : Fin 8, p (ix3 s n k) := by
  pointwise [gV]
theorem mV_at : mV g x (ix3 0 n k) = newM (g (ix3 0 n k)) (x (ix3 0 n k)) := rfl
theorem vV_at : vV g x (ix3 0 n k) = newV (g (ix3 0 n k)) (x (ix3 0 n k)) := rfl
theorem dV_at : dV w g x y (ix3 0 n k) = delta (w (ix3 0 n k)) (g (ix3 0 n k)) (x (ix3 0 n k)) (y (ix3 0 n k)) := rfl
end

end AdamQkv

namespace AdamQkv

open Idealize.ShloMosaic Idealize.SL.Sem MixRows Cert.Kernel20Ideal Cert.Kernel20Ideal.Gen Cert.Kernel20Ideal.Value
open FfnBwd (starts starts_zero)
open AdamParts (newM newV delta ix3_of starts_one)

section
variable (r : Fin 192) (k : Fin 1024)

/-! The values a point computes from what it reads, at an index. -/
theorem sum_at (x0 x1 x2 x3 x4 x5 x6 x7 : Vec Ideal S1x192x1024 .f32) :
    k0_pay4 (F := Ideal) x0 x1 x2 x3 x4 x5 x6 x7 (ix3 0 r k) = x0 (ix3 0 r k) + x1 (ix3 0 r k) + x2 (ix3 0 r k) + x3 (ix3 0 r k)
      + x4 (ix3 0 r k) + x5 (ix3 0 r k) + x6 (ix3 0 r k) + x7 (ix3 0 r k) := by
  pointwise [k0_pay4]
theorem newM_at (g m : Vec Ideal S1x192x1024 .f32) :
    k0_pay2 (k0_pay6 (F := Ideal) g m) (ix3 0 r k) = newM (g (ix3 0 r k)) (m (ix3 0 r k)) := by
  pointwise [k0_pay2, k0_pay6, k0_pay5]
  rfl
theorem newV_at (g v : Vec Ideal S1x192x1024 .f32) :
    k0_pay3 (k0_pay7 (F := Ideal) g v) (ix3 0 r k) = newV (g (ix3 0 r k)) (v (ix3 0 r k)) := by
  pointwise [k0_pay3, k0_pay7, k0_pay5]
  rfl
theorem delta_at (w g m v : Vec Ideal S1x192x1024 .f32) :
    k0_pay1 (k0_pay8 (F := Ideal) w g m v) k0_pay9 (ix3 0 r k)
      = delta (w (ix3 0 r k)) (g (ix3 0 r k)) (m (ix3 0 r k)) (v (ix3 0 r k)) := by
  pointwise [k0_pay1, k0_pay9, k0_pay8, k0_pay6, k0_pay7, k0_pay5]
  rfl

/-- The sum of a point's rows over the devices, as the body takes it: eight slices added up one after the other. -/
theorem slices (X : Vec Ideal S8x192x1024 .f32) :
    k0_pay4 (F := Ideal)
      (View.ld X (Rect.unit ![0, 0, 0] ![1, 192, 1024] inb_S8x192x1024_S1x192x1024_0_0_0))
      (View.ld X (Rect.unit ![1, 0, 0] ![1, 192, 1024] inb_S8x192x1024_S1x192x1024_1_0_0))
      (View.ld X (Rect.unit ![2, 0, 0] ![1, 192, 1024] inb_S8x192x1024_S1x192x1024_2_0_0))
      (View.ld X (Rect.unit ![3, 0, 0] ![1, 192, 1024] inb_S8x192x1024_S1x192x1024_3_0_0))
      (View.ld X (Rect.unit ![4, 0, 0] ![1, 192, 1024] inb_S8x192x1024_S1x192x1024_4_0_0))
      (View.ld X (Rect.unit ![5, 0, 0] ![1, 192, 1024] inb_S8x192x1024_S1x192x1024_5_0_0))
      (View.ld X (Rect.unit ![6, 0, 0] ![1, 192, 1024] inb_S8x192x1024_S1x192x1024_6_0_0))
      (View.ld X (Rect.unit ![7, 0, 0] ![1, 192, 1024] inb_S8x192x1024_S1x192x1024_7_0_0)) (ix3 0 r k) = ∑ s : Fin 8, X (ix3 s r k) := by
  have e (j : ℕ) (hj : j < 8) (inb) :
      View.ld X (Rect.unit (s := S8x192x1024) ![j, 0, 0] ![1, 192, 1024] inb) (ix3 0 r k) = X (ix3 ⟨j, hj⟩ r k) :=
    (ld3_at X j 0 0 1 192 1024 inb 0 r k hj (by omega) (by omega)).trans
      (congrArg X (by simp only [Nat.zero_add, Fin.val_zero, Nat.add_zero, Fin.eta]))
  rw [sum_at, Fin.sum_univ_eight, e 0 (by decide), e 1 (by decide), e 2 (by decide), e 3 (by decide), e 4 (by decide), e 5 (by decide),
    e 6 (by decide), e 7 (by decide)]
  rfl
end

section
variable (m : (ℓ : Loc nD τ sig) → Buf (Elt Ideal) ℓ) (c : Dev nD)

/-! The arguments: the parts of the gradient, the weight and the two moments. -/
abbrev aP : FVec Ideal S8x384x1024 .f32 := m ((c.tc : Thread nD τ).loc main_arg0)
abbrev aW : FVec Ideal S1x384x1024 .f32 := m ((c.tc : Thread nD τ).loc main_arg1)
abbrev aM : FVec Ideal S1x384x1024 .f32 := m ((c.tc : Thread nD τ).loc main_arg2)
abbrev aV : FVec Ideal S1x384x1024 .f32 := m ((c.tc : Thread nD τ).loc main_arg3)

/-- The row of the array that row `r` of a point's block is. -/
def rowOf (t : Fin cfg0.N) (r : Fin 192) : Fin 384 := ⟨t.val * 192 + r, by have h := lt_of_lt_of_eq t.isLt N_0; omega⟩
theorem row_split (n : Fin 384) : ∃ (t : Fin cfg0.N) (r : Fin 192), n = rowOf t r :=
  ⟨⟨n.val / 192, lt_of_lt_of_eq (by omega : n.val / 192 < 2) N_0.symm⟩, ⟨n.val % 192, Nat.mod_lt _ (by decide)⟩,
    Fin.ext (by show n.val = n.val / 192 * 192 + n.val % 192; omega)⟩

/-- Where the blocks of the inputs and of the results lie. -/
theorem idx : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0) := by decide +kernel
theorem idxOut : ∀ t : Fin cfg0.N,
    (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0) := by decide +kernel

variable (t : Fin cfg0.N)

/-! The blocks the point reads. -/
abbrev bP : Vec Ideal S8x192x1024 .f32 := iblk m c 0 t
abbrev bW : Vec Ideal S1x192x1024 .f32 := iblk m c 1 t
abbrev bM : Vec Ideal S1x192x1024 .f32 := iblk m c 2 t
abbrev bV : Vec Ideal S1x192x1024 .f32 := iblk m c 3 t

variable (r : Fin 192) (k : Fin 1024) (s : Fin 8)

theorem bP_at : bP m c t (ix3 s r k) = aP m c (ix3 s (rowOf t r) k) := by
  unfold rowOf
  blk_ext! [bP, iblk, V, idx t]
theorem bW_at : bW m c t (ix3 0 r k) = aW m c (ix3 0 (rowOf t r) k) := by
  unfold rowOf
  blk_ext! [bW, iblk, V, idx t]
theorem bM_at : bM m c t (ix3 0 r k) = aM m c (ix3 0 (rowOf t r) k) := by
  unfold rowOf
  blk_ext! [bM, iblk, V, idx t]
theorem bV_at : bV m c t (ix3 0 r k) = aV m c (ix3 0 (rowOf t r) k) := by
  unfold rowOf
  blk_ext! [bV, iblk, V, idx t]

/-- What the body sums is the reference's sum. -/
theorem sum_eq : ∑ s : Fin 8, bP m c t (ix3 s r k) = gV (aP m c) (ix3 0 (rowOf t r) k) :=
  (Finset.sum_congr rfl fun s _ => bP_at m c t r k s).trans (gV_at (aP m c) (rowOf t r) k).symm

/-! What the point leaves in its four outputs. -/
theorem g_point : (outsAt0 m c t).1 (ix3 0 r k) = gV (aP m c) (ix3 0 (rowOf t r) k) := by
  unfold outsAt0
  dsimp only
  frame_open
  frame_out
  exact (slices r k _).trans (sum_eq m c t r k)
theorem d_point : (outsAt0 m c t).2.1 (ix3 0 r k) = dV (aW m c) (gV (aP m c)) (aM m c) (aV m c) (ix3 0 (rowOf t r) k) := by
  rw [dV_at, ← bW_at, ← bM_at, ← bV_at]
  unfold outsAt0
  dsimp only
  frame_open
  simp (disch := decide) only [↓ View.readCov_skip, ↓ View.readCov_cons_toLoadRect, ↓ View.readCov_fill]
  frame_out
  exact (delta_at r k _ _ _ _).trans (congrArg (fun g => delta (bW m c t (ix3 0 r k)) g (bM m c t (ix3 0 r k)) (bV m c t (ix3 0 r k))) ((slices r k _).trans (sum_eq m c t r k)))
theorem m_point : (outsAt0 m c t).2.2.1 (ix3 0 r k) = mV (gV (aP m c)) (aM m c) (ix3 0 (rowOf t r) k) := by
  rw [mV_at, ← bM_at]
  unfold outsAt0
  dsimp only
  frame_open
  simp (disch := decide) only [↓ View.readCov_skip, ↓ View.readCov_cons_toLoadRect, ↓ View.readCov_fill]
  frame_out
  exact (newM_at r k _ _).trans (congrArg (fun g => newM g (bM m c t (ix3 0 r k))) ((slices r k _).trans (sum_eq m c t r k)))
theorem v_point : (outsAt0 m c t).2.2.2 (ix3 0 r k) = vV (gV (aP m c)) (aV m c) (ix3 0 (rowOf t r) k) := by
  rw [vV_at, ← bV_at]
  unfold outsAt0
  dsimp only
  frame_open
  simp (disch := decide) only [↓ View.readCov_skip, ↓ View.readCov_cons_toLoadRect, ↓ View.readCov_fill]
  frame_out
  exact (newV_at r k _ _).trans (congrArg (fun g => newV g (bV m c t (ix3 0 r k))) ((slices r k _).trans (sum_eq m c t r k)))
end

section
variable (m : (ℓ : Loc nD τ sig) → Buf (Elt Ideal) ℓ) (c : Dev nD)

/-! The four result arrays, from the blocks that the points leave. -/
def out0 : FVec Ideal S1x384x1024 .f32 := (dats m 0 c).arrAt 4 cfg0.N
theorem whole0 : out0 m c = gV (aP m c) := ext3 fun l n k => by
  obtain rfl : l = 0 := Subsingleton.elim _ _
  obtain ⟨t, r, rfl⟩ := row_split n
  exact ((congrArg (out0 m c) (ix3_of (starts_one (idxOut t).1.1) (starts _ _ (idxOut t).1.2.1) (starts_zero _ (idxOut t).1.2.2))).trans
    (congrFun ((blocks4 m c t (flush0_4 t)).trans (flushed4 m c t)) (ix3 0 r k))).trans (g_point m c t r k)
def out1 : FVec Ideal S1x384x1024 .f32 := (dats m 0 c).arrAt 5 cfg0.N
theorem whole1 : out1 m c = dV (aW m c) (gV (aP m c)) (aM m c) (aV m c) := ext3 fun l n k => by
  obtain rfl : l = 0 := Subsingleton.elim _ _
  obtain ⟨t, r, rfl⟩ := row_split n
  exact ((congrArg (out1 m c) (ix3_of (starts_one (idxOut t).2.1.1) (starts _ _ (idxOut t).2.1.2.1) (starts_zero _ (idxOut t).2.1.2.2))).trans
    (congrFun ((blocks5 m c t (flush0_5 t)).trans (flushed5 m c t)) (ix3 0 r k))).trans (d_point m c t r k)
def out2 : FVec Ideal S1x384x1024 .f32 := (dats m 0 c).arrAt 6 cfg0.N
theorem whole2 : out2 m c = mV (gV (aP m c)) (aM m c) := ext3 fun l n k => by
  obtain rfl : l = 0 := Subsingleton.elim _ _
  obtain ⟨t, r, rfl⟩ := row_split n
  exact ((congrArg (out2 m c) (ix3_of (starts_one (idxOut t).2.2.1.1) (starts _ _ (idxOut t).2.2.1.2.1) (starts_zero _ (idxOut t).2.2.1.2.2))).trans
    (congrFun ((blocks6 m c t (flush0_6 t)).trans (flushed6 m c t)) (ix3 0 r k))).trans (m_point m c t r k)
def out3 : FVec Ideal S1x384x1024 .f32 := (dats m 0 c).arrAt 7 cfg0.N
theorem whole3 : out3 m c = vV (gV (aP m c)) (aV m c) := ext3 fun l n k => by
  obtain rfl : l = 0 := Subsingleton.elim _ _
  obtain ⟨t, r, rfl⟩ := row_split n
  exact ((congrArg (out3 m c) (ix3_of (starts_one (idxOut t).2.2.2.1) (starts _ _ (idxOut t).2.2.2.2.1) (starts_zero _ (idxOut t).2.2.2.2.2))).trans
    (congrFun ((blocks7 m c t (flush0_7 t)).trans (flushed7 m c t)) (ix3 0 r k))).trans (v_point m c t r k)
end

/-- The two programs agree on all four results. -/
theorem algebraic : Cert.algebraic_Kernel20Ideal_Reference20Ideal := by
  intro m g m' g' _ ha
  refine ⟨fun c => out0 m c, fun c => out1 m c, fun c => out2 m c, fun c => out3 m c, run_blocks m g, ?_⟩
  refine θ_run_mono (Cert.Reference20Ideal.Value.run m' g') fun r hr c => ?_
  obtain ⟨r0, r1, r2, r3, kept⟩ := hr c
  obtain ⟨h0, h1, h2, h3⟩ := ha c
  rw [h0] at r0
  rw [h0, h1, h2, h3] at r1
  rw [h0, h2] at r2
  rw [h0, h3] at r3
  exact ⟨r0.trans (whole0 m c).symm, r1.trans (whole1 m c).symm, r2.trans (whole2 m c).symm, r3.trans (whole3 m c).symm, kept⟩

end AdamQkv

end
-- ==== Proof.AdamIn.lean ====
module

public import proofs.«01_k».proof.Proof.Gen.Kernel21Ideal.Value
public import proofs.«01_k».proof.Proof.Gen.Reference21Ideal.Run
public import proofs.«01_k».proof.Proof.AdamParts

/-!
The optimiser's step on the mixers' input projection, as in `AdamParts`, of one layer.
-/

@[expose] public section

set_option maxRecDepth 16384

noncomputable section

namespace AdamIn

open Idealize.ShloMosaic MixRows Cert.Reference21Ideal Cert.Reference21Ideal.Gen
open AdamParts (newM newV delta)

/-! The reference's arrays. -/
section
variable (p : FVec Ideal S8x256x1024 .f32) (w g x y : FVec Ideal S1x256x1024 .f32)

/-- The sum over the devices. -/
def gV : FVec Ideal S1x256x1024 .f32 :=
  broadcastInDim S1x256x1024 ![1, 2] bcast_S256x1024_S1x256x1024_1_2
    (Host.reduceAdd p (constant S_ .f32 0x00000000#32) reducesTo_S8x256x1024_S256x1024_d0 h_S_)
/-- The first moment after the step, from the sum `g` and the moment `x` before it; the second; and the step. -/
def mV : FVec Ideal S1x256x1024 .f32 :=
  addf (mulf (broadcastInDim S1x256x1024 ![] bcast_S_S1x256x1024 (constant S_ .f32 0x3F666666#32)) x)
    (mulf (broadcastInDim S1x256x1024 ![] bcast_S_S1x256x1024 (constant S_ .f32 0x3DCCCCCD#32)) g)
def vV : FVec Ideal S1x256x1024 .f32 :=
  addf (mulf (broadcastInDim S1x256x1024 ![] bcast_S_S1x256x1024 (constant S_ .f32 0x3F7FBE77#32)) x)
    (mulf (broadcastInDim S1x256x1024 ![] bcast_S_S1x256x1024 (constant S_ .f32 0x3A83126F#32)) (mulf g g))
def dV : FVec Ideal S1x256x1024 .f32 :=
  mulf (broadcastInDim S1x256x1024 ![] bcast_S_S1x256x1024 (constant S_ .f32 0xBA83126F#32))
    (addf (Host.divf (Host.divf (mV g x) (broadcastInDim S1x256x1024 ![] bcast_S_S1x256x1024 (constant S_ .f32 0x3F26BD02#32)))
        (addf (Host.sqrt (Host.divf (vV g y) (broadcastInDim S1x256x1024 ![] bcast_S_S1x256x1024 (constant S_ .f32 0x3C231ACC#32))))
          (broadcastInDim S1x256x1024 ![] bcast_S_S1x256x1024 (constant S_ .f32 0x322BCC77#32))))
      (mulf (broadcastInDim S1x256x1024 ![] bcast_S_S1x256x1024 (constant S_ .f32 0x3C23D70A#32)) w))

variable (n : Fin 256) (k : Fin 1024)
theorem gV_at : gV p (ix3 0 n k) = ∑ s : Fin 8, p (ix3 s n k) := by
  pointwise [gV]
theorem mV_at : mV g x (ix3 0 n k) = newM (g (ix3 0 n k)) (x (ix3 0 n k)) := rfl
theorem vV_at : vV g x (ix3 0 n k) = newV (g (ix3 0 n k)) (x (ix3 0 n k)) := rfl
theorem dV_at : dV w g x y (ix3 0 n k) = delta (w (ix3 0 n k)) (g (ix3 0 n k)) (x (ix3 0 n k)) (y (ix3 0 n k)) := rfl
end

end AdamIn

namespace AdamIn

open Idealize.ShloMosaic Idealize.SL.Sem MixRows Cert.Kernel21Ideal Cert.Kernel21Ideal.Gen Cert.Kernel21Ideal.Value
open FfnBwd (starts starts_zero)
open AdamParts (newM newV delta ix3_of starts_one)

section
variable (r : Fin 128) (k : Fin 1024)

/-! The values a point computes from what it reads, at an index. -/
theorem sum_at (x0 x1 x2 x3 x4 x5 x6 x7 : Vec Ideal S1x128x1024 .f32) :
    k0_pay4 (F := Ideal) x0 x1 x2 x3 x4 x5 x6 x7 (ix3 0 r k) = x0 (ix3 0 r k) + x1 (ix3 0 r k) + x2 (ix3 0 r k) + x3 (ix3 0 r k)
      + x4 (ix3 0 r k) + x5 (ix3 0 r k) + x6 (ix3 0 r k) + x7 (ix3 0 r k) := by
  pointwise [k0_pay4]
theorem newM_at (g m : Vec Ideal S1x128x1024 .f32) :
    k0_pay2 (k0_pay6 (F := Ideal) g m) (ix3 0 r k) = newM (g (ix3 0 r k)) (m (ix3 0 r k)) := by
  pointwise [k0_pay2, k0_pay6, k0_pay5]
  rfl
theorem newV_at (g v : Vec Ideal S1x128x1024 .f32) :
    k0_pay3 (k0_pay7 (F := Ideal) g v) (ix3 0 r k) = newV (g (ix3 0 r k)) (v (ix3 0 r k)) := by
  pointwise [k0_pay3, k0_pay7, k0_pay5]
  rfl
theorem delta_at (w g m v : Vec Ideal S1x128x1024 .f32) :
    k0_pay1 (k0_pay8 (F := Ideal) w g m v) k0_pay9 (ix3 0 r k)
      = delta (w (ix3 0 r k)) (g (ix3 0 r k)) (m (ix3 0 r k)) (v (ix3 0 r k)) := by
  pointwise [k0_pay1, k0_pay9, k0_pay8, k0_pay6, k0_pay7, k0_pay5]
  rfl

/-- The sum of a point's rows over the devices, as the body takes it: eight slices added up one after the other. -/
theorem slices (X : Vec Ideal S8x128x1024 .f32) :
    k0_pay4 (F := Ideal)
      (View.ld X (Rect.unit ![0, 0, 0] ![1, 128, 1024] inb_S8x128x1024_S1x128x1024_0_0_0))
      (View.ld X (Rect.unit ![1, 0, 0] ![1, 128, 1024] inb_S8x128x1024_S1x128x1024_1_0_0))
      (View.ld X (Rect.unit ![2, 0, 0] ![1, 128, 1024] inb_S8x128x1024_S1x128x1024_2_0_0))
      (View.ld X (Rect.unit ![3, 0, 0] ![1, 128, 1024] inb_S8x128x1024_S1x128x1024_3_0_0))
      (View.ld X (Rect.unit ![4, 0, 0] ![1, 128, 1024] inb_S8x128x1024_S1x128x1024_4_0_0))
      (View.ld X (Rect.unit ![5, 0, 0] ![1, 128, 1024] inb_S8x128x1024_S1x128x1024_5_0_0))
      (View.ld X (Rect.unit ![6, 0, 0] ![1, 128, 1024] inb_S8x128x1024_S1x128x1024_6_0_0))
      (View.ld X (Rect.unit ![7, 0, 0] ![1, 128, 1024] inb_S8x128x1024_S1x128x1024_7_0_0)) (ix3 0 r k) = ∑ s : Fin 8, X (ix3 s r k) := by
  have e (j : ℕ) (hj : j < 8) (inb) :
      View.ld X (Rect.unit (s := S8x128x1024) ![j, 0, 0] ![1, 128, 1024] inb) (ix3 0 r k) = X (ix3 ⟨j, hj⟩ r k) :=
    (ld3_at X j 0 0 1 128 1024 inb 0 r k hj (by omega) (by omega)).trans
      (congrArg X (by simp only [Nat.zero_add, Fin.val_zero, Nat.add_zero, Fin.eta]))
  rw [sum_at, Fin.sum_univ_eight, e 0 (by decide), e 1 (by decide), e 2 (by decide), e 3 (by decide), e 4 (by decide), e 5 (by decide),
    e 6 (by decide), e 7 (by decide)]
  rfl
end

section
variable (m : (ℓ : Loc nD τ sig) → Buf (Elt Ideal) ℓ) (c : Dev nD)

/-! The arguments: the parts of the gradient, the weight and the two moments. -/
abbrev aP : FVec Ideal S8x256x1024 .f32 := m ((c.tc : Thread nD τ).loc main_arg0)
abbrev aW : FVec Ideal S1x256x1024 .f32 := m ((c.tc : Thread nD τ).loc main_arg1)
abbrev aM : FVec Ideal S1x256x1024 .f32 := m ((c.tc : Thread nD τ).loc main_arg2)
abbrev aV : FVec Ideal S1x256x1024 .f32 := m ((c.tc : Thread nD τ).loc main_arg3)

/-- The row of the array that row `r` of a point's block is. -/
def rowOf (t : Fin cfg0.N) (r : Fin 128) : Fin 256 := ⟨t.val * 128 + r, by have h := lt_of_lt_of_eq t.isLt N_0; omega⟩
theorem row_split (n : Fin 256) : ∃ (t : Fin cfg0.N) (r : Fin 128), n = rowOf t r :=
  ⟨⟨n.val / 128, lt_of_lt_of_eq (by omega : n.val / 128 < 2) N_0.symm⟩, ⟨n.val % 128, Nat.mod_lt _ (by decide)⟩,
    Fin.ext (by show n.val = n.val / 128 * 128 + n.val % 128; omega)⟩

/-- Where the blocks of the inputs and of the results lie. -/
theorem idx : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0) := by decide +kernel
theorem idxOut : ∀ t : Fin cfg0.N,
    (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0) := by decide +kernel

variable (t : Fin cfg0.N)

/-! The blocks the point reads. -/
abbrev bP : Vec Ideal S8x128x1024 .f32 := iblk m c 0 t
abbrev bW : Vec Ideal S1x128x1024 .f32 := iblk m c 1 t
abbrev bM : Vec Ideal S1x128x1024 .f32 := iblk m c 2 t
abbrev bV : Vec Ideal S1x128x1024 .f32 := iblk m c 3 t

variable (r : Fin 128) (k : Fin 1024) (s : Fin 8)

theorem bP_at : bP m c t (ix3 s r k) = aP m c (ix3 s (rowOf t r) k) := by
  unfold rowOf
  blk_ext! [bP, iblk, V, idx t]
theorem bW_at : bW m c t (ix3 0 r k) = aW m c (ix3 0 (rowOf t r) k) := by
  unfold rowOf
  blk_ext! [bW, iblk, V, idx t]
theorem bM_at : bM m c t (ix3 0 r k) = aM m c (ix3 0 (rowOf t r) k) := by
  unfold rowOf
  blk_ext! [bM, iblk, V, idx t]
theorem bV_at : bV m c t (ix3 0 r k) = aV m c (ix3 0 (rowOf t r) k) := by
  unfold rowOf
  blk_ext! [bV, iblk, V, idx t]

/-- What the body sums is the reference's sum. -/
theorem sum_eq : ∑ s : Fin 8, bP m c t (ix3 s r k) = gV (aP m c) (ix3 0 (rowOf t r) k) :=
  (Finset.sum_congr rfl fun s _ => bP_at m c t r k s).trans (gV_at (aP m c) (rowOf t r) k).symm

/-! What the point leaves in its four outputs. -/
theorem g_point : (outsAt0 m c t).1 (ix3 0 r k) = gV (aP m c) (ix3 0 (rowOf t r) k) := by
  unfold outsAt0
  dsimp only
  frame_open
  frame_out
  exact (slices r k _).trans (sum_eq m c t r k)
theorem d_point : (outsAt0 m c t).2.1 (ix3 0 r k) = dV (aW m c) (gV (aP m c)) (aM m c) (aV m c) (ix3 0 (rowOf t r) k) := by
  rw [dV_at, ← bW_at, ← bM_at, ← bV_at]
  unfold outsAt0
  dsimp only
  frame_open
  simp (disch := decide) only [↓ View.readCov_skip, ↓ View.readCov_cons_toLoadRect, ↓ View.readCov_fill]
  frame_out
  exact (delta_at r k _ _ _ _).trans (congrArg (fun g => delta (bW m c t (ix3 0 r k)) g (bM m c t (ix3 0 r k)) (bV m c t (ix3 0 r k))) ((slices r k _).trans (sum_eq m c t r k)))
theorem m_point : (outsAt0 m c t).2.2.1 (ix3 0 r k) = mV (gV (aP m c)) (aM m c) (ix3 0 (rowOf t r) k) := by
  rw [mV_at, ← bM_at]
  unfold outsAt0
  dsimp only
  frame_open
  simp (disch := decide) only [↓ View.readCov_skip, ↓ View.readCov_cons_toLoadRect, ↓ View.readCov_fill]
  frame_out
  exact (newM_at r k _ _).trans (congrArg (fun g => newM g (bM m c t (ix3 0 r k))) ((slices r k _).trans (sum_eq m c t r k)))
theorem v_point : (outsAt0 m c t).2.2.2 (ix3 0 r k) = vV (gV (aP m c)) (aV m c) (ix3 0 (rowOf t r) k) := by
  rw [vV_at, ← bV_at]
  unfold outsAt0
  dsimp only
  frame_open
  simp (disch := decide) only [↓ View.readCov_skip, ↓ View.readCov_cons_toLoadRect, ↓ View.readCov_fill]
  frame_out
  exact (newV_at r k _ _).trans (congrArg (fun g => newV g (bV m c t (ix3 0 r k))) ((slices r k _).trans (sum_eq m c t r k)))
end

section
variable (m : (ℓ : Loc nD τ sig) → Buf (Elt Ideal) ℓ) (c : Dev nD)

/-! The four result arrays, from the blocks that the points leave. -/
def out0 : FVec Ideal S1x256x1024 .f32 := (dats m 0 c).arrAt 4 cfg0.N
theorem whole0 : out0 m c = gV (aP m c) := ext3 fun l n k => by
  obtain rfl : l = 0 := Subsingleton.elim _ _
  obtain ⟨t, r, rfl⟩ := row_split n
  exact ((congrArg (out0 m c) (ix3_of (starts_one (idxOut t).1.1) (starts _ _ (idxOut t).1.2.1) (starts_zero _ (idxOut t).1.2.2))).trans
    (congrFun ((blocks4 m c t (flush0_4 t)).trans (flushed4 m c t)) (ix3 0 r k))).trans (g_point m c t r k)
def out1 : FVec Ideal S1x256x1024 .f32 := (dats m 0 c).arrAt 5 cfg0.N
theorem whole1 : out1 m c = dV (aW m c) (gV (aP m c)) (aM m c) (aV m c) := ext3 fun l n k => by
  obtain rfl : l = 0 := Subsingleton.elim _ _
  obtain ⟨t, r, rfl⟩ := row_split n
  exact ((congrArg (out1 m c) (ix3_of (starts_one (idxOut t).2.1.1) (starts _ _ (idxOut t).2.1.2.1) (starts_zero _ (idxOut t).2.1.2.2))).trans
    (congrFun ((blocks5 m c t (flush0_5 t)).trans (flushed5 m c t)) (ix3 0 r k))).trans (d_point m c t r k)
def out2 : FVec Ideal S1x256x1024 .f32 := (dats m 0 c).arrAt 6 cfg0.N
theorem whole2 : out2 m c = mV (gV (aP m c)) (aM m c) := ext3 fun l n k => by
  obtain rfl : l = 0 := Subsingleton.elim _ _
  obtain ⟨t, r, rfl⟩ := row_split n
  exact ((congrArg (out2 m c) (ix3_of (starts_one (idxOut t).2.2.1.1) (starts _ _ (idxOut t).2.2.1.2.1) (starts_zero _ (idxOut t).2.2.1.2.2))).trans
    (congrFun ((blocks6 m c t (flush0_6 t)).trans (flushed6 m c t)) (ix3 0 r k))).trans (m_point m c t r k)
def out3 : FVec Ideal S1x256x1024 .f32 := (dats m 0 c).arrAt 7 cfg0.N
theorem whole3 : out3 m c = vV (gV (aP m c)) (aV m c) := ext3 fun l n k => by
  obtain rfl : l = 0 := Subsingleton.elim _ _
  obtain ⟨t, r, rfl⟩ := row_split n
  exact ((congrArg (out3 m c) (ix3_of (starts_one (idxOut t).2.2.2.1) (starts _ _ (idxOut t).2.2.2.2.1) (starts_zero _ (idxOut t).2.2.2.2.2))).trans
    (congrFun ((blocks7 m c t (flush0_7 t)).trans (flushed7 m c t)) (ix3 0 r k))).trans (v_point m c t r k)
end

/-- The two programs agree on all four results. -/
theorem algebraic : Cert.algebraic_Kernel21Ideal_Reference21Ideal := by
  intro m g m' g' _ ha
  refine ⟨fun c => out0 m c, fun c => out1 m c, fun c => out2 m c, fun c => out3 m c, run_blocks m g, ?_⟩
  refine θ_run_mono (Cert.Reference21Ideal.Value.run m' g') fun r hr c => ?_
  obtain ⟨r0, r1, r2, r3, kept⟩ := hr c
  obtain ⟨h0, h1, h2, h3⟩ := ha c
  rw [h0] at r0
  rw [h0, h1, h2, h3] at r1
  rw [h0, h2] at r2
  rw [h0, h3] at r3
  exact ⟨r0.trans (whole0 m c).symm, r1.trans (whole1 m c).symm, r2.trans (whole2 m c).symm, r3.trans (whole3 m c).symm, kept⟩

end AdamIn

end
-- ==== Proof.SmallSum.lean ====
module

public import proofs.«01_k».proof.Proof.Gen.Kernel22Ideal.Value
public import proofs.«01_k».proof.Proof.Gen.Reference22Ideal.Run
public import proofs.«01_k».proof.Proof.KerB
public import proofs.«01_k».proof.Proof.Whole

/-!
The sum over the devices of the small weights' gradients and the loss, packed into one array.
-/

@[expose] public section

set_option maxRecDepth 16384

noncomputable section

namespace SmallSum

open Idealize.ShloMosaic Idealize.SL.Sem MixRows Cert.Kernel22Ideal Cert.Kernel22Ideal.Gen Cert.Kernel22Ideal.Value

/-- What the body sums, at an index. -/
theorem sum_at (x0 x1 x2 x3 x4 x5 x6 x7 : Vec Ideal S1x720x128 .f32) (r : Fin 720) (k : Fin 128) :
    k0_pay1 (F := Ideal) x0 x1 x2 x3 x4 x5 x6 x7 (ix2 r k) = x0 (ix3 0 r k) + x1 (ix3 0 r k) + x2 (ix3 0 r k) + x3 (ix3 0 r k)
      + x4 (ix3 0 r k) + x5 (ix3 0 r k) + x6 (ix3 0 r k) + x7 (ix3 0 r k) := by
  pointwise [k0_pay1]
/-- The call's result is the sum over the devices. -/
theorem slices (X : Vec Ideal S8x720x128 .f32) (r : Fin 720) (k : Fin 128) :
    G1 (F := Ideal) X (ix2 r k) = ∑ s : Fin 8, X (ix3 s r k) := by
  have e (j : ℕ) (hj : j < 8) (inb) :
      View.ld X (Rect.unit (s := S8x720x128) ![j, 0, 0] ![1, 720, 128] inb) (ix3 0 r k) = X (ix3 ⟨j, hj⟩ r k) :=
    (ld3_at X j 0 0 1 720 128 inb 0 r k hj (by omega) (by omega)).trans
      (congrArg X (by simp only [Nat.zero_add, Fin.val_zero, Nat.add_zero, Fin.eta]))
  refine (sum_at _ _ _ _ _ _ _ _ r k).trans ?_
  rw [Fin.sum_univ_eight]
  exact congrArg₂ (· + ·) (congrArg₂ (· + ·) (congrArg₂ (· + ·) (congrArg₂ (· + ·) (congrArg₂ (· + ·) (congrArg₂ (· + ·) (congrArg₂ (· + ·)
    (e 0 (by decide) _) (e 1 (by decide) _)) (e 2 (by decide) _)) (e 3 (by decide) _)) (e 4 (by decide) _)) (e 5 (by decide) _))
    (e 6 (by decide) _)) (e 7 (by decide) _)

/-- The reference's sum. -/
def sumV (X : FVec Ideal Cert.Reference22Ideal.S8x720x128 .f32) : FVec Ideal Cert.Reference22Ideal.S720x128 .f32 :=
  Host.reduceAdd X (constant Cert.Reference22Ideal.S_ .f32 0x00000000#32) Cert.Reference22Ideal.Gen.reducesTo_S8x720x128_S720x128_d0
    Cert.Reference22Ideal.Gen.h_S_
theorem sumV_at (X : FVec Ideal Cert.Reference22Ideal.S8x720x128 .f32) (r : Fin 720) (k : Fin 128) :
    sumV X (ix2 r k) = ∑ s : Fin 8, X (ix3 s r k) := by
  pointwise [sumV]

/-- The two programs agree on the sum. -/
theorem algebraic : Cert.algebraic_Kernel22Ideal_Reference22Ideal := by
  intro m g m' g' _ ha
  refine ⟨fun c => G1 (m ((c.tc : Thread nD τ).loc main_arg0)), Cert.Kernel22Ideal.Value.run m g, ?_⟩
  refine θ_run_mono (Cert.Reference22Ideal.Value.run m' g') fun r hr c => ?_
  obtain ⟨r0, kept⟩ := hr c
  have h0 := ha c
  rw [h0] at r0
  exact ⟨r0.trans (ext2 fun n k => (sumV_at _ n k).trans (slices _ n k).symm), kept⟩

end SmallSum

end
-- ==== Proof.lean ====
module

public import proofs.«01_k».proof.Defs
public import proofs.«01_k».proof.Proof.Gen.KernelIdeal.Value
public import proofs.«01_k».proof.Proof.Whole
public import proofs.«01_k».proof.Proof.WholeFfn
public import proofs.«01_k».proof.Proof.WeightGrad
public import proofs.«01_k».proof.Proof.WeightGrad16
public import proofs.«01_k».proof.Proof.FfnFwd
public import proofs.«01_k».proof.Proof.ProjBwd
public import proofs.«01_k».proof.Proof.ProjFfn
public import proofs.«01_k».proof.Proof.WeightSquare
public import proofs.«01_k».proof.Proof.ProjIn
public import proofs.«01_k».proof.Proof.WholeLoss
public import proofs.«01_k».proof.Proof.ProjInMix
public import proofs.«01_k».proof.Proof.WeightOut
public import proofs.«01_k».proof.Proof.ProjBack
public import proofs.«01_k».proof.Proof.ProjBack32
public import proofs.«01_k».proof.Proof.ProjBwdMix
public import proofs.«01_k».proof.Proof.Adam
public import proofs.«01_k».proof.Proof.AdamParts
public import proofs.«01_k».proof.Proof.AdamParts16
public import proofs.«01_k».proof.Proof.AdamOut
public import proofs.«01_k».proof.Proof.AdamQkv
public import proofs.«01_k».proof.Proof.AdamIn
public import proofs.«01_k».proof.Proof.SmallSum
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Pre_finite_layer
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9Ideal.Value
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10Ideal.Value
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11Ideal.Value
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12Ideal.Value
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13Ideal.Value
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14Ideal.Value
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15Ideal.Value
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16Ideal.Value
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17Ideal.Value
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18Ideal.Value
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19Ideal.Value
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20Ideal.Value
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21Ideal.Value
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22Ideal.Value
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_rows
public import Idealize.ShloMosaic.Adequacy
public import Idealize.ShloMosaic.Init

@[expose] public section

noncomputable section

namespace Cert.Proof

open Idealize.ShloMosaic Idealize.SL.Sem Cert.Kernel

/-- The reference's frame: its host run read at the arguments. It declares no semaphore. -/
theorem frame_reference : Cert.quiescent_ReferenceIdeal := fun m ρ _ =>
  θ_run_mono (Cert.ReferenceIdeal.Value.run (F := Ideal) m ρ) fun r h =>
    ⟨fun c => (h c).2.2.2.2.2.2.2.2, sem_eq_zero_of_no_sems (by decide) r.2⟩

/-- Likewise the references of the further calls. -/
theorem frame_reference2 : Cert.quiescent_Reference2Ideal := fun m ρ _ =>
  θ_run_mono (Cert.Reference2Ideal.Value.run (F := Ideal) m ρ) fun r h =>
    ⟨fun c => (h c).2.2.2.2.2.2, sem_eq_zero_of_no_sems (by decide) r.2⟩
theorem frame_reference3 : Cert.quiescent_Reference3Ideal := fun m ρ _ =>
  θ_run_mono (Cert.Reference3Ideal.Value.run (F := Ideal) m ρ) fun r h =>
    ⟨fun c => (h c).2, sem_eq_zero_of_no_sems (by decide) r.2⟩
theorem frame_reference4 : Cert.quiescent_Reference4Ideal := fun m ρ _ =>
  θ_run_mono (Cert.Reference4Ideal.Value.run (F := Ideal) m ρ) fun r h =>
    ⟨fun c => (h c).2, sem_eq_zero_of_no_sems (by decide) r.2⟩
theorem frame_reference5 : Cert.quiescent_Reference5Ideal := fun m ρ _ =>
  θ_run_mono (Cert.Reference5Ideal.Value.run (F := Ideal) m ρ) fun r h =>
    ⟨fun c => (h c).2.2.2.2, sem_eq_zero_of_no_sems (by decide) r.2⟩
theorem frame_reference6 : Cert.quiescent_Reference6Ideal := fun m ρ _ =>
  θ_run_mono (Cert.Reference6Ideal.Value.run (F := Ideal) m ρ) fun r h =>
    ⟨fun c => (h c).2.2, sem_eq_zero_of_no_sems (by decide) r.2⟩
theorem frame_reference7 : Cert.quiescent_Reference7Ideal := fun m ρ _ =>
  θ_run_mono (Cert.Reference7Ideal.Value.run (F := Ideal) m ρ) fun r h =>
    ⟨fun c => (h c).2.2.2.2.2, sem_eq_zero_of_no_sems (by decide) r.2⟩
theorem frame_reference8 : Cert.quiescent_Reference8Ideal := fun m ρ _ =>
  θ_run_mono (Cert.Reference8Ideal.Value.run (F := Ideal) m ρ) fun r h =>
    ⟨fun c => (h c).2, sem_eq_zero_of_no_sems (by decide) r.2⟩
theorem frame_reference9 : Cert.quiescent_Reference9Ideal := fun m ρ _ =>
  θ_run_mono (Cert.Reference9Ideal.Value.run (F := Ideal) m ρ) fun r h =>
    ⟨fun c => (h c).2.2, sem_eq_zero_of_no_sems (by decide) r.2⟩
theorem frame_reference10 : Cert.quiescent_Reference10Ideal := fun m ρ _ =>
  θ_run_mono (Cert.Reference10Ideal.Value.run (F := Ideal) m ρ) fun r h =>
    ⟨fun c => (h c).2.2.2.2.2.2.2, sem_eq_zero_of_no_sems (by decide) r.2⟩
theorem frame_reference11 : Cert.quiescent_Reference11Ideal := fun m ρ _ =>
  θ_run_mono (Cert.Reference11Ideal.Value.run (F := Ideal) m ρ) fun r h =>
    ⟨fun c => (h c).2.2, sem_eq_zero_of_no_sems (by decide) r.2⟩
theorem frame_reference12 : Cert.quiescent_Reference12Ideal := fun m ρ _ =>
  θ_run_mono (Cert.Reference12Ideal.Value.run (F := Ideal) m ρ) fun r h =>
    ⟨fun c => (h c).2, sem_eq_zero_of_no_sems (by decide) r.2⟩
theorem frame_reference13 : Cert.quiescent_Reference13Ideal := fun m ρ _ =>
  θ_run_mono (Cert.Reference13Ideal.Value.run (F := Ideal) m ρ) fun r h =>
    ⟨fun c => (h c).2, sem_eq_zero_of_no_sems (by decide) r.2⟩
theorem frame_reference14 : Cert.quiescent_Reference14Ideal := fun m ρ _ =>
  θ_run_mono (Cert.Reference14Ideal.Value.run (F := Ideal) m ρ) fun r h =>
    ⟨fun c => (h c).2, sem_eq_zero_of_no_sems (by decide) r.2⟩
theorem frame_reference15 : Cert.quiescent_Reference15Ideal := fun m ρ _ =>
  θ_run_mono (Cert.Reference15Ideal.Value.run (F := Ideal) m ρ) fun r h =>
    ⟨fun c => (h c).2.2, sem_eq_zero_of_no_sems (by decide) r.2⟩
theorem frame_reference16 : Cert.quiescent_Reference16Ideal := fun m ρ _ =>
  θ_run_mono (Cert.Reference16Ideal.Value.run (F := Ideal) m ρ) fun r h =>
    ⟨fun c => (h c).2.2.2, sem_eq_zero_of_no_sems (by decide) r.2⟩
theorem frame_reference17 : Cert.quiescent_Reference17Ideal := fun m ρ _ =>
  θ_run_mono (Cert.Reference17Ideal.Value.run (F := Ideal) m ρ) fun r h =>
    ⟨fun c => (h c).2.2.2.2, sem_eq_zero_of_no_sems (by decide) r.2⟩
theorem frame_reference18 : Cert.quiescent_Reference18Ideal := fun m ρ _ =>
  θ_run_mono (Cert.Reference18Ideal.Value.run (F := Ideal) m ρ) fun r h =>
    ⟨fun c => (h c).2.2.2.2, sem_eq_zero_of_no_sems (by decide) r.2⟩
theorem frame_reference19 : Cert.quiescent_Reference19Ideal := fun m ρ _ =>
  θ_run_mono (Cert.Reference19Ideal.Value.run (F := Ideal) m ρ) fun r h =>
    ⟨fun c => (h c).2.2.2.2, sem_eq_zero_of_no_sems (by decide) r.2⟩
theorem frame_reference20 : Cert.quiescent_Reference20Ideal := fun m ρ _ =>
  θ_run_mono (Cert.Reference20Ideal.Value.run (F := Ideal) m ρ) fun r h =>
    ⟨fun c => (h c).2.2.2.2, sem_eq_zero_of_no_sems (by decide) r.2⟩
theorem frame_reference21 : Cert.quiescent_Reference21Ideal := fun m ρ _ =>
  θ_run_mono (Cert.Reference21Ideal.Value.run (F := Ideal) m ρ) fun r h =>
    ⟨fun c => (h c).2.2.2.2, sem_eq_zero_of_no_sems (by decide) r.2⟩
theorem frame_reference22 : Cert.quiescent_Reference22Ideal := fun m ρ _ =>
  θ_run_mono (Cert.Reference22Ideal.Value.run (F := Ideal) m ρ) fun r h =>
    ⟨fun c => (h c).2, sem_eq_zero_of_no_sems (by decide) r.2⟩

/-- The programs' frames, no rewrite of a kernel's, and each call's ideal program equal to its reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_finite_rows.Gen.facts, Cert.Pre_finite_layer.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  trivial, MixRows.algebraic, trivial, FfnBwd.algebraic, trivial, WeightGrad.algebraic,
  trivial, WeightGrad16.algebraic, trivial, FfnFwd.algebraic, trivial, ProjBwd.algebraic,
  trivial, ProjFfn.algebraic, trivial, WeightSquare.algebraic, trivial, ProjIn.algebraic,
  trivial, ProjLoss.algebraic, trivial, ProjInMix.algebraic, trivial, WeightOut.algebraic, trivial, ProjBack.algebraic, trivial, ProjBack32.algebraic, trivial, ProjBwdMix.algebraic,
  trivial, Adam.algebraic, trivial, AdamParts.algebraic, trivial, AdamParts16.algebraic, trivial, AdamOut.algebraic,
  trivial, AdamQkv.algebraic, trivial, AdamIn.algebraic, trivial, SmallSum.algebraic⟩

end Cert.Proof

end
